-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S2x8192x4x160 : Shape := ⟨4, ![2, 8192, 4, 160]⟩
abbrev S2x8192x160 : Shape := ⟨3, ![2, 8192, 160]⟩
abbrev S128x4x64 : Shape := ⟨3, ![128, 4, 64]⟩
abbrev S256 : Shape := ⟨1, ![256]⟩
abbrev S_ : Shape := ⟨0, ![]⟩

class Facts : Prop where
  bcast_S_S2x8192x4x160 : S_.BroadcastsInDim S2x8192x4x160 (![] : Fin 0 → Fin S2x8192x4x160.rank)
  bcast_S_S2x8192x160 : S_.BroadcastsInDim S2x8192x160 (![] : Fin 0 → Fin S2x8192x160.rank)

variable [Facts]

def fn {F : FTy → Type} [FloatOps F] (main_arg0 : FVec F S2x8192x4x160 .f32) (main_arg1 : FVec F S2x8192x160 .f32) (main_arg2 : FVec F S128x4x64 .f32) (main_arg3 : FVec F S256 .f32) : IVec S2x8192x4x160 1 × IVec S2x8192x160 1 :=
  let main_v0 : FVec F S2x8192x4x160 .f32 := Host.absf main_arg0
  let main_cst : FVec F S_ .f32 := constant S_ .f32 0x7F800000#32
  let main_v1 : FVec F S2x8192x4x160 .f32 := broadcastInDim S2x8192x4x160 ![] bcast_S_S2x8192x4x160 main_cst
  let main_v2 : IVec S2x8192x4x160 1 := cmpf .olt main_v0 main_v1
  let main_v3 : FVec F S2x8192x160 .f32 := Host.absf main_arg1
  let main_cst_0 : FVec F S_ .f32 := constant S_ .f32 0x7F800000#32
  let main_v4 : FVec F S2x8192x160 .f32 := broadcastInDim S2x8192x160 ![] bcast_S_S2x8192x160 main_cst_0
  let main_v5 : IVec S2x8192x160 1 := cmpf .olt main_v3 main_v4
  (main_v2, main_v5)
-- ==== Pre_finite3.lean ====
abbrev S2x8192x4x64 : Shape := ⟨4, ![2, 8192, 4, 64]⟩
abbrev S2x8192x4 : Shape := ⟨3, ![2, 8192, 4]⟩
abbrev S256 : Shape := ⟨1, ![256]⟩
abbrev S_ : Shape := ⟨0, ![]⟩

class Facts : Prop where
  bcast_S_S2x8192x4x64 : S_.BroadcastsInDim S2x8192x4x64 (![] : Fin 0 → Fin S2x8192x4x64.rank)
  bcast_S_S2x8192x4 : S_.BroadcastsInDim S2x8192x4 (![] : Fin 0 → Fin S2x8192x4.rank)

variable [Facts]

def fn {F : FTy → Type} [FloatOps F] (main_arg0 : FVec F S2x8192x4x64 .f32) (main_arg1 : FVec F S2x8192x4x64 .f32) (main_arg2 : FVec F S2x8192x4x64 .f32) (main_arg3 : FVec F S2x8192x4 .f32) (main_arg4 : FVec F S256 .f32) : IVec S2x8192x4x64 1 × IVec S2x8192x4x64 1 × IVec S2x8192x4 1 :=
  let main_v0 : FVec F S2x8192x4x64 .f32 := Host.absf main_arg0
  let main_cst : FVec F S_ .f32 := constant S_ .f32 0x7F800000#32
  let main_v1 : FVec F S2x8192x4x64 .f32 := broadcastInDim S2x8192x4x64 ![] bcast_S_S2x8192x4x64 main_cst
  let main_v2 : IVec S2x8192x4x64 1 := cmpf .olt main_v0 main_v1
  let main_v3 : FVec F S2x8192x4x64 .f32 := Host.absf main_arg1
  let main_cst_0 : FVec F S_ .f32 := constant S_ .f32 0x7F800000#32
  let main_v4 : FVec F S2x8192x4x64 .f32 := broadcastInDim S2x8192x4x64 ![] bcast_S_S2x8192x4x64 main_cst_0
  let main_v5 : IVec S2x8192x4x64 1 := cmpf .olt main_v3 main_v4
  let main_v6 : FVec F S2x8192x4 .f32 := Host.absf main_arg3
  let main_cst_1 : FVec F S_ .f32 := constant S_ .f32 0x7F800000#32
  let main_v7 : FVec F S2x8192x4 .f32 := broadcastInDim S2x8192x4 ![] bcast_S_S2x8192x4 main_cst_1
  let main_v8 : IVec S2x8192x4 1 := cmpf .olt main_v6 main_v7
  (main_v2, main_v5, main_v8)
-- ==== Kernel.lean ====
abbrev S2x8192x4x160 : Shape := ⟨4, ![2, 8192, 4, 160]⟩
abbrev S2x8192x160 : Shape := ⟨3, ![2, 8192, 160]⟩
abbrev S128x4x64 : Shape := ⟨3, ![128, 4, 64]⟩
abbrev S256 : Shape := ⟨1, ![256]⟩
abbrev S136 : Shape := ⟨1, ![136]⟩
abbrev S_ : Shape := ⟨0, ![]⟩
abbrev S2x4x8192x160 : Shape := ⟨4, ![2, 4, 8192, 160]⟩
abbrev S2x4x8192x96 : Shape := ⟨4, ![2, 4, 8192, 96]⟩
abbrev S2x4x8192x256 : Shape := ⟨4, ![2, 4, 8192, 256]⟩
abbrev S2x8192x96 : Shape := ⟨3, ![2, 8192, 96]⟩
abbrev S2x8192x256 : Shape := ⟨3, ![2, 8192, 256]⟩
abbrev S4x4 : Shape := ⟨2, ![4, 4]⟩
abbrev S4x128x64 : Shape := ⟨3, ![4, 128, 64]⟩
abbrev S4x128x1x64 : Shape := ⟨4, ![4, 128, 1, 64]⟩
abbrev S4x1x4x1 : Shape := ⟨4, ![4, 1, 4, 1]⟩
abbrev S4x128x4x64 : Shape := ⟨4, ![4, 128, 4, 64]⟩
abbrev S4x128x256 : Shape := ⟨3, ![4, 128, 256]⟩
abbrev S1x256 : Shape := ⟨2, ![1, 256]⟩
abbrev S1x4x512x256 : Shape := ⟨4, ![1, 4, 512, 256]⟩
abbrev S1 : Shape := ⟨1, ![1]⟩
abbrev S1x512x256 : Shape := ⟨3, ![1, 512, 256]⟩
abbrev S2048x1 : Shape := ⟨2, ![2048, 1]⟩
abbrev S2048x256 : Shape := ⟨2, ![2048, 256]⟩
abbrev S4x512x256 : Shape := ⟨3, ![4, 512, 256]⟩
abbrev S512x256 : Shape := ⟨2, ![512, 256]⟩
abbrev S2048x512 : Shape := ⟨2, ![2048, 512]⟩
abbrev S2048 : Shape := ⟨1, ![2048]⟩
abbrev S512x128 : Shape := ⟨2, ![512, 128]⟩
abbrev S512x1 : Shape := ⟨2, ![512, 1]⟩
abbrev S1x128x256 : Shape := ⟨3, ![1, 128, 256]⟩
abbrev S128x256 : Shape := ⟨2, ![128, 256]⟩
abbrev S512 : Shape := ⟨1, ![512]⟩

abbrev nBuf : Space → Nat
  | .hbm => 33
  | .vmem => 11
  | .smem => 2
  | _ => 0

abbrev bufTy : (tb : Table) → Fin (tcTables nBuf tb) → BufTy
  | .hbm, ⟨0, _⟩ => ⟨S2x8192x4x160, .f32⟩
  | .hbm, ⟨1, _⟩ => ⟨S2x8192x160, .f32⟩
  | .hbm, ⟨2, _⟩ => ⟨S128x4x64, .f32⟩
  | .hbm, ⟨3, _⟩ => ⟨S256, .f32⟩
  | .hbm, ⟨4, _⟩ => ⟨S_, .f32⟩
  | .hbm, ⟨5, _⟩ => ⟨S2x8192x4x160, .f32⟩
  | .hbm, ⟨6, _⟩ => ⟨S2x8192x4x160, .f32⟩
  | .hbm, ⟨7, _⟩ => ⟨S2x4x8192x160, .f32⟩
  | .hbm, ⟨8, _⟩ => ⟨S_, .f32⟩
  | .hbm, ⟨9, _⟩ => ⟨S2x4x8192x96, .f32⟩
  | .hbm, ⟨10, _⟩ => ⟨S2x4x8192x256, .f32⟩
  | .hbm, ⟨11, _⟩ => ⟨S2x4x8192x256, .bf16⟩
  | .hbm, ⟨12, _⟩ => ⟨S_, .f32⟩
  | .hbm, ⟨13, _⟩ => ⟨S2x8192x96, .f32⟩
  | .hbm, ⟨14, _⟩ => ⟨S2x8192x256, .f32⟩
  | .hbm, ⟨15, _⟩ => ⟨S2x8192x256, .bf16⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S4x128x64, .f32⟩
  | .hbm, ⟨24, _⟩ => ⟨S4x128x1x64, .f32⟩
  | .hbm, ⟨25, _⟩ => ⟨S4x1x4x1, .f32⟩
  | .hbm, ⟨26, _⟩ => ⟨S4x128x4x64, .f32⟩
  | .hbm, ⟨27, _⟩ => ⟨S4x128x4x64, .f32⟩
  | .hbm, ⟨28, _⟩ => ⟨S4x128x4x64, .f32⟩
  | .hbm, ⟨29, _⟩ => ⟨S4x128x256, .f32⟩
  | .hbm, ⟨30, _⟩ => ⟨S4x128x256, .bf16⟩
  | .hbm, ⟨31, _⟩ => ⟨S1x256, .f32⟩
  | .hbm, ⟨32, _⟩ => ⟨S2x8192x256, .bf16⟩
  | .local _ .vmem, ⟨0, _⟩ => ⟨S1x4x512x256, .bf16⟩
  | .local _ .vmem, ⟨1, _⟩ => ⟨S1x4x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S4x128x256, .bf16⟩
  | .local _ .vmem, ⟨5, _⟩ => ⟨S1x256, .f32⟩
  | .local _ .vmem, ⟨6, _⟩ => ⟨S1x512x256, .bf16⟩
  | .local _ .vmem, ⟨7, _⟩ => ⟨S1x512x256, .bf16⟩
  | .local _ .vmem, ⟨8, _⟩ => ⟨S2048x1, .f32⟩
  | .local _ .vmem, ⟨9, _⟩ => ⟨S2048x1, .f32⟩
  | .local _ .vmem, ⟨10, _⟩ => ⟨S2048x256, .f32⟩
  | .local _ .smem, ⟨0, _⟩ => ⟨S136, .i32⟩
  | .local _ .smem, ⟨1, _⟩ => ⟨S136, .i32⟩
  | _, _ => ⟨S2x8192x4x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x8192x4x160 : Shape := ⟨4, ![2, 8192, 4, 160]⟩
abbrev S2x8192x160 : Shape := ⟨3, ![2, 8192, 160]⟩
abbrev S128x4x64 : Shape := ⟨3, ![128, 4, 64]⟩
abbrev S256 : Shape := ⟨1, ![256]⟩
abbrev S2x8192x128 : Shape := ⟨3, ![2, 8192, 128]⟩
abbrev S8192 : Shape := ⟨1, ![8192]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x8192x4x128 : Shape := ⟨4, ![2, 8192, 4, 128]⟩
abbrev S4x64x2x8192 : Shape := ⟨4, ![4, 64, 2, 8192]⟩
abbrev S2x8192x4x64 : Shape := ⟨4, ![2, 8192, 4, 64]⟩
abbrev S2x8192x256 : Shape := ⟨3, ![2, 8192, 256]⟩
abbrev S2x8192 : Shape := ⟨2, ![2, 8192]⟩
abbrev S2x8192x1 : Shape := ⟨3, ![2, 8192, 1]⟩
abbrev S1x1x256 : Shape := ⟨3, ![1, 1, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x4x160, .f32⟩
  | .hbm, ⟨1, _⟩ => ⟨S2x8192x160, .f32⟩
  | .hbm, ⟨2, _⟩ => ⟨S128x4x64, .f32⟩
  | .hbm, ⟨3, _⟩ => ⟨S256, .f32⟩
  | .hbm, ⟨4, _⟩ => ⟨S2x8192x128, .f32⟩
  | .hbm, ⟨5, _⟩ => ⟨S8192, .i32⟩
  | .hbm, ⟨6, _⟩ => ⟨S2x8192x8192x4, .f32⟩
  | .hbm, ⟨7, _⟩ => ⟨S2x4x8192x8192, .f32⟩
  | .hbm, ⟨8, _⟩ => ⟨S_, .f32⟩
  | .hbm, ⟨9, _⟩ => ⟨S2x4x8192x8192, .f32⟩
  | .hbm, ⟨10, _⟩ => ⟨S2x4x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S2x4x8192x8192, .i1⟩
  | .hbm, ⟨19, _⟩ => ⟨S2x4x8192x8192, .f32⟩
  | .hbm, ⟨20, _⟩ => ⟨S2x4x8192x8192, .f32⟩
  | .hbm, ⟨21, _⟩ => ⟨S_, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .f32⟩
  | .hbm, ⟨26, _⟩ => ⟨S2x4x8192x1, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x128x4x8192, .f32⟩
  | .hbm, ⟨36, _⟩ => ⟨S2x8192x4x128, .f32⟩
  | .hbm, ⟨37, _⟩ => ⟨S4x64x2x8192, .f32⟩
  | .hbm, ⟨38, _⟩ => ⟨S2x8192x4x64, .f32⟩
  | .hbm, ⟨39, _⟩ => ⟨S2x8192x256, .f32⟩
  | .hbm, ⟨40, _⟩ => ⟨S2x8192x256, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S2x8192x1, .f32⟩
  | .hbm, ⟨51, _⟩ => ⟨S2x8192x256, .f32⟩
  | .hbm, ⟨52, _⟩ => ⟨S2x8192x256, .f32⟩
  | .hbm, ⟨53, _⟩ => ⟨S1x1x256, .f32⟩
  | .hbm, ⟨54, _⟩ => ⟨S2x8192x256, .f32⟩
  | .hbm, ⟨55, _⟩ => ⟨S2x8192x256, .f32⟩
  | .hbm, ⟨56, _⟩ => ⟨S2x8192x256, .bf16⟩
  | _, _ => ⟨S2x8192x4x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S2x6144 : Shape := ⟨2, ![2, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S2x1x6x1024 : Shape := ⟨4, ![2, 1, 6, 1024]⟩
abbrev S2x16x8x2816 : Shape := ⟨4, ![2, 16, 8, 2816]⟩
abbrev S1x512x1024 : Shape := ⟨3, ![1, 512, 1024]⟩
abbrev S1x512x256 : Shape := ⟨3, ![1, 512, 256]⟩
abbrev S1x512x512 : Shape := ⟨3, ![1, 512, 512]⟩
abbrev S1x1x6x1024 : Shape := ⟨4, ![1, 1, 6, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x1x8x1408 : Shape := ⟨4, ![1, 1, 8, 1408]⟩
abbrev S512x1024 : Shape := ⟨2, ![512, 1024]⟩
abbrev S520x1408 : Shape := ⟨2, ![520, 1408]⟩
abbrev S2x8x1408 : Shape := ⟨3, ![2, 8, 1408]⟩
abbrev S6x1024 : Shape := ⟨2, ![6, 1024]⟩
abbrev S512x256 : Shape := ⟨2, ![512, 256]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩
abbrev S8x1408 : Shape := ⟨2, ![8, 1408]⟩
abbrev S1x8x1408 : Shape := ⟨3, ![1, 8, 1408]⟩
abbrev S512x1408 : Shape := ⟨2, ![512, 1408]⟩
abbrev S2x1x8x2816 : Shape := ⟨4, ![2, 1, 8, 2816]⟩
abbrev S2x8x2816 : Shape := ⟨3, ![2, 8, 2816]⟩
abbrev S2x8x5632 : Shape := ⟨3, ![2, 8, 5632]⟩
abbrev S2x2x5632 : Shape := ⟨3, ![2, 2, 5632]⟩

abbrev nBuf : Space → Nat
  | .hbm => 31
  | .vmem => 39
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S2x6144, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S2x8192x256, .bf16⟩
  | .hbm, ⟨18, _⟩ => ⟨S2x8192x512, .bf16⟩
  | .hbm, ⟨19, _⟩ => ⟨S2x8192x256, .bf16⟩
  | .hbm, ⟨20, _⟩ => ⟨S2x1x6x1024, .f32⟩
  | .hbm, ⟨21, _⟩ => ⟨S1x1024, .f32⟩
  | .hbm, ⟨22, _⟩ => ⟨S2x8192x1024, .f32⟩
  | .hbm, ⟨23, _⟩ => ⟨S2x16x8x2816, .f32⟩
  | .hbm, ⟨24, _⟩ => ⟨S2x16x8x2816, .f32⟩
  | .hbm, ⟨25, _⟩ => ⟨S2x1x8x2816, .f32⟩
  | .hbm, ⟨26, _⟩ => ⟨S2x8x2816, .f32⟩
  | .hbm, ⟨27, _⟩ => ⟨S2x1x8x2816, .f32⟩
  | .hbm, ⟨28, _⟩ => ⟨S2x8x2816, .f32⟩
  | .hbm, ⟨29, _⟩ => ⟨S2x8x5632, .f32⟩
  | .hbm, ⟨30, _⟩ => ⟨S2x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1024x1024, .bf16⟩
  | .local _ .vmem, ⟨9, _⟩ => ⟨S1x1x6x1024, .f32⟩
  | .local _ .vmem, ⟨10, _⟩ => ⟨S1x1x6x1024, .f32⟩
  | .local _ .vmem, ⟨11, _⟩ => ⟨S1x1024, .f32⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S3x1408, .f32⟩
  | .local _ .vmem, ⟨20, _⟩ => ⟨S1x1408, .f32⟩
  | .local _ .vmem, ⟨21, _⟩ => ⟨S1x1408, .f32⟩
  | .local _ .vmem, ⟨22, _⟩ => ⟨S1x1408, .f32⟩
  | .local _ .vmem, ⟨23, _⟩ => ⟨S1x1408, .f32⟩
  | .local _ .vmem, ⟨24, _⟩ => ⟨S1408x1024, .bf16⟩
  | .local _ .vmem, ⟨25, _⟩ => ⟨S1408x1024, .bf16⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x1x8x1408, .f32⟩
  | .local _ .vmem, ⟨30, _⟩ => ⟨S1x1x8x1408, .f32⟩
  | .local _ .vmem, ⟨31, _⟩ => ⟨S1x1x8x1408, .f32⟩
  | .local _ .vmem, ⟨32, _⟩ => ⟨S1x1x8x1408, .f32⟩
  | .local _ .vmem, ⟨33, _⟩ => ⟨S512x1024, .f32⟩
  | .local _ .vmem, ⟨34, _⟩ => ⟨S512x1024, .bf16⟩
  | .local _ .vmem, ⟨35, _⟩ => ⟨S512x1024, .f32⟩
  | .local _ .vmem, ⟨36, _⟩ => ⟨S520x1408, .f32⟩
  | .local _ .vmem, ⟨37, _⟩ => ⟨S2x8x1408, .f32⟩
  | .local _ .vmem, ⟨38, _⟩ => ⟨S2x8x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg1 : BitVec 32 := BitVec.ofNat 32 (i 1).val
  let c0_i32_4 : BitVec 32 := 0#32
  let v5 : BitVec 1 := Scalar.cmpi .eq arg1 c0_i32_4
  let v6 : BitVec 32 := Scalar.extui v5
  let c0_i32_5 : BitVec 32 := 0#32
  let v7 : BitVec 1 := Scalar.cmpi .ne v6 c0_i32_5
  v7

def k0_off1 (i : grid0.Coords) : Fin 3 → Nat :=
  let arg2 : BitVec 32 := BitVec.ofNat 32 (i 2).val
  let v107 : Index := Scalar.indexCast arg2
  let c0_62 : Index := 0#32
  let c0_63 : Index := 0#32
  ![v107.toNat, 0, 0]
def k0_off2 (i : grid0.Coords) : Fin 3 → Nat :=
  let arg2 : BitVec 32 := BitVec.ofNat 32 (i 2).val
  let v15 : Index := Scalar.indexCast arg2
  let c0_13 : Index := 0#32
  let c0_14 : Index := 0#32
  ![v15.toNat, 0, 0]
def k0_cond3 (i : grid0.Coords) : BitVec 1 :=
  let arg2 : BitVec 32 := BitVec.ofNat 32 (i 2).val
  let c1_i32 : BitVec 32 := 1#32
  let v103 : BitVec 1 := Scalar.cmpi .eq arg2 c1_i32
  let v104 : BitVec 32 := Scalar.extui v103
  let c0_i32_60 : BitVec 32 := 0#32
  let v105 : BitVec 1 := Scalar.cmpi .ne v104 c0_i32_60
  v105

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1408x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x1x8x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x8x1408 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== Reference2Ideal.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S2x6144 : Shape := ⟨2, ![2, 6144]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S2x6144, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x8192, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x5632, .f32⟩
  | .hbm, ⟨53, _⟩ => ⟨S_, .f32⟩
  | .hbm, ⟨54, _⟩ => ⟨S2x2x5632, .f32⟩
  | .hbm, ⟨55, _⟩ => ⟨S2x8194x5632, .f32⟩
  | .hbm, ⟨56, _⟩ => ⟨S2x8192x5632, .f32⟩
  | .hbm, ⟨57, _⟩ => ⟨S1x5632, .f32⟩
  | .hbm, ⟨58, _⟩ => ⟨S5632, .f32⟩
  | .hbm, ⟨59, _⟩ => ⟨S1x1x5632, .f32⟩
  | .hbm, ⟨60, _⟩ => ⟨S2x8192x5632, .f32⟩
  | .hbm, ⟨61, _⟩ => ⟨S2x8192x5632, .f32⟩
  | .hbm, ⟨62, _⟩ => ⟨S1x1x5632, .f32⟩
  | .hbm, ⟨63, _⟩ => ⟨S2x8192x5632, .f32⟩
  | .hbm, ⟨64, _⟩ => ⟨S2x8192x5632, .f32⟩
  | .hbm, ⟨65, _⟩ => ⟨S2x8192x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S2x8192x5632, .f32⟩
  | .hbm, ⟨70, _⟩ => ⟨S2x8192x5632, .f32⟩
  | .hbm, ⟨71, _⟩ => ⟨S2x8192x5632, .f32⟩
  | .hbm, ⟨72, _⟩ => ⟨S2x8192x5632, .f32⟩
  | .hbm, ⟨73, _⟩ => ⟨S1x5632, .f32⟩
  | .hbm, ⟨74, _⟩ => ⟨S5632, .f32⟩
  | .hbm, ⟨75, _⟩ => ⟨S1x1x5632, .f32⟩
  | .hbm, ⟨76, _⟩ => ⟨S2x8192x5632, .f32⟩
  | .hbm, ⟨77, _⟩ => ⟨S2x8192x5632, .f32⟩
  | .hbm, ⟨78, _⟩ => ⟨S2x8192x5632, .f32⟩
  | .hbm, ⟨79, _⟩ => ⟨S2x2x5632, .f32⟩
  | .hbm, ⟨80, _⟩ => ⟨S2x8192x2816, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S_, .f32⟩
  | .hbm, ⟨85, _⟩ => ⟨S2x8192x2816, .f32⟩
  | .hbm, ⟨86, _⟩ => ⟨S2x8192x2816, .f32⟩
  | .hbm, ⟨87, _⟩ => ⟨S_, .f32⟩
  | .hbm, ⟨88, _⟩ => ⟨S2x8192x2816, .f32⟩
  | .hbm, ⟨89, _⟩ => ⟨S2x8192x2816, .f32⟩
  | .hbm, ⟨90, _⟩ => ⟨S2x8192x2816, .f32⟩
  | .hbm, ⟨91, _⟩ => ⟨S2x8192x2816, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S2x8192x1024, .f32⟩
  | .hbm, ⟨97, _⟩ => ⟨S_, .f32⟩
  | .hbm, ⟨98, _⟩ => ⟨S2x8192, .f32⟩
  | .hbm, ⟨99, _⟩ => ⟨S2x8192x1, .f32⟩
  | .hbm, ⟨100, _⟩ => ⟨S_, .f32⟩
  | .hbm, ⟨101, _⟩ => ⟨S2x8192x1, .f32⟩
  | .hbm, ⟨102, _⟩ => ⟨S2x8192x1, .f32⟩
  | .hbm, ⟨103, _⟩ => ⟨S_, .f32⟩
  | .hbm, ⟨104, _⟩ => ⟨S2x8192x1, .f32⟩
  | .hbm, ⟨105, _⟩ => ⟨S2x8192x1, .f32⟩
  | .hbm, ⟨106, _⟩ => ⟨S2x8192x1, .f32⟩
  | .hbm, ⟨107, _⟩ => ⟨S2x8192x1024, .f32⟩
  | .hbm, ⟨108, _⟩ => ⟨S2x8192x1024, .f32⟩
  | .hbm, ⟨109, _⟩ => ⟨S1x1x1024, .f32⟩
  | .hbm, ⟨110, _⟩ => ⟨S2x8192x1024, .f32⟩
  | .hbm, ⟨111, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_4 : Ref sig .tc := ⟨.hbm, 97, rfl⟩
abbrev main_v72 : Ref sig .tc := ⟨.hbm, 98, rfl⟩
abbrev main_v73 : Ref sig .tc := ⟨.hbm, 99, rfl⟩
abbrev main_cst_5 : Ref sig .tc := ⟨.hbm, 100, rfl⟩
abbrev main_v74 : Ref sig .tc := ⟨.hbm, 101, rfl⟩
abbrev main_v75 : Ref sig .tc := ⟨.hbm, 102, rfl⟩
abbrev main_cst_6 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Kernel3.lean ====
abbrev S2x8192x4x64 : Shape := ⟨4, ![2, 8192, 4, 64]⟩
abbrev S2x8192x4 : Shape := ⟨3, ![2, 8192, 4]⟩
abbrev S256 : Shape := ⟨1, ![256]⟩
abbrev S136 : Shape := ⟨1, ![136]⟩
abbrev S2x8192x4x1 : Shape := ⟨4, ![2, 8192, 4, 1]⟩
abbrev S2x8192x4x3 : Shape := ⟨4, ![2, 8192, 4, 3]⟩
abbrev S_ : Shape := ⟨0, ![]⟩
abbrev S2x8192x4x58 : Shape := ⟨4, ![2, 8192, 4, 58]⟩
abbrev S2x8192x4x128 : Shape := ⟨4, ![2, 8192, 4, 128]⟩
abbrev S2x8192x512 : Shape := ⟨3, ![2, 8192, 512]⟩
abbrev S2x8192x256 : Shape := ⟨3, ![2, 8192, 256]⟩
abbrev S1x256 : Shape := ⟨2, ![1, 256]⟩
abbrev S1x512x512 : Shape := ⟨3, ![1, 512, 512]⟩
abbrev S1 : Shape := ⟨1, ![1]⟩
abbrev S1x512x256 : Shape := ⟨3, ![1, 512, 256]⟩
abbrev S4x512x1 : Shape := ⟨3, ![4, 512, 1]⟩
abbrev S4x512x256 : Shape := ⟨3, ![4, 512, 256]⟩
abbrev S512x256 : Shape := ⟨2, ![512, 256]⟩
abbrev S1x512x128 : Shape := ⟨3, ![1, 512, 128]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 35
  | .vmem => 12
  | .smem => 2
  | _ => 0

abbrev bufTy : (tb : Table) → Fin (tcTables nBuf tb) → BufTy
  | .hbm, ⟨0, _⟩ => ⟨S2x8192x4x64, .f32⟩
  | .hbm, ⟨1, _⟩ => ⟨S2x8192x4x64, .f32⟩
  | .hbm, ⟨2, _⟩ => ⟨S2x8192x4x64, .f32⟩
  | .hbm, ⟨3, _⟩ => ⟨S2x8192x4, .f32⟩
  | .hbm, ⟨4, _⟩ => ⟨S256, .f32⟩
  | .hbm, ⟨5, _⟩ => ⟨S2x8192x4, .bf16⟩
  | .hbm, ⟨6, _⟩ => ⟨S2x8192x4, .f32⟩
  | .hbm, ⟨7, _⟩ => ⟨S2x8192x4, .f32⟩
  | .hbm, ⟨8, _⟩ => ⟨S2x8192x4, .bf16⟩
  | .hbm, ⟨9, _⟩ => ⟨S2x8192x4, .f32⟩
  | .hbm, ⟨10, _⟩ => ⟨S2x8192x4, .f32⟩
  | .hbm, ⟨11, _⟩ => ⟨S2x8192x4, .bf16⟩
  | .hbm, ⟨12, _⟩ => ⟨S2x8192x4, .f32⟩
  | .hbm, ⟨13, _⟩ => ⟨S2x8192x4x1, .f32⟩
  | .hbm, ⟨14, _⟩ => ⟨S2x8192x4x1, .f32⟩
  | .hbm, ⟨15, _⟩ => ⟨S2x8192x4x1, .f32⟩
  | .hbm, ⟨16, _⟩ => ⟨S2x8192x4x3, .f32⟩
  | .hbm, ⟨17, _⟩ => ⟨S_, .f32⟩
  | .hbm, ⟨18, _⟩ => ⟨S2x8192x4x3, .f32⟩
  | .hbm, ⟨19, _⟩ => ⟨S_, .f32⟩
  | .hbm, ⟨20, _⟩ => ⟨S2x8192x4x58, .f32⟩
  | .hbm, ⟨21, _⟩ => ⟨S_, .f32⟩
  | .hbm, ⟨22, _⟩ => ⟨S2x8192x4x64, .f32⟩
  | .hbm, ⟨23, _⟩ => ⟨S2x8192x4x64, .f32⟩
  | .hbm, ⟨24, _⟩ => ⟨S2x8192x4x128, .f32⟩
  | .hbm, ⟨25, _⟩ => ⟨S2x8192x512, .f32⟩
  | .hbm, ⟨26, _⟩ => ⟨S2x8192x4x3, .f32⟩
  | .hbm, ⟨27, _⟩ => ⟨S2x8192x4x128, .f32⟩
  | .hbm, ⟨28, _⟩ => ⟨S2x8192x512, .f32⟩
  | .hbm, ⟨29, _⟩ => ⟨S2x8192x512, .bf16⟩
  | .hbm, ⟨30, _⟩ => ⟨S2x8192x512, .bf16⟩
  | .hbm, ⟨31, _⟩ => ⟨S2x8192x256, .f32⟩
  | .hbm, ⟨32, _⟩ => ⟨S2x8192x256, .bf16⟩
  | .hbm, ⟨33, _⟩ => ⟨S1x256, .f32⟩
  | .hbm, ⟨34, _⟩ => ⟨S2x8192x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x256, .f32⟩
  | .local _ .vmem, ⟨7, _⟩ => ⟨S1x512x256, .bf16⟩
  | .local _ .vmem, ⟨8, _⟩ => ⟨S1x512x256, .bf16⟩
  | .local _ .vmem, ⟨9, _⟩ => ⟨S4x512x1, .f32⟩
  | .local _ .vmem, ⟨10, _⟩ => ⟨S4x512x1, .f32⟩
  | .local _ .vmem, ⟨11, _⟩ => ⟨S4x512x256, .f32⟩
  | .local _ .smem, ⟨0, _⟩ => ⟨S136, .i32⟩
  | .local _ .smem, ⟨1, _⟩ => ⟨S136, .i32⟩
  | _, _ => ⟨S2x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x8192x4x64 : Shape := ⟨4, ![2, 8192, 4, 64]⟩
abbrev S2x8192x4 : Shape := ⟨3, ![2, 8192, 4]⟩
abbrev S256 : Shape := ⟨1, ![256]⟩
abbrev S8192 : Shape := ⟨1, ![8192]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x4x1x8192 : Shape := ⟨4, ![2, 4, 1, 8192]⟩
abbrev S1x8192 : Shape := ⟨2, ![1, 8192]⟩
abbrev S8192x1 : Shape := ⟨2, ![8192, 1]⟩
abbrev S8192x8192 : Shape := ⟨2, ![8192, 8192]⟩
abbrev S2x4x64x8192 : Shape := ⟨4, ![2, 4, 64, 8192]⟩
abbrev S2x8192x256 : Shape := ⟨3, ![2, 8192, 256]⟩
abbrev S2x8192 : Shape := ⟨2, ![2, 8192]⟩
abbrev S2x8192x1 : Shape := ⟨3, ![2, 8192, 1]⟩
abbrev S1x1x256 : Shape := ⟨3, ![1, 1, 256]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x4x64, .f32⟩
  | .hbm, ⟨1, _⟩ => ⟨S2x8192x4x64, .f32⟩
  | .hbm, ⟨2, _⟩ => ⟨S2x8192x4x64, .f32⟩
  | .hbm, ⟨3, _⟩ => ⟨S2x8192x4, .f32⟩
  | .hbm, ⟨4, _⟩ => ⟨S256, .f32⟩
  | .hbm, ⟨5, _⟩ => ⟨S8192, .i32⟩
  | .hbm, ⟨6, _⟩ => ⟨S2x4x8192x8192, .f32⟩
  | .hbm, ⟨7, _⟩ => ⟨S_, .f32⟩
  | .hbm, ⟨8, _⟩ => ⟨S2x4x8192x8192, .f32⟩
  | .hbm, ⟨9, _⟩ => ⟨S2x4x8192x8192, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .f32⟩
  | .hbm, ⟨14, _⟩ => ⟨S2x4x1x8192, .f32⟩
  | .hbm, ⟨15, _⟩ => ⟨S2x4x8192x8192, .f32⟩
  | .hbm, ⟨16, _⟩ => ⟨S2x4x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S2x4x8192x8192, .i1⟩
  | .hbm, ⟨25, _⟩ => ⟨S2x4x8192x8192, .f32⟩
  | .hbm, ⟨26, _⟩ => ⟨S2x4x8192x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x4x64x8192, .f32⟩
  | .hbm, ⟨42, _⟩ => ⟨S2x8192x4x64, .f32⟩
  | .hbm, ⟨43, _⟩ => ⟨S2x8192x256, .f32⟩
  | .hbm, ⟨44, _⟩ => ⟨S2x8192x256, .f32⟩
  | .hbm, ⟨45, _⟩ => ⟨S_, .f32⟩
  | .hbm, ⟨46, _⟩ => ⟨S2x8192, .f32⟩
  | .hbm, ⟨47, _⟩ => ⟨S2x8192x1, .f32⟩
  | .hbm, ⟨48, _⟩ => ⟨S_, .f32⟩
  | .hbm, ⟨49, _⟩ => ⟨S2x8192x1, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x1, .f32⟩
  | .hbm, ⟨55, _⟩ => ⟨S2x8192x256, .f32⟩
  | .hbm, ⟨56, _⟩ => ⟨S2x8192x256, .f32⟩
  | .hbm, ⟨57, _⟩ => ⟨S1x1x256, .f32⟩
  | .hbm, ⟨58, _⟩ => ⟨S2x8192x256, .f32⟩
  | .hbm, ⟨59, _⟩ => ⟨S2x8192x256, .f32⟩
  | .hbm, ⟨60, _⟩ => ⟨S2x8192x256, .bf16⟩
  | _, _ => ⟨S2x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Proof.Region.lean ====
/-
  The launch of the attention call: what the region finds in memory, the two prefetched tables at their literal
  contents, the grid's points, and the windows' index maps at those tables.  Stated at any float interpretation `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline
public import Idealize.ShloMosaic.Lib.Tactic
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the call takes a fresh buffer. -/
theorem hostOps0_fresh : (hostOps0 : List (HloOp τ sig (Elt F))).Forall fun op => op.fresh = ∅ := by
  simp only [List.Forall]; repeat' constructor

/-- What the call finds in each buffer of core `c`: the launch contents after the host operations. -/
def V (c : Dev nD) (b : Ref sig .tc) : Buf (Elt F) ((c : Thread nD τ).loc b) :=
  StableHlo.after hostOps0 (fun b => m (c, b)) b

/-- @main is the host operations and then the call. -/
theorem hmain (𝒱₀ : Variants) : Pipeline.HMainP (Ix := Unit) (Name := ℕ) (U := UR sig nD τ) (Lvl := ℕ)
    (pcfgs (F := F)) 0 defs₀ 𝒱₀ m (main (F := F)) (V m) :=
  Pipeline.hmainP_prefix pcfgs 0 defs₀ 𝒱₀ m main hostOps0 hostOps0_sub hostOps0_fresh main_chain

/-! ## The argument arrays are not written -/

/-- The buffers the host operations write, in order. -/
abbrev hostOps0_W : List (Ref sig .tc) :=
  [main_c, main_c_0, main_cst, main_v0, main_v1, main_v2, main_cst_1, main_v3, main_v4, main_v5, main_cst_2, main_v6,
   main_v7, main_v8, main_v9, main_v10, main_c_3, main_v11, main_v12, main_v13, main_v14, main_v15, main_v16, main_v17,
   main_v18, main_v19, main_v20, main_v21, main_v22, main_v23]

/-- Every host operation writes one buffer of that list. -/
theorem hostOps0_writes : (hostOps0 (F := F)).Forall fun op => op.writes ⊆ hostOps0_W.toFinset.image (Proc.devRef .tc) :=
  StableHlo.forall_writes_sub_of_map rfl

theorem V_main_arg0 (c : Dev nD) : V m c main_arg0 = m ((c : Thread nD τ).loc main_arg0) :=
  StableHlo.after_of_writes_sub _ _ hostOps0_writes (by decide)
theorem V_main_arg1 (c : Dev nD) : V m c main_arg1 = m ((c : Thread nD τ).loc main_arg1) :=
  StableHlo.after_of_writes_sub _ _ hostOps0_writes (by decide)
theorem V_main_arg2 (c : Dev nD) : V m c main_arg2 = m ((c : Thread nD τ).loc main_arg2) :=
  StableHlo.after_of_writes_sub _ _ hostOps0_writes (by decide)
theorem V_main_arg3 (c : Dev nD) : V m c main_arg3 = m ((c : Thread nD τ).loc main_arg3) :=
  StableHlo.after_of_writes_sub _ _ hostOps0_writes (by decide)

/-! ## The tables -/

/-- The query-tile table (row of the triangle) and the key-tile table (column), as the program's literals. -/
def tbl : pre0.Contents (Elt F) :=
  fun | 0 => fun i => lit0 (S136.rowMajor i) | 1 => fun i => lit1 (S136.rowMajor i) | ⟨_ + 2, h⟩ => absurd h (Nat.not_lt.2 (Nat.le_add_left _ _))

/-- The call finds its tables at the literals. -/
theorem V_tbl (c : Dev nD) (k : Fin 2) : V m c (pre0.ref k) = tbl k := by
  match k with
  | ⟨0, _⟩ => show StableHlo.after hostOps0 (fun b => m (c, b)) (Proc.devRef .tc main_c) = _; after_results; rfl
  | ⟨1, _⟩ => show StableHlo.after hostOps0 (fun b => m (c, b)) (Proc.devRef .tc main_c_0) = _; after_results; rfl

/-- The query tile and the key tile of a point of the triangle. -/
def qi (n : Fin 136) : ℕ := (lit0 n).toNat
def ki (n : Fin 136) : ℕ := (lit1 n).toNat

theorem qi_lt : ∀ n, qi n < 16 := by decide +kernel
theorem ki_le : ∀ n, ki n ≤ qi n := by decide +kernel
theorem lit0_eq (n : Fin 136) : lit0 n = BitVec.ofNat 32 (qi n) := by simp [qi]
theorem lit1_eq (n : Fin 136) : lit1 n = BitVec.ofNat 32 (ki n) := by simp [ki]

/-- The position a point reads in the tables is its second coordinate. -/
theorem off1_eq (i : grid0.Coords) : k0_off1 i = ![(i 1).val] := by
  have h : (i 1).val < 136 := (i 1).isLt
  unfold k0_off1
  simp only [Scalar.indexCast, BitVec.toNat_ofNat]
  rw [Nat.mod_eq_of_lt (by omega)]

/-- A table's word at an index of the one axis. -/
theorem tbl0_at (x : S136.Idx) (n : Fin 136) (h : (x 0).val = n.val) : tbl (F := F) 0 x = BitVec.ofNat 32 (qi n) := by
  show lit0 (S136.rowMajor x) = _
  rw [show S136.rowMajor x = n from Fin.ext ((Shape.rowMajor_val_one x).trans h), lit0_eq]
theorem tbl1_at (x : S136.Idx) (n : Fin 136) (h : (x 0).val = n.val) : tbl (F := F) 1 x = BitVec.ofNat 32 (ki n) := by
  show lit1 (S136.rowMajor x) = _
  rw [show S136.rowMajor x = n from Fin.ext ((Shape.rowMajor_val_one x).trans h), lit1_eq]

/-- The word the first table holds at a point's position, as the index maps and the body spell the read. -/
theorem word0 (i : grid0.Coords) (x : S136.Idx) (hx : (x 0).val = k0_off1 i 0) : tbl (F := F) 0 x = BitVec.ofNat 32 (qi (i 1)) :=
  tbl0_at x (i 1) (by rw [hx, off1_eq]; rfl)
theorem word1 (i : grid0.Coords) (x : S136.Idx) (hx : (x 0).val = k0_off1 i 0) : tbl (F := F) 1 x = BitVec.ofNat 32 (ki (i 1)) :=
  tbl1_at x (i 1) (by rw [hx, off1_eq]; rfl)

theorem ki_lt (n : Fin 136) : ki n < 16 := lt_of_le_of_lt (ki_le n) (qi_lt n)

theorem toNat_small (n : ℕ) (h : n < 200) : (BitVec.ofNat 32 n).toNat = n := by
  rw [BitVec.toNat_ofNat, Nat.mod_eq_of_lt (by omega)]

/-- The index maps at the tables: the batch and the query tile, the batch and the key tile. -/
theorem ix0_q (i : grid0.Coords) : cc0_transform_0 k0_off1_inb numel1_S1 (tbl (F := F)) i = ![(i 0).val, 0, qi (i 1), 0] := by
  have h0 : (i 0).val < 2 := (i 0).isLt
  have hq := qi_lt (i 1)
  exact funext fun
    | 0 => toNat_small _ (by omega)
    | 1 => rfl
    | 2 => (congrArg BitVec.toNat (word0 (F := F) i _ rfl)).trans (toNat_small _ (by omega))
    | 3 => rfl
theorem ix0_k (i : grid0.Coords) : cc0_transform_1 k0_off1_inb numel1_S1 (tbl (F := F)) i = ![(i 0).val, ki (i 1), 0] := by
  have h0 : (i 0).val < 2 := (i 0).isLt
  have hq := ki_lt (i 1)
  exact funext fun
    | 0 => toNat_small _ (by omega)
    | 1 => (congrArg BitVec.toNat (word1 (F := F) i _ rfl)).trans (toNat_small _ (by omega))
    | 2 => rfl
theorem ix0_o (i : grid0.Coords) : cc0_transform_4 k0_off1_inb numel1_S1 (tbl (F := F)) i = ![(i 0).val, qi (i 1), 0] := by
  have h0 : (i 0).val < 2 := (i 0).isLt
  have hq := qi_lt (i 1)
  exact funext fun
    | 0 => toNat_small _ (by omega)
    | 1 => (congrArg BitVec.toNat (word0 (F := F) i _ rfl)).trans (toNat_small _ (by omega))
    | 2 => rfl

/-- The tables are admissible: every block of the three windows that read them lies inside its array. -/
theorem ok_tbl : ok0 (tbl (F := F)) := by
  refine ⟨fun i => ?_, fun i => ?_, fun i => ?_⟩
  · refine ⟨?_, .inr (Affine.block_words_dvd (of_decide_eq_true rfl) (by decide))⟩
    have h0 : (i 0).val < 2 := (i 0).isLt
    have hq := qi_lt (i 1)
    rw [ix0_q]
    intro a; fin_cases a <;> simp <;> omega
  · refine ⟨?_, .inr (Affine.block_words_dvd (of_decide_eq_true rfl) (by decide))⟩
    have h0 : (i 0).val < 2 := (i 0).isLt
    have hq := ki_lt (i 1)
    rw [ix0_k]
    intro a; fin_cases a <;> simp <;> omega
  · refine ⟨?_, .inr (Affine.block_words_dvd (of_decide_eq_true rfl) (by decide))⟩
    have h0 : (i 0).val < 2 := (i 0).isLt
    have hq := qi_lt (i 1)
    rw [ix0_o]
    intro a; fin_cases a <;> simp <;> omega

/-- The tables' contents as the launch takes them, one per call. -/
def adm : (p : Fin 1) → (pcfgs (F := F) p).Adm := fun _ => ⟨tbl, ok_tbl⟩

/-- The pipeline at those tables. -/
abbrev cfgA : Cfg sig Λ₀ := cfg0 (F := F) (adm 0)

/-- Window 4 is idle exactly where the key tile is not the query tile. -/
theorem idle_4 (i : grid0.Coords) : idle0 (tbl (F := F)) 4 i = decide (ki (i 1) ≠ qi (i 1)) := by
  have hq := qi_lt (i 1)
  have hk := ki_lt (i 1)
  have hin : ∀ a : Fin 1, k0_off1 i a + 1 ≤ (![136] : Fin 1 → ℕ) a := by
    intro a; have h1 : (i 1).val < 136 := (i 1).isLt
    rw [off1_eq]; fin_cases a; simp; omega
  have e0 : (tbl (F := F)).atD 0 (k0_off1 i) = BitVec.ofNat 32 (qi (i 1)) := (dif_pos hin).trans (word0 i _ rfl)
  have e1 : (tbl (F := F)).atD 1 (k0_off1 i) = BitVec.ofNat 32 (ki (i 1)) := (dif_pos hin).trans (word1 i _ rfl)
  show (!(k0_cond3 ((tbl (F := F)).atD 0 (k0_off1 i)) ((tbl (F := F)).atD 1 (k0_off1 i)) == 1#1)) = _
  rw [e0, e1]
  have key : ∀ a < 16, ∀ b < 16, (!(k0_cond3 (BitVec.ofNat 32 a) (BitVec.ofNat 32 b) == 1#1)) = decide (b ≠ a) := by decide +kernel
  exact key _ hq _ hk

end Cert.KernelIdeal.Hand

end
-- ==== Proof.State.lean ====
/-
  What one grid point of the attention call computes, as functions of the blocks it is given and of the running state
  (row maximum, row sum, weighted rows), spelled with the program's own payloads.
-/
module

public import proofs.«01_k».proof.Proof.Region

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

variable (F) in
/-- The state the three scratch buffers carry: the rows' running maxima, their running sums, their weighted rows. -/
structure St where
  mx : Vec F S2048x1 .f32
  sm : Vec F S2048x1 .f32
  acc : Vec F S2048x256 .f32

/-- The state a query tile starts from. -/
def init : St F := ⟨k0_pay1, k0_pay2, k0_pay3⟩

/-- One key tile below the diagonal. -/
def full (q : Vec F S1x4x512x256 .bf16) (k : Vec F S1x512x256 .bf16) (s : St F) : St F :=
  ⟨k0_pay11 q k s.mx, k0_pay9 q k s.mx s.sm, k0_pay10 q k s.mx s.acc⟩

/-- The key tile on the diagonal. -/
def diag (q : Vec F S1x4x512x256 .bf16) (k : Vec F S1x512x256 .bf16) (s : St F) : St F :=
  ⟨k0_pay20 (k0_pay14 q k s.mx), k0_pay17 q k s.mx s.sm, k0_pay19 (k0_pay18 q k s.mx s.acc)⟩

/-- Rows `512 h …` of the weighted rows' first 128 lanes, and of the sums. -/
def rowsA (h : ℕ) (hh : ∀ a, (![512 * h, 0] : Fin 2 → Nat) a + S512x128.size a ≤ S2048x256.size a) (v : Vec F S2048x256 .f32) : Vec F S512x128 .f32 :=
  fun x => v ((Rect.unit (s := S2048x256) ![512 * h, 0] S512x128.size hh).emb x)
def rowsL (h : ℕ) (hh : ∀ a, (![512 * h, 0] : Fin 2 → Nat) a + S512x1.size a ≤ S2048x1.size a) (v : Vec F S2048x1 .f32) : Vec F S512x1 .f32 :=
  fun x => v ((Rect.unit (s := S2048x1) ![512 * h, 0] S512x1.size hh).emb x)
/-- Head `h`'s matrix of the value projection. -/
def headW (h : ℕ) (hh : ∀ a, (![h, 0, 0] : Fin 3 → Nat) a + S1x128x256.size a ≤ S4x128x256.size a) (v : Vec F S4x128x256 .bf16) : Vec F S1x128x256 .bf16 :=
  fun x => v ((Rect.unit (s := S4x128x256) ![h, 0, 0] S1x128x256.size hh).emb x)

/-- What the query tile's last point writes out. -/
def fin (w : Vec F S4x128x256 .bf16) (g : Vec F S1x256 .f32) (s : St F) : Vec F S1x512x256 .bf16 :=
  k0_pay23
    (k0_pay21 (rowsA 0 (by decide) s.acc) (rowsL 0 (by decide) s.sm) (headW 0 (by decide) w)
      (rowsA 1 (by decide) s.acc) (rowsL 1 (by decide) s.sm) (headW 1 (by decide) w))
    (rowsA 2 (by decide) s.acc) (rowsL 2 (by decide) s.sm) k0_pay22 (headW 2 (by decide) w)
    (rowsA 3 (by decide) s.acc) (rowsL 3 (by decide) s.sm) (headW 3 (by decide) w) g

end Cert.KernelIdeal.Hand

end
-- ==== Proof.Word.lean ====
/-
  The body's triple reading one table word, and the buffers' whole reads.
-/
module

public import proofs.«01_k».proof.Proof.State
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A word read from a table in scalar memory: the program continues at any name `w` of the entry read. -/
theorem word_step (c : Dev nD) (E : Set ℕ) (Q : PUnit → sProp 𝕄) (m : Memref sig .tc .smem S136 .i32) (hm : m.IsWhole) (i : grid0.Coords)
    (T : Vec F S136 .i32) (q : PosShare TreeShare) (w : BitVec 32) (hw : ∀ x : S136.Idx, (x 0).val = k0_off1 i 0 → T x = w)
    (hin : ∀ a, k0_off1 i a + S1.size a ≤ S136.size a) (h1 : (Rect.unit (s := S136) (k0_off1 i) S1.size hin).shape.numel = 1)
    (hp : EltTy.i32.packing = 1) (k : BitVec 32 → Prog (TpuEff nD τ sig (Elt F) Λ₀ .tc) PUnit) :
    (m.view.loc (c : Thread nD τ) ↦[m.view.set]{q} hm.unread T)
      ⊢ iprop(((m.view.loc (c : Thread nD τ) ↦[m.view.set]{q} hm.unread T) -∗ wp frame (wpE (defs₀ (F := F)) Variants.none c none) E (k w) Q)
        -∗ wp frame (wpE (defs₀ (F := F)) Variants.none c none) E
          (smemLoad m (Rect.unit (s := S136) (k0_off1 i) S1.size hin) h1 hp >>= k) Q) := by
  have hr : (m.access (Rect.unit (s := S136) (k0_off1 i) S1.size hin)).read (Elt F) (hm.unread T)
      (Shape.Idx.first (h1.symm ▸ Nat.one_pos)) = w := by
    refine (congrFun (hm.read_unread T) _).trans (hw _ ?_)
    show k0_off1 i 0 + 1 * (Shape.Idx.first (s := (Rect.unit (s := S136) (k0_off1 i) S1.size hin).shape) (h1.symm ▸ Nat.one_pos) 0).val = _
    have hlt := (Shape.Idx.first (s := (Rect.unit (s := S136) (k0_off1 i) S1.size hin).shape) (h1.symm ▸ Nat.one_pos) 0).isLt
    have hs : (Rect.unit (s := S136) (k0_off1 i) S1.size hin).shape.size 0 = 1 := rfl
    omega
  have key := wp_smemLoadElt Variants.none (c : Thread nD τ) none E (defs := defs₀ (F := F)) (Q := Q) (Γ := .empty) (m := m)
    (r := Rect.unit (s := S136) (k0_off1 i) S1.size hin) (hw := View.loads_smem_one hp h1)
    (x := Shape.Idx.first (h1.symm ▸ Nat.one_pos)) (k := k) (S := m.view.set) (q := q) (f := hm.unread T) (View.set_slice_subset m.view _)
  rw [hr] at key
  exact key

/-- A load of some rows after a store of the whole buffer reads those rows of what was stored. -/
theorem rowsA_writes (v : View sig .tc .vmem S2048x256 .f32) (f : v.ty.Contents (Elt F)) (h : ℕ) (hh)
    {off : Fin 2 → ℕ} (inb : ∀ a, off a + S2048x256.size a ≤ S2048x256.size a) (w w' : Vec F S2048x256 .f32)
    (L : List (View.Piece (Elt F) S2048x256 .f32)) (e : w = w') :
    v.readAt (Elt F) (Rect.unit (s := S2048x256) ![512 * h, 0] S512x128.size hh).toLoadRect
      (v.writes (Elt F) f (⟨Rect.unit off S2048x256.size inb, w⟩ :: L)) = rowsA h hh w' := by
  subst e
  exact funext fun x => congrFun (View.read_writes_full v f inb w L) _

/-- The same of the one-column buffer. -/
theorem rowsL_writes (v : View sig .tc .vmem S2048x1 .f32) (f : v.ty.Contents (Elt F)) (h : ℕ) (hh)
    {off : Fin 2 → ℕ} (inb : ∀ a, off a + S2048x1.size a ≤ S2048x1.size a) (w w' : Vec F S2048x1 .f32)
    (L : List (View.Piece (Elt F) S2048x1 .f32)) (e : w = w') :
    v.readAt (Elt F) (Rect.unit (s := S2048x1) ![512 * h, 0] S512x1.size hh).toLoadRect
      (v.writes (Elt F) f (⟨Rect.unit off S2048x1.size inb, w⟩ :: L)) = rowsL h hh w' := by
  subst e
  exact funext fun x => congrFun (View.read_writes_full v f inb w L) _

/-- A load of one head's matrix reads that matrix. -/
theorem headW_unread (m : Memref sig .tc .vmem S4x128x256 .bf16) (hm : m.IsWhole) (w : Vec F S4x128x256 .bf16) (h : ℕ) (hh) :
    m.view.readAt (Elt F) (Rect.unit (s := S4x128x256) ![h, 0, 0] S1x128x256.size hh).toLoadRect (hm.unread w) = headW h hh w :=
  funext fun x => congrFun (hm.read_unread w) _

end Cert.KernelIdeal.Hand

end
-- ==== Proof.RunA.lean ====
/-
  The body's triple at a first key tile that is below the diagonal.
-/
module

public import proofs.«01_k».proof.Proof.Word

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 2000000 in
/-- The body at a first key tile that is below the diagonal. -/
theorem runA (c : Dev nD) (i : grid0.Coords) (arg2 : Memref sig .tc .smem S136 .i32) (harg2 : arg2.IsWhole) (arg3 : Memref sig .tc .smem S136 .i32) (harg3 : arg3.IsWhole) (arg4 : Memref sig .tc .vmem S1x4x512x256 .bf16) (harg4 : arg4.IsWhole) (arg5 : Memref sig .tc .vmem S1x512x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : Scalar.cmpi .ne (Scalar.extui (Scalar.cmpi .eq v3 0#32) : BitVec 32) 0#32 = 1#1)
    (hc1 : Scalar.cmpi .ne (Scalar.extui (Scalar.cmpi .slt v3 v1) : BitVec 32) 0#32 = 1#1)
    (hc2 : ¬k0_cond3 v1 v3 = 1#1)
    (x0 : Vec F S1x4x512x256 .bf16) (x1 : Vec F S1x512x256 .bf16) (x2 : Vec F S4x128x256 .bf16) (x3 : Vec F S1x256 .f32)
    (xi : Vec F S1x512x256 .bf16) (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (full x0 x1 init).mx ∗ owns (c : Thread nD τ) arg10 fullShare (full x0 x1 init).sm ∗ owns (c : Thread nD τ) arg11 fullShare (full x0 x1 init).acc) -∗ K ⟨⟩))
      ⊢ wp frame (wpE (defs₀ (F := F)) Variants.none c none) E (cc0_prompt_mla_attn i arg2 harg2 arg3 harg3 arg4 harg4 arg5 harg5 arg6 harg6 arg7 harg7 arg8 harg8 arg9 harg9 arg10 harg10 arg11 harg11) K := by
  simp only [cc0_prompt_mla_attn_eq_skeleton]; unfold cc0_prompt_mla_attn_skel
  simp only [k0_part1_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3; obtain rfl := harg8.eq_unread hf4
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    exact harg8.read_unread _
  isplitl [HS0]
  · iexists _; isplitr
    swap
    · iexact HS0
    ipureintro
    refine (View.read_writes_full _ _ _ _ _).trans ?_
    show k0_pay11 _ _ _ = k0_pay11 x0 x1 init.mx
    exact congr (congr (congrArg k0_pay11 ((View.readAt_full _ _ _).trans (harg4.read_unread _))) ((View.readAt_full _ _ _).trans (harg5.read_unread _))) (View.readCov_full _ _ _ _ _)
  isplitl [HS1]
  · iexists _; isplitr
    swap
    · iexact HS1
    ipureintro
    refine (View.read_writes_full _ _ _ _ _).trans ?_
    show k0_pay9 _ _ _ _ = k0_pay9 x0 x1 init.mx init.sm
    exact congr (congr (congr (congrArg k0_pay9 ((View.readAt_full _ _ _).trans (harg4.read_unread _))) ((View.readAt_full _ _ _).trans (harg5.read_unread _))) (View.readCov_full _ _ _ _ _)) (View.readCov_full _ _ _ _ _)
  iexists _; isplitr
  swap
  · iexact HS2
  ipureintro
  refine (View.read_writes_full _ _ _ _ _).trans ?_
  show k0_pay10 _ _ _ _ = k0_pay10 x0 x1 init.mx init.acc
  exact congr (congr (congr (congrArg k0_pay10 ((View.readAt_full _ _ _).trans (harg4.read_unread _))) ((View.readAt_full _ _ _).trans (harg5.read_unread _))) (View.readCov_full _ _ _ _ _)) (View.readCov_full _ _ _ _ _)

end Cert.KernelIdeal.Hand

end
-- ==== Proof.RunB.lean ====
/-
  The body's triple at a first key tile that is on the diagonal.
-/
module

public import proofs.«01_k».proof.Proof.Word

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 2000000 in
/-- The body at a first key tile that is on the diagonal. -/
theorem runB (c : Dev nD) (i : grid0.Coords) (arg2 : Memref sig .tc .smem S136 .i32) (harg2 : arg2.IsWhole) (arg3 : Memref sig .tc .smem S136 .i32) (harg3 : arg3.IsWhole) (arg4 : Memref sig .tc .vmem S1x4x512x256 .bf16) (harg4 : arg4.IsWhole) (arg5 : Memref sig .tc .vmem S1x512x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : Scalar.cmpi .ne (Scalar.extui (Scalar.cmpi .eq v3 0#32) : BitVec 32) 0#32 = 1#1)
    (hc1 : ¬Scalar.cmpi .ne (Scalar.extui (Scalar.cmpi .slt v3 v1) : BitVec 32) 0#32 = 1#1)
    (hc2 : k0_cond3 v1 v3 = 1#1)
    (x0 : Vec F S1x4x512x256 .bf16) (x1 : Vec F S1x512x256 .bf16) (x2 : Vec F S4x128x256 .bf16) (x3 : Vec F S1x256 .f32)
    (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (fin x2 x3 (diag x0 x1 init)) ∗ owns (c : Thread nD τ) arg9 fullShare (diag x0 x1 init).mx ∗ owns (c : Thread nD τ) arg10 fullShare (diag x0 x1 init).sm ∗ owns (c : Thread nD τ) arg11 fullShare (diag x0 x1 init).acc) -∗ K ⟨⟩))
      ⊢ wp frame (wpE (defs₀ (F := F)) Variants.none c none) E (cc0_prompt_mla_attn i arg2 harg2 arg3 harg3 arg4 harg4 arg5 harg5 arg6 harg6 arg7 harg7 arg8 harg8 arg9 harg9 arg10 harg10 arg11 harg11) K := by
  simp only [cc0_prompt_mla_attn_eq_skeleton]; unfold cc0_prompt_mla_attn_skel
  simp only [k0_part4_eq_skeleton, k0_part2_eq_skeleton, k0_part3_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    refine (View.read_writes_full _ _ _ _ _).trans ?_
    show k0_pay23 (k0_pay21 _ _ _ _ _ _) _ _ _ _ _ _ _ _ = k0_pay23 (k0_pay21 (rowsA 0 (by decide) (diag x0 x1 init).acc) (rowsL 0 (by decide) (diag x0 x1 init).sm) (headW 0 (by decide) x2) (rowsA 1 (by decide) (diag x0 x1 init).acc) (rowsL 1 (by decide) (diag x0 x1 init).sm) (headW 1 (by decide) x2)) (rowsA 2 (by decide) (diag x0 x1 init).acc) (rowsL 2 (by decide) (diag x0 x1 init).sm) k0_pay22 (headW 2 (by decide) x2) (rowsA 3 (by decide) (diag x0 x1 init).acc) (rowsL 3 (by decide) (diag x0 x1 init).sm) (headW 3 (by decide) x2) x3
    exact congr (congr (congr (congr (congr (congr (congr (congr (congrArg k0_pay23 (congr (congr (congr (congr (congr (congrArg k0_pay21 (rowsA_writes _ _ 0 _ _ _ _ _ (congrArg k0_pay19 (congr (congr (congr (congrArg k0_pay18 ((View.readAt_full _ _ _).trans (harg4.read_unread _))) ((View.readAt_full _ _ _).trans (harg5.read_unread _))) (View.readCov_full _ _ _ _ _)) (View.readCov_full _ _ _ _ _))))) (rowsL_writes _ _ 0 _ _ _ _ _ (congr (congr (congr (congrArg k0_pay17 ((View.readAt_full _ _ _).trans (harg4.read_unread _))) ((View.readAt_full _ _ _).trans (harg5.read_unread _))) (View.readCov_full _ _ _ _ _)) (View.readCov_full _ _ _ _ _)))) (headW_unread arg6 harg6 x2 0 _)) (rowsA_writes _ _ 1 _ _ _ _ _ (congrArg k0_pay19 (congr (congr (congr (congrArg k0_pay18 ((View.readAt_full _ _ _).trans (harg4.read_unread _))) ((View.readAt_full _ _ _).trans (harg5.read_unread _))) (View.readCov_full _ _ _ _ _)) (View.readCov_full _ _ _ _ _))))) (rowsL_writes _ _ 1 _ _ _ _ _ (congr (congr (congr (congrArg k0_pay17 ((View.readAt_full _ _ _).trans (harg4.read_unread _))) ((View.readAt_full _ _ _).trans (harg5.read_unread _))) (View.readCov_full _ _ _ _ _)) (View.readCov_full _ _ _ _ _)))) (headW_unread arg6 harg6 x2 1 _))) (rowsA_writes _ _ 2 _ _ _ _ _ (congrArg k0_pay19 (congr (congr (congr (congrArg k0_pay18 ((View.readAt_full _ _ _).trans (harg4.read_unread _))) ((View.readAt_full _ _ _).trans (harg5.read_unread _))) (View.readCov_full _ _ _ _ _)) (View.readCov_full _ _ _ _ _))))) (rowsL_writes _ _ 2 _ _ _ _ _ (congr (congr (congr (congrArg k0_pay17 ((View.readAt_full _ _ _).trans (harg4.read_unread _))) ((View.readAt_full _ _ _).trans (harg5.read_unread _))) (View.readCov_full _ _ _ _ _)) (View.readCov_full _ _ _ _ _)))) (rfl)) (headW_unread arg6 harg6 x2 2 _)) (rowsA_writes _ _ 3 _ _ _ _ _ (congrArg k0_pay19 (congr (congr (congr (congrArg k0_pay18 ((View.readAt_full _ _ _).trans (harg4.read_unread _))) ((View.readAt_full _ _ _).trans (harg5.read_unread _))) (View.readCov_full _ _ _ _ _)) (View.readCov_full _ _ _ _ _))))) (rowsL_writes _ _ 3 _ _ _ _ _ (congr (congr (congr (congrArg k0_pay17 ((View.readAt_full _ _ _).trans (harg4.read_unread _))) ((View.readAt_full _ _ _).trans (harg5.read_unread _))) (View.readCov_full _ _ _ _ _)) (View.readCov_full _ _ _ _ _)))) (headW_unread arg6 harg6 x2 3 _)) ((View.readAt_full _ _ _).trans (harg7.read_unread _))
  isplitl [HS0]
  · iexists _; isplitr
    swap
    · iexact HS0
    ipureintro
    refine (View.read_writes_full _ _ _ _ _).trans ?_
    show k0_pay20 (k0_pay14 _ _ _) = k0_pay20 (k0_pay14 x0 x1 init.mx)
    exact congrArg k0_pay20 (congr (congr (congrArg k0_pay14 ((View.readAt_full _ _ _).trans (harg4.read_unread _))) ((View.readAt_full _ _ _).trans (harg5.read_unread _))) (View.readCov_full _ _ _ _ _))
  isplitl [HS1]
  · iexists _; isplitr
    swap
    · iexact HS1
    ipureintro
    refine (View.read_writes_full _ _ _ _ _).trans ?_
    show k0_pay17 _ _ _ _ = k0_pay17 x0 x1 init.mx init.sm
    exact congr (congr (congr (congrArg k0_pay17 ((View.readAt_full _ _ _).trans (harg4.read_unread _))) ((View.readAt_full _ _ _).trans (harg5.read_unread _))) (View.readCov_full _ _ _ _ _)) (View.readCov_full _ _ _ _ _)
  iexists _; isplitr
  swap
  · iexact HS2
  ipureintro
  refine (View.read_writes_full _ _ _ _ _).trans ?_
  show k0_pay19 (k0_pay18 _ _ _ _) = k0_pay19 (k0_pay18 x0 x1 init.mx init.acc)
  exact congrArg k0_pay19 (congr (congr (congr (congrArg k0_pay18 ((View.readAt_full _ _ _).trans (harg4.read_unread _))) ((View.readAt_full _ _ _).trans (harg5.read_unread _))) (View.readCov_full _ _ _ _ _)) (View.readCov_full _ _ _ _ _))

end Cert.KernelIdeal.Hand

end
-- ==== Proof.RunC.lean ====
/-
  The body's triple at a later key tile that is below the diagonal.
-/
module

public import proofs.«01_k».proof.Proof.Word

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 2000000 in
/-- The body at a later key tile that is below the diagonal. -/
theorem runC (c : Dev nD) (i : grid0.Coords) (arg2 : Memref sig .tc .smem S136 .i32) (harg2 : arg2.IsWhole) (arg3 : Memref sig .tc .smem S136 .i32) (harg3 : arg3.IsWhole) (arg4 : Memref sig .tc .vmem S1x4x512x256 .bf16) (harg4 : arg4.IsWhole) (arg5 : Memref sig .tc .vmem S1x512x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : ¬Scalar.cmpi .ne (Scalar.extui (Scalar.cmpi .eq v3 0#32) : BitVec 32) 0#32 = 1#1)
    (hc1 : Scalar.cmpi .ne (Scalar.extui (Scalar.cmpi .slt v3 v1) : BitVec 32) 0#32 = 1#1)
    (hc2 : ¬k0_cond3 v1 v3 = 1#1)
    (x0 : Vec F S1x4x512x256 .bf16) (x1 : Vec F S1x512x256 .bf16) (x2 : Vec F S4x128x256 .bf16) (x3 : Vec F S1x256 .f32)
    (xi : Vec F S1x512x256 .bf16) (s : St F) (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare s.mx ∗ owns (c : Thread nD τ) arg10 fullShare s.sm ∗ owns (c : Thread nD τ) arg11 fullShare s.acc
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (full x0 x1 s).mx ∗ owns (c : Thread nD τ) arg10 fullShare (full x0 x1 s).sm ∗ owns (c : Thread nD τ) arg11 fullShare (full x0 x1 s).acc) -∗ K ⟨⟩))
      ⊢ wp frame (wpE (defs₀ (F := F)) Variants.none c none) E (cc0_prompt_mla_attn i arg2 harg2 arg3 harg3 arg4 harg4 arg5 harg5 arg6 harg6 arg7 harg7 arg8 harg8 arg9 harg9 arg10 harg10 arg11 harg11) K := by
  simp only [cc0_prompt_mla_attn_eq_skeleton]; unfold cc0_prompt_mla_attn_skel
  simp only [k0_part1_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    exact harg8.read_unread _
  isplitl [HS0]
  · iexists _; isplitr
    swap
    · iexact HS0
    ipureintro
    refine (View.read_writes_full _ _ _ _ _).trans ?_
    show k0_pay11 _ _ _ = k0_pay11 x0 x1 s.mx
    exact congr (congr (congrArg k0_pay11 ((View.readAt_full _ _ _).trans (harg4.read_unread _))) ((View.readAt_full _ _ _).trans (harg5.read_unread _))) ((View.readAt_full _ _ _).trans (harg9.read_unread _))
  isplitl [HS1]
  · iexists _; isplitr
    swap
    · iexact HS1
    ipureintro
    refine (View.read_writes_full _ _ _ _ _).trans ?_
    show k0_pay9 _ _ _ _ = k0_pay9 x0 x1 s.mx s.sm
    exact congr (congr (congr (congrArg k0_pay9 ((View.readAt_full _ _ _).trans (harg4.read_unread _))) ((View.readAt_full _ _ _).trans (harg5.read_unread _))) ((View.readAt_full _ _ _).trans (harg9.read_unread _))) ((View.readAt_full _ _ _).trans (harg10.read_unread _))
  iexists _; isplitr
  swap
  · iexact HS2
  ipureintro
  refine (View.read_writes_full _ _ _ _ _).trans ?_
  show k0_pay10 _ _ _ _ = k0_pay10 x0 x1 s.mx s.acc
  exact congr (congr (congr (congrArg k0_pay10 ((View.readAt_full _ _ _).trans (harg4.read_unread _))) ((View.readAt_full _ _ _).trans (harg5.read_unread _))) ((View.readAt_full _ _ _).trans (harg9.read_unread _))) ((View.readAt_full _ _ _).trans (harg11.read_unread _))

end Cert.KernelIdeal.Hand

end
-- ==== Proof.RunD.lean ====
/-
  The body's triple at a later key tile that is on the diagonal.
-/
module

public import proofs.«01_k».proof.Proof.Word

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 2000000 in
/-- The body at a later key tile that is on the diagonal. -/
theorem runD (c : Dev nD) (i : grid0.Coords) (arg2 : Memref sig .tc .smem S136 .i32) (harg2 : arg2.IsWhole) (arg3 : Memref sig .tc .smem S136 .i32) (harg3 : arg3.IsWhole) (arg4 : Memref sig .tc .vmem S1x4x512x256 .bf16) (harg4 : arg4.IsWhole) (arg5 : Memref sig .tc .vmem S1x512x256 .bf16) (harg5 : arg5.IsWhole) (arg6 : Memref sig .tc .vmem S4x128x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : ¬Scalar.cmpi .ne (Scalar.extui (Scalar.cmpi .eq v3 0#32) : BitVec 32) 0#32 = 1#1)
    (hc1 : ¬Scalar.cmpi .ne (Scalar.extui (Scalar.cmpi .slt v3 v1) : BitVec 32) 0#32 = 1#1)
    (hc2 : k0_cond3 v1 v3 = 1#1)
    (x0 : Vec F S1x4x512x256 .bf16) (x1 : Vec F S1x512x256 .bf16) (x2 : Vec F S4x128x256 .bf16) (x3 : Vec F S1x256 .f32)
    (s : St F) (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare s.mx ∗ owns (c : Thread nD τ) arg10 fullShare s.sm ∗ owns (c : Thread nD τ) arg11 fullShare s.acc
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (fin x2 x3 (diag x0 x1 s)) ∗ owns (c : Thread nD τ) arg9 fullShare (diag x0 x1 s).mx ∗ owns (c : Thread nD τ) arg10 fullShare (diag x0 x1 s).sm ∗ owns (c : Thread nD τ) arg11 fullShare (diag x0 x1 s).acc) -∗ K ⟨⟩))
      ⊢ wp frame (wpE (defs₀ (F := F)) Variants.none c none) E (cc0_prompt_mla_attn i arg2 harg2 arg3 harg3 arg4 harg4 arg5 harg5 arg6 harg6 arg7 harg7 arg8 harg8 arg9 harg9 arg10 harg10 arg11 harg11) K := by
  simp only [cc0_prompt_mla_attn_eq_skeleton]; unfold cc0_prompt_mla_attn_skel
  simp only [k0_part4_eq_skeleton, k0_part2_eq_skeleton, k0_part3_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    refine (View.read_writes_full _ _ _ _ _).trans ?_
    show k0_pay23 (k0_pay21 _ _ _ _ _ _) _ _ _ _ _ _ _ _ = k0_pay23 (k0_pay21 (rowsA 0 (by decide) (diag x0 x1 s).acc) (rowsL 0 (by decide) (diag x0 x1 s).sm) (headW 0 (by decide) x2) (rowsA 1 (by decide) (diag x0 x1 s).acc) (rowsL 1 (by decide) (diag x0 x1 s).sm) (headW 1 (by decide) x2)) (rowsA 2 (by decide) (diag x0 x1 s).acc) (rowsL 2 (by decide) (diag x0 x1 s).sm) k0_pay22 (headW 2 (by decide) x2) (rowsA 3 (by decide) (diag x0 x1 s).acc) (rowsL 3 (by decide) (diag x0 x1 s).sm) (headW 3 (by decide) x2) x3
    exact congr (congr (congr (congr (congr (congr (congr (congr (congrArg k0_pay23 (congr (congr (congr (congr (congr (congrArg k0_pay21 (rowsA_writes _ _ 0 _ _ _ _ _ (congrArg k0_pay19 (congr (congr (congr (congrArg k0_pay18 ((View.readAt_full _ _ _).trans (harg4.read_unread _))) ((View.readAt_full _ _ _).trans (harg5.read_unread _))) ((View.readAt_full _ _ _).trans (harg9.read_unread _))) ((View.readAt_full _ _ _).trans (harg11.read_unread _)))))) (rowsL_writes _ _ 0 _ _ _ _ _ (congr (congr (congr (congrArg k0_pay17 ((View.readAt_full _ _ _).trans (harg4.read_unread _))) ((View.readAt_full _ _ _).trans (harg5.read_unread _))) ((View.readAt_full _ _ _).trans (harg9.read_unread _))) ((View.readAt_full _ _ _).trans (harg10.read_unread _))))) (headW_unread arg6 harg6 x2 0 _)) (rowsA_writes _ _ 1 _ _ _ _ _ (congrArg k0_pay19 (congr (congr (congr (congrArg k0_pay18 ((View.readAt_full _ _ _).trans (harg4.read_unread _))) ((View.readAt_full _ _ _).trans (harg5.read_unread _))) ((View.readAt_full _ _ _).trans (harg9.read_unread _))) ((View.readAt_full _ _ _).trans (harg11.read_unread _)))))) (rowsL_writes _ _ 1 _ _ _ _ _ (congr (congr (congr (congrArg k0_pay17 ((View.readAt_full _ _ _).trans (harg4.read_unread _))) ((View.readAt_full _ _ _).trans (harg5.read_unread _))) ((View.readAt_full _ _ _).trans (harg9.read_unread _))) ((View.readAt_full _ _ _).trans (harg10.read_unread _))))) (headW_unread arg6 harg6 x2 1 _))) (rowsA_writes _ _ 2 _ _ _ _ _ (congrArg k0_pay19 (congr (congr (congr (congrArg k0_pay18 ((View.readAt_full _ _ _).trans (harg4.read_unread _))) ((View.readAt_full _ _ _).trans (harg5.read_unread _))) ((View.readAt_full _ _ _).trans (harg9.read_unread _))) ((View.readAt_full _ _ _).trans (harg11.read_unread _)))))) (rowsL_writes _ _ 2 _ _ _ _ _ (congr (congr (congr (congrArg k0_pay17 ((View.readAt_full _ _ _).trans (harg4.read_unread _))) ((View.readAt_full _ _ _).trans (harg5.read_unread _))) ((View.readAt_full _ _ _).trans (harg9.read_unread _))) ((View.readAt_full _ _ _).trans (harg10.read_unread _))))) (rfl)) (headW_unread arg6 harg6 x2 2 _)) (rowsA_writes _ _ 3 _ _ _ _ _ (congrArg k0_pay19 (congr (congr (congr (congrArg k0_pay18 ((View.readAt_full _ _ _).trans (harg4.read_unread _))) ((View.readAt_full _ _ _).trans (harg5.read_unread _))) ((View.readAt_full _ _ _).trans (harg9.read_unread _))) ((View.readAt_full _ _ _).trans (harg11.read_unread _)))))) (rowsL_writes _ _ 3 _ _ _ _ _ (congr (congr (congr (congrArg k0_pay17 ((View.readAt_full _ _ _).trans (harg4.read_unread _))) ((View.readAt_full _ _ _).trans (harg5.read_unread _))) ((View.readAt_full _ _ _).trans (harg9.read_unread _))) ((View.readAt_full _ _ _).trans (harg10.read_unread _))))) (headW_unread arg6 harg6 x2 3 _)) ((View.readAt_full _ _ _).trans (harg7.read_unread _))
  isplitl [HS0]
  · iexists _; isplitr
    swap
    · iexact HS0
    ipureintro
    refine (View.read_writes_full _ _ _ _ _).trans ?_
    show k0_pay20 (k0_pay14 _ _ _) = k0_pay20 (k0_pay14 x0 x1 s.mx)
    exact congrArg k0_pay20 (congr (congr (congrArg k0_pay14 ((View.readAt_full _ _ _).trans (harg4.read_unread _))) ((View.readAt_full _ _ _).trans (harg5.read_unread _))) ((View.readAt_full _ _ _).trans (harg9.read_unread _)))
  isplitl [HS1]
  · iexists _; isplitr
    swap
    · iexact HS1
    ipureintro
    refine (View.read_writes_full _ _ _ _ _).trans ?_
    show k0_pay17 _ _ _ _ = k0_pay17 x0 x1 s.mx s.sm
    exact congr (congr (congr (congrArg k0_pay17 ((View.readAt_full _ _ _).trans (harg4.read_unread _))) ((View.readAt_full _ _ _).trans (harg5.read_unread _))) ((View.readAt_full _ _ _).trans (harg9.read_unread _))) ((View.readAt_full _ _ _).trans (harg10.read_unread _))
  iexists _; isplitr
  swap
  · iexact HS2
  ipureintro
  refine (View.read_writes_full _ _ _ _ _).trans ?_
  show k0_pay19 (k0_pay18 _ _ _ _) = k0_pay19 (k0_pay18 x0 x1 s.mx s.acc)
  exact congrArg k0_pay19 (congr (congr (congr (congrArg k0_pay18 ((View.readAt_full _ _ _).trans (harg4.read_unread _))) ((View.readAt_full _ _ _).trans (harg5.read_unread _))) ((View.readAt_full _ _ _).trans (harg9.read_unread _))) ((View.readAt_full _ _ _).trans (harg11.read_unread _)))

end Cert.KernelIdeal.Hand

end
-- ==== Proof.Frame.lean ====
/-
  The call's proof data and the body's obligation at every grid point, the run of the whole program and its frame.
-/
module

public import proofs.«01_k».proof.Proof.RunA
public import proofs.«01_k».proof.Proof.RunB
public import proofs.«01_k».proof.Proof.RunC
public import proofs.«01_k».proof.Proof.RunD
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- A point's place in the triangle, and its batch. -/
def pt (t : Fin (cfgA (F := F)).N) : Fin 136 := grid0.coords t 1
def bt (t : Fin (cfgA (F := F)).N) : ℕ := (grid0.coords t 0).val

theorem pt_val (t : Fin (cfgA (F := F)).N) : (pt t).val = t.val % 136 := by
  have h := Pipeline.Grid.coords_val (G := grid0) t 1 (S := 1) (B := 136) (by decide) rfl
  have hN : t.val < 272 := lt_of_lt_of_eq t.isLt (show (cfgA (F := F)).N = 272 from N_0)
  unfold pt
  rw [h]
  simp
theorem bt_val (t : Fin (cfgA (F := F)).N) : bt t = t.val / 136 := by
  have h := Pipeline.Grid.coords_val (G := grid0) t 0 (S := 136) (B := 2) (by decide) rfl
  have hN : t.val < 272 := lt_of_lt_of_eq t.isLt (show (cfgA (F := F)).N = 272 from N_0)
  unfold bt
  rw [h]
  simp; omega

/-- Below the diagonal the next point of the triangle is in the same row. -/
theorem qi_next : ∀ n : Fin 136, ki n ≠ qi n → ∃ h : n.val + 1 < 136, qi ⟨n.val + 1, h⟩ = qi n ∧ ki ⟨n.val + 1, h⟩ = ki n + 1 := by
  decide +kernel

/-- The first point of the triangle starts its row. -/
theorem ki_zero : ki 0 = 0 := by decide +kernel

theorem idle4 (t : Fin (cfgA (F := F)).N) (h : ki (pt t) ≠ qi (pt t)) : (cfgA (F := F)).idle 4 (grid0.coords t) = true :=
  (idle_4 (F := F) (grid0.coords t)).trans (decide_eq_true h)
theorem live4 (t : Fin (cfgA (F := F)).N) (h : ki (pt t) = qi (pt t)) : (cfgA (F := F)).idle 4 (grid0.coords t) = false :=
  (idle_4 (F := F) (grid0.coords t)).trans (decide_eq_false (not_not.mpr h))

/-- Below the diagonal the output's block is not written back. -/
theorem noFlush4 (t : Fin (cfgA (F := F)).N) (h : ki (pt t) ≠ qi (pt t)) : ((cfgA (F := F)).win 4).flush t = false := by
  obtain ⟨hp, hq, -⟩ := qi_next (pt t) h
  have hN : t.val < 272 := lt_of_lt_of_eq t.isLt (show (cfgA (F := F)).N = 272 from N_0)
  have hpv := pt_val t
  have hlt : t.val + 1 < (cfgA (F := F)).N :=
    lt_of_lt_of_eq (b := 272) (by omega) (show (cfgA (F := F)).N = 272 from N_0).symm
  have e1 : pt (F := F) ⟨t.val + 1, hlt⟩ = ⟨(pt t).val + 1, hp⟩ := Fin.ext (by rw [pt_val]; show (t.val + 1) % 136 = (pt t).val + 1; omega)
  have e0 : bt (F := F) ⟨t.val + 1, hlt⟩ = bt t := by rw [bt_val, bt_val]; show (t.val + 1) / 136 = t.val / 136; omega
  have hix : ((cfgA (F := F)).win 4).index ⟨t.val + 1, hlt⟩ = ((cfgA (F := F)).win 4).index t := by
    refine (ix0_o (F := F) (grid0.coords ⟨t.val + 1, hlt⟩)).trans (Eq.trans ?_ (ix0_o (F := F) (grid0.coords t)).symm)
    show ![bt (F := F) ⟨t.val + 1, hlt⟩, qi (pt (F := F) ⟨t.val + 1, hlt⟩), 0] = ![bt t, qi (pt t), 0]
    rw [e0, e1, hq]
  unfold Window.flush
  have hne : ¬ t.val + 1 = grid0.N := by
    have : grid0.N = 272 := N_0
    omega
  have hne2 : ¬ ∃ h : t.val + 1 < grid0.N, ((cfgA (F := F)).win 4).index ⟨t.val + 1, h⟩ ≠ ((cfgA (F := F)).win 4).index t :=
    fun ⟨_, hx⟩ => hx hix
  rw [decide_eq_false hne2]
  simp [hne]

/-! ## The body's conditions in closed form -/

theorem cond_first {n : ℕ} (h : n < 16) : (Scalar.cmpi .ne (Scalar.extui (Scalar.cmpi .eq (BitVec.ofNat 32 n) 0#32) : BitVec 32) 0#32 = 1#1) ↔ n = 0 := by
  have key : ∀ a < 16, (Scalar.cmpi .ne (Scalar.extui (Scalar.cmpi .eq (BitVec.ofNat 32 a) 0#32) : BitVec 32) 0#32 = 1#1) ↔ a = 0 := by decide +kernel
  exact key n h
theorem cond_below {a b : ℕ} (ha : a < 16) (hb : b < 16) (hab : b ≤ a) :
    (Scalar.cmpi .ne (Scalar.extui (Scalar.cmpi .slt (BitVec.ofNat 32 b) (BitVec.ofNat 32 a)) : BitVec 32) 0#32 = 1#1) ↔ b ≠ a := by
  have key : ∀ a < 16, ∀ b < 16, b ≤ a → ((Scalar.cmpi .ne (Scalar.extui (Scalar.cmpi .slt (BitVec.ofNat 32 b) (BitVec.ofNat 32 a)) : BitVec 32) 0#32 = 1#1) ↔ b ≠ a) := by decide +kernel
  exact key a ha b hb hab
theorem cond_diag {a b : ℕ} (ha : a < 16) (hb : b < 16) :
    (k0_cond3 (BitVec.ofNat 32 a) (BitVec.ofNat 32 b) = 1#1) ↔ b = a := by
  have key : ∀ a < 16, ∀ b < 16, ((k0_cond3 (BitVec.ofNat 32 a) (BitVec.ofNat 32 b) = 1#1) ↔ b = a) := by decide +kernel
  exact key a ha b hb

/-! ## The blocks and the running state -/

/-- Window `w`'s block at point `t`, of what the call finds in its array. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- One point's step on the running state. -/
def stepAt (c : Dev nD) (t : Fin (cfgA (F := F)).N) (s : St F) : St F :=
  if ki (pt t) = qi (pt t) then diag (iblk m c 0 t) (iblk m c 1 t) (if ki (pt t) = 0 then init else s)
  else full (iblk m c 0 t) (iblk m c 1 t) (if ki (pt t) = 0 then init else s)

/-- The running state after point `n`. -/
def stAt (c : Dev nD) : (n : ℕ) → n < (cfgA (F := F)).N → St F
  | 0, h => stepAt m c ⟨0, h⟩ init
  | n + 1, h => stepAt m c ⟨n + 1, h⟩ (stAt c n (Nat.lt_of_succ_lt h))

theorem stAt_first (c : Dev nD) (t : Fin (cfgA (F := F)).N) (h : ki (pt t) = 0) : stAt m c t.val t.isLt = stepAt m c t init := by
  obtain ⟨n, hn⟩ := t
  cases n with
  | zero => rfl
  | succ n =>
    show stepAt m c ⟨n + 1, hn⟩ _ = _
    unfold stepAt
    rw [if_pos h, if_pos h]

theorem stAt_next (c : Dev nD) (t : Fin (cfgA (F := F)).N) (h : t.val ≠ 0) :
    stAt m c t.val t.isLt = stepAt m c t (stAt m c (t.val - 1) (by omega)) := by
  obtain ⟨n, hn⟩ := t
  cases n with
  | zero => exact absurd rfl h
  | succ n => rfl

theorem pos_of_later (t : Fin (cfgA (F := F)).N) (h : ki (pt t) ≠ 0) : t.val ≠ 0 := fun h0 => h (by
  rw [show pt t = 0 from Fin.ext (by rw [pt_val, h0]; rfl)]; exact ki_zero)

/-! ## The buffers the body is handed -/

abbrev ms0 (t : Fin (cfgA (F := F)).N) : Memref sig .tc .vmem S1x4x512x256 .bf16 := spec0_0.stage ((cfgA (F := F)).slots t 0)
abbrev ms1 (t : Fin (cfgA (F := F)).N) : Memref sig .tc .vmem S1x512x256 .bf16 := spec0_1.stage ((cfgA (F := F)).slots t 1)
abbrev ms2 (t : Fin (cfgA (F := F)).N) : Memref sig .tc .vmem S4x128x256 .bf16 := spec0_2.stage ((cfgA (F := F)).slots t 2)
abbrev ms3 (t : Fin (cfgA (F := F)).N) : Memref sig .tc .vmem S1x256 .f32 := spec0_3.stage ((cfgA (F := F)).slots t 3)
abbrev ms4 (t : Fin (cfgA (F := F)).N) : Memref sig .tc .vmem S1x512x256 .bf16 := spec0_4.stage ((cfgA (F := F)).slots t 4)
abbrev scM0 : Memref sig .tc .vmem S2048x1 .f32 := Memref.whole cc0_scratch0
abbrev scM1 : Memref sig .tc .vmem S2048x1 .f32 := Memref.whole cc0_scratch1
abbrev scM2 : Memref sig .tc .vmem S2048x256 .f32 := Memref.whole cc0_scratch2
abbrev tbM0 : Memref sig .tc .smem S136 .i32 := Memref.whole main_c
abbrev tbM1 : Memref sig .tc .smem S136 .i32 := Memref.whole main_c_0

/-- The body at a point, on its staging buffers, the tables and the scratch. -/
abbrev bodyAt (t : Fin (cfgA (F := F)).N) : Prog (TpuEff nD τ sig (Elt F) Λ₀ .tc) PUnit :=
  cc0_prompt_mla_attn (grid0.coords t) tbM0 (Memref.isWhole_whole _) tbM1 (Memref.isWhole_whole _)
    (ms0 t) (hstage0_0 (((cfgA (F := F)).slots t 0).cast nbuf0_0)) (ms1 t) (hstage0_1 (((cfgA (F := F)).slots t 1).cast nbuf0_1))
    (ms2 t) (hstage0_2 (((cfgA (F := F)).slots t 2).cast nbuf0_2)) (ms3 t) (hstage0_3 (((cfgA (F := F)).slots t 3).cast nbuf0_3))
    (ms4 t) (hstage0_4 (((cfgA (F := F)).slots t 4).cast nbuf0_4))
    scM0 (Memref.isWhole_whole _) scM1 (Memref.isWhole_whole _) scM2 (Memref.isWhole_whole _)

/-- The scoped rest: the three scratch buffers and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The tables as the body holds them. -/
theorem PhiT_eq (c : Dev nD) :
    (Pipeline.ΦT pre0 (tbl (F := F)) c : sProp 𝕄)
      = iprop(owns (c : Thread nD τ) tbM0 fullShare.right (tbl (F := F) 0) ∗ owns (c : Thread nD τ) tbM1 fullShare.right (tbl (F := F) 1)) := by
  refine (bigSep_univ_eq_bigSepL [(0 : Fin 2), (1 : Fin 2)] (by decide) (by decide) _).trans ?_
  exact congr (congrArg BIBase.sep (owns_whole (c : Thread nD τ) main_c fullShare.right (tbl (F := F) 0)).symm)
    (owns_whole (c : Thread nD τ) main_c_0 fullShare.right (tbl (F := F) 1)).symm

/-- What is held between points: nothing known of the scratch before the first, then the running state. -/
def PhiS (c : Dev nD) : (n : ℕ) → n ≤ (cfgA (F := F)).N → sProp 𝕄
  | 0, _ => Pipeline.ΦA spec0 c
  | n + 1, hn => iprop(iprop(owns (c : Thread nD τ) scM0 fullShare (stAt m c n hn).mx ∗ owns (c : Thread nD τ) scM1 fullShare (stAt m c n hn).sm ∗ owns (c : Thread nD τ) scM2 fullShare (stAt m c n hn).acc) ∗ (∃ r, prngReg c r))

theorem PhiS_pos (c : Dev nD) (n : ℕ) (h : n ≤ (cfgA (F := F)).N) (hz : n ≠ 0) :
    PhiS m c n h = iprop(iprop(owns (c : Thread nD τ) scM0 fullShare (stAt m c (n - 1) (by omega)).mx ∗ owns (c : Thread nD τ) scM1 fullShare (stAt m c (n - 1) (by omega)).sm ∗ owns (c : Thread nD τ) scM2 fullShare (stAt m c (n - 1) (by omega)).acc) ∗ (∃ r, prngReg c r)) := by
  cases n with
  | zero => exact absurd rfl hz
  | succ n => rfl

/-- Whatever the position, the scratch is held at something. -/
theorem PhiS_any (c : Dev nD) (n : ℕ) (h : n ≤ (cfgA (F := F)).N) : PhiS m c n h ⊢ Pipeline.ΦA spec0 c := by
  cases n with
  | zero => exact Entails.refl _
  | succ n =>
    rw [PhiA_eq]
    show iprop(iprop(owns (c : Thread nD τ) scM0 fullShare _ ∗ owns (c : Thread nD τ) scM1 fullShare _ ∗ owns (c : Thread nD τ) scM2 fullShare _) ∗ (∃ r, prngReg c r)) ⊢ _
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-! ## The proof data -/

/-- What the last point of a query tile writes out. -/
def outAt (c : Dev nD) (t : Fin (cfgA (F := F)).N) : Vec F S1x512x256 .bf16 := fin (iblk m c 2 t) (iblk m c 3 t) (stAt m c t.val t.isLt)

/-- The pipeline's proof data: its arrays as the call finds them, what each point leaves in each buffer, what is held between points. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := iprop(PhiS m c t.val (Nat.le_of_lt_succ t.isLt) ∗ Pipeline.ΦT pre0 (tbl (F := F)) c)
  q _ := fullShare
  owed _ := 0

theorem A_eq (c : Dev nD) (w : Fin (cfgA (F := F)).W) : (dats m 0 c).A w = V m c (Pipeline.arrRef spec0 w) := by
  dsimp only [dats]

theorem Phi_castSucc (c : Dev nD) (t : Fin (cfgA (F := F)).N) :
    (dats m 0 c).Φ t.castSucc = iprop(PhiS m c t.val (Nat.le_of_lt t.isLt) ∗ Pipeline.ΦT pre0 (tbl (F := F)) c) := by
  dsimp only [dats]; exact congrArg (fun X => iprop(X ∗ Pipeline.ΦT pre0 (tbl (F := F)) c)) (Pipeline.Dat.Φ_castSucc (PhiS m c) t)
theorem Phi_succ (c : Dev nD) (t : Fin (cfgA (F := F)).N) :
    (dats m 0 c).Φ t.succ = iprop(iprop(iprop(owns (c : Thread nD τ) scM0 fullShare (stAt m c t.val t.isLt).mx ∗ owns (c : Thread nD τ) scM1 fullShare (stAt m c t.val t.isLt).sm ∗ owns (c : Thread nD τ) scM2 fullShare (stAt m c t.val t.isLt).acc) ∗ (∃ r, prngReg c r)) ∗ Pipeline.ΦT pre0 (tbl (F := F)) c) := by
  dsimp only [dats]; rfl

theorem after_0 (c : Dev nD) (t : Fin (cfgA (F := F)).N) : (dats m 0 c).after 0 t = iblk m c 0 t := by dsimp only [dats]; rfl
theorem after_1 (c : Dev nD) (t : Fin (cfgA (F := F)).N) : (dats m 0 c).after 1 t = iblk m c 1 t := by dsimp only [dats]; rfl
theorem after_2 (c : Dev nD) (t : Fin (cfgA (F := F)).N) : (dats m 0 c).after 2 t = iblk m c 2 t := by dsimp only [dats]; rfl
theorem after_3 (c : Dev nD) (t : Fin (cfgA (F := F)).N) : (dats m 0 c).after 3 t = iblk m c 3 t := by dsimp only [dats]; rfl
theorem after_4 (c : Dev nD) (t : Fin (cfgA (F := F)).N) : (dats m 0 c).after 4 t = outAt m c t := by dsimp only [dats]; rfl

/-! Each input buffer holds its block at every point, fetched there or not. -/
theorem before_0 (c : Dev nD) (t : Fin (cfgA (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body's obligation -/

/-- What the body is called with at a point, and what it returns. -/
def bodyPre (c : Dev nD) (t : Fin (cfgA (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin (cfgA (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 4000000 in
/-- The body at any point: by whether the point starts its query tile and whether it is on the diagonal. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  simp only [before_0, before_1, before_2, before_3]
  rw [show (dats m 0 c).owesAt () t.succ = (dats m 0 c).owesAt () t.castSucc from rfl, Phi_castSucc, Phi_succ, PhiT_eq]
  have hq := qi_lt (pt t)
  have hk := ki_lt (pt t)
  have hle := ki_le (pt t)
  rw [show (dats m 0 c).leavesExact 0 t = owns (c : Thread nD τ) (ms0 t) fullShare ((dats m 0 c).after 0 t) from by
    unfold Dat.leavesExact; rw [show (cfgA (F := F)).idle 0 ((cfgA (F := F)).grid.coords t) = false from rfl]; rfl, after_0]
  rw [show (dats m 0 c).leavesExact 1 t = owns (c : Thread nD τ) (ms1 t) fullShare ((dats m 0 c).after 1 t) from by
    unfold Dat.leavesExact; rw [show (cfgA (F := F)).idle 1 ((cfgA (F := F)).grid.coords t) = false from rfl]; rfl, after_1]
  rw [show (dats m 0 c).leavesExact 2 t = owns (c : Thread nD τ) (ms2 t) fullShare ((dats m 0 c).after 2 t) from by
    unfold Dat.leavesExact; rw [show (cfgA (F := F)).idle 2 ((cfgA (F := F)).grid.coords t) = false from rfl]; rfl, after_2]
  rw [show (dats m 0 c).leavesExact 3 t = owns (c : Thread nD τ) (ms3 t) fullShare ((dats m 0 c).after 3 t) from by
    unfold Dat.leavesExact; rw [show (cfgA (F := F)).idle 3 ((cfgA (F := F)).grid.coords t) = false from rfl]; rfl, after_3]
  by_cases h0 : ki (pt t) = 0
  · by_cases h1 : ki (pt t) = qi (pt t)
    · rw [show (dats m 0 c).leavesExact 4 t = owns (c : Thread nD τ) (ms4 t) fullShare ((dats m 0 c).after 4 t) from by unfold Dat.leavesExact; rw [live4 t h1]; rfl, after_4]
      unfold outAt
      rw [stAt_first m c t h0, show stepAt m c t init = diag (iblk m c 0 t) (iblk m c 1 t) init from by unfold stepAt; rw [if_pos h1, if_pos h0]]
      refine (sep_mono (sep_mono (PhiS_any m c _ _) (Entails.refl _)) (Entails.refl _)).trans ?_
      rw [PhiA_eq]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ _ _ _ _ (tbl 0) (tbl 1) fullShare.right fullShare.right _ _ (word0 (grid0.coords t)) (word1 (grid0.coords t)) ((cond_first hk).mpr h0) (fun h => (cond_below hq hk hle).mp h h1) ((cond_diag hq hk).mpr h1) (iblk m c 0 t) (iblk m c 1 t) (iblk m c 2 t) (iblk m c 3 t) Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h1) (noFlush4 t h1)]
      rw [stAt_first m c t h0, show stepAt m c t init = full (iblk m c 0 t) (iblk m c 1 t) init from by unfold stepAt; rw [if_neg h1, if_pos h0]]
      refine (sep_mono (sep_mono (PhiS_any m c _ _) (Entails.refl _)) (Entails.refl _)).trans ?_
      rw [PhiA_eq]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ _ _ (tbl 0) (tbl 1) fullShare.right fullShare.right _ _ (word0 (grid0.coords t)) (word1 (grid0.coords t)) ((cond_first hk).mpr h0) ((cond_below hq hk hle).mpr h1) (fun h => h1 ((cond_diag hq hk).mp h)) (iblk m c 0 t) (iblk m c 1 t) (iblk m c 2 t) (iblk m c 3 t) _ Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · by_cases h1 : ki (pt t) = qi (pt t)
    · rw [show (dats m 0 c).leavesExact 4 t = owns (c : Thread nD τ) (ms4 t) fullShare ((dats m 0 c).after 4 t) from by unfold Dat.leavesExact; rw [live4 t h1]; rfl, after_4]
      unfold outAt
      have hz := pos_of_later t h0
      rw [stAt_next m c t hz, show ∀ s, stepAt m c t s = diag (iblk m c 0 t) (iblk m c 1 t) s from fun s => by unfold stepAt; rw [if_pos h1, if_neg h0]]
      rw [PhiS_pos m c _ _ hz]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runD c (grid0.coords t) _ _ _ _ _ _ _ _ _ _ _ _ _ _ _ _ _ _ _ _ (tbl 0) (tbl 1) fullShare.right fullShare.right _ _ (word0 (grid0.coords t)) (word1 (grid0.coords t)) (fun h => h0 ((cond_first hk).mp h)) (fun h => (cond_below hq hk hle).mp h h1) ((cond_diag hq hk).mpr h1) (iblk m c 0 t) (iblk m c 1 t) (iblk m c 2 t) (iblk m c 3 t) _ Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h1) (noFlush4 t h1)]
      have hz := pos_of_later t h0
      rw [stAt_next m c t hz, show ∀ s, stepAt m c t s = full (iblk m c 0 t) (iblk m c 1 t) s from fun s => by unfold stepAt; rw [if_neg h1, if_neg h0]]
      rw [PhiS_pos m c _ _ hz]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ _ _ _ _ (tbl 0) (tbl 1) fullShare.right fullShare.right _ _ (word0 (grid0.coords t)) (word1 (grid0.coords t)) (fun h => h0 ((cond_first hk).mp h)) ((cond_below hq hk hle).mpr h1) (fun h => h1 ((cond_diag hq hk).mp h)) (iblk m c 0 t) (iblk m c 1 t) (iblk m c 2 t) (iblk m c 3 t) _ _ Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

/-- The body table's row at a point is the body. -/
theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : iprop(Pipeline.ΦA spec0 c ∗ Pipeline.ΦT pre0 (tbl (F := F)) c) ⊢ (dats m 0 c).Φ 0 := Entails.refl _

theorem hout (c : Dev nD) : (dats m 0 c).Φ (Fin.last (cfgA (F := F)).N) ⊢ Pipeline.ΦA spec0 c := by
  show iprop(PhiS m c _ _ ∗ Pipeline.ΦT pre0 (tbl (F := F)) c) ⊢ _
  iintro ⟨H, -⟩
  iapply (PhiS_any m c _ _) $$ H

/-! ## The run -/

set_option backward.isDefEq.respectTransparency.types false in
/-- Every run of the program ends, its arrays at what the proof data say and its counters at zero. -/
theorem run_main : θ_run defs (onTc (τ := τ) (main (F := F))) (s₀ m ρ)
    (fun r => Pipeline.FramePost (Pipeline.pin pcfgs (adm (F := F))) (dats m) 0 (V m) r ∧ r.2.sem = fun _ => 0) :=
  Pipeline.θ_run_frameP_track (Q' := _) pcfgs adm (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_tbl m) (hin := hin m) (hout := hout m)

/-- The frame: every run ends with the argument arrays unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (show ∀ w : Fin 5, (spec0 w).arr.view.ref ≠ main_arg0 from by decide))).trans (V_main_arg0 m c),
     ((h.1 c).2 main_arg1 (Pipeline.mem_restRefs_of main_arg1 (by decide) (show ∀ w : Fin 5, (spec0 w).arr.view.ref ≠ main_arg1 from by decide))).trans (V_main_arg1 m c),
     ((h.1 c).2 main_arg2 (Pipeline.mem_restRefs_of main_arg2 (by decide) (show ∀ w : Fin 5, (spec0 w).arr.view.ref ≠ main_arg2 from by decide))).trans (V_main_arg2 m c),
     ((h.1 c).2 main_arg3 (Pipeline.mem_restRefs_of main_arg3 (by decide) (show ∀ w : Fin 5, (spec0 w).arr.view.ref ≠ main_arg3 from by decide))).trans (V_main_arg3 m c)⟩, h.2⟩) (run_main m ρ)

end Cert.KernelIdeal.Hand

end
-- ==== Proof.Same.lean ====
/-
  The kernel at bit patterns and its ideal copy have the same text: their tables, bodies and host programs are equal,
  so the frame of the one is the frame of the other.
-/
module

public import proofs.«01_k».proof.Defs
public import proofs.«01_k».proof.Proof.Gen.Kernel
public import proofs.«01_k».proof.Proof.Gen.KernelIdeal
public import proofs.«01_k».proof.Proof.Frame

@[expose] public section

set_option backward.isDefEq.respectTransparency.types false

noncomputable section

namespace Cert.Proof

open Idealize.ShloMosaic Idealize.SL.Sem

/-- The two tables of query tiles are equal. -/
theorem lit0_eq : Cert.Kernel.lit0 = Cert.KernelIdeal.lit0 := funext (by decide)

/-- The two tables of key tiles are equal. -/
theorem lit1_eq : Cert.Kernel.lit1 = Cert.KernelIdeal.lit1 := funext (by decide)

/-- The two bodies are equal. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l p
  match l with
  | ⟨0, _⟩ => exact rfl

/-- The two programs' definitions are equal. -/
theorem defs_eq : Cert.Kernel.defs (F := Bits) = Cert.KernelIdeal.defs (F := Bits) := by
  unfold Cert.Kernel.defs Cert.KernelIdeal.defs
  rw [defs₀_eq]; rfl

set_option maxHeartbeats 8000000 in
/-- The two host programs are equal, one operation after another. -/
theorem main_eq : Cert.Kernel.main (F := Bits) = Cert.KernelIdeal.main (F := Bits) := by
  unfold Cert.Kernel.main Cert.KernelIdeal.main
  rw [lit0_eq, lit1_eq]
  generalize Cert.KernelIdeal.lit0 = f0
  generalize Cert.KernelIdeal.lit1 = f1
  funext c
  iterate 30 (refine congrArg₂ Bind.bind ?_ (funext fun _ => ?_); · exact rfl)
  exact rfl

/-- The kernel's frame, from the run over any float values. -/
theorem frame_kernel : Cert.quiescent_Kernel (hKernel := Cert.Kernel.Gen.facts) := fun m ρ _ => by
  rw [defs_eq, main_eq]
  exact Cert.KernelIdeal.Hand.frame_any (F := Bits) m ρ

end Cert.Proof

end
-- ==== Proof.Soft.lean ====
module

public import Idealize.ShloMosaic.PureOps.Ideal
public import Idealize.ShloMosaic.PureOps.Ideal.Laws
public import Idealize.ShloMosaic.Lib.IdealHost

/-
  One row of a softmax taken tile by tile, over the extended reals: what the running maximum, the running sum of
  exponentials and the running weighted rows hold after some columns.
-/

@[expose] public section

noncomputable section

namespace Cert.Soft

open Idealize.ShloMosaic Finset

/-- The sum of reals, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a start value and finitely many values, none of them `⊤` and one of them real, is real. -/
theorem fold_max_real {ι : Type*} (s : Finset ι) (b : EReal) (f : ι → EReal) (hb : b ≠ ⊤) (hf : ∀ i ∈ s, f i ≠ ⊤)
    (hne : b ≠ ⊥ ∨ ∃ i ∈ s, f i ≠ ⊥) : ∃ μ : ℝ, s.fold max b f = (μ : EReal) := by
  have h1 : s.fold max b f ≠ ⊤ := by
    rw [← lt_top_iff_ne_top, Finset.fold_max_lt]
    exact ⟨lt_top_iff_ne_top.2 hb, fun i hi => lt_top_iff_ne_top.2 (hf i hi)⟩
  have h2 : s.fold max b f ≠ ⊥ := by
    rw [← bot_lt_iff_ne_bot, Finset.lt_fold_max]
    rcases hne with h | ⟨i, hi, h⟩
    · exact .inl (bot_lt_iff_ne_bot.2 h)
    · exact .inr ⟨i, hi, bot_lt_iff_ne_bot.2 h⟩
  exact ⟨_, (EReal.coe_toReal h1 h2).symm⟩

/-- What a row's state holds once the first `n` columns, of scores `s` and rows `v`, are taken: nothing, or the sum of the
    columns' exponentials and the sum of their rows so weighted, both relative to a common real maximum. -/
def Inv {C : Type} (s : ℕ → ℝ) (v : ℕ → C → ℝ) (n : ℕ) (m l : EReal) (a : C → EReal) : Prop :=
  (n = 0 ∧ m = ⊥ ∧ l = 0 ∧ ∀ c, a c = 0) ∨
  ∃ μ : ℝ, m = (μ : EReal) ∧ l = ((∑ j ∈ range n, Real.exp (s j - μ) : ℝ) : EReal)
    ∧ ∀ c, a c = ((∑ j ∈ range n, Real.exp (s j - μ) * v j c : ℝ) : EReal)

/-- A sum over a tile whose entries past the first `w` are zero. -/
theorem sum_cut {T w : ℕ} (hw : w ≤ T) (f : ℕ → ℝ) : (∑ x : Fin T, if x.val < w then f x.val else 0) = ∑ j ∈ range w, f j := by
  rw [Fin.sum_univ_eq_sum_range (fun x => if x < w then f x else 0) T, ← Finset.sum_filter]
  congr 1
  ext j
  simp only [mem_filter, mem_range]
  omega

/-- Taking the next tile's first `w` columns, its other entries masked. -/
theorem Inv.step {C : Type} {s : ℕ → ℝ} {v : ℕ → C → ℝ} {n : ℕ} {m l : EReal} {a : C → EReal} (h : Inv s v n m l a)
    {T w : ℕ} (hw0 : 0 < w) (hw : w ≤ T) (t : Fin T → EReal) (k : Fin T → C → EReal)
    (ht : ∀ x, t x = if x.val < w then ((s (n + x.val) : ℝ) : EReal) else ⊥) (hk : ∀ x c, k x c = ((v (n + x.val) c : ℝ) : EReal))
    (m' : EReal) (hm' : m' = max m (Finset.univ.fold max ⊥ t)) :
    Inv s v (n + w) m' (Ideal.exp (m - m') * l + ∑ x, Ideal.exp (t x - m'))
      (fun c => Ideal.exp (m - m') * a c + ∑ x, Ideal.exp (t x - m') * k x c) := by
  obtain ⟨μ', hμ'⟩ : ∃ μ' : ℝ, Finset.univ.fold max ⊥ t = (μ' : EReal) := by
    refine fold_max_real _ _ _ (by simp) (fun x _ => ?_) (.inr ⟨⟨0, by omega⟩, mem_univ _, ?_⟩)
    · rw [ht]; split <;> simp
    · rw [ht, if_pos hw0]; simp
  obtain ⟨M, hM⟩ : ∃ M : ℝ, m' = (M : EReal) := by
    rcases h with ⟨-, rfl, -⟩ | ⟨μ, rfl, -⟩
    · exact ⟨μ', by rw [hm', hμ']; simp⟩
    · exact ⟨max μ μ', by rw [hm', hμ']; exact (EReal.coe_strictMono.monotone.map_max).symm⟩
  have he : ∀ x, Ideal.exp (t x - m') = ((if x.val < w then Real.exp (s (n + x.val) - M) else 0 : ℝ) : EReal) := fun x => by
    rw [ht, hM]
    split
    · rw [← EReal.coe_sub, Ideal.exp_coe]
    · rw [EReal.bot_sub, Ideal.exp_bot, EReal.coe_zero]
  have hs : ∑ x, Ideal.exp (t x - m') = ((∑ j ∈ range w, Real.exp (s (n + j) - M) : ℝ) : EReal) := by
    rw [← sum_cut hw (fun j => Real.exp (s (n + j) - M)), coe_sum]
    exact Finset.sum_congr rfl fun x _ => he x
  have hr : ∀ c, ∑ x, Ideal.exp (t x - m') * k x c = ((∑ j ∈ range w, Real.exp (s (n + j) - M) * v (n + j) c : ℝ) : EReal) := fun c => by
    rw [← sum_cut hw (fun j => Real.exp (s (n + j) - M) * v (n + j) c), coe_sum]
    refine Finset.sum_congr rfl fun x _ => ?_
    rw [he, hk, ← EReal.coe_mul]
    split
    · rfl
    · rw [zero_mul]
  refine .inr ⟨M, hM, ?_, fun c => ?_⟩
  · rw [hs, Finset.sum_range_add]
    rcases h with ⟨rfl, rfl, rfl, -⟩ | ⟨μ, rfl, rfl, -⟩
    · simp
    · rw [hM, ← EReal.coe_sub, Ideal.exp_coe, ← EReal.coe_mul, ← EReal.coe_add, Finset.mul_sum]
      congr 2
      refine Finset.sum_congr rfl fun j _ => ?_
      rw [← Real.exp_add]; congr 1; ring
  · simp only [hr]
    rw [Finset.sum_range_add]
    rcases h with ⟨rfl, rfl, -, h0⟩ | ⟨μ, rfl, -, ha⟩
    · rw [h0]; simp
    · rw [ha, hM, ← EReal.coe_sub, Ideal.exp_coe, ← EReal.coe_mul, ← EReal.coe_add, Finset.mul_sum]
      congr 2
      refine Finset.sum_congr rfl fun j _ => ?_
      rw [← mul_assoc, ← Real.exp_add]; congr 2; ring

/-- The softmax's mean of the first `n` columns' rows. -/
def mean {C : Type} (s : ℕ → ℝ) (v : ℕ → C → ℝ) (n : ℕ) (c : C) : ℝ :=
  (∑ j ∈ range n, Real.exp (s j) * v j c) / ∑ j ∈ range n, Real.exp (s j)

/-- The mean is free of the maximum the exponentials are taken relative to. -/
theorem mean_shift {C : Type} (s : ℕ → ℝ) (v : ℕ → C → ℝ) (n : ℕ) (c : C) (μ : ℝ) :
    (∑ j ∈ range n, Real.exp (s j - μ) * v j c) / ∑ j ∈ range n, Real.exp (s j - μ) = mean s v n c := by
  have h1 : ∀ j, Real.exp (s j - μ) = Real.exp (-μ) * Real.exp (s j) := fun j => by rw [← Real.exp_add]; congr 1; ring
  simp only [h1, mul_assoc]
  rw [← Finset.mul_sum, ← Finset.mul_sum, mul_div_mul_left _ _ (Real.exp_ne_zero _)]
  rfl

/-- The sum of some columns' exponentials is positive. -/
theorem sum_exp_pos (s : ℕ → ℝ) {n : ℕ} (hn : 0 < n) (μ : ℝ) : 0 < ∑ j ∈ range n, Real.exp (s j - μ) :=
  Finset.sum_pos (fun _ _ => Real.exp_pos _) ⟨0, mem_range.2 hn⟩

/-- A row's weighted rows times the reciprocal of its sum is the mean. -/
theorem Inv.out {C : Type} {s : ℕ → ℝ} {v : ℕ → C → ℝ} {n : ℕ} {m l : EReal} {a : C → EReal} (h : Inv s v n m l a) (hn : 0 < n) (c : C) :
    a c * Ideal.div 1 l = ((mean s v n c : ℝ) : EReal) := by
  rcases h with ⟨h0, -⟩ | ⟨μ, -, rfl, ha⟩
  · omega
  · rw [ha, ← mean_shift s v n c μ, div_eq_mul_inv]
    have := (sum_exp_pos s hn μ).ne'
    rw [Ideal.div_coe this, one_mul, ← EReal.coe_mul, one_div]

/-- The same mean, of a whole masked row taken at once: every column's weight the quotient by the weights' sum. -/
theorem whole_row {C : Type} {s : ℕ → ℝ} {v : ℕ → C → ℝ} {N n : ℕ} (hn : 0 < n) (hN : n ≤ N) (t : Fin N → EReal) (k : Fin N → C → EReal)
    (ht : ∀ x, t x = if x.val < n then ((s x.val : ℝ) : EReal) else ⊥) (hk : ∀ x c, k x c = ((v x.val c : ℝ) : EReal))
    (m : EReal) (hm : m = Finset.univ.fold max ⊥ t) (c : C) :
    ∑ x, k x c * Ideal.div (Ideal.exp (t x - m)) (∑ y, Ideal.exp (t y - m)) = ((mean s v n c : ℝ) : EReal) := by
  obtain ⟨M, hM⟩ : ∃ M : ℝ, m = (M : EReal) := by
    rw [hm]
    refine fold_max_real _ _ _ (by simp) (fun x _ => ?_) (.inr ⟨⟨0, by omega⟩, mem_univ _, ?_⟩)
    · rw [ht]; split <;> simp
    · rw [ht, if_pos hn]; simp
  have he : ∀ x, Ideal.exp (t x - m) = ((if x.val < n then Real.exp (s x.val - M) else 0 : ℝ) : EReal) := fun x => by
    rw [ht, hM]
    split
    · rw [← EReal.coe_sub, Ideal.exp_coe]
    · rw [EReal.bot_sub, Ideal.exp_bot, EReal.coe_zero]
  have hs : ∑ x, Ideal.exp (t x - m) = ((∑ j ∈ range n, Real.exp (s j - M) : ℝ) : EReal) := by
    rw [← sum_cut hN (fun j => Real.exp (s j - M)), coe_sum]
    exact Finset.sum_congr rfl fun x _ => he x
  rw [hs, ← mean_shift s v n c M, Finset.sum_div, ← sum_cut hN (fun j => Real.exp (s j - M) * v j c / ∑ i ∈ range n, Real.exp (s i - M))]
  refine Eq.trans (Finset.sum_congr rfl fun x _ => ?_) (coe_sum _ _).symm
  rw [Ideal.div_coe (sum_exp_pos s hn M).ne', he, hk, ← EReal.coe_mul, ← EReal.coe_mul]
  congr 1
  split
  · rw [mul_one_div]; ring
  · ring

end Cert.Soft

end
-- ==== Proof.Pay.lean ====
/-
  The body's arithmetic at the extended reals, read entry by entry: a key tile's scores, the running maximum, sum and
  weighted rows after it, and the block the diagonal tile writes out.
-/
module

public import proofs.«01_k».proof.Proof.State
public import proofs.«01_k».proof.Proof.Soft
public import Idealize.ShloMosaic.Lib.Pointwise

@[expose] public section

set_option maxRecDepth 16384

noncomputable section

namespace Cert.KernelIdeal.Hand

open Idealize.ShloMosaic Idealize.ShloMosaic.TcCoe
open Cert.KernelIdeal.Gen

/-- The pattern of minus infinity. -/
theorem ofBits_neg_inf : Ideal.ofBits .f32 0xFF800000#32 = ⊥ := by
  simp [Ideal.ofBits, Ideal.ieee]

/-- A score of the tile: the product of a query row with a key row. -/
def sc (q : Vec Ideal S1x4x512x256 .bf16) (k : Vec Ideal S1x512x256 .bf16) (r : Fin 2048) (x : Fin 512) : EReal :=
  ∑ d : Fin 256, q (ix4 0 ⟨r.val / 512, by omega⟩ ⟨r.val % 512, by omega⟩ d) * k (ix3 0 x d)

/-- The scores below the diagonal. -/
theorem pay5_at (q : Vec Ideal S1x4x512x256 .bf16) (k : Vec Ideal S1x512x256 .bf16) (r : Fin 2048) (x : Fin 512) :
    k0_pay5 q k (ix2 r x) = sc q k r x := by
  pointwise [k0_pay5, k0_pay4, sc]

/-- A signed comparison of two small words is one of the numbers. -/
theorem cmpi_sle_ofNat {a b : ℕ} (ha : a < 2 ^ 31) (hb : b < 2 ^ 31) :
    IntOp.cmpi CmpIPredicate.sle (BitVec.ofNat 32 a) (BitVec.ofNat 32 b) = 1#1 ↔ a ≤ b := by
  have e : (BitVec.ofNat 32 a).sle (BitVec.ofNat 32 b) = decide (a ≤ b) := by
    rw [BitVec.sle_eq_decide, BitVec.toInt_eq_toNat_of_lt (by simp; omega), BitVec.toInt_eq_toNat_of_lt (by simp; omega),
      BitVec.toNat_ofNat, BitVec.toNat_ofNat, Nat.mod_eq_of_lt (by omega), Nat.mod_eq_of_lt (by omega)]
    simp
  show BitVec.ofBool ((BitVec.ofNat 32 a).sle (BitVec.ofNat 32 b)) = 1#1 ↔ _
  rw [e]
  by_cases h : a ≤ b <;> simp [h]

/-- The diagonal tile's mask, as the program computes it on words. -/
theorem mask_word (r : Fin 2048) (x : Fin 512) :
    IntOp.cmpi CmpIPredicate.sle (BitVec.ofNat 32 x.val) (IntOp.andi (BitVec.ofNat 32 r.val) 511#32) = 1#1 ↔ x.val < r.val % 512 + 1 := by
  have h1 : IntOp.andi (BitVec.ofNat 32 r.val) 511#32 = BitVec.ofNat 32 (r.val % 512) := by
    apply BitVec.eq_of_toNat_eq
    show ((BitVec.ofNat 32 r.val) &&& 511#32).toNat = _
    rw [BitVec.toNat_and, BitVec.toNat_ofNat, BitVec.toNat_ofNat, BitVec.toNat_ofNat, Nat.mod_eq_of_lt (show r.val < 2 ^ 32 by omega),
      Nat.mod_eq_of_lt (show r.val % 512 < 2 ^ 32 by omega)]
    rw [show (511 % 2 ^ 32 : ℕ) = 2 ^ 9 - 1 from rfl, Nat.and_two_pow_sub_one_eq_mod]
  rw [h1, cmpi_sle_ofNat (by omega) (by omega)]
  omega

/-- The scores on the diagonal. -/
theorem pay13_at (q : Vec Ideal S1x4x512x256 .bf16) (k : Vec Ideal S1x512x256 .bf16) (r : Fin 2048) (x : Fin 512) :
    k0_pay13 q k (ix2 r x) = if x.val < r.val % 512 + 1 then sc q k r x else ⊥ := by
  pointwise [k0_pay13, k0_pay12, sc]
  rw [ofBits_neg_inf]
  exact if_congr (mask_word r x) rfl rfl

/-- The row maxima of a tile. -/
theorem rowMax (v : FVec Ideal S2048x512 .f32) (r : Fin 2048) :
    shapeCast S2048x1 (multiReduction .maximumf [1] S2048 v 0xFF800000#32 reduces_S2048x512_S2048 (.inl rfl) rfl) shapeCasts_S2048_S2048x1 (ix2 r 0)
      = Finset.univ.fold max ⊥ fun x => v (ix2 r x) := by
  rw [← ofBits_neg_inf]
  pointwise

/-- The running maximum after a tile below the diagonal. -/
theorem pay6_at (q : Vec Ideal S1x4x512x256 .bf16) (k : Vec Ideal S1x512x256 .bf16) (m : Vec Ideal S2048x1 .f32) (r : Fin 2048) :
    k0_pay6 q k m (ix2 r 0) = max (m (ix2 r 0)) (Finset.univ.fold max ⊥ fun x => sc q k r x) := by
  unfold k0_pay6
  exact congrArg (max (m (ix2 r 0))) ((rowMax _ r).trans (congrArg (fun f => Finset.fold max ⊥ f Finset.univ) (funext fun x => pay5_at q k r x)))

/-- The running maximum after the diagonal tile. -/
theorem pay14_at (q : Vec Ideal S1x4x512x256 .bf16) (k : Vec Ideal S1x512x256 .bf16) (m : Vec Ideal S2048x1 .f32) (r : Fin 2048) :
    k0_pay14 q k m (ix2 r 0) = max (m (ix2 r 0)) (Finset.univ.fold max ⊥ fun x : Fin 512 => if x.val < r.val % 512 + 1 then sc q k r x else ⊥) := by
  unfold k0_pay14
  exact congrArg (max (m (ix2 r 0))) ((rowMax _ r).trans (congrArg (fun f => Finset.fold max ⊥ f Finset.univ) (funext fun x => pay13_at q k r x)))

/-- The state after a tile below the diagonal, row by row. -/
theorem full_mx (q : Vec Ideal S1x4x512x256 .bf16) (k : Vec Ideal S1x512x256 .bf16) (s : St Ideal) (r : Fin 2048) :
    (full q k s).mx (ix2 r 0) = k0_pay6 q k s.mx (ix2 r 0) := by
  pointwise [full, k0_pay11]
theorem full_sm (q : Vec Ideal S1x4x512x256 .bf16) (k : Vec Ideal S1x512x256 .bf16) (s : St Ideal) (r : Fin 2048) :
    (full q k s).sm (ix2 r 0) = Ideal.exp (s.mx (ix2 r 0) - k0_pay6 q k s.mx (ix2 r 0)) * s.sm (ix2 r 0)
      + ∑ x, Ideal.exp (sc q k r x - k0_pay6 q k s.mx (ix2 r 0)) := by
  pointwise [full, k0_pay9, k0_pay7, k0_pay8]
  simp only [pay5_at]
theorem full_acc (q : Vec Ideal S1x4x512x256 .bf16) (k : Vec Ideal S1x512x256 .bf16) (s : St Ideal) (r : Fin 2048) (c : Fin 256) :
    (full q k s).acc (ix2 r c) = Ideal.exp (s.mx (ix2 r 0) - k0_pay6 q k s.mx (ix2 r 0)) * s.acc (ix2 r c)
      + ∑ x, Ideal.exp (sc q k r x - k0_pay6 q k s.mx (ix2 r 0)) * k (ix3 0 x c) := by
  pointwise [full, k0_pay10, k0_pay7, k0_pay8, k0_pay4]
  simp only [pay5_at]

/-- The state after the diagonal tile, row by row. -/
theorem diag_mx (q : Vec Ideal S1x4x512x256 .bf16) (k : Vec Ideal S1x512x256 .bf16) (s : St Ideal) (r : Fin 2048) :
    (diag q k s).mx (ix2 r 0) = k0_pay14 q k s.mx (ix2 r 0) := by
  pointwise [diag, k0_pay20]
theorem diag_sm (q : Vec Ideal S1x4x512x256 .bf16) (k : Vec Ideal S1x512x256 .bf16) (s : St Ideal) (r : Fin 2048) :
    (diag q k s).sm (ix2 r 0) = Ideal.exp (s.mx (ix2 r 0) - k0_pay14 q k s.mx (ix2 r 0)) * s.sm (ix2 r 0)
      + ∑ x : Fin 512, Ideal.exp ((if x.val < r.val % 512 + 1 then sc q k r x else ⊥) - k0_pay14 q k s.mx (ix2 r 0)) := by
  pointwise [diag, k0_pay17, k0_pay15, k0_pay16]
  simp only [pay13_at]
theorem diag_acc (q : Vec Ideal S1x4x512x256 .bf16) (k : Vec Ideal S1x512x256 .bf16) (s : St Ideal) (r : Fin 2048) (c : Fin 256) :
    (diag q k s).acc (ix2 r c) = Ideal.exp (s.mx (ix2 r 0) - k0_pay14 q k s.mx (ix2 r 0)) * s.acc (ix2 r c)
      + ∑ x : Fin 512, Ideal.exp ((if x.val < r.val % 512 + 1 then sc q k r x else ⊥) - k0_pay14 q k s.mx (ix2 r 0)) * k (ix3 0 x c) := by
  pointwise [diag, k0_pay19, k0_pay18, k0_pay15, k0_pay16, k0_pay12]
  simp only [pay13_at]

/-- The starting state, row by row. -/
theorem init_at (r : Fin 2048) : (init : St Ideal).mx (ix2 r 0) = ⊥ ∧ (init : St Ideal).sm (ix2 r 0) = 0
    ∧ ∀ c, (init : St Ideal).acc (ix2 r c) = 0 := by
  pointwise [init, k0_pay1, k0_pay2, k0_pay3]
  exact ⟨ofBits_neg_inf, fun _ => trivial⟩

/-- Rows and lanes of the state and of the projection, as the block's last stores read them. -/
theorem rowsA_at (h : ℕ) (hh) (v : Vec Ideal S2048x256 .f32) (r : Fin 512) (x : Fin 128) (hb : 512 * h + r.val < 2048) :
    rowsA h hh v (ix2 r x) = v (ix2 ⟨512 * h + r.val, hb⟩ ⟨x.val, by omega⟩) :=
  congrArg v (funext fun a => Fin.ext (match a with
    | ⟨0, _⟩ => by show 512 * h + 1 * r.val = 512 * h + r.val; omega
    | ⟨1, _⟩ => by show 0 + 1 * x.val = x.val; omega))
theorem rowsL_at (h : ℕ) (hh) (v : Vec Ideal S2048x1 .f32) (r : Fin 512) (hb : 512 * h + r.val < 2048) :
    rowsL h hh v (ix2 r 0) = v (ix2 ⟨512 * h + r.val, hb⟩ 0) :=
  congrArg v (funext fun a => Fin.ext (match a with
    | ⟨0, _⟩ => by show 512 * h + 1 * r.val = 512 * h + r.val; omega
    | ⟨1, _⟩ => rfl))
theorem headW_at (h : ℕ) (hh) (v : Vec Ideal S4x128x256 .bf16) (x : Fin 128) (e : Fin 256) (hb : h < 4) :
    headW h hh v (ix3 0 x e) = v (ix3 ⟨h, hb⟩ x e) :=
  congrArg v (funext fun a => Fin.ext (match a with
    | ⟨0, _⟩ => by show h + 1 * 0 = h; omega
    | ⟨1, _⟩ => by show 0 + 1 * x.val = x.val; omega
    | ⟨2, _⟩ => by show 0 + 1 * e.val = e.val; omega))

/-- The value head `h` contributes to lane `e` of row `r`. -/
def headPart (w : Vec Ideal S4x128x256 .bf16) (s : St Ideal) (r : Fin 512) (e : Fin 256) (h : Fin 4) : EReal :=
  ∑ x : Fin 128, s.acc (ix2 ⟨512 * h.val + r.val, by omega⟩ ⟨x.val, by omega⟩)
    * Ideal.div 1 (s.sm (ix2 ⟨512 * h.val + r.val, by omega⟩ 0)) * w (ix3 h x e)

/-- A lane before the normalisation. -/
def lane (w : Vec Ideal S4x128x256 .bf16) (s : St Ideal) (r : Fin 512) (e : Fin 256) : EReal := ∑ h, headPart w s r e h

/-- A row's lanes normalised by their mean square, and scaled. -/
def rms (z : Fin 256 → EReal) (g : EReal) (e : Fin 256) : EReal :=
  z e * Ideal.rsqrt ((∑ x, z x * z x) * Ideal.ofBits .f32 0x3B800000#32 + Ideal.ofBits .f32 0x358637BD#32) * g

/-- What the query tile's last point writes out, entry by entry. -/
theorem fin_at (w : Vec Ideal S4x128x256 .bf16) (g : Vec Ideal S1x256 .f32) (s : St Ideal) (r : Fin 512) (e : Fin 256) :
    fin w g s (ix3 0 r e) = rms (lane w s r) (g (ix2 0 e)) e := by
  unfold fin
  generalize hA0 : rowsA 0 _ s.acc = A0
  generalize hA1 : rowsA 1 _ s.acc = A1
  generalize hA2 : rowsA 2 _ s.acc = A2
  generalize hA3 : rowsA 3 _ s.acc = A3
  generalize hL0 : rowsL 0 _ s.sm = L0
  generalize hL1 : rowsL 1 _ s.sm = L1
  generalize hL2 : rowsL 2 _ s.sm = L2
  generalize hL3 : rowsL 3 _ s.sm = L3
  generalize hW0 : headW 0 _ w = W0
  generalize hW1 : headW 1 _ w = W1
  generalize hW2 : headW 2 _ w = W2
  generalize hW3 : headW 3 _ w = W3
  have hz : ∀ e, (∑ x : Fin 128, A0 (ix2 r x) * Ideal.div 1 (L0 (ix2 r 0)) * W0 (ix3 0 x e))
      + (∑ x : Fin 128, A1 (ix2 r x) * Ideal.div 1 (L1 (ix2 r 0)) * W1 (ix3 0 x e))
      + (∑ x : Fin 128, A2 (ix2 r x) * Ideal.div 1 (L2 (ix2 r 0)) * W2 (ix3 0 x e))
      + (∑ x : Fin 128, A3 (ix2 r x) * Ideal.div 1 (L3 (ix2 r 0)) * W3 (ix3 0 x e)) = lane w s r e := by
    intro e
    subst hA0 hA1 hA2 hA3 hL0 hL1 hL2 hL3 hW0 hW1 hW2 hW3
    unfold lane headPart
    rw [Fin.sum_univ_four]
    rw [rowsL_at 0 _ _ r (by omega), rowsL_at 1 _ _ r (by omega), rowsL_at 2 _ _ r (by omega), rowsL_at 3 _ _ r (by omega)]
    simp only [rowsA_at 0 _ _ r _ (show 512 * 0 + r.val < 2048 by omega), rowsA_at 1 _ _ r _ (show 512 * 1 + r.val < 2048 by omega), rowsA_at 2 _ _ r _ (show 512 * 2 + r.val < 2048 by omega),
      rowsA_at 3 _ _ r _ (show 512 * 3 + r.val < 2048 by omega), headW_at 0 _ _ _ _ (by omega), headW_at 1 _ _ _ _ (by omega), headW_at 2 _ _ _ _ (by omega), headW_at 3 _ _ _ _ (by omega)]
    rfl
  clear hA0 hA1 hA2 hA3 hL0 hL1 hL2 hL3 hW0 hW1 hW2 hW3
  unfold rms
  simp only [← hz]
  pointwise [k0_pay23, k0_pay21, k0_pay22]

end Cert.KernelIdeal.Hand

end
-- ==== Proof.Rows.lean ====
/-
  The running state over the triangle of tiles: at every point each row's state is the softmax sums over the columns
  taken so far, so that the block written at the diagonal is made of the rows' weighted means.
-/
module

public import proofs.«01_k».proof.Proof.Frame
public import proofs.«01_k».proof.Proof.Pay

@[expose] public section

set_option maxRecDepth 16384

noncomputable section

namespace Cert.KernelIdeal.Hand

open Idealize.ShloMosaic Idealize.ShloMosaic.TcCoe
open Cert.KernelIdeal.Gen Cert.Soft

variable (m : (ℓ : Loc nD τ sig) → Buf (Elt Ideal) ℓ) (c : Dev nD)

/-- The blocks of the queries, the keys, the projection and the scale at a point. -/
def qb (t : Fin (cfgA (F := Ideal)).N) : Vec Ideal S1x4x512x256 .bf16 := iblk m c 0 t
def kb (t : Fin (cfgA (F := Ideal)).N) : Vec Ideal S1x512x256 .bf16 := iblk m c 1 t
def wb (t : Fin (cfgA (F := Ideal)).N) : Vec Ideal S4x128x256 .bf16 := iblk m c 2 t
def gb (t : Fin (cfgA (F := Ideal)).N) : Vec Ideal S1x256 .f32 := iblk m c 3 t

/-- Above the row's first tile the point before is in the same row, one tile to the left. -/
theorem ki_prev : ∀ n : Fin 136, ki n ≠ 0 → ∃ h : n.val - 1 < 136, 0 < n.val ∧ qi ⟨n.val - 1, h⟩ = qi n ∧ ki ⟨n.val - 1, h⟩ + 1 = ki n
    ∧ ki ⟨n.val - 1, h⟩ ≠ qi n := by
  decide +kernel

/-- A real score: query row `i` of head `h` with key `j`, in batch `b`. -/
def score (Q : ℕ → ℕ → ℕ → Fin 256 → ℝ) (K : ℕ → ℕ → Fin 256 → ℝ) (b h i j : ℕ) : ℝ := ∑ d, Q b h i d * K b j d

variable (Q : ℕ → ℕ → ℕ → Fin 256 → ℝ) (K : ℕ → ℕ → Fin 256 → ℝ)

/-- The blocks hold the real queries and keys at their places. -/
structure Holds : Prop where
  q : ∀ t (h : Fin 4) (i : Fin 512) d, qb m c t (ix4 0 h i d) = ((Q (bt t) h (512 * qi (pt t) + i) d : ℝ) : EReal)
  k : ∀ t (x : Fin 512) d, kb m c t (ix3 0 x d) = ((K (bt t) (512 * ki (pt t) + x) d : ℝ) : EReal)

variable {m c Q K}

/-- A tile's scores are the real ones. -/
theorem Holds.sc (H : Holds m c Q K) (t : Fin (cfgA (F := Ideal)).N) (r : Fin 2048) (x : Fin 512) :
    sc (qb m c t) (kb m c t) r x
      = ((score Q K (bt t) (r.val / 512) (512 * qi (pt t) + r.val % 512) (512 * ki (pt t) + x.val) : ℝ) : EReal) := by
  unfold Hand.sc score
  rw [coe_sum]
  refine Finset.sum_congr rfl fun d _ => ?_
  rw [H.q, H.k, EReal.coe_mul]

/-- Row `r`'s state is the softmax sums over the row's first `n` columns. -/
def RowInv (Q : ℕ → ℕ → ℕ → Fin 256 → ℝ) (K : ℕ → ℕ → Fin 256 → ℝ) (b q n : ℕ) (s : St Ideal) (r : Fin 2048) : Prop :=
  Inv (score Q K b (r.val / 512) (512 * q + r.val % 512)) (K b) n (s.mx (ix2 r 0)) (s.sm (ix2 r 0)) (fun d => s.acc (ix2 r d))

/-- A row starts with no columns. -/
theorem rowInv_init (b q : ℕ) (r : Fin 2048) : RowInv Q K b q 0 init r := by
  obtain ⟨h1, h2, h3⟩ := init_at r
  exact .inl ⟨rfl, h1, h2, h3⟩

/-- The columns a row has taken after a point. -/
def cols (t : Fin (cfgA (F := Ideal)).N) (r : Fin 2048) : ℕ :=
  512 * ki (pt t) + if ki (pt t) = qi (pt t) then r.val % 512 + 1 else 512

/-- One point's step. -/
theorem Holds.step (H : Holds m c Q K) (t : Fin (cfgA (F := Ideal)).N) (s : St Ideal) (r : Fin 2048)
    (hs : RowInv Q K (bt t) (qi (pt t)) (512 * ki (pt t)) (if ki (pt t) = 0 then init else s) r) :
    RowInv Q K (bt t) (qi (pt t)) (cols t r) (stepAt m c t s) r := by
  unfold stepAt cols
  generalize (if ki (pt t) = 0 then init else s) = s' at *
  unfold RowInv at *
  split
  · show Inv _ _ _ ((diag (qb m c t) (kb m c t) s').mx _) ((diag (qb m c t) (kb m c t) s').sm _) (fun d => (diag (qb m c t) (kb m c t) s').acc _)
    simp only [diag_mx, diag_sm, diag_acc]
    refine hs.step (by omega) (show r.val % 512 + 1 ≤ 512 by omega) _ (fun x d => kb m c t (ix3 0 x d)) (fun x => ?_) (fun x d => H.k t x d) _ (pay14_at _ _ _ r)
    rw [H.sc]
  · show Inv _ _ _ ((full (qb m c t) (kb m c t) s').mx _) ((full (qb m c t) (kb m c t) s').sm _) (fun d => (full (qb m c t) (kb m c t) s').acc _)
    simp only [full_mx, full_sm, full_acc]
    refine hs.step (by omega) (le_refl 512) _ (fun x d => kb m c t (ix3 0 x d)) (fun x => ?_) (fun x d => H.k t x d) _ (pay6_at _ _ _ r)
    rw [H.sc, if_pos x.isLt]

/-- The state after every point. -/
theorem Holds.state (H : Holds m c Q K) : ∀ (n : ℕ) (h : n < (cfgA (F := Ideal)).N) (r : Fin 2048),
    RowInv Q K (bt (F := Ideal) ⟨n, h⟩) (qi (pt (F := Ideal) ⟨n, h⟩)) (cols ⟨n, h⟩ r) (stAt m c n h) r := by
  intro n
  induction n with
  | zero =>
    intro h r
    have hk : ki (pt (F := Ideal) ⟨0, h⟩) = 0 := by rw [show pt (F := Ideal) ⟨0, h⟩ = 0 from Fin.ext (by rw [pt_val]; rfl)]; exact ki_zero
    rw [stAt_first m c ⟨0, h⟩ hk]
    refine H.step ⟨0, h⟩ init r ?_
    rw [if_pos hk, hk]
    exact rowInv_init _ _ r
  | succ n ih =>
    intro h r
    have hN : n + 1 < 272 := lt_of_lt_of_eq h (show (cfgA (F := Ideal)).N = 272 from N_0)
    rw [stAt_next m c ⟨n + 1, h⟩ (by simp)]
    refine H.step ⟨n + 1, h⟩ _ r ?_
    by_cases hk : ki (pt (F := Ideal) ⟨n + 1, h⟩) = 0
    · rw [if_pos hk, hk]
      exact rowInv_init _ _ r
    · rw [if_neg hk]
      obtain ⟨hp, h0, hq, hki, hne⟩ := ki_prev _ hk
      have hv := pt_val (F := Ideal) ⟨n + 1, h⟩
      have e1 : pt (F := Ideal) ⟨n, Nat.lt_of_succ_lt h⟩ = ⟨(pt (F := Ideal) ⟨n + 1, h⟩).val - 1, hp⟩ := Fin.ext (by
        rw [pt_val]; show n % 136 = (pt (F := Ideal) ⟨n + 1, h⟩).val - 1
        have hv' : (pt (F := Ideal) ⟨n + 1, h⟩).val = (n + 1) % 136 := hv
        omega)
      have e0 : bt (F := Ideal) ⟨n + 1, h⟩ = bt (F := Ideal) ⟨n, Nat.lt_of_succ_lt h⟩ := by
        rw [bt_val, bt_val]; show (n + 1) / 136 = n / 136
        have hv' : (pt (F := Ideal) ⟨n + 1, h⟩).val = (n + 1) % 136 := hv
        omega
      have hi := ih (Nat.lt_of_succ_lt h) r
      have hc : cols ⟨n, Nat.lt_of_succ_lt h⟩ r = 512 * ki (pt (F := Ideal) ⟨n + 1, h⟩) := by
        unfold cols
        rw [e1, hq, if_neg hne, ← hki]; ring
      rw [hc, ← e0, e1, hq] at hi
      exact hi

/-- A lane of the diagonal's row, before the normalisation, by the rows' weighted means. -/
theorem Holds.lane (H : Holds m c Q K) (t : Fin (cfgA (F := Ideal)).N) (ht : ki (pt t) = qi (pt t)) (r : Fin 512) (e : Fin 256) :
    lane (wb m c t) (stAt m c t.val t.isLt) r e
      = ∑ h : Fin 4, ∑ x : Fin 128, ((mean (score Q K (bt t) h (512 * qi (pt t) + r)) (K (bt t)) (512 * qi (pt t) + r + 1) ⟨x.val, by omega⟩ : ℝ) : EReal)
          * wb m c t (ix3 h x e) := by
  unfold Hand.lane headPart
  refine Finset.sum_congr rfl fun h _ => Finset.sum_congr rfl fun x _ => ?_
  have hi := H.state t.val t.isLt ⟨512 * h.val + r.val, by omega⟩
  unfold RowInv cols at hi
  rw [if_pos ht, ht] at hi
  simp only [show (512 * h.val + r.val) / 512 = h.val by omega, show (512 * h.val + r.val) % 512 = r.val by omega] at hi
  have := hi.out (by omega) ⟨x.val, by omega⟩
  exact congrArg (· * _) this

end Cert.KernelIdeal.Hand

end
-- ==== Proof.Host.lean ====
/-
  The arrays the host hands the attention call, read entry by entry at the extended reals.
-/
module

public import proofs.«01_k».proof.Proof.Region
public import Idealize.ShloMosaic.Lib.StableHlo.ReadAt
public import Idealize.ShloMosaic.Lib.Pointwise

@[expose] public section

set_option maxRecDepth 16384

noncomputable section

namespace Cert.KernelIdeal.Hand

open Idealize.ShloMosaic Idealize.ShloMosaic.TcCoe Idealize.ShloMosaic.StableHlo
open Cert.KernelIdeal.Gen

variable (m : (ℓ : Loc nD τ sig) → Buf (Elt Ideal) ℓ) (c : Dev nD)

/-- The argument arrays of core `c`. -/
def aQ : FVec Ideal S2x8192x4x160 .f32 := m ((c : Thread nD τ).loc main_arg0)
def aK : FVec Ideal S2x8192x160 .f32 := m ((c : Thread nD τ).loc main_arg1)
def aW : FVec Ideal S128x4x64 .f32 := m ((c : Thread nD τ).loc main_arg2)
def aG : FVec Ideal S256 .f32 := m ((c : Thread nD τ).loc main_arg3)

/-- The queries: scaled, heads first, padded with zero lanes. -/
theorem v5_at (b : Fin 2) (h : Fin 4) (i : Fin 8192) (d : Fin 256) :
    (V m c main_v5 : FVec Ideal S2x4x8192x256 .bf16) (ix4 b h i d)
      = if hd : d.val < 160 then aQ m c (ix4 b i h ⟨d.val, hd⟩) * Ideal.ofBits .f32 0x3DD105EC#32 else 0 := by
  have e : (V m c main_v5 : FVec Ideal S2x4x8192x256 .bf16) = truncf .bf16 (concatenate S2x4x8192x256 3
      [⟨S2x4x8192x160, transpose S2x4x8192x160 [0, 2, 1, 3] (mulf (aQ m c) (broadcastInDim S2x8192x4x160 ![] bcast_S_S2x8192x4x160 (constant S_ .f32 0x3DD105EC#32))) transposes_S2x8192x4x160_S2x4x8192x160_0_2_1_3⟩,
       ⟨S2x4x8192x96, broadcastInDim S2x4x8192x96 ![] bcast_S_S2x4x8192x96 (constant S_ .f32 0x00000000#32)⟩] concatenates_S2x4x8192x160_S2x4x8192x96_S2x4x8192x256_d3) bitsLt_bf16_f32 := by
    unfold V hostOps0
    after_results
    rfl
  rw [e]
  pointwise

/-- The keys, padded with zero lanes. -/
theorem v8_at (b : Fin 2) (i : Fin 8192) (d : Fin 256) :
    (V m c main_v8 : FVec Ideal S2x8192x256 .bf16) (ix3 b i d) = if hd : d.val < 160 then aK m c (ix3 b i ⟨d.val, hd⟩) else 0 := by
  have e : (V m c main_v8 : FVec Ideal S2x8192x256 .bf16) = truncf .bf16 (concatenate S2x8192x256 2
      [⟨S2x8192x160, aK m c⟩, ⟨S2x8192x96, broadcastInDim S2x8192x96 ![] bcast_S_S2x8192x96 (constant S_ .f32 0x00000000#32)⟩]
      concatenates_S2x8192x160_S2x8192x96_S2x8192x256_d2) bitsLt_bf16_f32 := by
    unfold V hostOps0
    after_results
    rfl
  rw [e]
  pointwise

/-- The identity matrix the host makes, entry by entry. -/
theorem eye_at (a b : Fin 4) : (FloatOps.uitofp FTy.f32 (IntOp.cmpi CmpIPredicate.eq (IntOp.addi (BitVec.ofNat 32 a.val) 0#32) (BitVec.ofNat 32 b.val)) : Ideal .f32)
    = if a = b then 1 else 0 := by
  have e : ∀ a b : Fin 4, IntOp.cmpi CmpIPredicate.eq (IntOp.addi (BitVec.ofNat 32 a.val) 0#32) (BitVec.ofNat 32 b.val) = if a = b then 1#1 else 0#1 := by decide
  rw [e]
  show (((if a = b then 1#1 else 0#1 : BitVec 1).toNat : ℝ) : EReal) = _
  split <;> simp

/-- The value projection, block diagonal over the heads. -/
theorem v22_at (h : Fin 4) (x : Fin 128) (e : Fin 256) :
    (V m c main_v22 : FVec Ideal S4x128x256 .bf16) (ix3 h x e)
      = if h.val = e.val / 64 then aW m c (ix3 x h ⟨e.val % 64, by omega⟩) else 0 := by
  have e' : (V m c main_v22 : FVec Ideal S4x128x256 .bf16) = truncf .bf16 (shapeCast S4x128x256 (mulf
      (broadcastInDim S4x128x4x64 ![0, 1, 2, 3] bcast_S4x128x1x64_S4x128x4x64_0_1_2_3 (broadcastInDim S4x128x1x64 ![0, 1, 3] bcast_S4x128x64_S4x128x1x64_0_1_3
        (transpose S4x128x64 [1, 0, 2] (aW m c) transposes_S128x4x64_S4x128x64_1_0_2)))
      (broadcastInDim S4x128x4x64 ![0, 1, 2, 3] bcast_S4x1x4x1_S4x128x4x64_0_1_2_3 (broadcastInDim S4x1x4x1 ![0, 2] bcast_S4x4_S4x1x4x1_0_2
        (uitofp .f32 (cmpi .eq (addi (iotaInDim S4x4 32 0) (broadcastInDim S4x4 ![] bcast_S_S4x4 (constantI S_ 32 0#32))) (iotaInDim S4x4 32 1))))))
      shapeCasts_S4x128x4x64_S4x128x256) bitsLt_bf16_f32 := by
    unfold V hostOps0
    after_results
    rfl
  rw [e']
  pointwise
  have hi := eye_at h ⟨e.val / 64, by omega⟩
  simp only at hi
  rw [hi]
  simp only [Fin.ext_iff]
  split <;> simp

/-- The scale, as a row. -/
theorem v23_at (e : Fin 256) : (V m c main_v23 : FVec Ideal S1x256 .f32) (ix2 0 e) = aG m c (ix1 e) := by
  have e' : (V m c main_v23 : FVec Ideal S1x256 .f32) = shapeCast S1x256 (aG m c) shapeCasts_S256_S1x256 := by
    unfold V hostOps0
    after_results
    rfl
  rw [e']
  pointwise

end Cert.KernelIdeal.Hand

end
-- ==== Proof.Spec.lean ====
/-
  The result both programs compute, as a function of the argument arrays: the attention's weighted means of the keys,
  projected by the head's matrix and normalised.
-/
module

public import proofs.«01_k».proof.Proof.Rows
public import proofs.«01_k».proof.Proof.Host

@[expose] public section

set_option maxRecDepth 16384

noncomputable section

namespace Cert.KernelIdeal.Hand

open Idealize.ShloMosaic Idealize.ShloMosaic.TcCoe
open Cert.KernelIdeal.Gen Cert.Soft

/-- The scale of the scores. -/
def kap : ℝ := (Ideal.ofBits .f32 0x3DD105EC#32).toReal

theorem kap_eq : Ideal.ofBits .f32 0x3DD105EC#32 = ((kap : ℝ) : EReal) := by
  have : ∃ r : ℝ, Ideal.ofBits .f32 0x3DD105EC#32 = (r : EReal) := ⟨_, by simp [Ideal.ofBits, Ideal.ieee]; rfl⟩
  obtain ⟨r, hr⟩ := this
  unfold kap
  rw [hr, EReal.toReal_coe]

variable (q : FVec Ideal S2x8192x4x160 .f32) (k : FVec Ideal S2x8192x160 .f32) (w : FVec Ideal S128x4x64 .f32) (g : FVec Ideal S256 .f32)

/-- The real queries, scaled, and the real keys, both zero past the 160 lanes. -/
def rq (b h i : ℕ) (d : Fin 256) : ℝ :=
  if hh : b < 2 ∧ h < 4 ∧ i < 8192 ∧ d.val < 160 then (q (ix4 ⟨b, hh.1⟩ ⟨i, hh.2.2.1⟩ ⟨h, hh.2.1⟩ ⟨d.val, hh.2.2.2⟩)).toReal * kap else 0
def rk (b j : ℕ) (d : Fin 256) : ℝ :=
  if hh : b < 2 ∧ j < 8192 ∧ d.val < 160 then (k (ix3 ⟨b, hh.1⟩ ⟨j, hh.2.1⟩ ⟨d.val, hh.2.2⟩)).toReal else 0

/-- The entries of the queries and of the keys are real. -/
structure RealArgs : Prop where
  q : ∀ i, ((q i).toReal : EReal) = q i
  k : ∀ i, ((k i).toReal : EReal) = k i

/-- A weighted mean of the keys: lane `x`, for query `i` of head `h`, over the keys `0 … i`. -/
def oLat (b h i : ℕ) (x : Fin 256) : ℝ := mean (score (rq q) (rk k) b h i) (rk k b) (i + 1) x

/-- A lane before the normalisation. -/
def oMla (b i : ℕ) (e : Fin 256) : EReal :=
  ∑ x : Fin 128, ((oLat q k b (e.val / 64) i ⟨x.val, by omega⟩ : ℝ) : EReal) * w (ix3 x ⟨e.val / 64, by omega⟩ ⟨e.val % 64, by omega⟩)

/-- The result's entry. -/
def specAt (b : Fin 2) (i : Fin 8192) (e : Fin 256) : EReal := rms (oMla q k w b i) (g (ix1 e)) e

/-- The result. -/
def spec : FVec Ideal S2x8192x256 .bf16 := fun i => specAt q k w g (i 0) (i 1) (i 2)

end Cert.KernelIdeal.Hand

end
-- ==== Proof.Value.lean ====
/-
  What the attention call leaves in its result, from the blocks of the arrays the host hands it.
-/
module

public import proofs.«01_k».proof.Proof.Spec
public import Idealize.ShloMosaic.Lib.Pipeline.Value

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.Soft

variable (m : (ℓ : Loc nD τ sig) → Buf (Elt Ideal) ℓ) (c : Dev nD)

theorem bt_lt (t : Fin (cfgA (F := Ideal)).N) : bt t < 2 := (grid0.coords t 0).isLt

/-! ## The blocks -/

/-- The queries' block at a point. -/
theorem qb_at (t : Fin (cfgA (F := Ideal)).N) (h : Fin 4) (i : Fin 512) (d : Fin 256) :
    qb m c t (ix4 0 h i d)
      = (V m c main_v5 : FVec Ideal S2x4x8192x256 .bf16) (ix4 ⟨bt t, bt_lt t⟩ h ⟨512 * qi (pt t) + i.val, by have := qi_lt (pt t); omega⟩ d) := by
  refine congrArg (V m c main_v5) (funext fun a => Fin.ext ?_)
  refine (Window.rect_emb_val ((cfgA (F := Ideal)).win 0) t _ a).trans ?_
  rw [show ((cfgA (F := Ideal)).win 0).index t = ![bt t, 0, qi (pt t), 0] from ix0_q (F := Ideal) (grid0.coords t)]
  match a with
  | ⟨0, _⟩ => show bt t * 1 + 0 = bt t; omega
  | ⟨1, _⟩ => show 0 * 4 + h.val = h.val; omega
  | ⟨2, _⟩ => show qi (pt t) * 512 + i.val = 512 * qi (pt t) + i.val; omega
  | ⟨3, _⟩ => show 0 * 256 + d.val = d.val; omega

/-- The keys' block at a point. -/
theorem kb_at (t : Fin (cfgA (F := Ideal)).N) (x : Fin 512) (d : Fin 256) :
    kb m c t (ix3 0 x d)
      = (V m c main_v8 : FVec Ideal S2x8192x256 .bf16) (ix3 ⟨bt t, bt_lt t⟩ ⟨512 * ki (pt t) + x.val, by have := ki_lt (pt t); omega⟩ d) := by
  refine congrArg (V m c main_v8) (funext fun a => Fin.ext ?_)
  refine (Window.rect_emb_val ((cfgA (F := Ideal)).win 1) t _ a).trans ?_
  rw [show ((cfgA (F := Ideal)).win 1).index t = ![bt t, ki (pt t), 0] from ix0_k (F := Ideal) (grid0.coords t)]
  match a with
  | ⟨0, _⟩ => show bt t * 1 + 0 = bt t; omega
  | ⟨1, _⟩ => show ki (pt t) * 512 + x.val = 512 * ki (pt t) + x.val; omega
  | ⟨2, _⟩ => show 0 * 256 + d.val = d.val; omega

/-- The projection's block is the whole array. -/
theorem wb_at (t : Fin (cfgA (F := Ideal)).N) (h : Fin 4) (x : Fin 128) (e : Fin 256) :
    wb m c t (ix3 h x e) = (V m c main_v22 : FVec Ideal S4x128x256 .bf16) (ix3 h x e) := by
  refine congrArg (V m c main_v22) (funext fun a => Fin.ext ?_)
  refine (Window.rect_emb_val ((cfgA (F := Ideal)).win 2) t _ a).trans ?_
  match a with
  | ⟨0, _⟩ => show 0 * 4 + h.val = h.val; omega
  | ⟨1, _⟩ => show 0 * 128 + x.val = x.val; omega
  | ⟨2, _⟩ => show 0 * 256 + e.val = e.val; omega

/-- The scale's block is the whole array. -/
theorem gb_at (t : Fin (cfgA (F := Ideal)).N) (e : Fin 256) :
    gb m c t (ix2 0 e) = (V m c main_v23 : FVec Ideal S1x256 .f32) (ix2 0 e) := by
  refine congrArg (V m c main_v23) (funext fun a => Fin.ext ?_)
  refine (Window.rect_emb_val ((cfgA (F := Ideal)).win 3) t _ a).trans ?_
  match a with
  | ⟨0, _⟩ => rfl
  | ⟨1, _⟩ => show 0 * 256 + e.val = e.val; omega

variable {m c}

/-- With real queries and keys the blocks hold them at their places. -/
theorem holds (H : RealArgs (aQ m c) (aK m c)) : Holds m c (rq (aQ m c)) (rk (aK m c)) where
  q t h i d := by
    have h1 := qi_lt (pt t)
    rw [qb_at, v5_at]
    unfold rq
    by_cases hd : d.val < 160
    · rw [dif_pos hd, dif_pos ⟨bt_lt t, h.isLt, by omega, hd⟩, EReal.coe_mul, H.q, kap_eq]
    · rw [dif_neg hd, dif_neg (fun hh => hd hh.2.2.2)]; rfl
  k t x d := by
    have h1 := ki_lt (pt t)
    rw [kb_at, v8_at]
    unfold rk
    by_cases hd : d.val < 160
    · rw [dif_pos hd, dif_pos ⟨bt_lt t, by omega, hd⟩, H.k]
    · rw [dif_neg hd, dif_neg (fun hh => hd hh.2.2)]; rfl

/-- The block a diagonal point writes is the result's. -/
theorem out_at (H : RealArgs (aQ m c) (aK m c)) (t : Fin (cfgA (F := Ideal)).N) (ht : ki (pt t) = qi (pt t)) (r : Fin 512) (e : Fin 256) :
    outAt m c t (ix3 0 r e) = specAt (aQ m c) (aK m c) (aW m c) (aG m c) ⟨bt t, bt_lt t⟩ ⟨512 * qi (pt t) + r.val, by have := qi_lt (pt t); omega⟩ e := by
  show fin (wb m c t) (gb m c t) (stAt m c t.val t.isLt) (ix3 0 r e) = _
  rw [fin_at, gb_at, v23_at]
  unfold specAt
  congr 1
  funext e
  rw [(holds H).lane t ht]
  unfold oMla oLat
  rw [Finset.sum_eq_single (⟨e.val / 64, by omega⟩ : Fin 4)]
  · refine Finset.sum_congr rfl fun x _ => ?_
    rw [wb_at, v22_at, if_pos rfl]
  · intro h _ hne
    refine Finset.sum_eq_zero fun x _ => ?_
    rw [wb_at, v22_at, if_neg (fun hx => hne (Fin.ext hx)), mul_zero]
  · intro hx; exact absurd (Finset.mem_univ _) hx

/-! ## The result array -/

/-- On the diagonal the next point of the triangle is in another row. -/
theorem qi_other : ∀ n : Fin 136, ki n = qi n → ∀ h : n.val + 1 < 136, qi ⟨n.val + 1, h⟩ ≠ qi n := by decide +kernel
theorem qi_last : qi 135 = 15 ∧ qi 0 = 0 := by decide +kernel

/-- Every row of tiles has its diagonal. -/
theorem diag_at : ∀ q : Fin 16, ∃ n : Fin 136, qi n = q.val ∧ ki n = q.val := by decide +kernel

/-- On the diagonal the output's block is written back. -/
theorem flush4 (t : Fin (cfgA (F := Ideal)).N) (h : ki (pt t) = qi (pt t)) : ((cfgA (F := Ideal)).win 4).flush t = true := by
  have hN : t.val < 272 := lt_of_lt_of_eq t.isLt (show (cfgA (F := Ideal)).N = 272 from N_0)
  have hpv := pt_val t
  unfold Window.flush
  by_cases hl : t.val + 1 = 272
  · have : t.val + 1 = grid0.N := hl.trans N_0.symm
    simp [this]
  · have hlt : t.val + 1 < (cfgA (F := Ideal)).N := lt_of_lt_of_eq (b := 272) (by omega) (show (cfgA (F := Ideal)).N = 272 from N_0).symm
    have hne : ((cfgA (F := Ideal)).win 4).index ⟨t.val + 1, hlt⟩ ≠ ((cfgA (F := Ideal)).win 4).index t := by
      intro he
      have he' := (ix0_o (F := Ideal) (grid0.coords ⟨t.val + 1, hlt⟩)).symm.trans (he.trans (ix0_o (F := Ideal) (grid0.coords t)))
      have h1 : qi (pt (F := Ideal) ⟨t.val + 1, hlt⟩) = qi (pt t) := congrFun he' 1
      have hv : (pt (F := Ideal) ⟨t.val + 1, hlt⟩).val = (t.val + 1) % 136 := pt_val _
      by_cases hp : (pt t).val + 1 < 136
      · refine qi_other (pt t) h hp ((congrArg qi (Fin.ext ?_)).trans h1)
        show (pt t).val + 1 = _
        omega
      · have e1 : pt t = 135 := Fin.ext (by show (pt t).val = 135; omega)
        have e2 : pt (F := Ideal) ⟨t.val + 1, hlt⟩ = 0 := Fin.ext (by show (pt (F := Ideal) ⟨t.val + 1, hlt⟩).val = 0; omega)
        rw [e1, e2, qi_last.1, qi_last.2] at h1
        omega
    have : ∃ h : t.val + 1 < grid0.N, ((cfgA (F := Ideal)).win 4).index ⟨t.val + 1, h⟩ ≠ ((cfgA (F := Ideal)).win 4).index t := ⟨hlt, hne⟩
    rw [decide_eq_true this]
    simp

/-- An index of the output's block, placed in the array. -/
theorem emb4 (t : Fin (cfgA (F := Ideal)).N) (r : Fin 512) (e : Fin 256) :
    (((cfgA (F := Ideal)).win 4).blk t).view.emb (ix3 0 r e) = (ix3 ⟨bt t, bt_lt t⟩ ⟨512 * qi (pt t) + r.val, by have := qi_lt (pt t); omega⟩ e : S2x8192x256.Idx) := by
  refine funext fun a => Fin.ext ?_
  refine (Window.rect_emb_val ((cfgA (F := Ideal)).win 4) t _ a).trans ?_
  rw [show ((cfgA (F := Ideal)).win 4).index t = ![bt t, qi (pt t), 0] from ix0_o (F := Ideal) (grid0.coords t)]
  match a with
  | ⟨0, _⟩ => show bt t * 1 + 0 = bt t; omega
  | ⟨1, _⟩ => show qi (pt t) * 512 + r.val = 512 * qi (pt t) + r.val; omega
  | ⟨2, _⟩ => show 0 * 256 + e.val = e.val; omega

/-- The result array after the call. -/
theorem arr4 (H : RealArgs (aQ m c) (aK m c)) :
    (dats m 0 c).arrAt 4 (cfgA (F := Ideal)).N = spec (aQ m c) (aK m c) (aW m c) (aG m c) := by
  refine (dats m 0 c).arrAt_eq_of_cover 4 _ (fun t hf => ?_) (fun i => ?_)
  · have ht : ki (pt t) = qi (pt t) := by
      by_contra hne
      rw [noFlush4 t hne] at hf
      exact absurd hf (by decide)
    funext y
    obtain ⟨y0, r, e, rfl⟩ : ∃ y0 r e, y = (ix3 y0 r e : S1x512x256.Idx) := ⟨y 0, y 1, y 2, by funext a; match a with | 0 => rfl | 1 => rfl | 2 => rfl⟩
    obtain rfl : y0 = 0 := Subsingleton.elim _ _
    show outAt m c t (ix3 0 r e) = spec _ _ _ _ ((((cfgA (F := Ideal)).win 4).blk t).view.emb (ix3 0 r e))
    rw [emb4, out_at H t ht]
    rfl
  · obtain ⟨b, r, e, rfl⟩ : ∃ b r e, i = (ix3 b r e : S2x8192x256.Idx) := ⟨i 0, i 1, i 2, by funext a; match a with | 0 => rfl | 1 => rfl | 2 => rfl⟩
    obtain ⟨n, hq, hk⟩ := diag_at ⟨r.val / 512, by omega⟩
    have hlt : b.val * 136 + n.val < (cfgA (F := Ideal)).N := lt_of_lt_of_eq (b := 272) (by omega) (show (cfgA (F := Ideal)).N = 272 from N_0).symm
    have e1 : pt (F := Ideal) ⟨b.val * 136 + n.val, hlt⟩ = n := Fin.ext (by rw [pt_val]; show (b.val * 136 + n.val) % 136 = n.val; omega)
    have e0 : bt (F := Ideal) ⟨b.val * 136 + n.val, hlt⟩ = b.val := by rw [bt_val]; show (b.val * 136 + n.val) / 136 = b.val; omega
    refine ⟨⟨b.val * 136 + n.val, hlt⟩, flush4 _ (by rw [e1, hq, hk]), ?_⟩
    refine Finset.mem_map.2 ⟨(ix3 0 ⟨r.val % 512, by omega⟩ e : S1x512x256.Idx), Finset.mem_univ _, ?_⟩
    refine (emb4 ⟨b.val * 136 + n.val, hlt⟩ ⟨r.val % 512, by omega⟩ e).trans ?_
    have hq' : qi n = r.val / 512 := hq
    refine funext fun a => Fin.ext ?_
    match a with
    | ⟨0, _⟩ => exact e0
    | ⟨1, _⟩ => show 512 * qi (pt (F := Ideal) ⟨b.val * 136 + n.val, hlt⟩) + r.val % 512 = r.val; rw [e1, hq']; omega
    | ⟨2, _⟩ => rfl

end Cert.KernelIdeal.Hand

end
-- ==== Proof.Ref.lean ====
/-
  The reference, read entry by entry at the extended reals: it computes the same function of the argument arrays.
-/
module

public import proofs.«01_k».proof.Proof.Spec
public import proofs.«01_k».proof.Proof.Gen.ReferenceIdeal.Run

@[expose] public section

set_option maxRecDepth 16384

noncomputable section

namespace Cert.ReferenceIdeal.Hand

open Idealize.ShloMosaic Idealize.ShloMosaic.TcCoe
open Cert.ReferenceIdeal Cert.ReferenceIdeal.Gen Cert.Soft
open Cert.KernelIdeal.Hand (kap kap_eq rq rk RealArgs oLat oMla specAt spec rms score ofBits_neg_inf cmpi_sle_ofNat)

variable (q : FVec Ideal S2x8192x4x160 .f32) (k : FVec Ideal S2x8192x160 .f32) (w : FVec Ideal S128x4x64 .f32) (g : FVec Ideal S256 .f32)

/-- The masked scores. -/
def scores : FVec Ideal S2x4x8192x8192 .f32 :=
  select (broadcastInDim S2x4x8192x8192 ![2, 3] bcast_S8192x8192_S2x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (transpose S2x4x8192x8192 [0, 3, 2, 1] (Host.dotGeneral dot_S2x8192x160_S2x8192x4x160_S2x8192x8192x4_2_3_1_12_0_0 none k q) transposes_S2x8192x8192x4_S2x4x8192x8192_0_3_2_1) (broadcastInDim S2x4x8192x8192 ![] bcast_S_S2x4x8192x8192 (constant S_ .f32 0x3DD105EC#32))) (broadcastInDim S2x4x8192x8192 ![] bcast_S_S2x4x8192x8192 (id (constant S_ .f32 0xFF800000#32)))

/-- The rows' maxima. -/
def rowMaxs (s : FVec Ideal S2x4x8192x8192 .f32) : FVec Ideal S2x4x8192 .f32 :=
  maximumf (broadcastInDim S2x4x8192 ![] bcast_S_S2x4x8192 (constant S_ .f32 0xFF800000#32)) (Host.reduce FloatOps.maximumf s (constant S_ .f32 0xFF800000#32) reducesTo_S2x4x8192x8192_S2x4x8192_d3 h_S_)

/-- The exponentials of the scores. -/
def exps (s : FVec Ideal S2x4x8192x8192 .f32) (mx : FVec Ideal S2x4x8192 .f32) : FVec Ideal S2x4x8192x8192 .f32 :=
  Host.exp (subf s (broadcastInDim S2x4x8192x8192 ![0, 1, 2, 3] bcast_S2x4x8192x1_S2x4x8192x8192_0_1_2_3 (broadcastInDim S2x4x8192x1 ![0, 1, 2] bcast_S2x4x8192_S2x4x8192x1_0_1_2 mx)))

/-- The weights. -/
def probs (x : FVec Ideal S2x4x8192x8192 .f32) : FVec Ideal S2x4x8192x8192 .f32 :=
  Host.divf x (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd x (constant S_ .f32 0x00000000#32) reducesTo_S2x4x8192x8192_S2x4x8192_d3 h_S_)))

/-- The weighted means, projected. -/
def proj (p : FVec Ideal S2x4x8192x8192 .f32) : FVec Ideal S2x8192x256 .f32 :=
  shapeCast _ (transpose S2x8192x4x64 [2, 3, 0, 1] (Host.dotGeneral dot_S128x4x64_S2x8192x4x128_S4x64x2x8192_0_3_2_01_1_2 none w (transpose S2x8192x4x128 [0, 3, 2, 1] (Host.dotGeneral dot_S2x8192x128_S2x4x8192x8192_S2x128x4x8192_1_3_2_12_0_0 none (extractStridedSlice S2x8192x128 ![0, 0, 0] k slices_S2x8192x160_S2x8192x128_0_0_0) p) transposes_S2x128x4x8192_S2x8192x4x128_0_3_2_1)) transposes_S4x64x2x8192_S2x8192x4x64_2_3_0_1) shapeCasts_S2x8192x4x64_S2x8192x256

/-- The normalisation. -/
def norm (z : FVec Ideal S2x8192x256 .f32) : FVec Ideal S2x8192x256 .bf16 :=
  truncf .bf16 (mulf (mulf z (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf z z) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 g))) bitsLt_bf16_f32

variable {q k}

/-- The real score as the reference takes it: the product of the keys and the queries, and then the scale. -/
theorem score_eq (H : RealArgs q k) (b : Fin 2) (h : Fin 4) (i j : Fin 8192) :
    (∑ x : Fin 160, k (ix3 b j x) * q (ix4 b i h x)) * Ideal.ofBits .f32 0x3DD105EC#32 = ((score (rq q) (rk k) b h i j : ℝ) : EReal) := by
  have e : (∑ x : Fin 160, k (ix3 b j x) * q (ix4 b i h x)) = ((∑ x : Fin 160, (k (ix3 b j x)).toReal * (q (ix4 b i h x)).toReal : ℝ) : EReal) := by
    rw [coe_sum]
    refine Finset.sum_congr rfl fun x _ => ?_
    rw [EReal.coe_mul, H.k, H.q]
  rw [e, kap_eq, ← EReal.coe_mul]
  congr 1
  unfold score
  rw [show (∑ d : Fin 256, rq q b h i d * rk k b j d) = ∑ d : Fin (160 + 96), rq q b h i d * rk k b j d from rfl, Fin.sum_univ_add]
  have z : (∑ x : Fin 96, rq q b h i (Fin.natAdd 160 x) * rk k b j (Fin.natAdd 160 x)) = 0 := by
    refine Finset.sum_eq_zero fun x _ => ?_
    unfold rq
    rw [dif_neg (fun hh => by have : 160 + x.val < 160 := hh.2.2.2; omega), zero_mul]
  rw [z, add_zero, Finset.sum_mul]
  refine Finset.sum_congr rfl fun x _ => ?_
  unfold rq rk
  rw [dif_pos ⟨b.isLt, h.isLt, i.isLt, x.isLt⟩, dif_pos ⟨b.isLt, j.isLt, x.isLt⟩]
  show (k (ix3 b j x)).toReal * (q (ix4 b i h x)).toReal * kap = (q (ix4 b i h x)).toReal * kap * (k (ix3 b j x)).toReal
  ring

/-- The masked scores, entry by entry. -/
theorem scores_at (H : RealArgs q k) (b : Fin 2) (h : Fin 4) (i j : Fin 8192) :
    scores q k (ix4 b h i j) = if j.val < i.val + 1 then ((score (rq q) (rk k) b h i j : ℝ) : EReal) else ⊥ := by
  pointwise [scores]
  exact if_congr ((cmpi_sle_ofNat (by omega) (by omega)).trans Nat.lt_succ_iff.symm) (score_eq H b h i j) ofBits_neg_inf

/-- A maximum over the last axis of a rank 4 array. -/
theorem reduceMax_at {n0 n1 n2 n3 : ℕ} (hr : (⟨4, ![n0, n1, n2, n3]⟩ : Shape).ReducesTo [3] ⟨3, ![n0, n1, n2]⟩) {u : Shape} (hu : 0 < u.numel)
    (s : FVec Ideal ⟨4, ![n0, n1, n2, n3]⟩ .f32) (init : FVec Ideal u .f32) (b : Fin n0) (h : Fin n1) (i : Fin n2) :
    Host.reduce FloatOps.maximumf s init hr hu (ix3 b h i)
      = Finset.univ.fold (max : EReal → EReal → EReal) (init (Shape.Idx.first hu)) fun x => s (ix4 b h i x) :=
  (Host.reduce_eq_fold (α := EReal) max s init hr hu (ix3 b h i)).trans
    (Shape.ReducesTo.fold_fiber_r4_a3 hr (ix3 b h i) (max : EReal → EReal → EReal) (init (Shape.Idx.first hu)) s)

/-- A maximum with minus infinity. -/
theorem max_at (x y : FVec Ideal S2x4x8192 .f32) (j : S2x4x8192.Idx) (hx : x j = ⊥) : maximumf x y j = y j := by
  show max (x j) (y j) = y j
  rw [hx]
  exact max_eq_right bot_le

/-- The rows' maxima, entry by entry. -/
theorem rowMaxs_at (s : FVec Ideal S2x4x8192x8192 .f32) (b : Fin 2) (h : Fin 4) (i : Fin 8192) :
    rowMaxs s (ix3 b h i) = Finset.univ.fold max ⊥ fun x => s (ix4 b h i x) :=
  (max_at _ _ (ix3 b h i) ofBits_neg_inf).trans
    ((reduceMax_at reducesTo_S2x4x8192x8192_S2x4x8192_d3 h_S_ s (constant S_ .f32 0xFF800000#32) b h i).trans
      (congrArg (fun z => Finset.univ.fold max z fun x => s (ix4 b h i x)) ofBits_neg_inf))

/-- The exponentials, entry by entry. -/
theorem exps_at (s : FVec Ideal S2x4x8192x8192 .f32) (mx : FVec Ideal S2x4x8192 .f32) (b : Fin 2) (h : Fin 4) (i j : Fin 8192) :
    exps s mx (ix4 b h i j) = Ideal.exp (s (ix4 b h i j) - mx (ix3 b h i)) := by
  pointwise [exps]

/-- The weights, entry by entry. -/
theorem probs_at (x : FVec Ideal S2x4x8192x8192 .f32) (b : Fin 2) (h : Fin 4) (i j : Fin 8192) :
    probs x (ix4 b h i j) = Ideal.div (x (ix4 b h i j)) (∑ y, x (ix4 b h i y)) := by
  pointwise [probs]

/-- The projected means, entry by entry. -/
theorem proj_at (p : FVec Ideal S2x4x8192x8192 .f32) (b : Fin 2) (i : Fin 8192) (e : Fin 256) :
    proj k w p (ix3 b i e) = ∑ x : Fin 128, w (ix3 x ⟨e.val / 64, by omega⟩ ⟨e.val % 64, by omega⟩)
      * ∑ y : Fin 8192, k (ix3 b y ⟨x.val, by omega⟩) * p (ix4 b ⟨e.val / 64, by omega⟩ i y) := by
  pointwise [proj]

/-- The projected means are the specified lanes. -/
theorem proj_eq (H : RealArgs q k) (b : Fin 2) (i : Fin 8192) (e : Fin 256) :
    proj k w (probs (exps (scores q k) (rowMaxs (scores q k)))) (ix3 b i e) = oMla q k w b i e := by
  rw [proj_at]
  unfold oMla
  refine Finset.sum_congr rfl fun x _ => ?_
  rw [mul_comm]
  congr 1
  simp only [probs_at, exps_at]
  have hk : ∀ y : Fin 8192, k (ix3 b y ⟨x.val, by omega⟩) = ((rk k b y ⟨x.val, by omega⟩ : ℝ) : EReal) := fun y => by
    unfold rk
    rw [dif_pos ⟨b.isLt, y.isLt, (by omega : x.val < 160)⟩, H.k]
  simp only [hk]
  exact whole_row (C := Fin 256) (s := score (rq q) (rk k) b (e.val / 64) i) (v := rk k b) (n := i.val + 1) (N := 8192) (by omega) (by omega)
    (fun y => scores q k (ix4 b ⟨e.val / 64, by omega⟩ i y)) (fun y d => ((rk k b y d : ℝ) : EReal))
    (fun y => scores_at H b ⟨e.val / 64, by omega⟩ i y) (fun _ _ => rfl) _ (rowMaxs_at _ b ⟨e.val / 64, by omega⟩ i) ⟨x.val, by omega⟩

/-- Dividing by 256 is multiplying by its reciprocal. -/
theorem div256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee]
    rw [← EReal.coe_mul]; norm_num
  have h2 : Ideal.ofBits .f32 0x3B800000#32 = ((1 / 256 : ℝ) : EReal) := by
    simp [Ideal.ofBits, Ideal.ieee]
    rw [← EReal.coe_mul]; norm_num
  rw [h1, h2, Ideal.div_coe (by norm_num)]

/-- The normalisation, entry by entry. -/
theorem norm_at (z : FVec Ideal S2x8192x256 .f32) (b : Fin 2) (i : Fin 8192) (e : Fin 256) :
    norm g z (ix3 b i e) = rms (fun x => z (ix3 b i x)) (g (ix1 e)) e := by
  unfold rms
  rw [← div256]
  pointwise [norm]

/-- The reference's result is the specified one. -/
theorem res_eq (m : (ℓ : Loc nD τ sig) → Buf (Elt Ideal) ℓ) (c : Dev nD)
    (H : RealArgs (m ((c.tc : Thread nD τ).loc main_arg0)) (m ((c.tc : Thread nD τ).loc main_arg1))) :
    Value.res_main_v41 m c = spec (m ((c.tc : Thread nD τ).loc main_arg0)) (m ((c.tc : Thread nD τ).loc main_arg1))
      (m ((c.tc : Thread nD τ).loc main_arg2)) (m ((c.tc : Thread nD τ).loc main_arg3)) := by
  have e : Value.res_main_v41 m c = norm (m ((c.tc : Thread nD τ).loc main_arg3)) (proj (m ((c.tc : Thread nD τ).loc main_arg1)) (m ((c.tc : Thread nD τ).loc main_arg2))
      (probs (exps (scores (m ((c.tc : Thread nD τ).loc main_arg0)) (m ((c.tc : Thread nD τ).loc main_arg1))) (rowMaxs (scores (m ((c.tc : Thread nD τ).loc main_arg0)) (m ((c.tc : Thread nD τ).loc main_arg1))))))) := by
    unfold Value.res_main_v41
    rfl
  rw [e]
  funext y
  obtain ⟨b, i, x, rfl⟩ : ∃ b i x, y = (ix3 b i x : S2x8192x256.Idx) := ⟨y 0, y 1, y 2, by funext a; match a with | 0 => rfl | 1 => rfl | 2 => rfl⟩
  rw [norm_at]
  show rms _ _ _ = specAt _ _ _ _ b i x
  unfold specAt
  congr 1
  funext x
  exact proj_eq _ H b i x

end Cert.ReferenceIdeal.Hand

end
-- ==== Proof.Fin.lean ====
/-
  The claim's precondition says that the entries of the queries and of the keys are real.
-/
module

public import proofs.«01_k».proof.Defs
public import proofs.«01_k».proof.Proof.Spec

@[expose] public section

noncomputable section

namespace Cert.Proof

open Idealize.ShloMosaic Idealize.SL.Sem

/-- The side conditions of the precondition. -/
theorem facts_finite : Cert.Pre_finite.Facts where
  bcast_S_S2x8192x4x160 := by decide
  bcast_S_S2x8192x160 := by decide

/-- An extended real whose absolute value is below infinity is real. -/
theorem real_of_abs (x : EReal) (h : FloatOps.cmpf (F := Ideal) (φ := .f32) CmpFPredicate.olt (max x (-x)) (Ideal.ofBits .f32 0x7F800000#32) = 1#1) :
    ((x.toReal : ℝ) : EReal) = x := by
  have hi : Ideal.ofBits .f32 0x7F800000#32 = ⊤ := by simp [Ideal.ofBits, Ideal.ieee]
  rw [hi] at h
  induction x with
  | bot => exfalso; simp [FloatOps.cmpf, Ideal.cmp] at h
  | coe x => rfl
  | top => exfalso; simp [FloatOps.cmpf, Ideal.cmp] at h

/-- The precondition, entry by entry. -/
theorem real_of_pre [Cert.Pre_finite.Facts] (q : FVec Ideal Cert.KernelIdeal.S2x8192x4x160 .f32) (k : FVec Ideal Cert.KernelIdeal.S2x8192x160 .f32) (w : FVec Ideal Cert.KernelIdeal.S128x4x64 .f32)
    (g : FVec Ideal Cert.KernelIdeal.S256 .f32)
    (h1 : (Cert.Pre_finite.fn (F := Ideal) q k w g).1 = fun _ => 1#1) (h2 : (Cert.Pre_finite.fn (F := Ideal) q k w g).2 = fun _ => 1#1) :
    Cert.KernelIdeal.Hand.RealArgs q k :=
  ⟨fun i => real_of_abs _ (congrFun h1 i), fun i => real_of_abs _ (congrFun h2 i)⟩

end Cert.Proof

end
-- ==== Proof.FState.lean ====
/-
  The output and feed-forward call: what one grid point computes from its blocks, spelled by the printed expressions.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline
public import Idealize.ShloMosaic.Lib.Tactic
public import Idealize.ShloMosaic.Lib.Claim

@[expose] public section

set_option maxRecDepth 16384

noncomputable section

namespace Cert.Kernel2Ideal.Hand

open Idealize.ShloMosaic Idealize.ShloMosaic.TcCoe Idealize.ShloMosaic.Tactic
open Idealize.SL.Sem
open Cert.Kernel2Ideal.Gen

variable {F : FTy → Type} [FloatOps F]

/-- Some rows of the output projection, from row `o` on. -/
def rowsP (n o : ℕ) (hh : ∀ a, (![o, 0] : Fin 2 → Nat) a + (![n, 1024] : Fin 2 → Nat) a ≤ S1024x1024.size a) (v : Vec F S1024x1024 .bf16) :
    Vec F ⟨2, ![n, 1024]⟩ .bf16 :=
  fun x => v ((Rect.unit (s := S1024x1024) ![o, 0] ![n, 1024] hh).emb x)

/-- The residual rows after the projection of the three groups. -/
def x1F (x : Vec F S1x512x1024 .f32) (fx : Vec F S1x512x256 .bf16) (rg : Vec F S1x512x512 .bf16) (ml : Vec F S1x512x256 .bf16)
    (wo : Vec F S1024x1024 .bf16) (md : Vec F S1x1x6x1024 .f32) : Vec F S512x1024 .f32 :=
  k0_pay4 (k0_pay6 md) fx (rowsP 256 0 (by decide) wo) rg (rowsP 512 256 (by decide) wo) ml (rowsP 256 768 (by decide) wo) x

/-- The normed and modulated rows the feed-forward part reads. -/
def h2F (x : Vec F S1x512x1024 .f32) (fx : Vec F S1x512x256 .bf16) (rg : Vec F S1x512x512 .bf16) (ml : Vec F S1x512x256 .bf16)
    (wo : Vec F S1024x1024 .bf16) (md : Vec F S1x1x6x1024 .f32) (g2 : Vec F S1x1024 .f32) : Vec F S512x1024 .bf16 :=
  k0_pay7 md
    (k0_pay3 (k0_pay6 md) fx (rowsP 256 0 (by decide) wo) rg (rowsP 512 256 (by decide) wo) ml (rowsP 256 768 (by decide) wo) x)
    (k0_pay5 (k0_pay6 md) fx (rowsP 256 0 (by decide) wo) rg (rowsP 512 256 (by decide) wo) ml (rowsP 256 768 (by decide) wo) x) g2

/-- A place in the eight rows, and one in the tile's rows. -/
def ix8 (y : S520x1408.Idx) (h : (y 0).val < 8) : S8x1408.Idx := fun | 0 => ⟨(y 0).val, h⟩ | 1 => y 1
def ix512 (y : S520x1408.Idx) : S512x1408.Idx :=
  fun | 0 => ⟨(y 0).val - 8, by have h2 : (y 0).val < 520 := (y 0).isLt; show _ < 512; omega⟩ | 1 => y 1

/-- The rows with the eight rows before them. -/
def ext (p : Vec F S8x1408 .f32) (v : Vec F S512x1408 .f32) : Vec F S520x1408 .f32 :=
  fun y => if h : (y 0).val < 8 then p (ix8 y h) else v (ix512 y)

/-- The rows from `o` rows back on. -/
def win (o : ℕ) (hh : ∀ a, (![o, 0] : Fin 2 → Nat) a + S512x1408.size a ≤ S520x1408.size a) (v : Vec F S520x1408 .f32) : Vec F S512x1408 .f32 :=
  fun x => v ((Rect.unit (s := S520x1408) ![o, 0] S512x1408.size hh).emb x)

/-- The down-projected rows so far: the sum `acc` and this half's contribution. -/
def accF (h2 : Vec F S512x1024 .bf16) (wg wu : Vec F S1024x1408 .bf16) (cg cu : Vec F S1x8x1408 .f32) (tg tu : Vec F S3x1408 .f32)
    (bg bu : Vec F S1x1408 .f32) (wd : Vec F S1408x1024 .bf16) (acc : Vec F S512x1024 .f32) : Vec F S512x1024 .f32 :=
  k0_pay1 (k0_pay30 (k0_pay12 h2 wu)
    (k0_pay19 (k0_pay11 h2 wg) tg (k0_pay15 bg)
      (win 6 (by decide) (ext (k0_pay17 (k0_pay13 cg)) (k0_pay18 (k0_pay11 h2 wg))))
      (win 7 (by decide) (ext (k0_pay17 (k0_pay13 cg)) (k0_pay18 (k0_pay11 h2 wg)))))
    (k0_pay22 tu (k0_pay16 bu)
      (win 6 (by decide) (ext (k0_pay20 (k0_pay14 cu)) (k0_pay21 (k0_pay12 h2 wu))))
      (win 7 (by decide) (ext (k0_pay20 (k0_pay14 cu)) (k0_pay21 (k0_pay12 h2 wu)))))
    (k0_pay23 tu) acc wd)

/-- One half of the carried rows. -/
def slc (n : ℕ) (D : Vec F S2x8x1408 .f32) : Vec F S1x8x1408 .f32 :=
  fun x => D (fun | 0 => ⟨n % 2, Nat.mod_lt _ (by decide)⟩ | 1 => x 1 | 2 => x 2)

/-- A place in a half. -/
def ixH (y : S2x8x1408.Idx) : S1x8x1408.Idx := fun | 0 => (0 : Fin 1) | 1 => y 1 | 2 => y 2

/-- The carried rows with one half replaced. -/
def put (n : ℕ) (D : Vec F S2x8x1408 .f32) (v : Vec F S1x8x1408 .f32) : Vec F S2x8x1408 .f32 :=
  fun y => if (y 0).val = n then v (ixH y) else D y

theorem slc_put (n : ℕ) (h : n < 2) (D : Vec F S2x8x1408 .f32) (v : Vec F S1x8x1408 .f32) : slc n (put n D v) = v := by
  funext x
  unfold slc put
  rw [if_pos (show n % 2 = n from Nat.mod_eq_of_lt h)]
  refine congrArg v (funext fun a => ?_)
  match a with
  | 0 => exact Subsingleton.elim (α := Fin 1) _ _
  | 1 => rfl
  | 2 => rfl
theorem slc_put_ne (n k : ℕ) (h : k < 2) (hne : k ≠ n) (D : Vec F S2x8x1408 .f32) (v : Vec F S1x8x1408 .f32) : slc k (put n D v) = slc k D := by
  funext x
  unfold slc put
  rw [if_neg (show ¬ k % 2 = n from by omega)]

/-- The half a point works on. -/
theorem off1_eq (i : grid0.Coords) : k0_off1 i = ![(i 2).val, 0, 0] := by
  have h : (i 2).val < 2 := (i 2).isLt
  unfold k0_off1
  simp only [Scalar.indexCast, BitVec.toNat_ofNat]
  rw [Nat.mod_eq_of_lt (by omega)]
theorem off2_eq (i : grid0.Coords) : k0_off2 i = ![(i 2).val, 0, 0] := by
  have h : (i 2).val < 2 := (i 2).isLt
  unfold k0_off2
  simp only [Scalar.indexCast, BitVec.toNat_ofNat]
  rw [Nat.mod_eq_of_lt (by omega)]

end Cert.Kernel2Ideal.Hand

end
-- ==== Proof.FRead.lean ====
/-
  The output and feed-forward call: what its partial loads and stores leave, read back.
-/
module

public import proofs.«01_k».proof.Proof.FState
public import Idealize.ShloMosaic.Lib.WritesUnit
public import Idealize.ShloMosaic.Lib.VecWindow

@[expose] public section

set_option maxRecDepth 16384

noncomputable section

namespace Cert.Kernel2Ideal.Hand

open Idealize.ShloMosaic Idealize.ShloMosaic.TcCoe Idealize.ShloMosaic.Tactic
open Idealize.SL.Sem
open Cert.Kernel2Ideal.Gen

variable {F : FTy → Type} [FloatOps F]

/-- A load of the eight earlier rows and the tile's own, from row `o` on. -/
theorem win_read (m : Memref sig .tc .vmem S520x1408 .f32) (o : ℕ) (p : Vec F S8x1408 .f32) (v : Vec F S512x1408 .f32)
    (h8 : ∀ a, (![8, 0] : Fin 2 → Nat) a + S512x1408.size a ≤ S520x1408.size a)
    (h0 : ∀ a, (![0, 0] : Fin 2 → Nat) a + S8x1408.size a ≤ S520x1408.size a)
    (ho : ∀ a, (![o, 0] : Fin 2 → Nat) a + S512x1408.size a ≤ S520x1408.size a) (L : List (View.Piece (Elt F) S520x1408 .f32)) :
    m.view.readCov (⟨Rect.unit (s := S520x1408) ![8, 0] S512x1408.size h8, v⟩ :: ⟨Rect.unit (s := S520x1408) ![0, 0] S8x1408.size h0, p⟩ :: L)
      (Rect.unit (s := S520x1408) ![o, 0] S512x1408.size ho).toLoadRect = win o ho (ext p v) := by
  funext x
  have hx : (x 0).val < 512 := (x 0).isLt
  have ho0 : o + 512 ≤ 520 := ho 0
  have e0 : (((Rect.unit (s := S520x1408) ![o, 0] S512x1408.size ho).emb x) 0).val = o + 1 * (x 0).val := rfl
  have e1 : (((Rect.unit (s := S520x1408) ![o, 0] S512x1408.size ho).emb x) 1).val = 0 + 1 * (x 1).val := rfl
  show m.view.read (Elt F) (m.view.writes (Elt F) m.view.junk _) ((Rect.unit (s := S520x1408) ![o, 0] S512x1408.size ho).emb x) = ext p v ((Rect.unit (s := S520x1408) ![o, 0] S512x1408.size ho).emb x)
  generalize (Rect.unit (s := S520x1408) ![o, 0] S512x1408.size ho).emb x = y at e0 e1 ⊢
  have hy : (y 0).val < 520 := by omega
  unfold ext
  by_cases h : (y 0).val < 8
  · rw [dif_pos h]
    refine (View.read_writes_cons_unit_of_not_mem (s := S520x1408) m.view _ h8 v _ y rfl 0 (.inl h)).trans ?_
    refine View.read_writes_cons_unit_of_mem (s := S520x1408) m.view _ h0 p L y (ix8 y h) rfl fun a => ?_
    match a with
    | 0 => exact (Nat.zero_add _).symm
    | 1 => exact (Nat.zero_add _).symm
  · rw [dif_neg h]
    refine View.read_writes_cons_unit_of_mem (s := S520x1408) m.view _ h8 v _ y (ix512 y) rfl fun a => ?_
    match a with
    | 0 => show (y 0).val = 8 + ((y 0).val - 8); omega
    | 1 => exact (Nat.zero_add _).symm

/-- A load of one half of the carried rows. -/
theorem slc_read (m : Memref sig .tc .vmem S2x8x1408 .f32) (hm : m.IsWhole) (n : ℕ) (hn : n < 2) (off : Fin 3 → ℕ) (e : off = ![n, 0, 0])
    (ho : ∀ a, off a + S1x8x1408.size a ≤ S2x8x1408.size a) (D : Vec F S2x8x1408 .f32) :
    m.view.readAt (Elt F) (Rect.unit (s := S2x8x1408) off S1x8x1408.size ho).toLoadRect (hm.unread D) = slc n D := by
  subst e
  funext x
  refine (congrFun (hm.read_unread D) _).trans ?_
  unfold slc
  refine congrArg D (funext fun a => Fin.ext ?_)
  match a with
  | 0 =>
    have hx : (x 0).val < 1 := (x 0).isLt
    show n + 1 * (x 0).val = n % 2
    omega
  | 1 => show 0 + 1 * (x 1).val = (x 1).val; omega
  | 2 => show 0 + 1 * (x 2).val = (x 2).val; omega

/-- The carried rows after a store of one half, whatever was stored there before. -/
theorem put_read (m : Memref sig .tc .vmem S2x8x1408 .f32) (hm : m.IsWhole) (n : ℕ) (off : Fin 3 → ℕ) (e : off = ![n, 0, 0])
    (ho : ∀ a, off a + S1x8x1408.size a ≤ S2x8x1408.size a) (D : Vec F S2x8x1408 .f32) (v : Vec F S1x8x1408 .f32) :
    m.view.read (Elt F) (m.view.writes (Elt F) (hm.unread D) [⟨Rect.unit (s := S2x8x1408) off S1x8x1408.size ho, v⟩]) = put n D v := by
  subst e
  funext y
  unfold put
  by_cases h : (y 0).val = n
  · rw [if_pos h]
    refine View.read_writes_cons_unit_of_mem (s := S2x8x1408) m.view _ ho v [] y (ixH y) rfl fun a => ?_
    match a with
    | 0 => exact h
    | 1 => exact (Nat.zero_add _).symm
    | 2 => exact (Nat.zero_add _).symm
  · rw [if_neg h]
    refine (View.read_writes_cons_unit_of_not_mem (s := S2x8x1408) m.view _ ho v [] y rfl 0 ?_).trans (congrFun (hm.read_unread D) y)
    show (y 0).val < n ∨ n + 1 ≤ (y 0).val
    omega
theorem put_read2 (m : Memref sig .tc .vmem S2x8x1408 .f32) (hm : m.IsWhole) (n : ℕ) (off off' : Fin 3 → ℕ) (e : off = ![n, 0, 0]) (e' : off' = ![n, 0, 0])
    (ho : ∀ a, off a + S1x8x1408.size a ≤ S2x8x1408.size a) (ho' : ∀ a, off' a + S1x8x1408.size a ≤ S2x8x1408.size a)
    (D : Vec F S2x8x1408 .f32) (v w : Vec F S1x8x1408 .f32) :
    m.view.read (Elt F) (m.view.writes (Elt F) (hm.unread D) [⟨Rect.unit (s := S2x8x1408) off S1x8x1408.size ho, v⟩, ⟨Rect.unit (s := S2x8x1408) off' S1x8x1408.size ho', w⟩])
      = put n D v := by
  rw [← put_read m hm n off e ho D v]
  subst e e'
  funext y
  by_cases h : (y 0).val = n
  · have hb : ∀ a, (y a).val = (![n, 0, 0] : Fin 3 → ℕ) a + (ixH y a).val := fun a => by
      match a with
      | 0 => exact h
      | 1 => exact (Nat.zero_add _).symm
      | 2 => exact (Nat.zero_add _).symm
    exact (View.read_writes_cons_unit_of_mem (s := S2x8x1408) m.view _ ho v _ y _ rfl hb).trans
      (View.read_writes_cons_unit_of_mem (s := S2x8x1408) m.view _ ho v [] y _ rfl hb).symm
  · have hb : (y 0).val < n ∨ n + 1 ≤ (y 0).val := by omega
    refine (View.read_writes_cons_unit_of_not_mem (s := S2x8x1408) m.view _ ho v _ y rfl 0 hb).trans ?_
    refine (View.read_writes_cons_unit_of_not_mem (s := S2x8x1408) m.view _ ho' w [] y rfl 0 hb).trans ?_
    exact (View.read_writes_cons_unit_of_not_mem (s := S2x8x1408) m.view _ ho v [] y rfl 0 hb).symm

/-- A load of the half just stored. -/
theorem half_read (m : Memref sig .tc .vmem S2x8x1408 .f32) (n : ℕ) (off off' : Fin 3 → ℕ) (e : off = ![n, 0, 0]) (e' : off' = ![n, 0, 0])
    (ho : ∀ a, off a + S1x8x1408.size a ≤ S2x8x1408.size a) (ho' : ∀ a, off' a + S1x8x1408.size a ≤ S2x8x1408.size a)
    (v : Vec F S1x8x1408 .f32) (L : List (View.Piece (Elt F) S2x8x1408 .f32)) :
    m.view.readCov (⟨Rect.unit (s := S2x8x1408) off S1x8x1408.size ho, v⟩ :: L) (Rect.unit (s := S2x8x1408) off' S1x8x1408.size ho').toLoadRect = v := by
  subst e e'
  funext x
  exact View.read_writes_cons_emb (m.view) _ (Rect.unit (s := S2x8x1408) ![n, 0, 0] S1x8x1408.size ho) v L x

end Cert.Kernel2Ideal.Hand

end
-- ==== Proof.FData.lean ====
/-
  The output and feed-forward call: its grid's points, its blocks and what is carried from point to point.
-/
module

public import proofs.«01_k».proof.Proof.FRead

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

theorem c2_val (t : Fin cfg0.N) : (grid0.coords t 2).val = t.val % 2 := by
  have h := Pipeline.Grid.coords_val (G := grid0) t 2 (S := 1) (B := 2) (by decide) rfl
  rw [h]; simp
theorem c1_val (t : Fin cfg0.N) : (grid0.coords t 1).val = t.val / 2 % 16 := by
  have h := Pipeline.Grid.coords_val (G := grid0) t 1 (S := 2) (B := 16) (by decide) rfl
  rw [h]
theorem c0_val (t : Fin cfg0.N) : (grid0.coords t 0).val = t.val / 32 := by
  have h := Pipeline.Grid.coords_val (G := grid0) t 0 (S := 32) (B := 2) (by decide) rfl
  have hN : t.val < 64 := lt_of_lt_of_eq t.isLt (show cfg0.N = 64 from N_0)
  rw [h]; omega

/-- The point at a position. -/
def pt (n : ℕ) : Fin cfg0.N := ⟨n % 64, lt_of_lt_of_eq (Nat.mod_lt _ (by decide)) (show cfg0.N = 64 from N_0).symm⟩
theorem pt_val (t : Fin cfg0.N) : pt t.val = t :=
  Fin.ext (Nat.mod_eq_of_lt (lt_of_lt_of_eq t.isLt (show cfg0.N = 64 from N_0)))

theorem cond1 {n : ℕ} (h : n < 2) : (Scalar.cmpi .ne (Scalar.extui (Scalar.cmpi .eq (BitVec.ofNat 32 n) 0#32) : BitVec 32) 0#32 = 1#1) ↔ n = 0 := by
  have key : ∀ a < 2, (Scalar.cmpi .ne (Scalar.extui (Scalar.cmpi .eq (BitVec.ofNat 32 a) 0#32) : BitVec 32) 0#32 = 1#1) ↔ a = 0 := by decide +kernel
  exact key n h
theorem cond2 (i : grid0.Coords) : k0_cond2 i = 1#1 ↔ (i 1).val = 0 := by
  have key : ∀ a < 16, (Scalar.cmpi .ne (Scalar.extui (Scalar.cmpi .eq (BitVec.ofNat 32 a) 0#32) : BitVec 32) 0#32 = 1#1) ↔ a = 0 := by decide +kernel
  exact key _ (i 1).isLt
theorem cond3 (i : grid0.Coords) : k0_cond3 i = 1#1 ↔ (i 2).val = 1 := by
  have key : ∀ a < 2, (Scalar.cmpi .ne (Scalar.extui (Scalar.cmpi .eq (BitVec.ofNat 32 a) 1#32) : BitVec 32) 0#32 = 1#1) ↔ a = 1 := by decide +kernel
  exact key _ (i 2).isLt

/-! ## What the call finds -/

/-- What the call finds in the buffers of core `c`: the launch contents after the host operations before it. -/
def V0 (c : Dev nD) : Valuation τ sig (Elt F) := StableHlo.after hostOps0 (fun b => m (c, b))
def V (c : Dev nD) (b : Ref sig .tc) : Buf (Elt F) ((c : Thread nD τ).loc b) := V0 m c (Proc.devRef .tc b)

/-- Window `w`'s block at point `t`, of what the call finds in its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The state, by position -/

def x1At (c : Dev nD) (n : ℕ) : Vec F S512x1024 .f32 :=
  x1F (iblk m c 0 (pt (n - n % 2))) (iblk m c 1 (pt (n - n % 2))) (iblk m c 2 (pt (n - n % 2))) (iblk m c 3 (pt (n - n % 2))) (iblk m c 4 (pt (n - n % 2))) (iblk m c 5 (pt (n - n % 2)))
def h2At (c : Dev nD) (n : ℕ) : Vec F S512x1024 .bf16 :=
  h2F (iblk m c 0 (pt (n - n % 2))) (iblk m c 1 (pt (n - n % 2))) (iblk m c 2 (pt (n - n % 2))) (iblk m c 3 (pt (n - n % 2))) (iblk m c 4 (pt (n - n % 2))) (iblk m c 5 (pt (n - n % 2))) (iblk m c 6 (pt (n - n % 2)))
/-- The two up-projections of a point. -/
def gAt (c : Dev nD) (n : ℕ) : Vec F S512x1408 .f32 := k0_pay11 (h2At m c n) (iblk m c 7 (pt n))
def uAt (c : Dev nD) (n : ℕ) : Vec F S512x1408 .f32 := k0_pay12 (h2At m c n) (iblk m c 8 (pt n))
/-- The eight rows before a point's own. -/
def cgAt (c : Dev nD) (n : ℕ) : Vec F S1x8x1408 .f32 := if n / 2 % 16 = 0 then k0_pay9 else k0_pay26 (gAt m c (n - 2))
def cuAt (c : Dev nD) (n : ℕ) : Vec F S1x8x1408 .f32 := if n / 2 % 16 = 0 then k0_pay10 else k0_pay27 (uAt m c (n - 2))
/-- The sum over the halves, started from `a`. -/
def accP (c : Dev nD) (n : ℕ) (a : Vec F S512x1024 .f32) : Vec F S512x1024 .f32 :=
  accF (h2At m c n) (iblk m c 7 (pt n)) (iblk m c 8 (pt n)) (cgAt m c n) (cuAt m c n) (iblk m c 9 (pt n)) (iblk m c 10 (pt n)) (iblk m c 11 (pt n)) (iblk m c 12 (pt n)) (iblk m c 13 (pt n)) a
def accAt (c : Dev nD) (n : ℕ) : Vec F S512x1024 .f32 :=
  if n % 2 = 0 then accP m c n k0_pay8 else accP m c n (accP m c (n - 1) k0_pay8)
/-- What a second half writes out. -/
def outAt (c : Dev nD) (n : ℕ) : Vec F S1x512x1024 .f32 :=
  k0_pay2 (k0_pay6 (iblk m c 5 (pt n))) (x1At m c n) (accAt m c n) (iblk m c 14 (pt n))

/-- What the carried rows hold after point `n`. -/
def carry (c : Dev nD) (n : ℕ) (Dg Du : Vec F S2x8x1408 .f32) : Prop :=
  (slc (n % 2) Dg = k0_pay26 (gAt m c n) ∧ slc (n % 2) Du = k0_pay27 (uAt m c n))
    ∧ ((n + 1) / 2 % 16 ≠ 0 → slc ((n - 1) % 2) Dg = k0_pay26 (gAt m c (n - 1)) ∧ slc ((n - 1) % 2) Du = k0_pay27 (uAt m c (n - 1)))

theorem carry_first (c : Dev nD) (t : Fin cfg0.N) (he : t.val % 2 = 0) (hz : t.val / 2 % 16 = 0) (Dg Du : Vec F S2x8x1408 .f32)
    (g u : Vec F S512x1408 .f32) (hg : g = gAt m c t.val) (hu : u = uAt m c t.val) :
    carry m c t.val (put (grid0.coords t 2).val Dg (k0_pay26 g)) (put (grid0.coords t 2).val Du (k0_pay27 u)) := by
  subst hg hu
  rw [c2_val]
  exact ⟨⟨slc_put _ (Nat.mod_lt _ (by decide)) _ _, slc_put _ (Nat.mod_lt _ (by decide)) _ _⟩, fun h => absurd (by omega) h⟩
theorem carry_next (c : Dev nD) (t : Fin cfg0.N) (h0 : t.val ≠ 0) (Dg Du : Vec F S2x8x1408 .f32) (hc : carry m c (t.val - 1) Dg Du)
    (g u : Vec F S512x1408 .f32) (hg : g = gAt m c t.val) (hu : u = uAt m c t.val) :
    carry m c t.val (put (grid0.coords t 2).val Dg (k0_pay26 g)) (put (grid0.coords t 2).val Du (k0_pay27 u)) := by
  subst hg hu
  rw [c2_val]
  refine ⟨⟨slc_put _ (Nat.mod_lt _ (by decide)) _ _, slc_put _ (Nat.mod_lt _ (by decide)) _ _⟩, fun _ => ⟨?_, ?_⟩⟩
  · rw [slc_put_ne _ _ (Nat.mod_lt _ (by decide)) (by omega)]; exact hc.1.1
  · rw [slc_put_ne _ _ (Nat.mod_lt _ (by decide)) (by omega)]; exact hc.1.2

theorem even_base (t : Fin cfg0.N) (h : t.val % 2 = 0) : pt (t.val - t.val % 2) = t := by rw [h, Nat.sub_zero, pt_val]
theorem x1At_even (c : Dev nD) (t : Fin cfg0.N) (h : t.val % 2 = 0) : x1At m c t.val = x1F (iblk m c 0 t) (iblk m c 1 t) (iblk m c 2 t) (iblk m c 3 t) (iblk m c 4 t) (iblk m c 5 t) := by
  unfold x1At; rw [even_base t h]
theorem h2At_even (c : Dev nD) (t : Fin cfg0.N) (h : t.val % 2 = 0) : h2At m c t.val = h2F (iblk m c 0 t) (iblk m c 1 t) (iblk m c 2 t) (iblk m c 3 t) (iblk m c 4 t) (iblk m c 5 t) (iblk m c 6 t) := by
  unfold h2At; rw [even_base t h]
theorem x1At_odd (c : Dev nD) (n : ℕ) (h : n % 2 = 1) : x1At m c n = x1At m c (n - 1) := by
  unfold x1At; rw [show n - 1 - (n - 1) % 2 = n - n % 2 from by omega]
theorem h2At_odd (c : Dev nD) (n : ℕ) (h : n % 2 = 1) : h2At m c n = h2At m c (n - 1) := by
  unfold h2At; rw [show n - 1 - (n - 1) % 2 = n - n % 2 from by omega]
theorem gAt_eq (c : Dev nD) (t : Fin cfg0.N) : gAt m c t.val = k0_pay11 (h2At m c t.val) (iblk m c 7 t) := by unfold gAt; rw [pt_val]
theorem uAt_eq (c : Dev nD) (t : Fin cfg0.N) : uAt m c t.val = k0_pay12 (h2At m c t.val) (iblk m c 8 t) := by unfold uAt; rw [pt_val]
theorem outAt_eq (c : Dev nD) (t : Fin cfg0.N) : outAt m c t.val = k0_pay2 (k0_pay6 (iblk m c 5 t)) (x1At m c t.val) (accAt m c t.val) (iblk m c 14 t) := by
  unfold outAt; rw [pt_val]

theorem accP_first (c : Dev nD) (t : Fin cfg0.N) (h : t.val / 2 % 16 = 0) (a : Vec F S512x1024 .f32) :
    accP m c t.val a = accF (h2At m c t.val) (iblk m c 7 t) (iblk m c 8 t) k0_pay9 k0_pay10 (iblk m c 9 t) (iblk m c 10 t) (iblk m c 11 t) (iblk m c 12 t) (iblk m c 13 t) a := by
  unfold accP cgAt cuAt; rw [if_pos h, if_pos h, pt_val]
theorem accP_next (c : Dev nD) (t : Fin cfg0.N) (h : t.val / 2 % 16 ≠ 0) (Dg Du : Vec F S2x8x1408 .f32) (hc : carry m c (t.val - 1) Dg Du) (a : Vec F S512x1024 .f32) :
    accP m c t.val a = accF (h2At m c t.val) (iblk m c 7 t) (iblk m c 8 t) (slc (grid0.coords t 2).val Dg) (slc (grid0.coords t 2).val Du) (iblk m c 9 t) (iblk m c 10 t) (iblk m c 11 t) (iblk m c 12 t) (iblk m c 13 t) a := by
  have hh := hc.2 (by rw [show t.val - 1 + 1 = t.val from by omega]; exact h)
  have e1 : (t.val - 1 - 1) % 2 = t.val % 2 := by omega
  have e2 : t.val - 1 - 1 = t.val - 2 := by omega
  rw [e1, e2] at hh
  unfold accP cgAt cuAt; rw [if_neg h, if_neg h, pt_val, c2_val, hh.1, hh.2]
theorem accAt_even (c : Dev nD) (n : ℕ) (h : n % 2 = 0) : accAt m c n = accP m c n k0_pay8 := by unfold accAt; rw [if_pos h]
theorem accAt_odd (c : Dev nD) (n : ℕ) (h : n % 2 = 1) : accAt m c n = accP m c n (accAt m c (n - 1)) := by
  rw [accAt_even m c (n - 1) (by omega)]; unfold accAt; rw [if_neg (by omega)]

end Cert.Kernel2Ideal.Hand

end
-- ==== Proof.FRunA.lean ====
/-
  The call's body at a first half of a first tile.
-/
module

public import proofs.«01_k».proof.Proof.FRead

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

set_option maxHeartbeats 4000000 in
/-- The body at a first half of a first tile. -/
theorem runA (c : Dev nD) (i : grid0.Coords) (arg3 : Memref sig .tc .vmem S1x512x1024 .f32) (harg3 : arg3.IsWhole) (arg4 : Memref sig .tc .vmem S1x512x256 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1024x1024 .bf16) (harg7 : arg7.IsWhole) (arg8 : Memref sig .tc .vmem S1x1x6x1024 .f32) (harg8 : arg8.IsWhole) (arg9 : Memref sig .tc .vmem S1x1024 .f32) (harg9 : arg9.IsWhole) (arg10 : Memref sig .tc .vmem S1024x1408 .bf16) (harg10 : arg10.IsWhole) (arg11 : Memref sig .tc .vmem S1024x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S1x1408 .f32) (harg14 : arg14.IsWhole) (arg15 : Memref sig .tc .vmem S1x1408 .f32) (harg15 : arg15.IsWhole) (arg16 : Memref sig .tc .vmem S1408x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x1x8x1408 .f32) (harg19 : arg19.IsWhole) (arg20 : Memref sig .tc .vmem S1x1x8x1408 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S520x1408 .f32) (harg24 : arg24.IsWhole) (arg25 : Memref sig .tc .vmem S2x8x1408 .f32) (harg25 : arg25.IsWhole) (arg26 : Memref sig .tc .vmem S2x8x1408 .f32) (harg26 : arg26.IsWhole)
    (hc1 : Scalar.cmpi .ne (Scalar.extui (Scalar.cmpi .eq (BitVec.ofNat 32 (i 2).val) 0#32) : BitVec 32) 0#32 = 1#1)
    (hc2 : k0_cond2 i = 1#1) (hc3 : ¬k0_cond3 i = 1#1)
    (x0 : Vec F S1x512x1024 .f32) (x1 : Vec F S1x512x256 .bf16) (x2 : Vec F S1x512x512 .bf16) (x3 : Vec F S1x512x256 .bf16) (x4 : Vec F S1024x1024 .bf16) (x5 : Vec F S1x1x6x1024 .f32) (x6 : Vec F S1x1024 .f32) (x7 : Vec F S1024x1408 .bf16) (x8 : Vec F S1024x1408 .bf16) (x9 : Vec F S3x1408 .f32) (x10 : Vec F S3x1408 .f32) (x11 : Vec F S1x1408 .f32) (x12 : Vec F S1x1408 .f32) (x13 : Vec F S1408x1024 .bf16) (x14 : Vec F S1x1024 .f32)
    (xi : Vec F S1x512x1024 .f32) (Dg Du : Vec F S2x8x1408 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare Dg ∗ owns (c : Thread nD τ) arg26 fullShare Du
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi ∗ owns (c : Thread nD τ) arg19 fullShare (k0_pay28 (k0_pay11 (h2F x0 x1 x2 x3 x4 x5 x6) x7)) ∗ owns (c : Thread nD τ) arg20 fullShare (k0_pay29 (k0_pay12 (h2F x0 x1 x2 x3 x4 x5 x6) x8)) ∗ owns (c : Thread nD τ) arg21 fullShare (x1F x0 x1 x2 x3 x4 x5) ∗ owns (c : Thread nD τ) arg22 fullShare (h2F x0 x1 x2 x3 x4 x5 x6) ∗ owns (c : Thread nD τ) arg23 fullShare (accF (h2F x0 x1 x2 x3 x4 x5 x6) x7 x8 k0_pay9 k0_pay10 x9 x10 x11 x12 x13 k0_pay8) ∗ (∃ d, owns (c : Thread nD τ) arg24 fullShare d) ∗ owns (c : Thread nD τ) arg25 fullShare (put (i 2).val Dg (k0_pay26 (k0_pay11 (h2F x0 x1 x2 x3 x4 x5 x6) x7))) ∗ owns (c : Thread nD τ) arg26 fullShare (put (i 2).val Du (k0_pay27 (k0_pay12 (h2F x0 x1 x2 x3 x4 x5 x6) x8)))) -∗ K ⟨⟩))
      ⊢ wp frame (wpE (defs₀ (F := F)) Variants.none c none) E (cc0_prompt_out_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_out_ffn_eq_skeleton]; unfold cc0_prompt_out_ffn_skel
  simp only [k0_part2_eq_skeleton, k0_part3_eq_skeleton, k0_part4_eq_skeleton]
  unfold k0_part2_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg25.eq_unread hf22; obtain rfl := harg26.eq_unread hf23
  sl_exec (disch := first | sl_exact hc1 | sl_exact hc2 | sl_exact hc3)
  sl_step
  iapply Hk
  isplitl [H0]
  · iexists _; isplitr
    swap
    · iexact H0
    ipureintro
    exact harg3.read_unread _
  isplitl [H1]
  · iexists _; isplitr
    swap
    · iexact H1
    ipureintro
    exact harg4.read_unread _
  isplitl [H2]
  · iexists _; isplitr
    swap
    · iexact H2
    ipureintro
    exact harg5.read_unread _
  isplitl [H3]
  · iexists _; isplitr
    swap
    · iexact H3
    ipureintro
    exact harg6.read_unread _
  isplitl [H4]
  · iexists _; isplitr
    swap
    · iexact H4
    ipureintro
    exact harg7.read_unread _
  isplitl [H5]
  · iexists _; isplitr
    swap
    · iexact H5
    ipureintro
    exact harg8.read_unread _
  isplitl [H6]
  · iexists _; isplitr
    swap
    · iexact H6
    ipureintro
    exact harg9.read_unread _
  isplitl [H7]
  · iexists _; isplitr
    swap
    · iexact H7
    ipureintro
    exact harg10.read_unread _
  isplitl [H8]
  · iexists _; isplitr
    swap
    · iexact H8
    ipureintro
    exact harg11.read_unread _
  isplitl [H9]
  · iexists _; isplitr
    swap
    · iexact H9
    ipureintro
    exact harg12.read_unread _
  isplitl [H10]
  · iexists _; isplitr
    swap
    · iexact H10
    ipureintro
    exact harg13.read_unread _
  isplitl [H11]
  · iexists _; isplitr
    swap
    · iexact H11
    ipureintro
    exact harg14.read_unread _
  isplitl [H12]
  · iexists _; isplitr
    swap
    · iexact H12
    ipureintro
    exact harg15.read_unread _
  isplitl [H13]
  · iexists _; isplitr
    swap
    · iexact H13
    ipureintro
    exact harg16.read_unread _
  isplitl [H14]
  · iexists _; isplitr
    swap
    · iexact H14
    ipureintro
    exact harg17.read_unread _
  isplitl [H15]
  · iexists _; isplitr
    swap
    · iexact H15
    ipureintro
    exact harg18.read_unread _
  isplitl [H16]
  · iexists _; isplitr
    swap
    · iexact H16
    ipureintro
    exact (View.read_writes_full _ _ _ _ _).trans (show k0_pay28 _ = k0_pay28 _ from congrArg k0_pay28 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _))))
  isplitl [H17]
  · iexists _; isplitr
    swap
    · iexact H17
    ipureintro
    exact (View.read_writes_full _ _ _ _ _).trans (show k0_pay29 _ = k0_pay29 _ from congrArg k0_pay29 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _))))
  isplitl [H18]
  · iexists _; isplitr
    swap
    · iexact H18
    ipureintro
    exact (View.read_writes_full _ _ _ _ _).trans (show k0_pay4 _ _ _ _ _ _ _ _ = k0_pay4 _ _ _ _ _ _ _ _ from congr (congr (congr (congr (congr (congr (congr (congrArg k0_pay4 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))
  isplitl [H19]
  · iexists _; isplitr
    swap
    · iexact H19
    ipureintro
    exact (View.read_writes_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _)))
  isplitl [H20]
  · iexists _; isplitr
    swap
    · iexact H20
    ipureintro
    exact (View.read_writes_full _ _ _ _ _).trans (show k0_pay1 _ = k0_pay1 _ from congrArg k0_pay1 (show k0_pay30 _ _ _ _ _ _ = k0_pay30 _ _ _ _ _ _ from congr (congr (congr (congr (congr (congrArg k0_pay30 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _)))) (show k0_pay19 _ _ _ _ _ = k0_pay19 _ _ _ _ _ from congr (congr (congr (congr (congrArg k0_pay19 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _)))) ((View.readAt_full _ _ _).trans (harg12.read_unread _))) (show k0_pay15 _ = k0_pay15 _ from congrArg k0_pay15 ((View.readAt_full _ _ _).trans (harg14.read_unread _)))) ((win_read _ 6 _ _ _ _ _ _).trans (congrArg (win 6 _) (congr (congrArg ext (show k0_pay17 _ = k0_pay17 _ from congrArg k0_pay17 (show k0_pay13 _ = k0_pay13 _ from congrArg k0_pay13 (half_read _ _ _ _ (off1_eq i) (off2_eq i) _ _ _ _)))) (show k0_pay18 _ = k0_pay18 _ from congrArg k0_pay18 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _)))))))) ((win_read _ 7 _ _ _ _ _ _).trans (congrArg (win 7 _) (congr (congrArg ext (show k0_pay17 _ = k0_pay17 _ from congrArg k0_pay17 (show k0_pay13 _ = k0_pay13 _ from congrArg k0_pay13 (half_read _ _ _ _ (off1_eq i) (off2_eq i) _ _ _ _)))) (show k0_pay18 _ = k0_pay18 _ from congrArg k0_pay18 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _))))))))) (show k0_pay22 _ _ _ _ = k0_pay22 _ _ _ _ from congr (congr (congr (congrArg k0_pay22 ((View.readAt_full _ _ _).trans (harg13.read_unread _))) (show k0_pay16 _ = k0_pay16 _ from congrArg k0_pay16 ((View.readAt_full _ _ _).trans (harg15.read_unread _)))) ((win_read _ 6 _ _ _ _ _ _).trans (congrArg (win 6 _) (congr (congrArg ext (show k0_pay20 _ = k0_pay20 _ from congrArg k0_pay20 (show k0_pay14 _ = k0_pay14 _ from congrArg k0_pay14 (half_read _ _ _ _ (off1_eq i) (off2_eq i) _ _ _ _)))) (show k0_pay21 _ = k0_pay21 _ from congrArg k0_pay21 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _)))))))) ((win_read _ 7 _ _ _ _ _ _).trans (congrArg (win 7 _) (congr (congrArg ext (show k0_pay20 _ = k0_pay20 _ from congrArg k0_pay20 (show k0_pay14 _ = k0_pay14 _ from congrArg k0_pay14 (half_read _ _ _ _ (off1_eq i) (off2_eq i) _ _ _ _)))) (show k0_pay21 _ = k0_pay21 _ from congrArg k0_pay21 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _))))))))) (show k0_pay23 _ = k0_pay23 _ from congrArg k0_pay23 ((View.readAt_full _ _ _).trans (harg13.read_unread _)))) (View.readCov_full _ _ _ _ _)) ((View.readAt_full _ _ _).trans (harg16.read_unread _))))
  isplitl [H21]
  · iexists _; iexists _; isplitr
    swap
    · iexact H21
    ipureintro
    rfl
  isplitl [H22]
  · iexists _; isplitr
    swap
    · iexact H22
    ipureintro
    exact (put_read2 _ harg25 _ _ _ (off2_eq i) (off1_eq i) _ _ _ _ _).trans (congrArg (put _ Dg) (show k0_pay26 _ = k0_pay26 _ from congrArg k0_pay26 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _)))))
  iexists _; isplitr
  swap
  · iexact H23
  ipureintro
  exact (put_read2 _ harg26 _ _ _ (off2_eq i) (off1_eq i) _ _ _ _ _).trans (congrArg (put _ Du) (show k0_pay27 _ = k0_pay27 _ from congrArg k0_pay27 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _)))))

end Cert.Kernel2Ideal.Hand

end
-- ==== Proof.FRunB.lean ====
/-
  The call's body at a first half of a later tile.
-/
module

public import proofs.«01_k».proof.Proof.FRead

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

set_option maxHeartbeats 4000000 in
/-- The body at a first half of a later tile. -/
theorem runB (c : Dev nD) (i : grid0.Coords) (arg3 : Memref sig .tc .vmem S1x512x1024 .f32) (harg3 : arg3.IsWhole) (arg4 : Memref sig .tc .vmem S1x512x256 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1024x1024 .bf16) (harg7 : arg7.IsWhole) (arg8 : Memref sig .tc .vmem S1x1x6x1024 .f32) (harg8 : arg8.IsWhole) (arg9 : Memref sig .tc .vmem S1x1024 .f32) (harg9 : arg9.IsWhole) (arg10 : Memref sig .tc .vmem S1024x1408 .bf16) (harg10 : arg10.IsWhole) (arg11 : Memref sig .tc .vmem S1024x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S1x1408 .f32) (harg14 : arg14.IsWhole) (arg15 : Memref sig .tc .vmem S1x1408 .f32) (harg15 : arg15.IsWhole) (arg16 : Memref sig .tc .vmem S1408x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x1x8x1408 .f32) (harg19 : arg19.IsWhole) (arg20 : Memref sig .tc .vmem S1x1x8x1408 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S520x1408 .f32) (harg24 : arg24.IsWhole) (arg25 : Memref sig .tc .vmem S2x8x1408 .f32) (harg25 : arg25.IsWhole) (arg26 : Memref sig .tc .vmem S2x8x1408 .f32) (harg26 : arg26.IsWhole)
    (hc1 : Scalar.cmpi .ne (Scalar.extui (Scalar.cmpi .eq (BitVec.ofNat 32 (i 2).val) 0#32) : BitVec 32) 0#32 = 1#1)
    (hc2 : ¬k0_cond2 i = 1#1) (hc3 : ¬k0_cond3 i = 1#1)
    (x0 : Vec F S1x512x1024 .f32) (x1 : Vec F S1x512x256 .bf16) (x2 : Vec F S1x512x512 .bf16) (x3 : Vec F S1x512x256 .bf16) (x4 : Vec F S1024x1024 .bf16) (x5 : Vec F S1x1x6x1024 .f32) (x6 : Vec F S1x1024 .f32) (x7 : Vec F S1024x1408 .bf16) (x8 : Vec F S1024x1408 .bf16) (x9 : Vec F S3x1408 .f32) (x10 : Vec F S3x1408 .f32) (x11 : Vec F S1x1408 .f32) (x12 : Vec F S1x1408 .f32) (x13 : Vec F S1408x1024 .bf16) (x14 : Vec F S1x1024 .f32)
    (xi : Vec F S1x512x1024 .f32) (Dg Du : Vec F S2x8x1408 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare Dg ∗ owns (c : Thread nD τ) arg26 fullShare Du
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi ∗ owns (c : Thread nD τ) arg19 fullShare (k0_pay28 (k0_pay11 (h2F x0 x1 x2 x3 x4 x5 x6) x7)) ∗ owns (c : Thread nD τ) arg20 fullShare (k0_pay29 (k0_pay12 (h2F x0 x1 x2 x3 x4 x5 x6) x8)) ∗ owns (c : Thread nD τ) arg21 fullShare (x1F x0 x1 x2 x3 x4 x5) ∗ owns (c : Thread nD τ) arg22 fullShare (h2F x0 x1 x2 x3 x4 x5 x6) ∗ owns (c : Thread nD τ) arg23 fullShare (accF (h2F x0 x1 x2 x3 x4 x5 x6) x7 x8 (slc (i 2).val Dg) (slc (i 2).val Du) x9 x10 x11 x12 x13 k0_pay8) ∗ (∃ d, owns (c : Thread nD τ) arg24 fullShare d) ∗ owns (c : Thread nD τ) arg25 fullShare (put (i 2).val Dg (k0_pay26 (k0_pay11 (h2F x0 x1 x2 x3 x4 x5 x6) x7))) ∗ owns (c : Thread nD τ) arg26 fullShare (put (i 2).val Du (k0_pay27 (k0_pay12 (h2F x0 x1 x2 x3 x4 x5 x6) x8)))) -∗ K ⟨⟩))
      ⊢ wp frame (wpE (defs₀ (F := F)) Variants.none c none) E (cc0_prompt_out_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_out_ffn_eq_skeleton]; unfold cc0_prompt_out_ffn_skel
  simp only [k0_part2_eq_skeleton, k0_part3_eq_skeleton, k0_part4_eq_skeleton]
  unfold k0_part2_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg25.eq_unread hf22; obtain rfl := harg26.eq_unread hf23
  sl_exec (disch := first | sl_exact hc1 | sl_exact hc2 | sl_exact hc3)
  sl_step
  iapply Hk
  isplitl [H0]
  · iexists _; isplitr
    swap
    · iexact H0
    ipureintro
    exact harg3.read_unread _
  isplitl [H1]
  · iexists _; isplitr
    swap
    · iexact H1
    ipureintro
    exact harg4.read_unread _
  isplitl [H2]
  · iexists _; isplitr
    swap
    · iexact H2
    ipureintro
    exact harg5.read_unread _
  isplitl [H3]
  · iexists _; isplitr
    swap
    · iexact H3
    ipureintro
    exact harg6.read_unread _
  isplitl [H4]
  · iexists _; isplitr
    swap
    · iexact H4
    ipureintro
    exact harg7.read_unread _
  isplitl [H5]
  · iexists _; isplitr
    swap
    · iexact H5
    ipureintro
    exact harg8.read_unread _
  isplitl [H6]
  · iexists _; isplitr
    swap
    · iexact H6
    ipureintro
    exact harg9.read_unread _
  isplitl [H7]
  · iexists _; isplitr
    swap
    · iexact H7
    ipureintro
    exact harg10.read_unread _
  isplitl [H8]
  · iexists _; isplitr
    swap
    · iexact H8
    ipureintro
    exact harg11.read_unread _
  isplitl [H9]
  · iexists _; isplitr
    swap
    · iexact H9
    ipureintro
    exact harg12.read_unread _
  isplitl [H10]
  · iexists _; isplitr
    swap
    · iexact H10
    ipureintro
    exact harg13.read_unread _
  isplitl [H11]
  · iexists _; isplitr
    swap
    · iexact H11
    ipureintro
    exact harg14.read_unread _
  isplitl [H12]
  · iexists _; isplitr
    swap
    · iexact H12
    ipureintro
    exact harg15.read_unread _
  isplitl [H13]
  · iexists _; isplitr
    swap
    · iexact H13
    ipureintro
    exact harg16.read_unread _
  isplitl [H14]
  · iexists _; isplitr
    swap
    · iexact H14
    ipureintro
    exact harg17.read_unread _
  isplitl [H15]
  · iexists _; isplitr
    swap
    · iexact H15
    ipureintro
    exact harg18.read_unread _
  isplitl [H16]
  · iexists _; isplitr
    swap
    · iexact H16
    ipureintro
    exact (View.read_writes_full _ _ _ _ _).trans (show k0_pay28 _ = k0_pay28 _ from congrArg k0_pay28 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _))))
  isplitl [H17]
  · iexists _; isplitr
    swap
    · iexact H17
    ipureintro
    exact (View.read_writes_full _ _ _ _ _).trans (show k0_pay29 _ = k0_pay29 _ from congrArg k0_pay29 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _))))
  isplitl [H18]
  · iexists _; isplitr
    swap
    · iexact H18
    ipureintro
    exact (View.read_writes_full _ _ _ _ _).trans (show k0_pay4 _ _ _ _ _ _ _ _ = k0_pay4 _ _ _ _ _ _ _ _ from congr (congr (congr (congr (congr (congr (congr (congrArg k0_pay4 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))
  isplitl [H19]
  · iexists _; isplitr
    swap
    · iexact H19
    ipureintro
    exact (View.read_writes_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _)))
  isplitl [H20]
  · iexists _; isplitr
    swap
    · iexact H20
    ipureintro
    exact (View.read_writes_full _ _ _ _ _).trans (show k0_pay1 _ = k0_pay1 _ from congrArg k0_pay1 (show k0_pay30 _ _ _ _ _ _ = k0_pay30 _ _ _ _ _ _ from congr (congr (congr (congr (congr (congrArg k0_pay30 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _)))) (show k0_pay19 _ _ _ _ _ = k0_pay19 _ _ _ _ _ from congr (congr (congr (congr (congrArg k0_pay19 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _)))) ((View.readAt_full _ _ _).trans (harg12.read_unread _))) (show k0_pay15 _ = k0_pay15 _ from congrArg k0_pay15 ((View.readAt_full _ _ _).trans (harg14.read_unread _)))) ((win_read _ 6 _ _ _ _ _ _).trans (congrArg (win 6 _) (congr (congrArg ext (show k0_pay17 _ = k0_pay17 _ from congrArg k0_pay17 (show k0_pay13 _ = k0_pay13 _ from congrArg k0_pay13 (slc_read _ harg25 _ (i 2).isLt _ (off2_eq i) _ _)))) (show k0_pay18 _ = k0_pay18 _ from congrArg k0_pay18 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _)))))))) ((win_read _ 7 _ _ _ _ _ _).trans (congrArg (win 7 _) (congr (congrArg ext (show k0_pay17 _ = k0_pay17 _ from congrArg k0_pay17 (show k0_pay13 _ = k0_pay13 _ from congrArg k0_pay13 (slc_read _ harg25 _ (i 2).isLt _ (off2_eq i) _ _)))) (show k0_pay18 _ = k0_pay18 _ from congrArg k0_pay18 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _))))))))) (show k0_pay22 _ _ _ _ = k0_pay22 _ _ _ _ from congr (congr (congr (congrArg k0_pay22 ((View.readAt_full _ _ _).trans (harg13.read_unread _))) (show k0_pay16 _ = k0_pay16 _ from congrArg k0_pay16 ((View.readAt_full _ _ _).trans (harg15.read_unread _)))) ((win_read _ 6 _ _ _ _ _ _).trans (congrArg (win 6 _) (congr (congrArg ext (show k0_pay20 _ = k0_pay20 _ from congrArg k0_pay20 (show k0_pay14 _ = k0_pay14 _ from congrArg k0_pay14 (slc_read _ harg26 _ (i 2).isLt _ (off2_eq i) _ _)))) (show k0_pay21 _ = k0_pay21 _ from congrArg k0_pay21 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _)))))))) ((win_read _ 7 _ _ _ _ _ _).trans (congrArg (win 7 _) (congr (congrArg ext (show k0_pay20 _ = k0_pay20 _ from congrArg k0_pay20 (show k0_pay14 _ = k0_pay14 _ from congrArg k0_pay14 (slc_read _ harg26 _ (i 2).isLt _ (off2_eq i) _ _)))) (show k0_pay21 _ = k0_pay21 _ from congrArg k0_pay21 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _))))))))) (show k0_pay23 _ = k0_pay23 _ from congrArg k0_pay23 ((View.readAt_full _ _ _).trans (harg13.read_unread _)))) (View.readCov_full _ _ _ _ _)) ((View.readAt_full _ _ _).trans (harg16.read_unread _))))
  isplitl [H21]
  · iexists _; iexists _; isplitr
    swap
    · iexact H21
    ipureintro
    rfl
  isplitl [H22]
  · iexists _; isplitr
    swap
    · iexact H22
    ipureintro
    exact (put_read _ harg25 _ _ (off2_eq i) _ _ _).trans (congrArg (put _ Dg) (show k0_pay26 _ = k0_pay26 _ from congrArg k0_pay26 (show k0_pay11 _ _ = k0_pay11 _ _ from congr (congrArg k0_pay11 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg10.read_unread _)))))
  iexists _; isplitr
  swap
  · iexact H23
  ipureintro
  exact (put_read _ harg26 _ _ (off2_eq i) _ _ _).trans (congrArg (put _ Du) (show k0_pay27 _ = k0_pay27 _ from congrArg k0_pay27 (show k0_pay12 _ _ = k0_pay12 _ _ from congr (congrArg k0_pay12 ((View.readCov_full _ _ _ _ _).trans (show k0_pay7 _ _ _ _ = k0_pay7 _ _ _ _ from congr (congr (congr (congrArg k0_pay7 ((View.readAt_full _ _ _).trans (harg8.read_unread _))) (show k0_pay3 _ _ _ _ _ _ _ _ = k0_pay3 _ _ _ _ _ _ _ _ from congr (congr (congr (congr (congr (congr (congr (congrArg k0_pay3 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) (show k0_pay5 _ _ _ _ _ _ _ _ = k0_pay5 _ _ _ _ _ _ _ _ from congr (congr (congr (congr (congr (congr (congr (congrArg k0_pay5 (show k0_pay6 _ = k0_pay6 _ from congrArg k0_pay6 ((View.readAt_full _ _ _).trans (harg8.read_unread _)))) ((View.readAt_full _ _ _).trans (harg4.read_unread _))) (funext fun _ => congrFun (harg7.read_unread _) _)) ((View.readAt_full _ _ _).trans (harg5.read_unread _))) (funext fun _ => congrFun (harg7.read_unread _) _)) ((View.readAt_full _ _ _).trans (harg6.read_unread _))) (funext fun _ => congrFun (harg7.read_unread _) _)) ((View.readAt_full _ _ _).trans (harg3.read_unread _)))) ((View.readAt_full _ _ _).trans (harg9.read_unread _))))) ((View.readAt_full _ _ _).trans (harg11.read_unread _)))))

end Cert.Kernel2Ideal.Hand

end
-- ==== Proof.FRunC.lean ====
/-
  The call's body at a second half of a first tile.
-/
module

public import proofs.«01_k».proof.Proof.FRead

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

set_option maxHeartbeats 4000000 in
/-- The body at a second half of a first tile. -/
theorem runC (c : Dev nD) (i : grid0.Coords) (arg3 : Memref sig .tc .vmem S1x512x1024 .f32) (harg3 : arg3.IsWhole) (arg4 : Memref sig .tc .vmem S1x512x256 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1024x1024 .bf16) (harg7 : arg7.IsWhole) (arg8 : Memref sig .tc .vmem S1x1x6x1024 .f32) (harg8 : arg8.IsWhole) (arg9 : Memref sig .tc .vmem S1x1024 .f32) (harg9 : arg9.IsWhole) (arg10 : Memref sig .tc .vmem S1024x1408 .bf16) (harg10 : arg10.IsWhole) (arg11 : Memref sig .tc .vmem S1024x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S1x1408 .f32) (harg14 : arg14.IsWhole) (arg15 : Memref sig .tc .vmem S1x1408 .f32) (harg15 : arg15.IsWhole) (arg16 : Memref sig .tc .vmem S1408x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x1x8x1408 .f32) (harg19 : arg19.IsWhole) (arg20 : Memref sig .tc .vmem S1x1x8x1408 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S520x1408 .f32) (harg24 : arg24.IsWhole) (arg25 : Memref sig .tc .vmem S2x8x1408 .f32) (harg25 : arg25.IsWhole) (arg26 : Memref sig .tc .vmem S2x8x1408 .f32) (harg26 : arg26.IsWhole)
    (hc1 : ¬Scalar.cmpi .ne (Scalar.extui (Scalar.cmpi .eq (BitVec.ofNat 32 (i 2).val) 0#32) : BitVec 32) 0#32 = 1#1)
    (hc2 : k0_cond2 i = 1#1) (hc3 : k0_cond3 i = 1#1)
    (x0 : Vec F S1x512x1024 .f32) (x1 : Vec F S1x512x256 .bf16) (x2 : Vec F S1x512x512 .bf16) (x3 : Vec F S1x512x256 .bf16) (x4 : Vec F S1024x1024 .bf16) (x5 : Vec F S1x1x6x1024 .f32) (x6 : Vec F S1x1024 .f32) (x7 : Vec F S1024x1408 .bf16) (x8 : Vec F S1024x1408 .bf16) (x9 : Vec F S3x1408 .f32) (x10 : Vec F S3x1408 .f32) (x11 : Vec F S1x1408 .f32) (x12 : Vec F S1x1408 .f32) (x13 : Vec F S1408x1024 .bf16) (x14 : Vec F S1x1024 .f32)
    (sx : Vec F S512x1024 .f32) (sh : Vec F S512x1024 .bf16) (sa : Vec F S512x1024 .f32) (Dg Du : Vec F S2x8x1408 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare sx ∗ owns (c : Thread nD τ) arg22 fullShare sh ∗ owns (c : Thread nD τ) arg23 fullShare sa ∗ (∃ d, owns (c : Thread nD τ) arg24 fullShare d) ∗ owns (c : Thread nD τ) arg25 fullShare Dg ∗ owns (c : Thread nD τ) arg26 fullShare Du
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare (k0_pay2 (k0_pay6 x5) sx (accF sh x7 x8 k0_pay9 k0_pay10 x9 x10 x11 x12 x13 sa) x14) ∗ owns (c : Thread nD τ) arg19 fullShare (k0_pay28 (k0_pay11 sh x7)) ∗ owns (c : Thread nD τ) arg20 fullShare (k0_pay29 (k0_pay12 sh x8)) ∗ owns (c : Thread nD τ) arg21 fullShare sx ∗ owns (c : Thread nD τ) arg22 fullShare sh ∗ owns (c : Thread nD τ) arg23 fullShare (accF sh x7 x8 k0_pay9 k0_pay10 x9 x10 x11 x12 x13 sa) ∗ (∃ d, owns (c : Thread nD τ) arg24 fullShare d) ∗ owns (c : Thread nD τ) arg25 fullShare (put (i 2).val Dg (k0_pay26 (k0_pay11 sh x7))) ∗ owns (c : Thread nD τ) arg26 fullShare (put (i 2).val Du (k0_pay27 (k0_pay12 sh x8)))) -∗ K ⟨⟩))
      ⊢ wp frame (wpE (defs₀ (F := F)) Variants.none c none) E (cc0_prompt_out_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_out_ffn_eq_skeleton]; unfold cc0_prompt_out_ffn_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%d21, %f21, -, H21⟩, ⟨%f22, %hf22, H22⟩, ⟨%f23, %hf23, H23⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg21.eq_unread hf18; obtain rfl := harg22.eq_unread hf19; obtain rfl := harg23.eq_unread hf20; obtain rfl := harg25.eq_unread hf22; obtain rfl := harg26.eq_unread hf23
  sl_exec (disch := first | sl_exact hc1 | sl_exact hc2 | sl_exact hc3)
  sl_step
  iapply Hk
  isplitl [H0]
  · iexists _; isplitr
    swap
    · iexact H0
    ipureintro
    exact harg3.read_unread _
  isplitl [H1]
  · iexists _; isplitr
    swap
    · iexact H1
    ipureintro
    exact harg4.read_unread _
  isplitl [H2]
  · iexists _; isplitr
    swap
    · iexact H2
    ipureintro
    exact harg5.read_unread _
  isplitl [H3]
  · iexists _; isplitr
    swap
    · iexact H3
    ipureintro
    exact harg6.read_unread _
  isplitl [H4]
  · iexists _; isplitr
    swap
    · iexact H4
    ipureintro
    exact harg7.read_unread _
  isplitl [H5]
  · iexists _; isplitr
    swap
    · iexact H5
    ipureintro
    exact harg8.read_unread _
  isplitl [H6]
  · iexists _; isplitr
    swap
    · iexact H6
    ipureintro
    exact harg9.read_unread _
  isplitl [H7]
  · iexists _; isplitr
    swap
    · iexact H7
    ipureintro
    exact harg10.read_unread _
  isplitl [H8]
  · iexists _; isplitr
    swap
    · iexact H8
    ipureintro
    exact harg11.read_unread _
  isplitl [H9]
  · iexists _; isplitr
    swap
    · iexact H9
    ipureintro
    exact harg12.read_unread _
  isplitl [H10]
  · iexists _; isplitr
    swap
    · iexact H10
    ipureintro
    exact harg13.read_unread _
  isplitl [H11]
  · iexists _; isplitr
    swap
    · iexact H11
    ipureintro
    exact harg14.read_unread _
  isplitl [H12]
  · iexists _; isplitr
    swap
    · iexact H12
    ipureintro
    exact harg15.read_unread _
  isplitl [H13]
  · iexists _; isplitr
    swap
    · iexact H13
    ipureintro
    exact harg16.read_unread _
  isplitl [H14]
  · iexists _; isplitr
    swap
    · iexact H14
    ipureintro
    exact harg17.read_unread _
  isplitl [H15]
  · iexists _; isplitr
    swap
    · iexact H15
    ipureintro
    exact (View.read_writes_full _ _ _ _ _).trans (show k0_pay2 _ _ _ _ = k0_pay2 _ _ _ _ from congr (congr (congr (congrArg k0_pay2 (show k0_pay6 _ = k0_pay6 _ from congrArg k0_pay6 ((View.readAt_full _ _ _).trans (harg8.read_unread _)))) ((View.readAt_full _ _ _).trans (harg21.read_unread _))) ((View.readCov_full _ _ _ _ _).trans (show k0_pay1 _ = k0_pay1 _ from congrArg k0_pay1 (show k0_pay30 _ _ _ _ _ _ = k0_pay30 _ _ _ _ _ _ from congr (congr (congr (congr (congr (congrArg k0_pay30 (show k0_pay12 _ _ = k0_pay12 _ _ from congr (congrArg k0_pay12 ((View.readAt_full _ _ _).trans (harg22.read_unread _))) ((View.readAt_full _ _ _).trans (harg11.read_unread _)))) (show k0_pay19 _ _ _ _ _ = k0_pay19 _ _ _ _ _ from congr (congr (congr (congr (congrArg k0_pay19 (show k0_pay11 _ _ = k0_pay11 _ _ from congr (congrArg k0_pay11 ((View.readAt_full _ _ _).trans (harg22.read_unread _))) ((View.readAt_full _ _ _).trans (harg10.read_unread _)))) ((View.readAt_full _ _ _).trans (harg12.read_unread _))) (show k0_pay15 _ = k0_pay15 _ from congrArg k0_pay15 ((View.readAt_full _ _ _).trans (harg14.read_unread _)))) ((win_read _ 6 _ _ _ _ _ _).trans (congrArg (win 6 _) (congr (congrArg ext (show k0_pay17 _ = k0_pay17 _ from congrArg k0_pay17 (show k0_pay13 _ = k0_pay13 _ from congrArg k0_pay13 (half_read _ _ _ _ (off1_eq i) (off2_eq i) _ _ _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _)))))))) ((win_read _ 7 _ _ _ _ _ _).trans (congrArg (win 7 _) (congr (congrArg ext (show k0_pay17 _ = k0_pay17 _ from congrArg k0_pay17 (show k0_pay13 _ = k0_pay13 _ from congrArg k0_pay13 (half_read _ _ _ _ (off1_eq i) (off2_eq i) _ _ _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _))))))))) (show k0_pay22 _ _ _ _ = k0_pay22 _ _ _ _ from congr (congr (congr (congrArg k0_pay22 ((View.readAt_full _ _ _).trans (harg13.read_unread _))) (show k0_pay16 _ = k0_pay16 _ from congrArg k0_pay16 ((View.readAt_full _ _ _).trans (harg15.read_unread _)))) ((win_read _ 6 _ _ _ _ _ _).trans (congrArg (win 6 _) (congr (congrArg ext (show k0_pay20 _ = k0_pay20 _ from congrArg k0_pay20 (show k0_pay14 _ = k0_pay14 _ from congrArg k0_pay14 (half_read _ _ _ _ (off1_eq i) (off2_eq i) _ _ _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _)))))))) ((win_read _ 7 _ _ _ _ _ _).trans (congrArg (win 7 _) (congr (congrArg ext (show k0_pay20 _ = k0_pay20 _ from congrArg k0_pay20 (show k0_pay14 _ = k0_pay14 _ from congrArg k0_pay14 (half_read _ _ _ _ (off1_eq i) (off2_eq i) _ _ _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _))))))))) (show k0_pay23 _ = k0_pay23 _ from congrArg k0_pay23 ((View.readAt_full _ _ _).trans (harg13.read_unread _)))) ((View.readAt_full _ _ _).trans (harg23.read_unread _))) ((View.readAt_full _ _ _).trans (harg16.read_unread _)))))) ((View.readAt_full _ _ _).trans (harg17.read_unread _)))
  isplitl [H16]
  · iexists _; isplitr
    swap
    · iexact H16
    ipureintro
    exact (View.read_writes_full _ _ _ _ _).trans (show k0_pay28 _ = k0_pay28 _ from congrArg k0_pay28 (show k0_pay11 _ _ = k0_pay11 _ _ from congr (congrArg k0_pay11 ((View.readAt_full _ _ _).trans (harg22.read_unread _))) ((View.readAt_full _ _ _).trans (harg10.read_unread _))))
  isplitl [H17]
  · iexists _; isplitr
    swap
    · iexact H17
    ipureintro
    exact (View.read_writes_full _ _ _ _ _).trans (show k0_pay29 _ = k0_pay29 _ from congrArg k0_pay29 (show k0_pay12 _ _ = k0_pay12 _ _ from congr (congrArg k0_pay12 ((View.readAt_full _ _ _).trans (harg22.read_unread _))) ((View.readAt_full _ _ _).trans (harg11.read_unread _))))
  isplitl [H18]
  · iexists _; isplitr
    swap
    · iexact H18
    ipureintro
    exact harg21.read_unread _
  isplitl [H19]
  · iexists _; isplitr
    swap
    · iexact H19
    ipureintro
    exact harg22.read_unread _
  isplitl [H20]
  · iexists _; isplitr
    swap
    · iexact H20
    ipureintro
    exact (View.read_writes_full _ _ _ _ _).trans (show k0_pay1 _ = k0_pay1 _ from congrArg k0_pay1 (show k0_pay30 _ _ _ _ _ _ = k0_pay30 _ _ _ _ _ _ from congr (congr (congr (congr (congr (congrArg k0_pay30 (show k0_pay12 _ _ = k0_pay12 _ _ from congr (congrArg k0_pay12 ((View.readAt_full _ _ _).trans (harg22.read_unread _))) ((View.readAt_full _ _ _).trans (harg11.read_unread _)))) (show k0_pay19 _ _ _ _ _ = k0_pay19 _ _ _ _ _ from congr (congr (congr (congr (congrArg k0_pay19 (show k0_pay11 _ _ = k0_pay11 _ _ from congr (congrArg k0_pay11 ((View.readAt_full _ _ _).trans (harg22.read_unread _))) ((View.readAt_full _ _ _).trans (harg10.read_unread _)))) ((View.readAt_full _ _ _).trans (harg12.read_unread _))) (show k0_pay15 _ = k0_pay15 _ from congrArg k0_pay15 ((View.readAt_full _ _ _).trans (harg14.read_unread _)))) ((win_read _ 6 _ _ _ _ _ _).trans (congrArg (win 6 _) (congr (congrArg ext (show k0_pay17 _ = k0_pay17 _ from congrArg k0_pay17 (show k0_pay13 _ = k0_pay13 _ from congrArg k0_pay13 (half_read _ _ _ _ (off1_eq i) (off2_eq i) _ _ _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _)))))))) ((win_read _ 7 _ _ _ _ _ _).trans (congrArg (win 7 _) (congr (congrArg ext (show k0_pay17 _ = k0_pay17 _ from congrArg k0_pay17 (show k0_pay13 _ = k0_pay13 _ from congrArg k0_pay13 (half_read _ _ _ _ (off1_eq i) (off2_eq i) _ _ _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _))))))))) (show k0_pay22 _ _ _ _ = k0_pay22 _ _ _ _ from congr (congr (congr (congrArg k0_pay22 ((View.readAt_full _ _ _).trans (harg13.read_unread _))) (show k0_pay16 _ = k0_pay16 _ from congrArg k0_pay16 ((View.readAt_full _ _ _).trans (harg15.read_unread _)))) ((win_read _ 6 _ _ _ _ _ _).trans (congrArg (win 6 _) (congr (congrArg ext (show k0_pay20 _ = k0_pay20 _ from congrArg k0_pay20 (show k0_pay14 _ = k0_pay14 _ from congrArg k0_pay14 (half_read _ _ _ _ (off1_eq i) (off2_eq i) _ _ _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _)))))))) ((win_read _ 7 _ _ _ _ _ _).trans (congrArg (win 7 _) (congr (congrArg ext (show k0_pay20 _ = k0_pay20 _ from congrArg k0_pay20 (show k0_pay14 _ = k0_pay14 _ from congrArg k0_pay14 (half_read _ _ _ _ (off1_eq i) (off2_eq i) _ _ _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _))))))))) (show k0_pay23 _ = k0_pay23 _ from congrArg k0_pay23 ((View.readAt_full _ _ _).trans (harg13.read_unread _)))) ((View.readAt_full _ _ _).trans (harg23.read_unread _))) ((View.readAt_full _ _ _).trans (harg16.read_unread _))))
  isplitl [H21]
  · iexists _; iexists _; isplitr
    swap
    · iexact H21
    ipureintro
    rfl
  isplitl [H22]
  · iexists _; isplitr
    swap
    · iexact H22
    ipureintro
    exact (put_read2 _ harg25 _ _ _ (off2_eq i) (off1_eq i) _ _ _ _ _).trans (congrArg (put _ Dg) (show k0_pay26 _ = k0_pay26 _ from congrArg k0_pay26 (show k0_pay11 _ _ = k0_pay11 _ _ from congr (congrArg k0_pay11 ((View.readAt_full _ _ _).trans (harg22.read_unread _))) ((View.readAt_full _ _ _).trans (harg10.read_unread _)))))
  iexists _; isplitr
  swap
  · iexact H23
  ipureintro
  exact (put_read2 _ harg26 _ _ _ (off2_eq i) (off1_eq i) _ _ _ _ _).trans (congrArg (put _ Du) (show k0_pay27 _ = k0_pay27 _ from congrArg k0_pay27 (show k0_pay12 _ _ = k0_pay12 _ _ from congr (congrArg k0_pay12 ((View.readAt_full _ _ _).trans (harg22.read_unread _))) ((View.readAt_full _ _ _).trans (harg11.read_unread _)))))

end Cert.Kernel2Ideal.Hand

end
-- ==== Proof.FRunD.lean ====
/-
  The call's body at a second half of a later tile.
-/
module

public import proofs.«01_k».proof.Proof.FRead

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

set_option maxHeartbeats 4000000 in
/-- The body at a second half of a later tile. -/
theorem runD (c : Dev nD) (i : grid0.Coords) (arg3 : Memref sig .tc .vmem S1x512x1024 .f32) (harg3 : arg3.IsWhole) (arg4 : Memref sig .tc .vmem S1x512x256 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1024x1024 .bf16) (harg7 : arg7.IsWhole) (arg8 : Memref sig .tc .vmem S1x1x6x1024 .f32) (harg8 : arg8.IsWhole) (arg9 : Memref sig .tc .vmem S1x1024 .f32) (harg9 : arg9.IsWhole) (arg10 : Memref sig .tc .vmem S1024x1408 .bf16) (harg10 : arg10.IsWhole) (arg11 : Memref sig .tc .vmem S1024x1408 .bf16) (harg11 : arg11.IsWhole) (arg12 : Memref sig .tc .vmem S3x1408 .f32) (harg12 : arg12.IsWhole) (arg13 : Memref sig .tc .vmem S3x1408 .f32) (harg13 : arg13.IsWhole) (arg14 : Memref sig .tc .vmem S1x1408 .f32) (harg14 : arg14.IsWhole) (arg15 : Memref sig .tc .vmem S1x1408 .f32) (harg15 : arg15.IsWhole) (arg16 : Memref sig .tc .vmem S1408x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x1x8x1408 .f32) (harg19 : arg19.IsWhole) (arg20 : Memref sig .tc .vmem S1x1x8x1408 .f32) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole) (arg24 : Memref sig .tc .vmem S520x1408 .f32) (harg24 : arg24.IsWhole) (arg25 : Memref sig .tc .vmem S2x8x1408 .f32) (harg25 : arg25.IsWhole) (arg26 : Memref sig .tc .vmem S2x8x1408 .f32) (harg26 : arg26.IsWhole)
    (hc1 : ¬Scalar.cmpi .ne (Scalar.extui (Scalar.cmpi .eq (BitVec.ofNat 32 (i 2).val) 0#32) : BitVec 32) 0#32 = 1#1)
    (hc2 : ¬k0_cond2 i = 1#1) (hc3 : k0_cond3 i = 1#1)
    (x0 : Vec F S1x512x1024 .f32) (x1 : Vec F S1x512x256 .bf16) (x2 : Vec F S1x512x512 .bf16) (x3 : Vec F S1x512x256 .bf16) (x4 : Vec F S1024x1024 .bf16) (x5 : Vec F S1x1x6x1024 .f32) (x6 : Vec F S1x1024 .f32) (x7 : Vec F S1024x1408 .bf16) (x8 : Vec F S1024x1408 .bf16) (x9 : Vec F S3x1408 .f32) (x10 : Vec F S3x1408 .f32) (x11 : Vec F S1x1408 .f32) (x12 : Vec F S1x1408 .f32) (x13 : Vec F S1408x1024 .bf16) (x14 : Vec F S1x1024 .f32)
    (sx : Vec F S512x1024 .f32) (sh : Vec F S512x1024 .bf16) (sa : Vec F S512x1024 .f32) (Dg Du : Vec F S2x8x1408 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare sx ∗ owns (c : Thread nD τ) arg22 fullShare sh ∗ owns (c : Thread nD τ) arg23 fullShare sa ∗ (∃ d, owns (c : Thread nD τ) arg24 fullShare d) ∗ owns (c : Thread nD τ) arg25 fullShare Dg ∗ owns (c : Thread nD τ) arg26 fullShare Du
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare (k0_pay2 (k0_pay6 x5) sx (accF sh x7 x8 (slc (i 2).val Dg) (slc (i 2).val Du) x9 x10 x11 x12 x13 sa) x14) ∗ owns (c : Thread nD τ) arg19 fullShare (k0_pay28 (k0_pay11 sh x7)) ∗ owns (c : Thread nD τ) arg20 fullShare (k0_pay29 (k0_pay12 sh x8)) ∗ owns (c : Thread nD τ) arg21 fullShare sx ∗ owns (c : Thread nD τ) arg22 fullShare sh ∗ owns (c : Thread nD τ) arg23 fullShare (accF sh x7 x8 (slc (i 2).val Dg) (slc (i 2).val Du) x9 x10 x11 x12 x13 sa) ∗ (∃ d, owns (c : Thread nD τ) arg24 fullShare d) ∗ owns (c : Thread nD τ) arg25 fullShare (put (i 2).val Dg (k0_pay26 (k0_pay11 sh x7))) ∗ owns (c : Thread nD τ) arg26 fullShare (put (i 2).val Du (k0_pay27 (k0_pay12 sh x8)))) -∗ K ⟨⟩))
      ⊢ wp frame (wpE (defs₀ (F := F)) Variants.none c none) E (cc0_prompt_out_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_out_ffn_eq_skeleton]; unfold cc0_prompt_out_ffn_skel
  simp only [k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%d21, %f21, -, H21⟩, ⟨%f22, %hf22, H22⟩, ⟨%f23, %hf23, H23⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg21.eq_unread hf18; obtain rfl := harg22.eq_unread hf19; obtain rfl := harg23.eq_unread hf20; obtain rfl := harg25.eq_unread hf22; obtain rfl := harg26.eq_unread hf23
  sl_exec (disch := first | sl_exact hc1 | sl_exact hc2 | sl_exact hc3)
  sl_step
  iapply Hk
  isplitl [H0]
  · iexists _; isplitr
    swap
    · iexact H0
    ipureintro
    exact harg3.read_unread _
  isplitl [H1]
  · iexists _; isplitr
    swap
    · iexact H1
    ipureintro
    exact harg4.read_unread _
  isplitl [H2]
  · iexists _; isplitr
    swap
    · iexact H2
    ipureintro
    exact harg5.read_unread _
  isplitl [H3]
  · iexists _; isplitr
    swap
    · iexact H3
    ipureintro
    exact harg6.read_unread _
  isplitl [H4]
  · iexists _; isplitr
    swap
    · iexact H4
    ipureintro
    exact harg7.read_unread _
  isplitl [H5]
  · iexists _; isplitr
    swap
    · iexact H5
    ipureintro
    exact harg8.read_unread _
  isplitl [H6]
  · iexists _; isplitr
    swap
    · iexact H6
    ipureintro
    exact harg9.read_unread _
  isplitl [H7]
  · iexists _; isplitr
    swap
    · iexact H7
    ipureintro
    exact harg10.read_unread _
  isplitl [H8]
  · iexists _; isplitr
    swap
    · iexact H8
    ipureintro
    exact harg11.read_unread _
  isplitl [H9]
  · iexists _; isplitr
    swap
    · iexact H9
    ipureintro
    exact harg12.read_unread _
  isplitl [H10]
  · iexists _; isplitr
    swap
    · iexact H10
    ipureintro
    exact harg13.read_unread _
  isplitl [H11]
  · iexists _; isplitr
    swap
    · iexact H11
    ipureintro
    exact harg14.read_unread _
  isplitl [H12]
  · iexists _; isplitr
    swap
    · iexact H12
    ipureintro
    exact harg15.read_unread _
  isplitl [H13]
  · iexists _; isplitr
    swap
    · iexact H13
    ipureintro
    exact harg16.read_unread _
  isplitl [H14]
  · iexists _; isplitr
    swap
    · iexact H14
    ipureintro
    exact harg17.read_unread _
  isplitl [H15]
  · iexists _; isplitr
    swap
    · iexact H15
    ipureintro
    exact (View.read_writes_full _ _ _ _ _).trans (show k0_pay2 _ _ _ _ = k0_pay2 _ _ _ _ from congr (congr (congr (congrArg k0_pay2 (show k0_pay6 _ = k0_pay6 _ from congrArg k0_pay6 ((View.readAt_full _ _ _).trans (harg8.read_unread _)))) ((View.readAt_full _ _ _).trans (harg21.read_unread _))) ((View.readCov_full _ _ _ _ _).trans (show k0_pay1 _ = k0_pay1 _ from congrArg k0_pay1 (show k0_pay30 _ _ _ _ _ _ = k0_pay30 _ _ _ _ _ _ from congr (congr (congr (congr (congr (congrArg k0_pay30 (show k0_pay12 _ _ = k0_pay12 _ _ from congr (congrArg k0_pay12 ((View.readAt_full _ _ _).trans (harg22.read_unread _))) ((View.readAt_full _ _ _).trans (harg11.read_unread _)))) (show k0_pay19 _ _ _ _ _ = k0_pay19 _ _ _ _ _ from congr (congr (congr (congr (congrArg k0_pay19 (show k0_pay11 _ _ = k0_pay11 _ _ from congr (congrArg k0_pay11 ((View.readAt_full _ _ _).trans (harg22.read_unread _))) ((View.readAt_full _ _ _).trans (harg10.read_unread _)))) ((View.readAt_full _ _ _).trans (harg12.read_unread _))) (show k0_pay15 _ = k0_pay15 _ from congrArg k0_pay15 ((View.readAt_full _ _ _).trans (harg14.read_unread _)))) ((win_read _ 6 _ _ _ _ _ _).trans (congrArg (win 6 _) (congr (congrArg ext (show k0_pay17 _ = k0_pay17 _ from congrArg k0_pay17 (show k0_pay13 _ = k0_pay13 _ from congrArg k0_pay13 (slc_read _ harg25 _ (i 2).isLt _ (off2_eq i) _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _)))))))) ((win_read _ 7 _ _ _ _ _ _).trans (congrArg (win 7 _) (congr (congrArg ext (show k0_pay17 _ = k0_pay17 _ from congrArg k0_pay17 (show k0_pay13 _ = k0_pay13 _ from congrArg k0_pay13 (slc_read _ harg25 _ (i 2).isLt _ (off2_eq i) _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _))))))))) (show k0_pay22 _ _ _ _ = k0_pay22 _ _ _ _ from congr (congr (congr (congrArg k0_pay22 ((View.readAt_full _ _ _).trans (harg13.read_unread _))) (show k0_pay16 _ = k0_pay16 _ from congrArg k0_pay16 ((View.readAt_full _ _ _).trans (harg15.read_unread _)))) ((win_read _ 6 _ _ _ _ _ _).trans (congrArg (win 6 _) (congr (congrArg ext (show k0_pay20 _ = k0_pay20 _ from congrArg k0_pay20 (show k0_pay14 _ = k0_pay14 _ from congrArg k0_pay14 (slc_read _ harg26 _ (i 2).isLt _ (off2_eq i) _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _)))))))) ((win_read _ 7 _ _ _ _ _ _).trans (congrArg (win 7 _) (congr (congrArg ext (show k0_pay20 _ = k0_pay20 _ from congrArg k0_pay20 (show k0_pay14 _ = k0_pay14 _ from congrArg k0_pay14 (slc_read _ harg26 _ (i 2).isLt _ (off2_eq i) _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _))))))))) (show k0_pay23 _ = k0_pay23 _ from congrArg k0_pay23 ((View.readAt_full _ _ _).trans (harg13.read_unread _)))) ((View.readAt_full _ _ _).trans (harg23.read_unread _))) ((View.readAt_full _ _ _).trans (harg16.read_unread _)))))) ((View.readAt_full _ _ _).trans (harg17.read_unread _)))
  isplitl [H16]
  · iexists _; isplitr
    swap
    · iexact H16
    ipureintro
    exact (View.read_writes_full _ _ _ _ _).trans (show k0_pay28 _ = k0_pay28 _ from congrArg k0_pay28 (show k0_pay11 _ _ = k0_pay11 _ _ from congr (congrArg k0_pay11 ((View.readAt_full _ _ _).trans (harg22.read_unread _))) ((View.readAt_full _ _ _).trans (harg10.read_unread _))))
  isplitl [H17]
  · iexists _; isplitr
    swap
    · iexact H17
    ipureintro
    exact (View.read_writes_full _ _ _ _ _).trans (show k0_pay29 _ = k0_pay29 _ from congrArg k0_pay29 (show k0_pay12 _ _ = k0_pay12 _ _ from congr (congrArg k0_pay12 ((View.readAt_full _ _ _).trans (harg22.read_unread _))) ((View.readAt_full _ _ _).trans (harg11.read_unread _))))
  isplitl [H18]
  · iexists _; isplitr
    swap
    · iexact H18
    ipureintro
    exact harg21.read_unread _
  isplitl [H19]
  · iexists _; isplitr
    swap
    · iexact H19
    ipureintro
    exact harg22.read_unread _
  isplitl [H20]
  · iexists _; isplitr
    swap
    · iexact H20
    ipureintro
    exact (View.read_writes_full _ _ _ _ _).trans (show k0_pay1 _ = k0_pay1 _ from congrArg k0_pay1 (show k0_pay30 _ _ _ _ _ _ = k0_pay30 _ _ _ _ _ _ from congr (congr (congr (congr (congr (congrArg k0_pay30 (show k0_pay12 _ _ = k0_pay12 _ _ from congr (congrArg k0_pay12 ((View.readAt_full _ _ _).trans (harg22.read_unread _))) ((View.readAt_full _ _ _).trans (harg11.read_unread _)))) (show k0_pay19 _ _ _ _ _ = k0_pay19 _ _ _ _ _ from congr (congr (congr (congr (congrArg k0_pay19 (show k0_pay11 _ _ = k0_pay11 _ _ from congr (congrArg k0_pay11 ((View.readAt_full _ _ _).trans (harg22.read_unread _))) ((View.readAt_full _ _ _).trans (harg10.read_unread _)))) ((View.readAt_full _ _ _).trans (harg12.read_unread _))) (show k0_pay15 _ = k0_pay15 _ from congrArg k0_pay15 ((View.readAt_full _ _ _).trans (harg14.read_unread _)))) ((win_read _ 6 _ _ _ _ _ _).trans (congrArg (win 6 _) (congr (congrArg ext (show k0_pay17 _ = k0_pay17 _ from congrArg k0_pay17 (show k0_pay13 _ = k0_pay13 _ from congrArg k0_pay13 (slc_read _ harg25 _ (i 2).isLt _ (off2_eq i) _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _)))))))) ((win_read _ 7 _ _ _ _ _ _).trans (congrArg (win 7 _) (congr (congrArg ext (show k0_pay17 _ = k0_pay17 _ from congrArg k0_pay17 (show k0_pay13 _ = k0_pay13 _ from congrArg k0_pay13 (slc_read _ harg25 _ (i 2).isLt _ (off2_eq i) _ _)))) (show k0_pay18 _ = k0_pay18 _ from congrArg k0_pay18 (show k0_pay11 _ _ = k0_pay11 _ _ from congr (congrArg k0_pay11 ((View.readAt_full _ _ _).trans (harg22.read_unread _))) ((View.readAt_full _ _ _).trans (harg10.read_unread _))))))))) (show k0_pay22 _ _ _ _ = k0_pay22 _ _ _ _ from congr (congr (congr (congrArg k0_pay22 ((View.readAt_full _ _ _).trans (harg13.read_unread _))) (show k0_pay16 _ = k0_pay16 _ from congrArg k0_pay16 ((View.readAt_full _ _ _).trans (harg15.read_unread _)))) ((win_read _ 6 _ _ _ _ _ _).trans (congrArg (win 6 _) (congr (congrArg ext (show k0_pay20 _ = k0_pay20 _ from congrArg k0_pay20 (show k0_pay14 _ = k0_pay14 _ from congrArg k0_pay14 (slc_read _ harg26 _ (i 2).isLt _ (off2_eq i) _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _)))))))) ((win_read _ 7 _ _ _ _ _ _).trans (congrArg (win 7 _) (congr (congrArg ext (show k0_pay20 _ = k0_pay20 _ from congrArg k0_pay20 (show k0_pay14 _ = k0_pay14 _ from congrArg k0_pay14 (slc_read _ harg26 _ (i 2).isLt _ (off2_eq i) _ _)))) (show k0_pay21 _ = k0_pay21 _ from congrArg k0_pay21 (show k0_pay12 _ _ = k0_pay12 _ _ from congr (congrArg k0_pay12 ((View.readAt_full _ _ _).trans (harg22.read_unread _))) ((View.readAt_full _ _ _).trans (harg11.read_unread _))))))))) (show k0_pay23 _ = k0_pay23 _ from congrArg k0_pay23 ((View.readAt_full _ _ _).trans (harg13.read_unread _)))) ((View.readAt_full _ _ _).trans (harg23.read_unread _))) ((View.readAt_full _ _ _).trans (harg16.read_unread _))))
  isplitl [H21]
  · iexists _; iexists _; isplitr
    swap
    · iexact H21
    ipureintro
    rfl
  isplitl [H22]
  · iexists _; isplitr
    swap
    · iexact H22
    ipureintro
    exact (put_read _ harg25 _ _ (off2_eq i) _ _ _).trans (congrArg (put _ Dg) (show k0_pay26 _ = k0_pay26 _ from congrArg k0_pay26 (show k0_pay11 _ _ = k0_pay11 _ _ from congr (congrArg k0_pay11 ((View.readAt_full _ _ _).trans (harg22.read_unread _))) ((View.readAt_full _ _ _).trans (harg10.read_unread _)))))
  iexists _; isplitr
  swap
  · iexact H23
  ipureintro
  exact (put_read _ harg26 _ _ (off2_eq i) _ _ _).trans (congrArg (put _ Du) (show k0_pay27 _ = k0_pay27 _ from congrArg k0_pay27 (show k0_pay12 _ _ = k0_pay12 _ _ from congr (congrArg k0_pay12 ((View.readAt_full _ _ _).trans (harg22.read_unread _))) ((View.readAt_full _ _ _).trans (harg11.read_unread _)))))

end Cert.Kernel2Ideal.Hand

end
-- ==== Proof.FFrame.lean ====
/-
  The output and feed-forward call: its proof data, the body's obligation at every grid point, the run of the program and its frame.
-/
module

public import proofs.«01_k».proof.Proof.FData
public import proofs.«01_k».proof.Proof.FRunA
public import proofs.«01_k».proof.Proof.FRunB
public import proofs.«01_k».proof.Proof.FRunC
public import proofs.«01_k».proof.Proof.FRunD
public import Idealize.ShloMosaic.Lib.Pipeline.FrameSuffix

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem idle15 (t : Fin cfg0.N) (h : t.val % 2 = 0) : cfg0.idle 15 (grid0.coords t) = true := by
  have hn : ¬ k0_cond3 (grid0.coords t) = 1#1 := fun h1 => by have := (cond3 _).mp h1; rw [c2_val] at this; omega
  show (!(k0_cond3 (grid0.coords t) == 1#1)) = true
  rw [beq_eq_false_iff_ne.mpr hn]; rfl
theorem live15 (t : Fin cfg0.N) (h : t.val % 2 = 1) : cfg0.idle 15 (grid0.coords t) = false := by
  have hn : k0_cond3 (grid0.coords t) = 1#1 := (cond3 _).mpr (by rw [c2_val]; exact h)
  show (!(k0_cond3 (grid0.coords t) == 1#1)) = false
  rw [beq_iff_eq.mpr hn]; rfl

/-- A first half does not write the output's block back. -/
theorem noFlush15 (t : Fin cfg0.N) (h : t.val % 2 = 0) : (cfg0.win 15).flush t = false := by
  have key : ∀ t : Fin cfg0.N, t.val % 2 = 0 → (cfg0.win 15).flush t = false := by decide +kernel
  exact key t h

/-! ## The buffers the body is handed -/

abbrev ms0 (t : Fin cfg0.N) : Memref sig .tc .vmem S1x512x1024 .f32 := win0_0.stage (cfg0.slots t 0)
abbrev ms1 (t : Fin cfg0.N) : Memref sig .tc .vmem S1x512x256 .bf16 := win0_1.stage (cfg0.slots t 1)
abbrev ms2 (t : Fin cfg0.N) : Memref sig .tc .vmem S1x512x512 .bf16 := win0_2.stage (cfg0.slots t 2)
abbrev ms3 (t : Fin cfg0.N) : Memref sig .tc .vmem S1x512x256 .bf16 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1x1x6x1024 .f32 := win0_5.stage (cfg0.slots t 5)
abbrev ms6 (t : Fin cfg0.N) : Memref sig .tc .vmem S1x1024 .f32 := win0_6.stage (cfg0.slots t 6)
abbrev ms7 (t : Fin cfg0.N) : Memref sig .tc .vmem S1024x1408 .bf16 := win0_7.stage (cfg0.slots t 7)
abbrev ms8 (t : Fin cfg0.N) : Memref sig .tc .vmem S1024x1408 .bf16 := win0_8.stage (cfg0.slots t 8)
abbrev ms9 (t : Fin cfg0.N) : Memref sig .tc .vmem S3x1408 .f32 := win0_9.stage (cfg0.slots t 9)
abbrev ms10 (t : Fin cfg0.N) : Memref sig .tc .vmem S3x1408 .f32 := win0_10.stage (cfg0.slots t 10)
abbrev ms11 (t : Fin cfg0.N) : Memref sig .tc .vmem S1x1408 .f32 := win0_11.stage (cfg0.slots t 11)
abbrev ms12 (t : Fin cfg0.N) : Memref sig .tc .vmem S1x1408 .f32 := win0_12.stage (cfg0.slots t 12)
abbrev ms13 (t : Fin cfg0.N) : Memref sig .tc .vmem S1408x1024 .bf16 := win0_13.stage (cfg0.slots t 13)
abbrev ms14 (t : Fin cfg0.N) : Memref sig .tc .vmem S1x1024 .f32 := win0_14.stage (cfg0.slots t 14)
abbrev ms15 (t : Fin cfg0.N) : Memref sig .tc .vmem S1x512x1024 .f32 := win0_15.stage (cfg0.slots t 15)
abbrev ms16 (t : Fin cfg0.N) : Memref sig .tc .vmem S1x1x8x1408 .f32 := win0_16.stage (cfg0.slots t 16)
abbrev ms17 (t : Fin cfg0.N) : Memref sig .tc .vmem S1x1x8x1408 .f32 := win0_17.stage (cfg0.slots t 17)
abbrev scM0 : Memref sig .tc .vmem S512x1024 .f32 := Memref.whole cc0_scratch0
abbrev scM1 : Memref sig .tc .vmem S512x1024 .bf16 := Memref.whole cc0_scratch1
abbrev scM2 : Memref sig .tc .vmem S512x1024 .f32 := Memref.whole cc0_scratch2
abbrev scM3 : Memref sig .tc .vmem S520x1408 .f32 := Memref.whole cc0_scratch3
abbrev scM4 : Memref sig .tc .vmem S2x8x1408 .f32 := Memref.whole cc0_scratch4
abbrev scM5 : Memref sig .tc .vmem S2x8x1408 .f32 := Memref.whole cc0_scratch5

/-- The body at a point, on its staging buffers and the scratch. -/
abbrev bodyAt (t : Fin cfg0.N) : Prog (TpuEff nD τ sig (Elt F) Λ₀ .tc) PUnit :=
  cc0_prompt_out_ffn (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) (ms17 t) (hstage0_17 ((cfg0.slots t 17).cast nbuf0_17)) scM0 (Memref.isWhole_whole _) scM1 (Memref.isWhole_whole _) scM2 (Memref.isWhole_whole _) scM3 (Memref.isWhole_whole _) scM4 (Memref.isWhole_whole _) scM5 (Memref.isWhole_whole _)

/-- The scoped rest: the six scratch buffers and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; try rfl

/-- What is held after point `n`. -/
def PhiN (c : Dev nD) (n : ℕ) : sProp 𝕄 :=
  iprop(iprop(owns (c : Thread nD τ) scM0 fullShare (x1At m c n) ∗ owns (c : Thread nD τ) scM1 fullShare (h2At m c n) ∗ owns (c : Thread nD τ) scM2 fullShare (accAt m c n)
      ∗ (∃ d, owns (c : Thread nD τ) scM3 fullShare d)
      ∗ (∃ Dg Du, iprop(⌜carry m c n Dg Du⌝ ∗ owns (c : Thread nD τ) scM4 fullShare Dg ∗ owns (c : Thread nD τ) scM5 fullShare Du)))
    ∗ (∃ r, prngReg c r))
/-- What is held between points: nothing known of the scratch before the first, then the state. -/
def PhiS (c : Dev nD) : (n : ℕ) → n ≤ cfg0.N → sProp 𝕄
  | 0, _ => Pipeline.ΦA spec0 c
  | n + 1, _ => PhiN m c n

theorem PhiS_pos (c : Dev nD) (n : ℕ) (h : n ≤ cfg0.N) (hz : n ≠ 0) : PhiS m c n h = PhiN m c (n - 1) := by
  cases n with
  | zero => exact absurd rfl hz
  | succ n => rfl

/-- Whatever the position, the scratch is held at something. -/
theorem PhiS_any (c : Dev nD) (n : ℕ) (h : n ≤ cfg0.N) : PhiS m c n h ⊢ Pipeline.ΦA spec0 c := by
  cases n with
  | zero => exact Entails.refl _
  | succ n =>
    rw [PhiA_eq]
    show PhiN m c n ⊢ _
    unfold PhiN
    iintro ⟨⟨HS0, HS1, HS2, HS3, ⟨%Dg, %Du, -, HS4, HS5⟩⟩, Hg⟩
    isplitl [HS0 HS1 HS2 HS3 HS4 HS5]
    · isplitl [HS0]
      · iexists _; iexact HS0
      isplitl [HS1]
      · iexists _; iexact HS1
      isplitl [HS2]
      · iexists _; iexact HS2
      isplitl [HS3]
      · iexact HS3
      isplitl [HS4]
      · iexists _; iexact HS4
      iexists _; iexact HS5
    iexact Hg

/-! ## The proof data -/

/-- The pipeline's proof data: its arrays as the call finds them, what each point leaves in each buffer, what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t.val
    | ⟨16, _⟩ => k0_pay28 (gAt m c t.val)
    | ⟨17, _⟩ => k0_pay29 (uAt m c t.val)
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiN m c t.val := by
  dsimp only [dats]; rfl

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = iblk m c 6 t := by dsimp only [dats]; try rfl
theorem after_7 (c : Dev nD) (t : Fin cfg0.N) : (dats m 0 c).after 7 t = iblk m c 7 t := by dsimp only [dats]; try rfl
theorem after_8 (c : Dev nD) (t : Fin cfg0.N) : (dats m 0 c).after 8 t = iblk m c 8 t := by dsimp only [dats]; try rfl
theorem after_9 (c : Dev nD) (t : Fin cfg0.N) : (dats m 0 c).after 9 t = iblk m c 9 t := by dsimp only [dats]; try rfl
theorem after_10 (c : Dev nD) (t : Fin cfg0.N) : (dats m 0 c).after 10 t = iblk m c 10 t := by dsimp only [dats]; try rfl
theorem after_11 (c : Dev nD) (t : Fin cfg0.N) : (dats m 0 c).after 11 t = iblk m c 11 t := by dsimp only [dats]; try rfl
theorem after_12 (c : Dev nD) (t : Fin cfg0.N) : (dats m 0 c).after 12 t = iblk m c 12 t := by dsimp only [dats]; try rfl
theorem after_13 (c : Dev nD) (t : Fin cfg0.N) : (dats m 0 c).after 13 t = iblk m c 13 t := by dsimp only [dats]; try rfl
theorem after_14 (c : Dev nD) (t : Fin cfg0.N) : (dats m 0 c).after 14 t = iblk m c 14 t := by dsimp only [dats]; try rfl
theorem after_15 (c : Dev nD) (t : Fin cfg0.N) : (dats m 0 c).after 15 t = outAt m c t.val := by dsimp only [dats]; try rfl
theorem after_16 (c : Dev nD) (t : Fin cfg0.N) : (dats m 0 c).after 16 t = k0_pay28 (gAt m c t.val) := by dsimp only [dats]; try rfl
theorem after_17 (c : Dev nD) (t : Fin cfg0.N) : (dats m 0 c).after 17 t = k0_pay29 (uAt m c t.val) := by dsimp only [dats]; try rfl

/-! Each input buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]; try rfl) t d).trans
    (by unfold Dat.fetched Dat.blockOf iblk; rw [A_eq]; try rfl)

/-! ## The body's obligation -/

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 8000000 in
/-- The body at any point: by the half and by whether the tile is its batch's first. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0, before_1, before_2, before_3, before_4, before_5, before_6, before_7, before_8, before_9, before_10, before_11, before_12, before_13, before_14]
  rw [show (dats m 0 c).owesAt () t.succ = (dats m 0 c).owesAt () t.castSucc from rfl, Phi_castSucc, Phi_succ]
  unfold PhiN
  rw [show (dats m 0 c).leavesExact 0 t = owns (c : Thread nD τ) (ms0 t) fullShare ((dats m 0 c).after 0 t) from by
    unfold Dat.leavesExact; rw [show cfg0.idle 0 (cfg0.grid.coords t) = false from rfl]; try rfl, after_0]
  rw [show (dats m 0 c).leavesExact 1 t = owns (c : Thread nD τ) (ms1 t) fullShare ((dats m 0 c).after 1 t) from by
    unfold Dat.leavesExact; rw [show cfg0.idle 1 (cfg0.grid.coords t) = false from rfl]; try rfl, after_1]
  rw [show (dats m 0 c).leavesExact 2 t = owns (c : Thread nD τ) (ms2 t) fullShare ((dats m 0 c).after 2 t) from by
    unfold Dat.leavesExact; rw [show cfg0.idle 2 (cfg0.grid.coords t) = false from rfl]; try rfl, after_2]
  rw [show (dats m 0 c).leavesExact 3 t = owns (c : Thread nD τ) (ms3 t) fullShare ((dats m 0 c).after 3 t) from by
    unfold Dat.leavesExact; rw [show cfg0.idle 3 (cfg0.grid.coords t) = false from rfl]; try rfl, after_3]
  rw [show (dats m 0 c).leavesExact 4 t = owns (c : Thread nD τ) (ms4 t) fullShare ((dats m 0 c).after 4 t) from by
    unfold Dat.leavesExact; rw [show cfg0.idle 4 (cfg0.grid.coords t) = false from rfl]; try rfl, after_4]
  rw [show (dats m 0 c).leavesExact 5 t = owns (c : Thread nD τ) (ms5 t) fullShare ((dats m 0 c).after 5 t) from by
    unfold Dat.leavesExact; rw [show cfg0.idle 5 (cfg0.grid.coords t) = false from rfl]; try rfl, after_5]
  rw [show (dats m 0 c).leavesExact 6 t = owns (c : Thread nD τ) (ms6 t) fullShare ((dats m 0 c).after 6 t) from by
    unfold Dat.leavesExact; rw [show cfg0.idle 6 (cfg0.grid.coords t) = false from rfl]; try rfl, after_6]
  rw [show (dats m 0 c).leavesExact 7 t = owns (c : Thread nD τ) (ms7 t) fullShare ((dats m 0 c).after 7 t) from by
    unfold Dat.leavesExact; rw [show cfg0.idle 7 (cfg0.grid.coords t) = false from rfl]; try rfl, after_7]
  rw [show (dats m 0 c).leavesExact 8 t = owns (c : Thread nD τ) (ms8 t) fullShare ((dats m 0 c).after 8 t) from by
    unfold Dat.leavesExact; rw [show cfg0.idle 8 (cfg0.grid.coords t) = false from rfl]; try rfl, after_8]
  rw [show (dats m 0 c).leavesExact 9 t = owns (c : Thread nD τ) (ms9 t) fullShare ((dats m 0 c).after 9 t) from by
    unfold Dat.leavesExact; rw [show cfg0.idle 9 (cfg0.grid.coords t) = false from rfl]; try rfl, after_9]
  rw [show (dats m 0 c).leavesExact 10 t = owns (c : Thread nD τ) (ms10 t) fullShare ((dats m 0 c).after 10 t) from by
    unfold Dat.leavesExact; rw [show cfg0.idle 10 (cfg0.grid.coords t) = false from rfl]; try rfl, after_10]
  rw [show (dats m 0 c).leavesExact 11 t = owns (c : Thread nD τ) (ms11 t) fullShare ((dats m 0 c).after 11 t) from by
    unfold Dat.leavesExact; rw [show cfg0.idle 11 (cfg0.grid.coords t) = false from rfl]; try rfl, after_11]
  rw [show (dats m 0 c).leavesExact 12 t = owns (c : Thread nD τ) (ms12 t) fullShare ((dats m 0 c).after 12 t) from by
    unfold Dat.leavesExact; rw [show cfg0.idle 12 (cfg0.grid.coords t) = false from rfl]; try rfl, after_12]
  rw [show (dats m 0 c).leavesExact 13 t = owns (c : Thread nD τ) (ms13 t) fullShare ((dats m 0 c).after 13 t) from by
    unfold Dat.leavesExact; rw [show cfg0.idle 13 (cfg0.grid.coords t) = false from rfl]; try rfl, after_13]
  rw [show (dats m 0 c).leavesExact 14 t = owns (c : Thread nD τ) (ms14 t) fullShare ((dats m 0 c).after 14 t) from by
    unfold Dat.leavesExact; rw [show cfg0.idle 14 (cfg0.grid.coords t) = false from rfl]; try rfl, after_14]
  rw [show (dats m 0 c).leavesExact 16 t = owns (c : Thread nD τ) (ms16 t) fullShare ((dats m 0 c).after 16 t) from by
    unfold Dat.leavesExact; rw [show cfg0.idle 16 (cfg0.grid.coords t) = false from rfl]; try rfl, after_16]
  rw [show (dats m 0 c).leavesExact 17 t = owns (c : Thread nD τ) (ms17 t) fullShare ((dats m 0 c).after 17 t) from by
    unfold Dat.leavesExact; rw [show cfg0.idle 17 (cfg0.grid.coords t) = false from rfl]; try rfl, after_17]
  by_cases h0 : t.val % 2 = 0
  · by_cases h1 : t.val / 2 % 16 = 0
    · rw [Dat.leavesExact_idle (dats m 0 c) 15 t (idle15 t h0) (noFlush15 t h0)]
      refine (BIClass.sep_mono (PhiS_any m c t.val (Nat.le_of_lt t.isLt)) (Entails.refl _)).trans ?_
      rw [PhiA_eq]
      iintro ⟨⟨⟨HS0, HS1, HS2, HS3, ⟨%Dg, HS4⟩, ⟨%Du, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      rw [accAt_even m c _ h0, accP_first m c t h1, gAt_eq, uAt_eq, x1At_even m c t h0, h2At_even m c t h0]
      iapply (runA c (grid0.coords t) _ _ _ _ _ _ _ _ _ _ _ _ _ _ _ _ _ _ _ _ _ _ _ _ _ _ _ _ _ _ _ _ _ _ _ _ _ _ _ _ _ _ _ _ _ _ _ _ ((cond1 (grid0.coords t 2).isLt).mpr (by rw [c2_val]; exact h0)) ((cond2 _).mpr (by rw [c1_val]; exact h1)) (fun h => by have := (cond3 _).mp h; rw [c2_val] at this; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ Dg Du Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          iexists _; iexists _
          isplitr
          swap
          · isplitl [HS4]; · iexact HS4
            iexact HS5
          ipureintro
          exact carry_first m c t h0 h1 _ _ _ _ (by rw [gAt_eq, h2At_even m c t h0]) (by rw [uAt_eq, h2At_even m c t h0])
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexact H16
      iexact H17
    · rw [Dat.leavesExact_idle (dats m 0 c) 15 t (idle15 t h0) (noFlush15 t h0)]
      have hz : t.val ≠ 0 := fun hz => by rw [hz] at h0 h1; simp at h0 h1
      rw [PhiS_pos m c _ _ hz]
      unfold PhiN
      iintro ⟨⟨⟨HS0, HS1, HS2, HS3, ⟨%Dg, %Du, %hcar, HS4, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      rw [accAt_even m c _ h0, accP_next m c t h1 Dg Du hcar, gAt_eq, uAt_eq, x1At_even m c t h0, h2At_even m c t h0]
      iapply (runB c (grid0.coords t) _ _ _ _ _ _ _ _ _ _ _ _ _ _ _ _ _ _ _ _ _ _ _ _ _ _ _ _ _ _ _ _ _ _ _ _ _ _ _ _ _ _ _ _ _ _ _ _ ((cond1 (grid0.coords t 2).isLt).mpr (by rw [c2_val]; exact h0)) (fun h => h1 (by have := (cond2 _).mp h; rw [c1_val] at this; exact this)) (fun h => by have := (cond3 _).mp h; rw [c2_val] at this; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ Dg Du Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [HS0]; · iexists _; iexact HS0
      isplitl [HS1]; · iexists _; iexact HS1
      isplitl [HS2]; · iexists _; iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          iexists _; iexists _
          isplitr
          swap
          · isplitl [HS4]; · iexact HS4
            iexact HS5
          ipureintro
          exact carry_next m c t hz _ _ hcar _ _ (by rw [gAt_eq, h2At_even m c t h0]) (by rw [uAt_eq, h2At_even m c t h0])
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexact H16
      iexact H17
  · replace h0 : t.val % 2 = 1 := by omega
    by_cases h1 : t.val / 2 % 16 = 0
    · rw [show (dats m 0 c).leavesExact 15 t = owns (c : Thread nD τ) (ms15 t) fullShare ((dats m 0 c).after 15 t) from by unfold Dat.leavesExact; rw [live15 t h0]; try rfl, after_15, outAt_eq]
      have hz : t.val ≠ 0 := fun hz => by rw [hz] at h0 h1; simp at h0 h1
      rw [PhiS_pos m c _ _ hz]
      unfold PhiN
      iintro ⟨⟨⟨HS0, HS1, HS2, HS3, ⟨%Dg, %Du, %hcar, HS4, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      rw [accAt_odd m c _ h0, accP_first m c t h1, gAt_eq, uAt_eq, x1At_odd m c _ h0, h2At_odd m c _ h0]
      iapply (runC c (grid0.coords t) _ _ _ _ _ _ _ _ _ _ _ _ _ _ _ _ _ _ _ _ _ _ _ _ _ _ _ _ _ _ _ _ _ _ _ _ _ _ _ _ _ _ _ _ _ _ _ _ (fun h => by have := (cond1 (grid0.coords t 2).isLt).mp h; rw [c2_val] at this; omega) ((cond2 _).mpr (by rw [c1_val]; exact h1)) ((cond3 _).mpr (by rw [c2_val]; exact h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (x1At m c (t.val - 1)) (h2At m c (t.val - 1)) (accAt m c (t.val - 1)) Dg Du Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          iexists _; iexists _
          isplitr
          swap
          · isplitl [HS4]; · iexact HS4
            iexact HS5
          ipureintro
          exact carry_next m c t hz _ _ hcar _ _ (by rw [gAt_eq, h2At_odd m c _ h0]) (by rw [uAt_eq, h2At_odd m c _ h0])
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · rw [show (dats m 0 c).leavesExact 15 t = owns (c : Thread nD τ) (ms15 t) fullShare ((dats m 0 c).after 15 t) from by unfold Dat.leavesExact; rw [live15 t h0]; try rfl, after_15, outAt_eq]
      have hz : t.val ≠ 0 := fun hz => by rw [hz] at h0 h1; simp at h0 h1
      rw [PhiS_pos m c _ _ hz]
      unfold PhiN
      iintro ⟨⟨⟨HS0, HS1, HS2, HS3, ⟨%Dg, %Du, %hcar, HS4, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      rw [accAt_odd m c _ h0, accP_next m c t h1 Dg Du hcar, gAt_eq, uAt_eq, x1At_odd m c _ h0, h2At_odd m c _ h0]
      iapply (runD c (grid0.coords t) _ _ _ _ _ _ _ _ _ _ _ _ _ _ _ _ _ _ _ _ _ _ _ _ _ _ _ _ _ _ _ _ _ _ _ _ _ _ _ _ _ _ _ _ _ _ _ _ (fun h => by have := (cond1 (grid0.coords t 2).isLt).mp h; rw [c2_val] at this; omega) (fun h => h1 (by have := (cond2 _).mp h; rw [c1_val] at this; exact this)) ((cond3 _).mpr (by rw [c2_val]; exact h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (x1At m c (t.val - 1)) (h2At m c (t.val - 1)) (accAt m c (t.val - 1)) Dg Du Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          iexists _; iexists _
          isplitr
          swap
          · isplitl [HS4]; · iexact HS4
            iexact HS5
          ipureintro
          exact carry_next m c t hz _ _ hcar _ _ (by rw [gAt_eq, h2At_odd m c _ h0]) (by rw [uAt_eq, h2At_odd m c _ h0])
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17

/-- The body table's row at a point is the body. -/
theorem defs₀_row (t : Fin cfg0.N) :
    defs₀ (F := F) .tc cfg0.body (cfg0.bodyArgs t (cfg0.slots t)) = bodyAt t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from by dsimp only [dats]; rfl]
  exact PhiS_any m c _ _

/-! ## The host operations around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers the operations before and after the call write, in order. -/
abbrev hostOps0_W : List (Ref sig .tc) := [main_v0, main_v1, main_v2, main_v3, main_v4, main_v5, main_v6, main_v7, main_v8, main_v9]
abbrev hostOps1_W : List (Ref sig .tc) := [main_v11, main_v12, main_v13, main_v14, main_v15, main_v16]
theorem hostOps0_writes : (hostOps0 (F := F)).Forall fun op => op.writes ⊆ hostOps0_W.toFinset.image (Proc.devRef .tc) :=
  StableHlo.forall_writes_sub_of_map rfl
theorem hostOps1_writes : (hostOps1 (F := F)).Forall fun op => op.writes ⊆ hostOps1_W.toFinset.image (Proc.devRef .tc) :=
  StableHlo.forall_writes_sub_of_map rfl

theorem hsub1 : ∀ ops ∈ [hostOps1 (F := F)], ∀ op ∈ ops, op.bufs ⊆ Pipeline.tailRefs sig Pipeline.Prefetch.none spec0 := by
  intro ops ho op hop
  rw [List.mem_singleton] at ho; subst ho
  exact Pipeline.sub_tailRefs Pipeline.Prefetch.none spec0 op (List.forall_iff_forall_mem.mp hostOps1_sub op hop) fun k => k.elim0
theorem hfresh1 : ∀ ops ∈ [hostOps1 (F := F)], ∀ op ∈ ops, op.fresh = ∅ := by
  intro ops ho op hop
  rw [List.mem_singleton] at ho; subst ho
  exact List.forall_iff_forall_mem.mp hostOps1_fresh op hop
theorem hkeep1 : ∀ ops ∈ [hostOps1 (F := F)], ∀ op ∈ ops, ∀ w, Proc.devRef .tc (Pipeline.arrRef spec0 w) ∉ op.writes := by
  intro ops ho op hop w hw
  rw [List.mem_singleton] at ho; subst ho
  have h1 := List.forall_iff_forall_mem.mp (hostOps1_writes (F := F)) op hop hw
  have key : ∀ w, Proc.devRef (τ := τ) .tc (Pipeline.arrRef spec0 w) ∉ hostOps1_W.toFinset.image (Proc.devRef .tc) := by decide +kernel
  exact key w h1

/-! ## The run -/

/-- The buffers after the run. -/
def V1 (c : Dev nD) (b : Ref sig .tc) : Buf (Elt F) ((c : Thread nD τ).loc b) := Pipeline.afterTail₀ cfgs (dats m) 0 (V0 m) [hostOps1] c b

set_option backward.isDefEq.respectTransparency.types false in
/-- Every run of the program ends, its arrays at what the proof data say and its counters at zero. -/
theorem run_main : θ_run defs (onTc (τ := τ) (main (F := F))) (s₀ m ρ)
    (fun r => Pipeline.FramePost cfgs (dats m) 0 (V1 m) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := hsub1) (hfresh := hfresh1) (hkeep := hkeep1)
    (hmain := Pipeline.hmain_around cfgs 0 defs₀ Variants.none m main [hostOps0] [hostOps1] hostOps0_sub hostOps0_fresh main_chain)
    (hA := A_eq m) (hin := hin m) (hout := hout m)

end Cert.Kernel2Ideal.Hand

end
-- ==== Proof.FFin.lean ====
/-
  The output and feed-forward call: what a run leaves of the arguments, and its frame.
-/
module

public import proofs.«01_k».proof.Proof.FFrame

@[expose] public section

set_option maxRecDepth 16384

noncomputable section

namespace Cert.Kernel2Ideal.Hand

open Idealize.ShloMosaic Idealize.ShloMosaic.TcCoe Idealize.SL.Sem
open Cert.Kernel2Ideal.Gen

variable {F : FTy → Type} [FloatOps F]
variable (m : (ℓ : Loc nD τ sig) → Buf (Elt F) ℓ) (ρ : Dev nD → PrngReg)

/-- A buffer that no operation before the call writes holds what it held at first. -/
theorem V_keep (c : Dev nD) (b : Ref sig .tc) (h : Proc.devRef (τ := τ) .tc b ∉ hostOps0_W.toFinset.image (Proc.devRef .tc)) :
    V m c b = m ((c.tc : Thread nD τ).loc b) :=
  StableHlo.after_of_forall_not_mem (hostOps0 (F := F)) _ fun op hop hb => h (List.forall_iff_forall_mem.mp (hostOps0_writes (F := F)) op hop hb)

/-- A buffer that no operation around the call writes, and that is no window's array, is unchanged. -/
theorem V1_keep (c : Dev nD) (b : Ref sig .tc) (h0 : Proc.devRef (τ := τ) .tc b ∉ hostOps0_W.toFinset.image (Proc.devRef .tc))
    (h1 : Proc.devRef (τ := τ) .tc b ∉ hostOps1_W.toFinset.image (Proc.devRef .tc)) (hw : ∀ w, Pipeline.arrRef spec0 w ≠ b) :
    V1 m c b = m ((c.tc : Thread nD τ).loc b) := by
  refine (StableHlo.after_of_forall_not_mem ([hostOps1 (F := F)].flatten) _ fun op hop hb => ?_).trans ((Pipeline.withArrays_of_ne _ c _ _ b hw).trans (V_keep m c b h0))
  exact h1 (List.forall_iff_forall_mem.mp (hostOps1_writes (F := F)) op (by simpa using hop) hb)

/-- What a run leaves of the arguments. -/
theorem args_kept {r : PUnit × MemSt nD τ sig (Elt F)} (h : Pipeline.FramePost cfgs (dats m) 0 (V1 m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨((h c).1 0).trans (((dats m 0 c).arrAt_in 0 (by decide) cfg0.N).trans ((A_eq m c 0).trans (V_keep m c main_arg0 (by decide +kernel)))),
   ((h c).2 main_arg1 (Pipeline.mem_restRefs_of main_arg1 (by decide) (show ∀ w : Fin 18, (spec0 w).arr.view.ref ≠ main_arg1 from by decide))).trans (V1_keep m c main_arg1 (by decide +kernel) (by decide +kernel) (show ∀ w : Fin 18, (spec0 w).arr.view.ref ≠ main_arg1 from by decide)),
   ((h c).2 main_arg2 (Pipeline.mem_restRefs_of main_arg2 (by decide) (show ∀ w : Fin 18, (spec0 w).arr.view.ref ≠ main_arg2 from by decide))).trans (V1_keep m c main_arg2 (by decide +kernel) (by decide +kernel) (show ∀ w : Fin 18, (spec0 w).arr.view.ref ≠ main_arg2 from by decide)),
   ((h c).2 main_arg3 (Pipeline.mem_restRefs_of main_arg3 (by decide) (show ∀ w : Fin 18, (spec0 w).arr.view.ref ≠ main_arg3 from by decide))).trans (V1_keep m c main_arg3 (by decide +kernel) (by decide +kernel) (show ∀ w : Fin 18, (spec0 w).arr.view.ref ≠ main_arg3 from by decide)),
   ((h c).2 main_arg4 (Pipeline.mem_restRefs_of main_arg4 (by decide) (show ∀ w : Fin 18, (spec0 w).arr.view.ref ≠ main_arg4 from by decide))).trans (V1_keep m c main_arg4 (by decide +kernel) (by decide +kernel) (show ∀ w : Fin 18, (spec0 w).arr.view.ref ≠ main_arg4 from by decide)),
   ((h c).2 main_arg5 (Pipeline.mem_restRefs_of main_arg5 (by decide) (show ∀ w : Fin 18, (spec0 w).arr.view.ref ≠ main_arg5 from by decide))).trans (V1_keep m c main_arg5 (by decide +kernel) (by decide +kernel) (show ∀ w : Fin 18, (spec0 w).arr.view.ref ≠ main_arg5 from by decide)),
   ((h c).2 main_arg6 (Pipeline.mem_restRefs_of main_arg6 (by decide) (show ∀ w : Fin 18, (spec0 w).arr.view.ref ≠ main_arg6 from by decide))).trans (V1_keep m c main_arg6 (by decide +kernel) (by decide +kernel) (show ∀ w : Fin 18, (spec0 w).arr.view.ref ≠ main_arg6 from by decide)),
   ((h c).2 main_arg7 (Pipeline.mem_restRefs_of main_arg7 (by decide) (show ∀ w : Fin 18, (spec0 w).arr.view.ref ≠ main_arg7 from by decide))).trans (V1_keep m c main_arg7 (by decide +kernel) (by decide +kernel) (show ∀ w : Fin 18, (spec0 w).arr.view.ref ≠ main_arg7 from by decide)),
   ((h c).1 9).trans (((dats m 0 c).arrAt_in 9 (by decide) cfg0.N).trans ((A_eq m c 9).trans (V_keep m c main_arg8 (by decide +kernel)))),
   ((h c).2 main_arg9 (Pipeline.mem_restRefs_of main_arg9 (by decide) (show ∀ w : Fin 18, (spec0 w).arr.view.ref ≠ main_arg9 from by decide))).trans (V1_keep m c main_arg9 (by decide +kernel) (by decide +kernel) (show ∀ w : Fin 18, (spec0 w).arr.view.ref ≠ main_arg9 from by decide)),
   ((h c).2 main_arg10 (Pipeline.mem_restRefs_of main_arg10 (by decide) (show ∀ w : Fin 18, (spec0 w).arr.view.ref ≠ main_arg10 from by decide))).trans (V1_keep m c main_arg10 (by decide +kernel) (by decide +kernel) (show ∀ w : Fin 18, (spec0 w).arr.view.ref ≠ main_arg10 from by decide)),
   ((h c).2 main_arg11 (Pipeline.mem_restRefs_of main_arg11 (by decide) (show ∀ w : Fin 18, (spec0 w).arr.view.ref ≠ main_arg11 from by decide))).trans (V1_keep m c main_arg11 (by decide +kernel) (by decide +kernel) (show ∀ w : Fin 18, (spec0 w).arr.view.ref ≠ main_arg11 from by decide))⟩

/-- The frame: every run ends with the argument arrays unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => args_kept m h.1 c, h.2⟩) (run_main m ρ)

end Cert.Kernel2Ideal.Hand

end
-- ==== Proof.FSame.lean ====
/-
  The output and feed-forward call: the kernel at bit patterns and its ideal copy have the same text: their tables, bodies and host programs are equal,
  so the frame of the one is the frame of the other.
-/
module

public import proofs.«01_k».proof.Defs
public import proofs.«01_k».proof.Proof.Gen.Kernel2
public import proofs.«01_k».proof.Proof.Gen.Kernel2Ideal
public import proofs.«01_k».proof.Proof.FFin

@[expose] public section

set_option backward.isDefEq.respectTransparency.types false

noncomputable section

namespace Cert.Proof.Two

open Idealize.ShloMosaic Idealize.SL.Sem

set_option maxHeartbeats 20000000 in
/-- The two bodies are equal. -/
theorem defs₀_eq : Cert.Kernel2.defs₀ (F := Bits) = Cert.Kernel2Ideal.defs₀ (F := Bits) := by
  unfold Cert.Kernel2.defs₀ Cert.Kernel2Ideal.defs₀
  refine congrArg (Defs.onTc (nD := Cert.Kernel2.nD) (τ := Cert.Kernel2.τ) (sig := Cert.Kernel2.sig) (Val := Elt Bits) (Λ := Cert.Kernel2.Λ₀)) ?_
  funext l p
  match l with
  | ⟨0, _⟩ => exact rfl

set_option maxHeartbeats 20000000 in
/-- The two programs' definitions are equal. -/
theorem defs_eq : Cert.Kernel2.defs (F := Bits) = Cert.Kernel2Ideal.defs (F := Bits) := by
  unfold Cert.Kernel2.defs Cert.Kernel2Ideal.defs
  rw [defs₀_eq]; rfl

set_option maxHeartbeats 20000000 in
/-- The two host programs are equal, one operation after another. -/
theorem main_eq : Cert.Kernel2.main (F := Bits) = Cert.Kernel2Ideal.main (F := Bits) := by
  unfold Cert.Kernel2.main Cert.Kernel2Ideal.main
  funext c
  iterate 17 (refine congrArg₂ Bind.bind ?_ (funext fun _ => ?_); · exact rfl)
  exact rfl

set_option maxHeartbeats 20000000 in
/-- The kernel's frame, from the run over any float values. -/
theorem frame_kernel : Cert.quiescent_Kernel2 (hKernel2 := Cert.Kernel2.Gen.facts) := fun m ρ _ => by
  rw [defs_eq, main_eq]
  exact Cert.Kernel2Ideal.Hand.frame_any (F := Bits) m ρ

end Cert.Proof.Two

end
-- ==== Proof.FSpec.lean ====
/-
  The output and feed-forward call: the results both programs compute, as functions of the argument arrays.
-/
module

public import proofs.«01_k».proof.Kernel2Ideal
public import Idealize.ShloMosaic.Lib.Pointwise

@[expose] public section

noncomputable section

namespace Cert.Ffn

open Idealize.ShloMosaic
open Cert.Kernel2Ideal

/-- The argument arrays: the residual input, the three groups' normed outputs, the modulation, the output projection,
    the second norm's scale, the up projection, the convolution's taps and bias, the down projection, the last norm's scale. -/
structure Args where
  x : FVec Ideal S2x8192x1024 .f32
  fx : FVec Ideal S2x8192x256 .f32
  rg : FVec Ideal S2x8192x512 .f32
  ml : FVec Ideal S2x8192x256 .f32
  md : FVec Ideal S2x6144 .f32
  wo : FVec Ideal S1024x1024 .f32
  g2 : FVec Ideal S1024 .f32
  wu : FVec Ideal S1024x5632 .f32
  tw : FVec Ideal S3x5632 .f32
  tb : FVec Ideal S5632 .f32
  wd : FVec Ideal S2816x1024 .f32
  gf : FVec Ideal S1024 .f32

/-- A row divided by the root of its mean square. -/
def rmsn (z : Fin 1024 → EReal) (d : Fin 1024) : EReal :=
  z d * Ideal.rsqrt ((∑ x, z x * z x) * Ideal.ofBits .f32 0x3A800000#32 + Ideal.ofBits .f32 0x358637BD#32)

/-- The gated value of a convolved pair. -/
def gate (g u : EReal) : EReal := g * Ideal.div (1) (1 + Ideal.exp (-g)) * u

variable (A : Args) (b : Fin 2)

/-- The three groups, projected. -/
def mix (s : Fin 8192) (d : Fin 1024) : EReal :=
  (∑ k : Fin 256, A.fx (ix3 b s k) * A.wo (ix2 ⟨k.val, by omega⟩ d))
    + (∑ k : Fin 512, A.rg (ix3 b s k) * A.wo (ix2 ⟨256 + k.val, by omega⟩ d))
    + ∑ k : Fin 256, A.ml (ix3 b s k) * A.wo (ix2 ⟨768 + k.val, by omega⟩ d)

/-- The residual rows after the projection. -/
def x1 (s : Fin 8192) (d : Fin 1024) : EReal := A.x (ix3 b s d) + A.md (ix2 b ⟨2048 + d.val, by omega⟩) * mix A b s d

/-- The normed and modulated rows. -/
def h2 (s : Fin 8192) (d : Fin 1024) : EReal :=
  rmsn (x1 A b s) d * A.g2 (ix1 d) * (1 + A.md (ix2 b ⟨4096 + d.val, by omega⟩)) + A.md (ix2 b ⟨3072 + d.val, by omega⟩)

/-- The up projection. -/
def up (s : Fin 8192) (j : Fin 5632) : EReal := ∑ k : Fin 1024, h2 A b s k * A.wu (ix2 k j)

/-- The up projection with two zero rows before it. -/
def pad (n : ℕ) (j : Fin 5632) : EReal := if h : 2 ≤ n ∧ n < 8194 then up A b ⟨n - 2, by omega⟩ j else 0

/-- The causal convolution over three rows. -/
def conv (s : Fin 8192) (j : Fin 5632) : EReal :=
  A.tb (ix1 j) + pad A b s.val j * A.tw (ix2 0 j) + pad A b (s.val + 1) j * A.tw (ix2 1 j) + up A b s j * A.tw (ix2 2 j)

/-- The gated values. -/
def act (s : Fin 8192) (j : Fin 2816) : EReal := gate (conv A b s ⟨j.val, by omega⟩) (conv A b s ⟨2816 + j.val, by omega⟩)

/-- The down projection. -/
def down (s : Fin 8192) (d : Fin 1024) : EReal := ∑ j : Fin 2816, act A b s j * A.wd (ix2 j d)

/-- The residual rows after the feed-forward part. -/
def x2 (s : Fin 8192) (d : Fin 1024) : EReal := x1 A b s d + A.md (ix2 b ⟨5120 + d.val, by omega⟩) * down A b s d

/-- The first result: the rows, normed. -/
def out : FVec Ideal S2x8192x1024 .f32 := fun i => rmsn (x2 A (i 0) (i 1)) (i 2) * A.gf (ix1 (i 2))

/-- The second result: the last two rows of the up projection. -/
def last : FVec Ideal S2x2x5632 .f32 := fun i => up A (i 0) ⟨8190 + (i 1).val, by have : (i 1).val < 2 := (i 1).isLt; omega⟩ (i 2)

/-- Dividing by 1024 is multiplying by its reciprocal. -/
theorem div1024 (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee]
    rw [← EReal.coe_mul]; norm_num
  have h2 : Ideal.ofBits .f32 0x3A800000#32 = ((1 / 1024 : ℝ) : EReal) := by
    simp [Ideal.ofBits, Ideal.ieee]
    rw [← EReal.coe_mul]; norm_num
  rw [h1, h2, Ideal.div_coe (by norm_num)]

end Cert.Ffn

end
-- ==== Proof.FHost.lean ====
/-
  The output and feed-forward call: the blocks its body reads, as places of the argument arrays.
-/
module

public import proofs.«01_k».proof.Proof.FFin
public import proofs.«01_k».proof.Proof.FSpec
public import Idealize.ShloMosaic.Lib.Pipeline.Value

@[expose] public section

set_option maxRecDepth 16384

noncomputable section

namespace Cert.Kernel2Ideal.Hand

open Idealize.ShloMosaic Idealize.ShloMosaic.TcCoe
open Idealize.ShloMosaic.Pipeline (Dat Cfg Window)
open Cert.Kernel2Ideal.Gen Cert.Ffn

theorem toNat_word {n k : ℕ} (e : n = k) (h : k < 64) : (BitVec.ofNat 32 n).toNat = k := by
  rw [BitVec.toNat_ofNat, Nat.mod_eq_of_lt (by omega), e]
theorem toNat_word2 {n k : ℕ} (e : n = k) (h : k < 64) : (Scalar.addi 2#32 (BitVec.ofNat 32 n)).toNat = 2 + k := by
  show (2#32 + BitVec.ofNat 32 n).toNat = 2 + k
  rw [BitVec.toNat_add, BitVec.toNat_ofNat, BitVec.toNat_ofNat, e]
  omega

theorem N_lt (t : Fin cfg0.N) : t.val < 64 := lt_of_lt_of_eq t.isLt (show cfg0.N = 64 from N_0)

/-! ## The windows' places -/

theorem ix_0 (t : Fin cfg0.N) : (cfg0.win 0).index t = ![t.val / 32, t.val / 2 % 16, 0] := by
  have hN := N_lt t
  exact funext fun
    | 0 => toNat_word (c0_val t) (show t.val / 32 < 64 by omega)
    | 1 => toNat_word (c1_val t) (show t.val / 2 % 16 < 64 by omega)
    | 2 => rfl
theorem ix_1 (t : Fin cfg0.N) : (cfg0.win 1).index t = ![t.val / 32, t.val / 2 % 16, 0] := by
  have hN := N_lt t
  exact funext fun
    | 0 => toNat_word (c0_val t) (show t.val / 32 < 64 by omega)
    | 1 => toNat_word (c1_val t) (show t.val / 2 % 16 < 64 by omega)
    | 2 => rfl
theorem ix_2 (t : Fin cfg0.N) : (cfg0.win 2).index t = ![t.val / 32, t.val / 2 % 16, 0] := by
  have hN := N_lt t
  exact funext fun
    | 0 => toNat_word (c0_val t) (show t.val / 32 < 64 by omega)
    | 1 => toNat_word (c1_val t) (show t.val / 2 % 16 < 64 by omega)
    | 2 => rfl
theorem ix_3 (t : Fin cfg0.N) : (cfg0.win 3).index t = ![t.val / 32, t.val / 2 % 16, 0] := by
  have hN := N_lt t
  exact funext fun
    | 0 => toNat_word (c0_val t) (show t.val / 32 < 64 by omega)
    | 1 => toNat_word (c1_val t) (show t.val / 2 % 16 < 64 by omega)
    | 2 => rfl
theorem ix_4 (t : Fin cfg0.N) : (cfg0.win 4).index t = ![0, 0] := by
  have hN := N_lt t
  exact funext fun
    | 0 => rfl
    | 1 => rfl
theorem ix_5 (t : Fin cfg0.N) : (cfg0.win 5).index t = ![t.val / 32, 0, 0, 0] := by
  have hN := N_lt t
  exact funext fun
    | 0 => toNat_word (c0_val t) (show t.val / 32 < 64 by omega)
    | 1 => rfl
    | 2 => rfl
    | 3 => rfl
theorem ix_6 (t : Fin cfg0.N) : (cfg0.win 6).index t = ![0, 0] := by
  have hN := N_lt t
  exact funext fun
    | 0 => rfl
    | 1 => rfl
theorem ix_7 (t : Fin cfg0.N) : (cfg0.win 7).index t = ![0, t.val % 2] := by
  have hN := N_lt t
  exact funext fun
    | 0 => rfl
    | 1 => toNat_word (c2_val t) (show t.val % 2 < 64 by omega)
theorem ix_8 (t : Fin cfg0.N) : (cfg0.win 8).index t = ![0, 2 + t.val % 2] := by
  have hN := N_lt t
  exact funext fun
    | 0 => rfl
    | 1 => toNat_word2 (c2_val t) (show t.val % 2 < 64 by omega)
theorem ix_9 (t : Fin cfg0.N) : (cfg0.win 9).index t = ![0, t.val % 2] := by
  have hN := N_lt t
  exact funext fun
    | 0 => rfl
    | 1 => toNat_word (c2_val t) (show t.val % 2 < 64 by omega)
theorem ix_10 (t : Fin cfg0.N) : (cfg0.win 10).index t = ![0, 2 + t.val % 2] := by
  have hN := N_lt t
  exact funext fun
    | 0 => rfl
    | 1 => toNat_word2 (c2_val t) (show t.val % 2 < 64 by omega)
theorem ix_11 (t : Fin cfg0.N) : (cfg0.win 11).index t = ![0, t.val % 2] := by
  have hN := N_lt t
  exact funext fun
    | 0 => rfl
    | 1 => toNat_word (c2_val t) (show t.val % 2 < 64 by omega)
theorem ix_12 (t : Fin cfg0.N) : (cfg0.win 12).index t = ![0, 2 + t.val % 2] := by
  have hN := N_lt t
  exact funext fun
    | 0 => rfl
    | 1 => toNat_word2 (c2_val t) (show t.val % 2 < 64 by omega)
theorem ix_13 (t : Fin cfg0.N) : (cfg0.win 13).index t = ![t.val % 2, 0] := by
  have hN := N_lt t
  exact funext fun
    | 0 => toNat_word (c2_val t) (show t.val % 2 < 64 by omega)
    | 1 => rfl
theorem ix_14 (t : Fin cfg0.N) : (cfg0.win 14).index t = ![0, 0] := by
  have hN := N_lt t
  exact funext fun
    | 0 => rfl
    | 1 => rfl
theorem ix_15 (t : Fin cfg0.N) : (cfg0.win 15).index t = ![t.val / 32, t.val / 2 % 16, 0] := by
  have hN := N_lt t
  exact funext fun
    | 0 => toNat_word (c0_val t) (show t.val / 32 < 64 by omega)
    | 1 => toNat_word (c1_val t) (show t.val / 2 % 16 < 64 by omega)
    | 2 => rfl
theorem ix_16 (t : Fin cfg0.N) : (cfg0.win 16).index t = ![t.val / 32, t.val / 2 % 16, 0, t.val % 2] := by
  have hN := N_lt t
  exact funext fun
    | 0 => toNat_word (c0_val t) (show t.val / 32 < 64 by omega)
    | 1 => toNat_word (c1_val t) (show t.val / 2 % 16 < 64 by omega)
    | 2 => rfl
    | 3 => toNat_word (c2_val t) (show t.val % 2 < 64 by omega)
theorem ix_17 (t : Fin cfg0.N) : (cfg0.win 17).index t = ![t.val / 32, t.val / 2 % 16, 0, t.val % 2] := by
  have hN := N_lt t
  exact funext fun
    | 0 => toNat_word (c0_val t) (show t.val / 32 < 64 by omega)
    | 1 => toNat_word (c1_val t) (show t.val / 2 % 16 < 64 by omega)
    | 2 => rfl
    | 3 => toNat_word (c2_val t) (show t.val % 2 < 64 by omega)

/-- The batch entry, the row and the columns a position is at. -/
def bF (n : ℕ) : Fin 2 := ⟨n / 32 % 2, by omega⟩
def sF (n : ℕ) (r : Fin 512) : Fin 8192 := ⟨512 * (n / 2 % 16) + r.val, by omega⟩
def jF (n : ℕ) (j : Fin 1408) : Fin 2816 := ⟨1408 * (n % 2) + j.val, by omega⟩
def gF (n : ℕ) (j : Fin 1408) : Fin 5632 := ⟨1408 * (n % 2) + j.val, by omega⟩
def uF (n : ℕ) (j : Fin 1408) : Fin 5632 := ⟨2816 + (1408 * (n % 2) + j.val), by omega⟩

variable (m : (ℓ : Loc nD τ sig) → Buf (Elt Ideal) ℓ) (c : Dev nD)

/-- The argument arrays of core `c`. -/
def argsOf : Args where
  x := m ((c : Thread nD τ).loc main_arg0)
  fx := m ((c : Thread nD τ).loc main_arg1)
  rg := m ((c : Thread nD τ).loc main_arg2)
  ml := m ((c : Thread nD τ).loc main_arg3)
  md := m ((c : Thread nD τ).loc main_arg4)
  wo := m ((c : Thread nD τ).loc main_arg5)
  g2 := m ((c : Thread nD τ).loc main_arg6)
  wu := m ((c : Thread nD τ).loc main_arg7)
  tw := m ((c : Thread nD τ).loc main_arg8)
  tb := m ((c : Thread nD τ).loc main_arg9)
  wd := m ((c : Thread nD τ).loc main_arg10)
  gf := m ((c : Thread nD τ).loc main_arg11)

/-! ## What the host hands the call -/

theorem v0_eq : (V m c main_v0 : FVec Ideal S1024x1024 .bf16) = (argsOf m c).wo := by
  have e : (V m c main_v0 : FVec Ideal S1024x1024 .bf16) = truncf .bf16 (argsOf m c).wo bitsLt_bf16_f32 := by
    unfold V V0 hostOps0
    after_results
    rfl
  rw [e]
  rfl
theorem v2_eq : (V m c main_v2 : FVec Ideal S1024x5632 .bf16) = (argsOf m c).wu := by
  have e : (V m c main_v2 : FVec Ideal S1024x5632 .bf16) = truncf .bf16 (argsOf m c).wu bitsLt_bf16_f32 := by
    unfold V V0 hostOps0
    after_results
    rfl
  rw [e]
  rfl
theorem v4_eq : (V m c main_v4 : FVec Ideal S2816x1024 .bf16) = (argsOf m c).wd := by
  have e : (V m c main_v4 : FVec Ideal S2816x1024 .bf16) = truncf .bf16 (argsOf m c).wd bitsLt_bf16_f32 := by
    unfold V V0 hostOps0
    after_results
    rfl
  rw [e]
  rfl
theorem v5_eq : (V m c main_v5 : FVec Ideal S2x8192x256 .bf16) = (argsOf m c).fx := by
  have e : (V m c main_v5 : FVec Ideal S2x8192x256 .bf16) = truncf .bf16 (argsOf m c).fx bitsLt_bf16_f32 := by
    unfold V V0 hostOps0
    after_results
    rfl
  rw [e]
  rfl
theorem v6_eq : (V m c main_v6 : FVec Ideal S2x8192x512 .bf16) = (argsOf m c).rg := by
  have e : (V m c main_v6 : FVec Ideal S2x8192x512 .bf16) = truncf .bf16 (argsOf m c).rg bitsLt_bf16_f32 := by
    unfold V V0 hostOps0
    after_results
    rfl
  rw [e]
  rfl
theorem v7_eq : (V m c main_v7 : FVec Ideal S2x8192x256 .bf16) = (argsOf m c).ml := by
  have e : (V m c main_v7 : FVec Ideal S2x8192x256 .bf16) = truncf .bf16 (argsOf m c).ml bitsLt_bf16_f32 := by
    unfold V V0 hostOps0
    after_results
    rfl
  rw [e]
  rfl
theorem v1_at (d : Fin 1024) : (V m c main_v1 : FVec Ideal S1x1024 .f32) (ix2 0 d) = (argsOf m c).g2 (ix1 d) := by
  have e : (V m c main_v1 : FVec Ideal S1x1024 .f32) = shapeCast S1x1024 (argsOf m c).g2 shapeCasts_S1024_S1x1024 := by
    unfold V V0 hostOps0
    after_results
    rfl
  rw [e]
  pointwise
theorem v3_at (d : Fin 5632) : (V m c main_v3 : FVec Ideal S1x5632 .f32) (ix2 0 d) = (argsOf m c).tb (ix1 d) := by
  have e : (V m c main_v3 : FVec Ideal S1x5632 .f32) = shapeCast S1x5632 (argsOf m c).tb shapeCasts_S5632_S1x5632 := by
    unfold V V0 hostOps0
    after_results
    rfl
  rw [e]
  pointwise
theorem v9_at (d : Fin 1024) : (V m c main_v9 : FVec Ideal S1x1024 .f32) (ix2 0 d) = (argsOf m c).gf (ix1 d) := by
  have e : (V m c main_v9 : FVec Ideal S1x1024 .f32) = shapeCast S1x1024 (argsOf m c).gf shapeCasts_S1024_S1x1024 := by
    unfold V V0 hostOps0
    after_results
    rfl
  rw [e]
  pointwise
theorem v8_at (b : Fin 2) (k : Fin 6) (d : Fin 1024) :
    (V m c main_v8 : FVec Ideal S2x1x6x1024 .f32) (ix4 b 0 k d) = (argsOf m c).md (ix2 b ⟨1024 * k.val + d.val, by omega⟩) := by
  have e : (V m c main_v8 : FVec Ideal S2x1x6x1024 .f32) = shapeCast S2x1x6x1024 (argsOf m c).md shapeCasts_S2x6144_S2x1x6x1024 := by
    unfold V V0 hostOps0
    after_results
    rfl
  rw [e]
  pointwise
  exact congrArg (argsOf m c).md (congrArg (ix2 b) (Fin.ext (by show k.val * 1024 + d.val = 1024 * k.val + d.val; omega)))
theorem arg0_eq : (V m c main_arg0 : FVec Ideal S2x8192x1024 .f32) = (argsOf m c).x := V_keep m c main_arg0 (by decide +kernel)
theorem arg8_eq : (V m c main_arg8 : FVec Ideal S3x5632 .f32) = (argsOf m c).tw := V_keep m c main_arg8 (by decide +kernel)

/-! ## The blocks -/

theorem blk0_at (t : Fin cfg0.N) (r : Fin 512) (d : Fin 1024) : iblk m c 0 t (ix3 0 r d) = (argsOf m c).x (ix3 (bF t.val) (sF t.val r) d) := by
  have hN := N_lt t
  refine Eq.trans (congrArg (V m c main_arg0) (funext fun a => Fin.ext ((Window.rect_emb_val (cfg0.win 0) t _ a).trans ?_))) (congrFun (arg0_eq m c) (ix3 (bF t.val) (sF t.val r) d))
  rw [ix_0]
  match a with
  | ⟨0, _⟩ => show (t.val / 32) * 1 + 0 = t.val / 32 % 2; omega
  | ⟨1, _⟩ => show (t.val / 2 % 16) * 512 + r.val = 512 * (t.val / 2 % 16) + r.val; omega
  | ⟨2, _⟩ => show 0 * 1024 + d.val = d.val; omega
theorem blk1_at (t : Fin cfg0.N) (r : Fin 512) (d : Fin 256) : iblk m c 1 t (ix3 0 r d) = (argsOf m c).fx (ix3 (bF t.val) (sF t.val r) d) := by
  have hN := N_lt t
  refine Eq.trans (congrArg (V m c main_v5) (funext fun a => Fin.ext ((Window.rect_emb_val (cfg0.win 1) t _ a).trans ?_))) (congrFun (v5_eq m c) (ix3 (bF t.val) (sF t.val r) d))
  rw [ix_1]
  match a with
  | ⟨0, _⟩ => show (t.val / 32) * 1 + 0 = t.val / 32 % 2; omega
  | ⟨1, _⟩ => show (t.val / 2 % 16) * 512 + r.val = 512 * (t.val / 2 % 16) + r.val; omega
  | ⟨2, _⟩ => show 0 * 256 + d.val = d.val; omega
theorem blk2_at (t : Fin cfg0.N) (r : Fin 512) (d : Fin 512) : iblk m c 2 t (ix3 0 r d) = (argsOf m c).rg (ix3 (bF t.val) (sF t.val r) d) := by
  have hN := N_lt t
  refine Eq.trans (congrArg (V m c main_v6) (funext fun a => Fin.ext ((Window.rect_emb_val (cfg0.win 2) t _ a).trans ?_))) (congrFun (v6_eq m c) (ix3 (bF t.val) (sF t.val r) d))
  rw [ix_2]
  match a with
  | ⟨0, _⟩ => show (t.val / 32) * 1 + 0 = t.val / 32 % 2; omega
  | ⟨1, _⟩ => show (t.val / 2 % 16) * 512 + r.val = 512 * (t.val / 2 % 16) + r.val; omega
  | ⟨2, _⟩ => show 0 * 512 + d.val = d.val; omega
theorem blk3_at (t : Fin cfg0.N) (r : Fin 512) (d : Fin 256) : iblk m c 3 t (ix3 0 r d) = (argsOf m c).ml (ix3 (bF t.val) (sF t.val r) d) := by
  have hN := N_lt t
  refine Eq.trans (congrArg (V m c main_v7) (funext fun a => Fin.ext ((Window.rect_emb_val (cfg0.win 3) t _ a).trans ?_))) (congrFun (v7_eq m c) (ix3 (bF t.val) (sF t.val r) d))
  rw [ix_3]
  match a with
  | ⟨0, _⟩ => show (t.val / 32) * 1 + 0 = t.val / 32 % 2; omega
  | ⟨1, _⟩ => show (t.val / 2 % 16) * 512 + r.val = 512 * (t.val / 2 % 16) + r.val; omega
  | ⟨2, _⟩ => show 0 * 256 + d.val = d.val; omega
theorem blk4_at (t : Fin cfg0.N) (k d : Fin 1024) : iblk m c 4 t (ix2 k d) = (argsOf m c).wo (ix2 k d) := by
  have hN := N_lt t
  refine Eq.trans (congrArg (V m c main_v0) (funext fun a => Fin.ext ((Window.rect_emb_val (cfg0.win 4) t _ a).trans ?_))) (congrFun (v0_eq m c) (ix2 k d))
  rw [ix_4]
  match a with
  | ⟨0, _⟩ => show 0 * 1024 + k.val = k.val; omega
  | ⟨1, _⟩ => show 0 * 1024 + d.val = d.val; omega
theorem blk5_at (t : Fin cfg0.N) (k : Fin 6) (d : Fin 1024) : iblk m c 5 t (ix4 0 0 k d) = (argsOf m c).md (ix2 (bF t.val) ⟨1024 * k.val + d.val, by omega⟩) := by
  have hN := N_lt t
  refine Eq.trans (congrArg (V m c main_v8) (funext fun a => Fin.ext ((Window.rect_emb_val (cfg0.win 5) t _ a).trans ?_))) (v8_at m c (bF t.val) k d)
  rw [ix_5]
  match a with
  | ⟨0, _⟩ => show (t.val / 32) * 1 + 0 = t.val / 32 % 2; omega
  | ⟨1, _⟩ => show 0 * 1 + 0 = 0; omega
  | ⟨2, _⟩ => show 0 * 6 + k.val = k.val; omega
  | ⟨3, _⟩ => show 0 * 1024 + d.val = d.val; omega
theorem blk6_at (t : Fin cfg0.N) (d : Fin 1024) : iblk m c 6 t (ix2 0 d) = (argsOf m c).g2 (ix1 d) := by
  have hN := N_lt t
  refine Eq.trans (congrArg (V m c main_v1) (funext fun a => Fin.ext ((Window.rect_emb_val (cfg0.win 6) t _ a).trans ?_))) (v1_at m c d)
  rw [ix_6]
  match a with
  | ⟨0, _⟩ => show 0 * 1 + 0 = 0; omega
  | ⟨1, _⟩ => show 0 * 1024 + d.val = d.val; omega
theorem blk14_at (t : Fin cfg0.N) (d : Fin 1024) : iblk m c 14 t (ix2 0 d) = (argsOf m c).gf (ix1 d) := by
  have hN := N_lt t
  refine Eq.trans (congrArg (V m c main_v9) (funext fun a => Fin.ext ((Window.rect_emb_val (cfg0.win 14) t _ a).trans ?_))) (v9_at m c d)
  rw [ix_14]
  match a with
  | ⟨0, _⟩ => show 0 * 1 + 0 = 0; omega
  | ⟨1, _⟩ => show 0 * 1024 + d.val = d.val; omega
theorem blk7_at (t : Fin cfg0.N) (k : Fin 1024) (j : Fin 1408) : iblk m c 7 t (ix2 k j) = (argsOf m c).wu (ix2 k (gF t.val j)) := by
  have hN := N_lt t
  refine Eq.trans (congrArg (V m c main_v2) (funext fun a => Fin.ext ((Window.rect_emb_val (cfg0.win 7) t _ a).trans ?_))) (congrFun (v2_eq m c) (ix2 k (gF t.val j)))
  rw [ix_7]
  match a with
  | ⟨0, _⟩ => show 0 * 1024 + k.val = k.val; omega
  | ⟨1, _⟩ => show (t.val % 2) * 1408 + j.val = 1408 * (t.val % 2) + j.val; omega
theorem blk8_at (t : Fin cfg0.N) (k : Fin 1024) (j : Fin 1408) : iblk m c 8 t (ix2 k j) = (argsOf m c).wu (ix2 k (uF t.val j)) := by
  have hN := N_lt t
  refine Eq.trans (congrArg (V m c main_v2) (funext fun a => Fin.ext ((Window.rect_emb_val (cfg0.win 8) t _ a).trans ?_))) (congrFun (v2_eq m c) (ix2 k (uF t.val j)))
  rw [ix_8]
  match a with
  | ⟨0, _⟩ => show 0 * 1024 + k.val = k.val; omega
  | ⟨1, _⟩ => show (2 + t.val % 2) * 1408 + j.val = 2816 + (1408 * (t.val % 2) + j.val); omega
theorem blk9_at (t : Fin cfg0.N) (k : Fin 3) (j : Fin 1408) : iblk m c 9 t (ix2 k j) = (argsOf m c).tw (ix2 k (gF t.val j)) := by
  have hN := N_lt t
  refine Eq.trans (congrArg (V m c main_arg8) (funext fun a => Fin.ext ((Window.rect_emb_val (cfg0.win 9) t _ a).trans ?_))) (congrFun (arg8_eq m c) (ix2 k (gF t.val j)))
  rw [ix_9]
  match a with
  | ⟨0, _⟩ => show 0 * 3 + k.val = k.val; omega
  | ⟨1, _⟩ => show (t.val % 2) * 1408 + j.val = 1408 * (t.val % 2) + j.val; omega
theorem blk10_at (t : Fin cfg0.N) (k : Fin 3) (j : Fin 1408) : iblk m c 10 t (ix2 k j) = (argsOf m c).tw (ix2 k (uF t.val j)) := by
  have hN := N_lt t
  refine Eq.trans (congrArg (V m c main_arg8) (funext fun a => Fin.ext ((Window.rect_emb_val (cfg0.win 10) t _ a).trans ?_))) (congrFun (arg8_eq m c) (ix2 k (uF t.val j)))
  rw [ix_10]
  match a with
  | ⟨0, _⟩ => show 0 * 3 + k.val = k.val; omega
  | ⟨1, _⟩ => show (2 + t.val % 2) * 1408 + j.val = 2816 + (1408 * (t.val % 2) + j.val); omega
theorem blk11_at (t : Fin cfg0.N) (j : Fin 1408) : iblk m c 11 t (ix2 0 j) = (argsOf m c).tb (ix1 (gF t.val j)) := by
  have hN := N_lt t
  refine Eq.trans (congrArg (V m c main_v3) (funext fun a => Fin.ext ((Window.rect_emb_val (cfg0.win 11) t _ a).trans ?_))) (v3_at m c (gF t.val j))
  rw [ix_11]
  match a with
  | ⟨0, _⟩ => show 0 * 1 + 0 = 0; omega
  | ⟨1, _⟩ => show (t.val % 2) * 1408 + j.val = 1408 * (t.val % 2) + j.val; omega
theorem blk12_at (t : Fin cfg0.N) (j : Fin 1408) : iblk m c 12 t (ix2 0 j) = (argsOf m c).tb (ix1 (uF t.val j)) := by
  have hN := N_lt t
  refine Eq.trans (congrArg (V m c main_v3) (funext fun a => Fin.ext ((Window.rect_emb_val (cfg0.win 12) t _ a).trans ?_))) (v3_at m c (uF t.val j))
  rw [ix_12]
  match a with
  | ⟨0, _⟩ => show 0 * 1 + 0 = 0; omega
  | ⟨1, _⟩ => show (2 + t.val % 2) * 1408 + j.val = 2816 + (1408 * (t.val % 2) + j.val); omega
theorem blk13_at (t : Fin cfg0.N) (j : Fin 1408) (d : Fin 1024) : iblk m c 13 t (ix2 j d) = (argsOf m c).wd (ix2 (jF t.val j) d) := by
  have hN := N_lt t
  refine Eq.trans (congrArg (V m c main_v4) (funext fun a => Fin.ext ((Window.rect_emb_val (cfg0.win 13) t _ a).trans ?_))) (congrFun (v4_eq m c) (ix2 (jF t.val j) d))
  rw [ix_13]
  match a with
  | ⟨0, _⟩ => show (t.val % 2) * 1408 + j.val = 1408 * (t.val % 2) + j.val; omega
  | ⟨1, _⟩ => show 0 * 1024 + d.val = d.val; omega

end Cert.Kernel2Ideal.Hand

end
-- ==== Proof.FPay.lean ====
/-
  The output and feed-forward call: the body's arithmetic at the extended reals, read entry by entry.
-/
module

public import proofs.«01_k».proof.Proof.FState
public import proofs.«01_k».proof.Proof.FSpec

@[expose] public section

set_option maxRecDepth 16384

noncomputable section

namespace Cert.Kernel2Ideal.Hand

open Idealize.ShloMosaic Idealize.ShloMosaic.TcCoe
open Cert.Kernel2Ideal.Gen Cert.Ffn

theorem rowsP_at (n o : ℕ) (hh : ∀ a, (![o, 0] : Fin 2 → Nat) a + (![n, 1024] : Fin 2 → Nat) a ≤ S1024x1024.size a) (v : Vec Ideal S1024x1024 .bf16)
    (k : Fin n) (d : Fin 1024) : rowsP n o hh v (ix2 k d) = v (ix2 ⟨o + k.val, by have : o + n ≤ 1024 := hh 0; omega⟩ d) := by
  refine congrArg v (funext fun a => Fin.ext ?_)
  match a with
  | ⟨0, _⟩ => show o + 1 * k.val = o + k.val; omega
  | ⟨1, _⟩ => show 0 + 1 * d.val = d.val; omega

variable (x : Vec Ideal S1x512x1024 .f32) (fx : Vec Ideal S1x512x256 .bf16) (rg : Vec Ideal S1x512x512 .bf16) (ml : Vec Ideal S1x512x256 .bf16)
    (wo : Vec Ideal S1024x1024 .bf16) (md : Vec Ideal S1x1x6x1024 .f32) (g2 : Vec Ideal S1x1024 .f32)

/-- The residual rows of a tile. -/
def x1T (r : Fin 512) (d : Fin 1024) : EReal :=
  x (ix3 0 r d) + md (ix4 0 0 2 d) * ((∑ k : Fin 256, fx (ix3 0 r k) * wo (ix2 ⟨k.val, by omega⟩ d))
    + (∑ k : Fin 512, rg (ix3 0 r k) * wo (ix2 ⟨256 + k.val, by omega⟩ d)) + ∑ k : Fin 256, ml (ix3 0 r k) * wo (ix2 ⟨768 + k.val, by omega⟩ d))

theorem pay3_at (r : Fin 512) (d : Fin 1024) :
    k0_pay3 (k0_pay6 md) fx (rowsP 256 0 (by decide) wo) rg (rowsP 512 256 (by decide) wo) ml (rowsP 256 768 (by decide) wo) x (ix2 r d)
      = x1T x fx rg ml wo md r d := by
  unfold x1T
  pointwise [k0_pay3, k0_pay6]
  simp only [rowsP_at, Nat.zero_add]

theorem x1F_at (r : Fin 512) (d : Fin 1024) : x1F x fx rg ml wo md (ix2 r d) = x1T x fx rg ml wo md r d := by
  rw [← pay3_at]
  unfold x1F
  pointwise [k0_pay4]

theorem h2F_at (r : Fin 512) (d : Fin 1024) : h2F x fx rg ml wo md g2 (ix2 r d)
    = rmsn (x1T x fx rg ml wo md r) d * g2 (ix2 0 d) * (1 + md (ix4 0 0 4 d)) + md (ix4 0 0 3 d) := by
  unfold h2F rmsn
  simp only [← pay3_at]
  pointwise [k0_pay7, k0_pay5, k0_pay6]

theorem pay11_at (h : Vec Ideal S512x1024 .bf16) (w : Vec Ideal S1024x1408 .bf16) (r : Fin 512) (j : Fin 1408) :
    k0_pay11 h w (ix2 r j) = ∑ k : Fin 1024, h (ix2 r k) * w (ix2 k j) := by
  pointwise [k0_pay11]
theorem pay12_at (h : Vec Ideal S512x1024 .bf16) (w : Vec Ideal S1024x1408 .bf16) (r : Fin 512) (j : Fin 1408) :
    k0_pay12 h w (ix2 r j) = ∑ k : Fin 1024, h (ix2 r k) * w (ix2 k j) := by
  pointwise [k0_pay12]

theorem pay9_at (i : Fin 8) (j : Fin 1408) : (k0_pay9 : FVec Ideal S1x8x1408 .f32) (ix3 0 i j) = 0 := by
  pointwise [k0_pay9]
theorem pay10_at (i : Fin 8) (j : Fin 1408) : (k0_pay10 : FVec Ideal S1x8x1408 .f32) (ix3 0 i j) = 0 := by
  pointwise [k0_pay10]
theorem pay8_at (r : Fin 512) (d : Fin 1024) : (k0_pay8 : FVec Ideal S512x1024 .f32) (ix2 r d) = 0 := by
  pointwise [k0_pay8]

theorem pay26_at (v : FVec Ideal S512x1408 .f32) (i : Fin 8) (j : Fin 1408) : k0_pay26 v (ix3 0 i j) = v (ix2 ⟨504 + i.val, by omega⟩ j) := by
  pointwise [k0_pay26, k0_pay24]
theorem pay27_at (v : FVec Ideal S512x1408 .f32) (i : Fin 8) (j : Fin 1408) : k0_pay27 v (ix3 0 i j) = v (ix2 ⟨504 + i.val, by omega⟩ j) := by
  pointwise [k0_pay27, k0_pay25]
theorem pay28_at (v : FVec Ideal S512x1408 .f32) (i : Fin 8) (j : Fin 1408) : k0_pay28 v (ix4 0 0 i j) = v (ix2 ⟨504 + i.val, by omega⟩ j) := by
  pointwise [k0_pay28, k0_pay24]
theorem pay29_at (v : FVec Ideal S512x1408 .f32) (i : Fin 8) (j : Fin 1408) : k0_pay29 v (ix4 0 0 i j) = v (ix2 ⟨504 + i.val, by omega⟩ j) := by
  pointwise [k0_pay29, k0_pay25]

/-- A tile's row `n` places after the first of the two rows before it: the carried rows, then the tile's own. -/
def rowT (cr : Vec Ideal S1x8x1408 .f32) (v : Vec Ideal S512x1408 .f32) (n : ℕ) (j : Fin 1408) : EReal :=
  if h : n < 2 then cr (ix3 0 ⟨6 + n, by omega⟩ j) else if h' : n - 2 < 512 then v (ix2 ⟨n - 2, h'⟩ j) else 0

theorem ext_at (p : Vec Ideal S8x1408 .f32) (v : Vec Ideal S512x1408 .f32) (n : Fin 520) (j : Fin 1408) :
    ext p v (ix2 n j) = if h : n.val < 8 then p (ix2 ⟨n.val, h⟩ j) else v (ix2 ⟨n.val - 8, by omega⟩ j) := by
  unfold ext
  show (if h : n.val < 8 then p (ix8 (ix2 n j) h) else v (ix512 (ix2 n j))) = _
  split
  · refine congrArg p (funext fun a => ?_)
    match a with
    | 0 => rfl
    | 1 => rfl
  · refine congrArg v (funext fun a => ?_)
    match a with
    | 0 => rfl
    | 1 => rfl

theorem win_at (o : ℕ) (hh : ∀ a, (![o, 0] : Fin 2 → Nat) a + S512x1408.size a ≤ S520x1408.size a) (v : Vec Ideal S520x1408 .f32) (r : Fin 512) (j : Fin 1408) :
    win o hh v (ix2 r j) = v (ix2 ⟨o + r.val, by have : o + 512 ≤ 520 := hh 0; omega⟩ j) := by
  refine congrArg v (funext fun a => Fin.ext ?_)
  match a with
  | ⟨0, _⟩ => show o + 1 * r.val = o + r.val; omega
  | ⟨1, _⟩ => show 0 + 1 * j.val = j.val; omega

theorem winG_at (o : ℕ) (ho : o < 2) (hh : ∀ a, (![6 + o, 0] : Fin 2 → Nat) a + S512x1408.size a ≤ S520x1408.size a) (cr : Vec Ideal S1x8x1408 .f32)
    (v : Vec Ideal S512x1408 .f32) (r : Fin 512) (j : Fin 1408) :
    win (6 + o) hh (ext (k0_pay17 (k0_pay13 cr)) (k0_pay18 (F := Ideal) v)) (ix2 r j) = rowT cr v (o + r.val) j := by
  rw [win_at, ext_at]
  unfold rowT
  by_cases h : o + r.val < 2
  · rw [dif_pos h, dif_pos (by show 6 + o + r.val < 8; omega)]
    pointwise [k0_pay17, k0_pay13]
    exact congrArg cr (congrArg (fun z : Fin 8 => ix3 0 z j) (Fin.ext (by show 6 + o + r.val = 6 + (o + r.val); omega)))
  · rw [dif_neg h, dif_neg (by show ¬ 6 + o + r.val < 8; omega), dif_pos (by omega)]
    pointwise [k0_pay18]
    exact congrArg v (congrArg (fun z : Fin 512 => ix2 z j) (Fin.ext (by show 6 + o + r.val - 8 = o + r.val - 2; omega)))

theorem winU_at (o : ℕ) (ho : o < 2) (hh : ∀ a, (![6 + o, 0] : Fin 2 → Nat) a + S512x1408.size a ≤ S520x1408.size a) (cr : Vec Ideal S1x8x1408 .f32)
    (v : Vec Ideal S512x1408 .f32) (r : Fin 512) (j : Fin 1408) :
    win (6 + o) hh (ext (k0_pay20 (k0_pay14 cr)) (k0_pay21 (F := Ideal) v)) (ix2 r j) = rowT cr v (o + r.val) j := winG_at o ho hh cr v r j

/-- A tile's convolution. -/
def convT (cr : Vec Ideal S1x8x1408 .f32) (v : Vec Ideal S512x1408 .f32) (tw : Vec Ideal S3x1408 .f32) (tb : Vec Ideal S1x1408 .f32) (r : Fin 512) (j : Fin 1408) : EReal :=
  tb (ix2 0 j) + rowT cr v r.val j * tw (ix2 0 j) + rowT cr v (r.val + 1) j * tw (ix2 1 j) + v (ix2 r j) * tw (ix2 2 j)

theorem pay19_at (v : Vec Ideal S512x1408 .f32) (tw : Vec Ideal S3x1408 .f32) (tb : Vec Ideal S1x1408 .f32) (p q : Vec Ideal S512x1408 .f32) (r : Fin 512) (j : Fin 1408) :
    k0_pay19 v tw (k0_pay15 tb) p q (ix2 r j) = tb (ix2 0 j) + p (ix2 r j) * tw (ix2 0 j) + q (ix2 r j) * tw (ix2 1 j) + v (ix2 r j) * tw (ix2 2 j) := by
  pointwise [k0_pay19, k0_pay15]

theorem pay30_at (u g p : FVec Ideal S512x1408 .f32) (tw : Vec Ideal S3x1408 .f32) (acc : Vec Ideal S512x1024 .f32) (wd : Vec Ideal S1408x1024 .bf16) (r : Fin 512) (d : Fin 1024) :
    k0_pay1 (k0_pay30 u g p (k0_pay23 tw) acc wd) (ix2 r d)
      = acc (ix2 r d) + ∑ j : Fin 1408, gate (g (ix2 r j)) (p (ix2 r j) + u (ix2 r j) * tw (ix2 2 j)) * wd (ix2 j d) := by
  unfold gate
  simp only [← zero_sub]
  pointwise [k0_pay1, k0_pay30, k0_pay23]

theorem pay22_at (tw : Vec Ideal S3x1408 .f32) (tb : Vec Ideal S1x1408 .f32) (p q : Vec Ideal S512x1408 .f32) (r : Fin 512) (j : Fin 1408) :
    k0_pay22 tw (k0_pay16 tb) p q (ix2 r j) = tb (ix2 0 j) + p (ix2 r j) * tw (ix2 0 j) + q (ix2 r j) * tw (ix2 1 j) := by
  pointwise [k0_pay22, k0_pay16]

/-- A half's contribution to the down projection. -/
theorem accF_at (h : Vec Ideal S512x1024 .bf16) (wg wu : Vec Ideal S1024x1408 .bf16) (cg cu : Vec Ideal S1x8x1408 .f32) (tg tu : Vec Ideal S3x1408 .f32)
    (bg bu : Vec Ideal S1x1408 .f32) (wd : Vec Ideal S1408x1024 .bf16) (acc : Vec Ideal S512x1024 .f32) (r : Fin 512) (d : Fin 1024) :
    accF h wg wu cg cu tg tu bg bu wd acc (ix2 r d)
      = acc (ix2 r d) + ∑ j : Fin 1408, gate (convT cg (k0_pay11 h wg) tg bg r j) (convT cu (k0_pay12 h wu) tu bu r j) * wd (ix2 j d) := by
  unfold accF
  rw [pay30_at]
  refine congrArg (acc (ix2 r d) + ·) (Finset.sum_congr rfl fun j _ => ?_)
  rw [pay19_at, pay22_at]
  rw [winG_at 0 (by decide), winG_at 1 (by decide), winU_at 0 (by decide), winU_at 1 (by decide)]
  unfold convT
  simp only [Nat.zero_add, Nat.add_comm 1]

/-- The block a tile's last point writes out. -/
theorem pay2_at (x1 acc : Vec Ideal S512x1024 .f32) (gf : Vec Ideal S1x1024 .f32) (r : Fin 512) (d : Fin 1024) :
    k0_pay2 (k0_pay6 md) x1 acc gf (ix3 0 r d) = rmsn (fun d => x1 (ix2 r d) + md (ix4 0 0 5 d) * acc (ix2 r d)) d * gf (ix2 0 d) := by
  unfold rmsn
  pointwise [k0_pay2, k0_pay6]

end Cert.Kernel2Ideal.Hand

end
-- ==== Proof.FValue.lean ====
/-
  The output and feed-forward call: what its points leave, as places of the specification.
-/
module

public import proofs.«01_k».proof.Proof.FHost
public import proofs.«01_k».proof.Proof.FPay

@[expose] public section

set_option maxRecDepth 16384

noncomputable section

namespace Cert.Kernel2Ideal.Hand

open Idealize.ShloMosaic Idealize.ShloMosaic.TcCoe
open Idealize.ShloMosaic.Pipeline (Dat Cfg Window)
open Cert.Kernel2Ideal.Gen Cert.Ffn

theorem pt_small {n : ℕ} (h : n < 64) : (pt n : Fin cfg0.N).val = n := Nat.mod_eq_of_lt h
theorem bF_even (n : ℕ) : bF (n - n % 2) = bF n := Fin.ext (by show (n - n % 2) / 32 % 2 = n / 32 % 2; omega)
theorem sF_even (n : ℕ) (r : Fin 512) : sF (n - n % 2) r = sF n r :=
  Fin.ext (by show 512 * ((n - n % 2) / 2 % 16) + r.val = 512 * (n / 2 % 16) + r.val; omega)

variable (m : (ℓ : Loc nD τ sig) → Buf (Elt Ideal) ℓ) (c : Dev nD)

theorem x1T_at (t : Fin cfg0.N) (r : Fin 512) (d : Fin 1024) :
    x1T (iblk m c 0 t) (iblk m c 1 t) (iblk m c 2 t) (iblk m c 3 t) (iblk m c 4 t) (iblk m c 5 t) r d = x1 (argsOf m c) (bF t.val) (sF t.val r) d := by
  unfold x1T x1 mix
  rw [blk0_at, blk5_at]
  simp only [blk1_at, blk2_at, blk3_at, blk4_at]
  rfl

theorem x1At_at (n : ℕ) (h : n < 64) (r : Fin 512) (d : Fin 1024) : x1At m c n (ix2 r d) = x1 (argsOf m c) (bF n) (sF n r) d := by
  unfold x1At
  rw [x1F_at, x1T_at, pt_small (by omega), bF_even, sF_even]

theorem h2At_at (n : ℕ) (h : n < 64) (r : Fin 512) (d : Fin 1024) : h2At m c n (ix2 r d) = h2 (argsOf m c) (bF n) (sF n r) d := by
  unfold h2At h2
  rw [h2F_at, blk6_at, blk5_at, blk5_at]
  rw [show x1T (iblk m c 0 (pt (n - n % 2))) (iblk m c 1 (pt (n - n % 2))) (iblk m c 2 (pt (n - n % 2))) (iblk m c 3 (pt (n - n % 2)))
      (iblk m c 4 (pt (n - n % 2))) (iblk m c 5 (pt (n - n % 2))) r = x1 (argsOf m c) (bF n) (sF n r) from
    funext fun d => by rw [x1T_at, pt_small (by omega), bF_even, sF_even]]
  rw [pt_small (by omega), bF_even]
  rfl

theorem gAt_at (n : ℕ) (h : n < 64) (r : Fin 512) (j : Fin 1408) : gAt m c n (ix2 r j) = up (argsOf m c) (bF n) (sF n r) (gF n j) := by
  unfold gAt up
  rw [pay11_at]
  simp only [blk7_at, h2At_at m c n h, pt_small h]
theorem uAt_at (n : ℕ) (h : n < 64) (r : Fin 512) (j : Fin 1408) : uAt m c n (ix2 r j) = up (argsOf m c) (bF n) (sF n r) (uF n j) := by
  unfold uAt up
  rw [pay12_at]
  simp only [blk8_at, h2At_at m c n h, pt_small h]

/-- A padded row of the specification that is one of the projection's. -/
theorem pad_row (A : Args) (b : Fin 2) (n : ℕ) (h : 2 ≤ n ∧ n < 8194) (s : Fin 8192) (e : s.val + 2 = n) (j : Fin 5632) : pad A b n j = up A b s j := by
  unfold Ffn.pad
  rw [dif_pos h, show (⟨n - 2, by omega⟩ : Fin 8192) = s from Fin.ext (by show n - 2 = s.val; omega)]
theorem pad_zero (A : Args) (b : Fin 2) (n : ℕ) (h : n < 2) (j : Fin 5632) : pad A b n j = 0 := by
  unfold Ffn.pad
  rw [dif_neg (by omega)]

theorem rowG_at (n : ℕ) (h : n < 64) (k : ℕ) (hk : k < 514) (j : Fin 1408) :
    rowT (cgAt m c n) (gAt m c n) k j = pad (argsOf m c) (bF n) (512 * (n / 2 % 16) + k) (gF n j) := by
  unfold rowT
  split
  · unfold cgAt
    split
    · rw [pay9_at, pad_zero _ _ _ (by omega)]
    · rw [pay26_at, gAt_at m c (n - 2) (by omega), show bF (n - 2) = bF n from Fin.ext (by show (n - 2) / 32 % 2 = n / 32 % 2; omega),
        show gF (n - 2) j = gF n j from Fin.ext (by show 1408 * ((n - 2) % 2) + j.val = 1408 * (n % 2) + j.val; omega)]
      exact (pad_row _ _ _ (by omega) _ (by show 512 * ((n - 2) / 2 % 16) + (504 + (6 + k)) + 2 = _; omega) _).symm
  · rw [dif_pos (by omega), gAt_at m c n h]
    exact (pad_row _ _ _ (by omega) _ (by show 512 * (n / 2 % 16) + (k - 2) + 2 = _; omega) _).symm
theorem rowU_at (n : ℕ) (h : n < 64) (k : ℕ) (hk : k < 514) (j : Fin 1408) :
    rowT (cuAt m c n) (uAt m c n) k j = pad (argsOf m c) (bF n) (512 * (n / 2 % 16) + k) (uF n j) := by
  unfold rowT
  split
  · unfold cuAt
    split
    · rw [pay10_at, pad_zero _ _ _ (by omega)]
    · rw [pay27_at, uAt_at m c (n - 2) (by omega), show bF (n - 2) = bF n from Fin.ext (by show (n - 2) / 32 % 2 = n / 32 % 2; omega),
        show uF (n - 2) j = uF n j from Fin.ext (by show 2816 + (1408 * ((n - 2) % 2) + j.val) = 2816 + (1408 * (n % 2) + j.val); omega)]
      exact (pad_row _ _ _ (by omega) _ (by show 512 * ((n - 2) / 2 % 16) + (504 + (6 + k)) + 2 = _; omega) _).symm
  · rw [dif_pos (by omega), uAt_at m c n h]
    exact (pad_row _ _ _ (by omega) _ (by show 512 * (n / 2 % 16) + (k - 2) + 2 = _; omega) _).symm

theorem convG_at (n : ℕ) (h : n < 64) (r : Fin 512) (j : Fin 1408) :
    convT (cgAt m c n) (gAt m c n) (iblk m c 9 (pt n)) (iblk m c 11 (pt n)) r j = conv (argsOf m c) (bF n) (sF n r) (gF n j) := by
  unfold convT conv
  rw [rowG_at m c n h _ (by omega), rowG_at m c n h _ (by omega), gAt_at m c n h, blk11_at, blk9_at, blk9_at, blk9_at, pt_small h]
  rfl
theorem convU_at (n : ℕ) (h : n < 64) (r : Fin 512) (j : Fin 1408) :
    convT (cuAt m c n) (uAt m c n) (iblk m c 10 (pt n)) (iblk m c 12 (pt n)) r j = conv (argsOf m c) (bF n) (sF n r) (uF n j) := by
  unfold convT conv
  rw [rowU_at m c n h _ (by omega), rowU_at m c n h _ (by omega), uAt_at m c n h, blk12_at, blk10_at, blk10_at, blk10_at, pt_small h]
  rfl

theorem accP_at (n : ℕ) (h : n < 64) (a : Vec Ideal S512x1024 .f32) (r : Fin 512) (d : Fin 1024) :
    accP m c n a (ix2 r d) = a (ix2 r d) + ∑ j : Fin 1408, act (argsOf m c) (bF n) (sF n r) (jF n j) * (argsOf m c).wd (ix2 (jF n j) d) := by
  unfold accP
  rw [accF_at]
  refine congrArg (a (ix2 r d) + ·) (Finset.sum_congr rfl fun j _ => ?_)
  rw [blk13_at, pt_small h]
  refine congrArg (· * (argsOf m c).wd (ix2 (jF n j) d)) ?_
  exact congrArg₂ gate (convG_at m c n h r j) (convU_at m c n h r j)

theorem accAt_at (n : ℕ) (h : n < 64) (ho : n % 2 = 1) (r : Fin 512) (d : Fin 1024) :
    accAt m c n (ix2 r d) = down (argsOf m c) (bF n) (sF n r) d := by
  rw [accAt_odd m c n ho, accAt_even m c (n - 1) (by omega), accP_at m c n h, accP_at m c (n - 1) (by omega), pay8_at, zero_add,
    show bF (n - 1) = bF n from Fin.ext (by show (n - 1) / 32 % 2 = n / 32 % 2; omega),
    show sF (n - 1) r = sF n r from Fin.ext (by show 512 * ((n - 1) / 2 % 16) + r.val = 512 * (n / 2 % 16) + r.val; omega)]
  unfold down
  refine Eq.trans ?_ (Fin.sum_univ_add (a := 1408) (b := 1408) fun j : Fin 2816 => act (argsOf m c) (bF n) (sF n r) j * (argsOf m c).wd (ix2 j d)).symm
  refine congrArg₂ (· + ·) (Finset.sum_congr rfl fun j _ => ?_) (Finset.sum_congr rfl fun j _ => ?_)
  · rw [show jF (n - 1) j = Fin.castAdd 1408 j from Fin.ext (by show 1408 * ((n - 1) % 2) + j.val = j.val; omega)]
  · rw [show jF n j = Fin.natAdd 1408 j from Fin.ext (by show 1408 * (n % 2) + j.val = 1408 + j.val; omega)]

theorem outAt_at (n : ℕ) (h : n < 64) (ho : n % 2 = 1) (r : Fin 512) (d : Fin 1024) :
    outAt m c n (ix3 0 r d) = out (argsOf m c) (ix3 (bF n) (sF n r) d) := by
  unfold outAt
  rw [pay2_at, blk14_at]
  simp only [x1At_at m c n h, accAt_at m c n h ho, blk5_at, pt_small h]
  rfl

/-! ## The three result arrays -/

theorem flush15 (t : Fin cfg0.N) (h : t.val % 2 = 1) : (cfg0.win 15).flush t = true := by
  have key : ∀ t : Fin cfg0.N, t.val % 2 = 1 → (cfg0.win 15).flush t = true := by decide +kernel
  exact key t h
theorem flush16 (t : Fin cfg0.N) : (cfg0.win 16).flush t = true := by
  have key : ∀ t : Fin cfg0.N, (cfg0.win 16).flush t = true := by decide +kernel
  exact key t
theorem flush17 (t : Fin cfg0.N) : (cfg0.win 17).flush t = true := by
  have key : ∀ t : Fin cfg0.N, (cfg0.win 17).flush t = true := by decide +kernel
  exact key t

/-- The last eight rows of every tile of the two projections. -/
def tailG (A : Args) : FVec Ideal S2x16x8x2816 .f32 := fun i =>
  up A (i 0) ⟨512 * (i 1).val + 504 + (i 2).val, by have h1 : (i 1).val < 16 := (i 1).isLt; have h2 : (i 2).val < 8 := (i 2).isLt; omega⟩
    ⟨(i 3).val, by have h1 : (i 3).val < 2816 := (i 3).isLt; omega⟩
def tailU (A : Args) : FVec Ideal S2x16x8x2816 .f32 := fun i =>
  up A (i 0) ⟨512 * (i 1).val + 504 + (i 2).val, by have h1 : (i 1).val < 16 := (i 1).isLt; have h2 : (i 2).val < 8 := (i 2).isLt; omega⟩
    ⟨2816 + (i 3).val, by have h1 : (i 3).val < 2816 := (i 3).isLt; omega⟩

theorem emb15 (t : Fin cfg0.N) (r : Fin 512) (d : Fin 1024) : ((cfg0.win 15).blk t).view.emb (ix3 0 r d : S1x512x1024.Idx) = (ix3 (bF t.val) (sF t.val r) d : S2x8192x1024.Idx) := by
  have hN := N_lt t
  refine funext fun a => Fin.ext ((Window.rect_emb_val (cfg0.win 15) t _ a).trans ?_)
  rw [ix_15]
  match a with
  | ⟨0, _⟩ => show (t.val / 32) * 1 + 0 = t.val / 32 % 2; omega
  | ⟨1, _⟩ => show (t.val / 2 % 16) * 512 + r.val = 512 * (t.val / 2 % 16) + r.val; omega
  | ⟨2, _⟩ => show 0 * 1024 + d.val = d.val; omega
def tF (n : ℕ) : Fin 16 := ⟨n / 2 % 16, by omega⟩
theorem emb16 (t : Fin cfg0.N) (i : Fin 8) (j : Fin 1408) : ((cfg0.win 16).blk t).view.emb (ix4 0 0 i j : S1x1x8x1408.Idx) = (ix4 (bF t.val) (tF t.val) i (jF t.val j) : S2x16x8x2816.Idx) := by
  have hN := N_lt t
  refine funext fun a => Fin.ext ((Window.rect_emb_val (cfg0.win 16) t _ a).trans ?_)
  rw [ix_16]
  match a with
  | ⟨0, _⟩ => show (t.val / 32) * 1 + 0 = t.val / 32 % 2; omega
  | ⟨1, _⟩ => show (t.val / 2 % 16) * 1 + 0 = t.val / 2 % 16; omega
  | ⟨2, _⟩ => show 0 * 8 + i.val = i.val; omega
  | ⟨3, _⟩ => show (t.val % 2) * 1408 + j.val = 1408 * (t.val % 2) + j.val; omega
theorem emb17 (t : Fin cfg0.N) (i : Fin 8) (j : Fin 1408) : ((cfg0.win 17).blk t).view.emb (ix4 0 0 i j : S1x1x8x1408.Idx) = (ix4 (bF t.val) (tF t.val) i (jF t.val j) : S2x16x8x2816.Idx) := by
  have hN := N_lt t
  refine funext fun a => Fin.ext ((Window.rect_emb_val (cfg0.win 17) t _ a).trans ?_)
  rw [ix_17]
  match a with
  | ⟨0, _⟩ => show (t.val / 32) * 1 + 0 = t.val / 32 % 2; omega
  | ⟨1, _⟩ => show (t.val / 2 % 16) * 1 + 0 = t.val / 2 % 16; omega
  | ⟨2, _⟩ => show 0 * 8 + i.val = i.val; omega
  | ⟨3, _⟩ => show (t.val % 2) * 1408 + j.val = 1408 * (t.val % 2) + j.val; omega

/-- The normed rows after the call. -/
theorem arr15 : (dats m 0 c).arrAt 15 cfg0.N = out (argsOf m c) := by
  refine (dats m 0 c).arrAt_eq_of_cover 15 _ (fun t hf => ?_) (fun i => ?_)
  · have ht : t.val % 2 = 1 := by
      by_contra hne
      rw [noFlush15 t (by omega)] at hf
      exact absurd hf (by decide)
    funext y
    obtain ⟨y0, r, e, rfl⟩ : ∃ y0 r e, y = (ix3 y0 r e : S1x512x1024.Idx) := ⟨y 0, y 1, y 2, by funext a; match a with | 0 => rfl | 1 => rfl | 2 => rfl⟩
    obtain rfl : y0 = 0 := Subsingleton.elim _ _
    show outAt m c t.val (ix3 0 r e) = out (argsOf m c) (((cfg0.win 15).blk t).view.emb (ix3 0 r e))
    rw [emb15, outAt_at m c t.val (N_lt t) ht]
  · obtain ⟨b, r, e, rfl⟩ : ∃ b r e, i = (ix3 b r e : S2x8192x1024.Idx) := ⟨i 0, i 1, i 2, by funext a; match a with | 0 => rfl | 1 => rfl | 2 => rfl⟩
    have hlt : 32 * b.val + 2 * (r.val / 512) + 1 < cfg0.N := lt_of_lt_of_eq (b := 64) (by omega) (show cfg0.N = 64 from N_0).symm
    refine ⟨⟨32 * b.val + 2 * (r.val / 512) + 1, hlt⟩, flush15 _ (by show (32 * b.val + 2 * (r.val / 512) + 1) % 2 = 1; omega), ?_⟩
    refine Finset.mem_map.2 ⟨(ix3 0 ⟨r.val % 512, by omega⟩ e : S1x512x1024.Idx), Finset.mem_univ _, ?_⟩
    refine (emb15 ⟨32 * b.val + 2 * (r.val / 512) + 1, hlt⟩ ⟨r.val % 512, by omega⟩ e).trans ?_
    refine funext fun a => Fin.ext ?_
    match a with
    | ⟨0, _⟩ => show (32 * b.val + 2 * (r.val / 512) + 1) / 32 % 2 = b.val; omega
    | ⟨1, _⟩ => show 512 * ((32 * b.val + 2 * (r.val / 512) + 1) / 2 % 16) + r.val % 512 = r.val; omega
    | ⟨2, _⟩ => rfl

/-- The last rows of the projections after the call. -/
theorem arr16 : (dats m 0 c).arrAt 16 cfg0.N = tailG (argsOf m c) := by
  refine (dats m 0 c).arrAt_eq_of_cover 16 _ (fun t hf => ?_) (fun i => ?_)
  · funext y
    obtain ⟨y0, y1, r, e, rfl⟩ : ∃ y0 y1 r e, y = (ix4 y0 y1 r e : S1x1x8x1408.Idx) := ⟨y 0, y 1, y 2, y 3, by funext a; match a with | 0 => rfl | 1 => rfl | 2 => rfl | 3 => rfl⟩
    obtain rfl : y0 = 0 := Subsingleton.elim _ _
    obtain rfl : y1 = 0 := Subsingleton.elim _ _
    show k0_pay28 (gAt m c t.val) (ix4 0 0 r e) = tailG (argsOf m c) (((cfg0.win 16).blk t).view.emb (ix4 0 0 r e))
    rw [emb16, pay28_at, gAt_at m c t.val (N_lt t)]
    exact congrArg₂ (up (argsOf m c) (bF t.val)) (Fin.ext (by show 512 * (t.val / 2 % 16) + (504 + r.val) = 512 * (t.val / 2 % 16) + 504 + r.val; omega)) (Fin.ext rfl)
  · obtain ⟨b, k, r, e, rfl⟩ : ∃ b k r e, i = (ix4 b k r e : S2x16x8x2816.Idx) := ⟨i 0, i 1, i 2, i 3, by funext a; match a with | 0 => rfl | 1 => rfl | 2 => rfl | 3 => rfl⟩
    have hlt : 32 * b.val + 2 * k.val + e.val / 1408 < cfg0.N := lt_of_lt_of_eq (b := 64) (by omega) (show cfg0.N = 64 from N_0).symm
    refine ⟨⟨32 * b.val + 2 * k.val + e.val / 1408, hlt⟩, flush16 _, ?_⟩
    refine Finset.mem_map.2 ⟨(ix4 0 0 r ⟨e.val % 1408, by omega⟩ : S1x1x8x1408.Idx), Finset.mem_univ _, ?_⟩
    refine (emb16 ⟨32 * b.val + 2 * k.val + e.val / 1408, hlt⟩ r ⟨e.val % 1408, by omega⟩).trans ?_
    refine funext fun a => Fin.ext ?_
    match a with
    | ⟨0, _⟩ => show (32 * b.val + 2 * k.val + e.val / 1408) / 32 % 2 = b.val; omega
    | ⟨1, _⟩ => show (32 * b.val + 2 * k.val + e.val / 1408) / 2 % 16 = k.val; omega
    | ⟨2, _⟩ => rfl
    | ⟨3, _⟩ => show 1408 * ((32 * b.val + 2 * k.val + e.val / 1408) % 2) + e.val % 1408 = e.val; omega
theorem arr17 : (dats m 0 c).arrAt 17 cfg0.N = tailU (argsOf m c) := by
  refine (dats m 0 c).arrAt_eq_of_cover 17 _ (fun t hf => ?_) (fun i => ?_)
  · funext y
    obtain ⟨y0, y1, r, e, rfl⟩ : ∃ y0 y1 r e, y = (ix4 y0 y1 r e : S1x1x8x1408.Idx) := ⟨y 0, y 1, y 2, y 3, by funext a; match a with | 0 => rfl | 1 => rfl | 2 => rfl | 3 => rfl⟩
    obtain rfl : y0 = 0 := Subsingleton.elim _ _
    obtain rfl : y1 = 0 := Subsingleton.elim _ _
    show k0_pay29 (uAt m c t.val) (ix4 0 0 r e) = tailU (argsOf m c) (((cfg0.win 17).blk t).view.emb (ix4 0 0 r e))
    rw [emb17, pay29_at, uAt_at m c t.val (N_lt t)]
    exact congrArg₂ (up (argsOf m c) (bF t.val)) (Fin.ext (by show 512 * (t.val / 2 % 16) + (504 + r.val) = 512 * (t.val / 2 % 16) + 504 + r.val; omega)) (Fin.ext rfl)
  · obtain ⟨b, k, r, e, rfl⟩ : ∃ b k r e, i = (ix4 b k r e : S2x16x8x2816.Idx) := ⟨i 0, i 1, i 2, i 3, by funext a; match a with | 0 => rfl | 1 => rfl | 2 => rfl | 3 => rfl⟩
    have hlt : 32 * b.val + 2 * k.val + e.val / 1408 < cfg0.N := lt_of_lt_of_eq (b := 64) (by omega) (show cfg0.N = 64 from N_0).symm
    refine ⟨⟨32 * b.val + 2 * k.val + e.val / 1408, hlt⟩, flush17 _, ?_⟩
    refine Finset.mem_map.2 ⟨(ix4 0 0 r ⟨e.val % 1408, by omega⟩ : S1x1x8x1408.Idx), Finset.mem_univ _, ?_⟩
    refine (emb17 ⟨32 * b.val + 2 * k.val + e.val / 1408, hlt⟩ r ⟨e.val % 1408, by omega⟩).trans ?_
    refine funext fun a => Fin.ext ?_
    match a with
    | ⟨0, _⟩ => show (32 * b.val + 2 * k.val + e.val / 1408) / 32 % 2 = b.val; omega
    | ⟨1, _⟩ => show (32 * b.val + 2 * k.val + e.val / 1408) / 2 % 16 = k.val; omega
    | ⟨2, _⟩ => rfl
    | ⟨3, _⟩ => show 1408 * ((32 * b.val + 2 * k.val + e.val / 1408) % 2) + e.val % 1408 = e.val; omega

/-! ## The second result -/

/-- What the host makes of the two projections' last rows. -/
def tailv (g u : FVec Ideal S2x16x8x2816 .f32) : FVec Ideal S2x2x5632 .f32 :=
  extractStridedSlice S2x2x5632 ![0, 6, 0] (concatenate S2x8x5632 2 [⟨S2x8x2816, shapeCast S2x8x2816 (extractStridedSlice S2x1x8x2816 ![0, 15, 0, 0] g slices_S2x16x8x2816_S2x1x8x2816_0_15_0_0) shapeCasts_S2x1x8x2816_S2x8x2816⟩, ⟨S2x8x2816, shapeCast S2x8x2816 (extractStridedSlice S2x1x8x2816 ![0, 15, 0, 0] u slices_S2x16x8x2816_S2x1x8x2816_0_15_0_0) shapeCasts_S2x1x8x2816_S2x8x2816⟩] concatenates_S2x8x2816_S2x8x2816_S2x8x5632_d2) slices_S2x8x5632_S2x2x5632_0_6_0

theorem tailv_at (g u : FVec Ideal S2x16x8x2816 .f32) (b : Fin 2) (i : Fin 2) (j : Fin 5632) :
    tailv g u (ix3 b i j) = if h : j.val < 2816 then g (ix4 b 15 ⟨6 + i.val, by omega⟩ ⟨j.val, h⟩) else u (ix4 b 15 ⟨6 + i.val, by omega⟩ ⟨j.val - 2816, by omega⟩) := by
  pointwise [tailv]
  done

theorem tail_eq (A : Args) : tailv (tailG A) (tailU A) = last A := by
  funext y
  obtain ⟨b, i, j, rfl⟩ : ∃ b i j, y = (ix3 b i j : S2x2x5632.Idx) := ⟨y 0, y 1, y 2, by funext a; match a with | 0 => rfl | 1 => rfl | 2 => rfl⟩
  rw [tailv_at]
  show _ = up A b ⟨8190 + i.val, by omega⟩ j
  split
  · exact congrArg₂ (up A b) (Fin.ext (by show 512 * 15 + 504 + (6 + i.val) = 8190 + i.val; omega)) (Fin.ext rfl)
  · exact congrArg₂ (up A b) (Fin.ext (by show 512 * 15 + 504 + (6 + i.val) = 8190 + i.val; omega)) (Fin.ext (by show 2816 + (j.val - 2816) = j.val; omega))

theorem v16_eq : (V1 m c main_v16 : FVec Ideal S2x2x5632 .f32) = last (argsOf m c) := by
  have e1 : (Pipeline.withArrays spec0 c (V0 m c) (fun w => (dats m 0 c).arrAt w cfg0.N) (Proc.devRef .tc main_v10_1) : FVec Ideal S2x16x8x2816 .f32) = tailG (argsOf m c) :=
    (Dat.withArrays_arrAt (dats m 0 c) sharedIn0 (V0 m c) (A_eq m c) 16).trans (arr16 m c)
  have e2 : (Pipeline.withArrays spec0 c (V0 m c) (fun w => (dats m 0 c).arrAt w cfg0.N) (Proc.devRef .tc main_v10_2) : FVec Ideal S2x16x8x2816 .f32) = tailU (argsOf m c) :=
    (Dat.withArrays_arrAt (dats m 0 c) sharedIn0 (V0 m c) (A_eq m c) 17).trans (arr17 m c)
  have e : (V1 m c main_v16 : FVec Ideal S2x2x5632 .f32)
      = tailv (Pipeline.withArrays spec0 c (V0 m c) (fun w => (dats m 0 c).arrAt w cfg0.N) (Proc.devRef .tc main_v10_1))
          (Pipeline.withArrays spec0 c (V0 m c) (fun w => (dats m 0 c).arrAt w cfg0.N) (Proc.devRef .tc main_v10_2)) := by
    show StableHlo.after [hostOps1].flatten (Pipeline.withArrays spec0 c (V0 m c) fun w => (dats m 0 c).arrAt w cfg0.N) (Proc.devRef .tc main_v16) = _
    simp only [List.flatten_cons, List.flatten_nil, List.append_nil, hostOps1]
    after_results
    rfl
  rw [e, e1, e2, tail_eq]

end Cert.Kernel2Ideal.Hand

end
-- ==== Proof.FRef.lean ====
/-
  The output and feed-forward call's reference, read entry by entry at the extended reals.
-/
module

public import proofs.«01_k».proof.Proof.FSpec
public import proofs.«01_k».proof.Proof.Gen.Reference2Ideal.Run

@[expose] public section

set_option maxRecDepth 16384

noncomputable section

namespace Cert.Reference2Ideal.Hand

open Idealize.ShloMosaic Idealize.ShloMosaic.TcCoe
open Cert.Reference2Ideal Cert.Reference2Ideal.Gen Cert.Reference2Ideal.Value Cert.Ffn

variable (V0 : Valuation τ sig (Elt Ideal))

/-- The argument arrays. -/
def argsOf : Args where
  x := V0 (Proc.devRef .tc main_arg0)
  fx := V0 (Proc.devRef .tc main_arg1)
  rg := V0 (Proc.devRef .tc main_arg2)
  ml := V0 (Proc.devRef .tc main_arg3)
  md := V0 (Proc.devRef .tc main_arg4)
  wo := V0 (Proc.devRef .tc main_arg5)
  g2 := V0 (Proc.devRef .tc main_arg6)
  wu := V0 (Proc.devRef .tc main_arg7)
  tw := V0 (Proc.devRef .tc main_arg8)
  tb := V0 (Proc.devRef .tc main_arg9)
  wd := V0 (Proc.devRef .tc main_arg10)
  gf := V0 (Proc.devRef .tc main_arg11)

/-- The residual rows, over any arrays. -/
def x1v (A : Args) : FVec Ideal S2x8192x1024 .f32 :=
  addf A.x (mulf (broadcastInDim S2x8192x1024 ![0, 1, 2] bcast_S2x1x1024_S2x8192x1024_0_1_2 (broadcastInDim S2x1x1024 ![0, 2] bcast_S2x1024_S2x1x1024_0_2 (extractStridedSlice S2x1024 ![0, 2048] A.md slices_S2x6144_S2x1024_0_2048))) (Host.dotGeneral dot_S2x8192x1024_S1024x1024_S2x8192x1024_2_0_01_1_n_n none (concatenate S2x8192x1024 2 [⟨S2x8192x256, A.fx⟩, ⟨S2x8192x512, A.rg⟩, ⟨S2x8192x256, A.ml⟩] concatenates_S2x8192x256_S2x8192x512_S2x8192x256_S2x8192x1024_d2) A.wo))

/-- The normed rows. -/
def nrm (z : FVec Ideal S2x8192x1024 .f32) : FVec Ideal S2x8192x1024 .f32 :=
  mulf z (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf z z) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))

/-- The up projection of the normed and modulated rows. -/
def upv (A : Args) (z : FVec Ideal S2x8192x1024 .f32) : FVec Ideal S2x8192x5632 .f32 :=
  Host.dotGeneral dot_S2x8192x1024_S1024x5632_S2x8192x5632_2_0_01_1_n_n none (addf (mulf (mulf (nrm z) (broadcastInDim S2x8192x1024 ![0, 1, 2] bcast_S1x1x1024_S2x8192x1024_0_1_2 (broadcastInDim S1x1x1024 ![2] bcast_S1024_S1x1x1024_2 A.g2))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] A.md slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] A.md slices_S2x6144_S2x1024_0_3072)))) A.wu

/-- Two zero rows, then the projection's. -/
def padv (u : FVec Ideal S2x8192x5632 .f32) : FVec Ideal S2x8194x5632 .f32 :=
  concatenate S2x8194x5632 1 [⟨S2x2x5632, (broadcastInDim S2x2x5632 ![] bcast_S_S2x2x5632 (constant S_ .f32 0x00000000#32) : FVec Ideal S2x2x5632 .f32)⟩, ⟨S2x8192x5632, u⟩] concatenates_S2x2x5632_S2x8192x5632_S2x8194x5632_d1

/-- The convolution over three rows. -/
def convv (A : Args) (p : FVec Ideal S2x8194x5632 .f32) : FVec Ideal S2x8192x5632 .f32 :=
  addf (addf (addf (broadcastInDim S2x8192x5632 ![0, 1, 2] bcast_S1x1x5632_S2x8192x5632_0_1_2 (broadcastInDim S1x1x5632 ![2] bcast_S5632_S1x1x5632_2 A.tb)) (mulf (extractStridedSlice S2x8192x5632 ![0, 0, 0] p slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast _ (extractStridedSlice S1x5632 ![0, 0] A.tw slices_S3x5632_S1x5632_0_0) shapeCasts_S1x5632_S5632))))) (mulf (extractStridedSlice S2x8192x5632 ![0, 1, 0] p slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast _ (extractStridedSlice S1x5632 ![1, 0] A.tw slices_S3x5632_S1x5632_1_0) shapeCasts_S1x5632_S5632))))) (mulf (extractStridedSlice S2x8192x5632 ![0, 2, 0] p slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast _ (extractStridedSlice S1x5632 ![2, 0] A.tw slices_S3x5632_S1x5632_2_0) shapeCasts_S1x5632_S5632))))

/-- The rows after the feed-forward part. -/
def x2v (A : Args) (z : FVec Ideal S2x8192x1024 .f32) (cv : FVec Ideal S2x8192x5632 .f32) : FVec Ideal S2x8192x1024 .f32 :=
  addf z (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] A.md slices_S2x6144_S2x1024_0_5120))) (Host.dotGeneral dot_S2x8192x2816_S2816x1024_S2x8192x1024_2_0_01_1_n_n none (mulf (mulf (extractStridedSlice S2x8192x2816 ![0, 0, 0] cv slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] cv slices_S2x8192x5632_S2x8192x2816_0_0_0)))))) (extractStridedSlice S2x8192x2816 ![0, 0, 2816] cv slices_S2x8192x5632_S2x8192x2816_0_0_2816)) A.wd))

/-- The last norm. -/
def outv (A : Args) (z : FVec Ideal S2x8192x1024 .f32) : FVec Ideal S2x8192x1024 .f32 :=
  mulf (nrm z) (broadcastInDim S2x8192x1024 ![0, 1, 2] bcast_S1x1x1024_S2x8192x1024_0_1_2 (broadcastInDim S1x1x1024 ![2] bcast_S1024_S1x1x1024_2 A.gf))

theorem v16_eq : res_main_v16 V0 = x1v (argsOf V0) := rfl
theorem v38_eq : res_main_v38 V0 = padv (upv (argsOf V0) (x1v (argsOf V0))) := rfl
theorem v61_eq : res_main_v61 V0 = convv (argsOf V0) (padv (upv (argsOf V0) (x1v (argsOf V0)))) := rfl
theorem v70_eq : res_main_v70 V0 = x2v (argsOf V0) (x1v (argsOf V0)) (convv (argsOf V0) (padv (upv (argsOf V0) (x1v (argsOf V0))))) := rfl

variable (A : Args)

/-- The three groups' outputs, joined. -/
def joined (b : Fin 2) (s : Fin 8192) (k : Fin 1024) : EReal :=
  if h : k.val < 256 then A.fx (ix3 b s ⟨k.val, h⟩)
  else if h : k.val - 256 < 512 then A.rg (ix3 b s ⟨k.val - 256, h⟩) else A.ml (ix3 b s ⟨k.val - 256 - 512, by omega⟩)

theorem joined_fx (b : Fin 2) (s : Fin 8192) (k : Fin 256) : joined A b s ⟨k.val, by omega⟩ = A.fx (ix3 b s k) := by
  unfold joined
  exact dif_pos k.isLt
theorem joined_rg (b : Fin 2) (s : Fin 8192) (k : Fin 512) : joined A b s ⟨256 + k.val, by omega⟩ = A.rg (ix3 b s k) := by
  unfold joined
  refine (dif_neg (by show ¬ 256 + k.val < 256; omega)).trans ((dif_pos (by show 256 + k.val - 256 < 512; omega)).trans ?_)
  exact congrArg (fun z => A.rg (ix3 b s z)) (Fin.ext (by show 256 + k.val - 256 = k.val; omega))
theorem joined_ml (b : Fin 2) (s : Fin 8192) (k : Fin 256) : joined A b s ⟨768 + k.val, by omega⟩ = A.ml (ix3 b s k) := by
  unfold joined
  refine (dif_neg (by show ¬ 768 + k.val < 256; omega)).trans ((dif_neg (by show ¬ 768 + k.val - 256 < 512; omega)).trans ?_)
  exact congrArg (fun z => A.ml (ix3 b s z)) (Fin.ext (by show 768 + k.val - 256 - 512 = k.val; omega))

theorem x1v_at (b : Fin 2) (s : Fin 8192) (d : Fin 1024) : x1v A (ix3 b s d) = x1 A b s d := by
  have e : x1v A (ix3 b s d) = A.x (ix3 b s d) + A.md (ix2 b ⟨2048 + d.val, by omega⟩) * ∑ k : Fin 1024, joined A b s k * A.wo (ix2 k d) := by
    unfold joined
    pointwise [x1v]
    done
  rw [e]
  unfold x1 mix
  refine congrArg (fun z => A.x (ix3 b s d) + A.md (ix2 b ⟨2048 + d.val, by omega⟩) * z) ?_
  refine (Fin.sum_univ_add (a := 768) (b := 256) fun k : Fin 1024 => joined A b s k * A.wo (ix2 k d)).trans ?_
  refine congrArg₂ (· + ·) ((Fin.sum_univ_add (a := 256) (b := 512) fun k : Fin 768 => joined A b s (Fin.castAdd 256 k) * A.wo (ix2 (Fin.castAdd 256 k) d)).trans ?_) ?_
  · exact congrArg₂ (· + ·) (Finset.sum_congr rfl fun k _ => congrArg (· * _) (joined_fx A b s k)) (Finset.sum_congr rfl fun k _ => congrArg (· * _) (joined_rg A b s k))
  · exact Finset.sum_congr rfl fun k _ => congrArg (· * _) (joined_ml A b s k)

theorem nrm_at (z : FVec Ideal S2x8192x1024 .f32) (b : Fin 2) (s : Fin 8192) (d : Fin 1024) : nrm z (ix3 b s d) = rmsn (fun d => z (ix3 b s d)) d := by
  unfold rmsn
  rw [← div1024]
  pointwise [nrm]
  done

theorem upv_at (z : FVec Ideal S2x8192x1024 .f32) (hz : ∀ b s d, z (ix3 b s d) = x1 A b s d) (b : Fin 2) (s : Fin 8192) (j : Fin 5632) : upv A z (ix3 b s j) = up A b s j := by
  have hn : ∀ k, nrm z (ix3 b s k) = rmsn (x1 A b s) k := fun k => (nrm_at z b s k).trans (congrArg (rmsn · k) (funext fun d => hz b s d))
  unfold up h2
  simp only [← hn]
  unfold upv
  generalize nrm z = y
  pointwise
  done

theorem padv_at (u : FVec Ideal S2x8192x5632 .f32) (hu : ∀ b s j, u (ix3 b s j) = up A b s j) (b : Fin 2) (n : Fin 8194) (j : Fin 5632) : padv u (ix3 b n j) = pad A b n.val j := by
  unfold Ffn.pad
  simp only [← hu]
  pointwise [padv]
  by_cases h : n.val < 2
  · rw [dif_pos h, dif_neg (by omega)]
  · rw [dif_neg h, dif_pos (by omega)]

theorem convv_at (p : FVec Ideal S2x8194x5632 .f32) (hp : ∀ b (n : Fin 8194) j, p (ix3 b n j) = pad A b n.val j) (b : Fin 2) (s : Fin 8192) (j : Fin 5632) :
    convv A p (ix3 b s j) = conv A b s j := by
  have e : convv A p (ix3 b s j) = A.tb (ix1 j) + p (ix3 b ⟨s.val, by omega⟩ j) * A.tw (ix2 0 j) + p (ix3 b ⟨1 + s.val, by omega⟩ j) * A.tw (ix2 1 j) + p (ix3 b ⟨2 + s.val, by omega⟩ j) * A.tw (ix2 2 j) := by
    pointwise [convv]
    done
  rw [e, hp, hp, hp]
  unfold conv
  have e2 : pad A b (2 + s.val) j = up A b s j := by
    unfold Ffn.pad
    rw [dif_pos (by omega)]
    exact congrArg (up A b · j) (Fin.ext (by show 2 + s.val - 2 = s.val; omega))
  rw [show (⟨2 + s.val, by omega⟩ : Fin 8194).val = 2 + s.val from rfl, e2, show (⟨1 + s.val, by omega⟩ : Fin 8194).val = s.val + 1 from Nat.add_comm _ _]

theorem x2v_at (z : FVec Ideal S2x8192x1024 .f32) (hz : ∀ b s d, z (ix3 b s d) = x1 A b s d) (cv : FVec Ideal S2x8192x5632 .f32) (hc : ∀ b s j, cv (ix3 b s j) = conv A b s j)
    (b : Fin 2) (s : Fin 8192) (d : Fin 1024) : x2v A z cv (ix3 b s d) = x2 A b s d := by
  unfold x2 down act gate
  simp only [← hz, ← hc]
  pointwise [x2v]
  done

theorem outv_at (z : FVec Ideal S2x8192x1024 .f32) (hz : ∀ b s d, z (ix3 b s d) = x2 A b s d) : outv A z = out A := by
  funext i
  obtain ⟨b, s, d, rfl⟩ : ∃ b s d, i = (ix3 b s d : S2x8192x1024.Idx) := ⟨i 0, i 1, i 2, by funext a; match a with | 0 => rfl | 1 => rfl | 2 => rfl⟩
  have hn : nrm z (ix3 b s d) = rmsn (x2 A b s) d := (nrm_at z b s d).trans (congrArg (rmsn · d) (funext fun d => hz b s d))
  show _ = rmsn (x2 A b s) d * A.gf (ix1 d)
  rw [← hn]
  unfold outv
  generalize nrm z = y
  pointwise
  done

theorem out_eq : outv (argsOf V0) (res_main_v70 V0) = out (argsOf V0) := by
  rw [v70_eq]
  exact outv_at _ _ (x2v_at _ _ (x1v_at _) _ (convv_at _ _ (padv_at _ _ (upv_at _ _ (x1v_at _)))))

theorem last_eq : (extractStridedSlice S2x2x5632 ![0, 8192, 0] (res_main_v38 V0) slices_S2x8194x5632_S2x2x5632_0_8192_0 : FVec Ideal S2x2x5632 .f32) = last (argsOf V0) := by
  rw [v38_eq]
  have hp := padv_at (argsOf V0) _ (upv_at (argsOf V0) _ (x1v_at (argsOf V0)))
  revert hp
  generalize padv (upv (argsOf V0) (x1v (argsOf V0))) = p
  intro hp
  funext y
  obtain ⟨b, i, j, rfl⟩ : ∃ b i j, y = (ix3 b i j : S2x2x5632.Idx) := ⟨y 0, y 1, y 2, by funext a; match a with | 0 => rfl | 1 => rfl | 2 => rfl⟩
  have e : (extractStridedSlice S2x2x5632 ![0, 8192, 0] p slices_S2x8194x5632_S2x2x5632_0_8192_0 : FVec Ideal S2x2x5632 .f32) (ix3 b i j) = p (ix3 b ⟨8192 + i.val, by omega⟩ j) := by
    pointwise
    done
  rw [e, hp]
  show Ffn.pad (argsOf V0) b (8192 + i.val) j = up (argsOf V0) b ⟨8190 + i.val, by omega⟩ j
  unfold Ffn.pad
  rw [dif_pos (by omega)]
  exact congrArg (up (argsOf V0) b · j) (Fin.ext (by show 8192 + i.val - 2 = 8190 + i.val; omega))

end Cert.Reference2Ideal.Hand

end
-- ==== Proof.XRegion.lean ====
/-
  The launch of the forgetting-attention call: what the region finds in memory, the two prefetched tables at their literal
  contents, the grid's points, and the windows' index maps at those tables.  Stated at any float interpretation `F`.
-/
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline
public import Idealize.ShloMosaic.Lib.Tactic
public import Idealize.ShloMosaic.Lib.Claim

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the call takes a fresh buffer. -/
theorem hostOps0_fresh : (hostOps0 : List (HloOp τ sig (Elt F))).Forall fun op => op.fresh = ∅ := by
  simp only [List.Forall]; repeat' constructor

/-- What the call finds in each buffer of core `c`: the launch contents after the host operations. -/
def V (c : Dev nD) (b : Ref sig .tc) : Buf (Elt F) ((c : Thread nD τ).loc b) :=
  StableHlo.after hostOps0 (fun b => m (c, b)) b

/-- @main is the host operations and then the call. -/
theorem hmain (𝒱₀ : Variants) : Pipeline.HMainP (Ix := Unit) (Name := ℕ) (U := UR sig nD τ) (Lvl := ℕ)
    (pcfgs (F := F)) 0 defs₀ 𝒱₀ m (main (F := F)) (V m) :=
  Pipeline.hmainP_prefix pcfgs 0 defs₀ 𝒱₀ m main hostOps0 hostOps0_sub hostOps0_fresh main_chain

/-! ## The argument arrays are not written -/

/-- The buffers the host operations write, in order. -/
abbrev hostOps0_W : List (Ref sig .tc) :=
  [main_c, main_c_0, main_v0, main_v1, main_v2, main_v3, main_v4, main_v5, main_v6, main_v7, main_v8,
   main_v9, main_v10, main_v11, main_cst, main_v12, main_cst_1, main_v13, main_cst_2, main_v14, main_v15, main_v16,
   main_v17, main_v18, main_v19, main_v20, main_v21, main_v22, main_v23, main_v24, main_v25]

/-- Every host operation writes one buffer of that list. -/
theorem hostOps0_writes : (hostOps0 (F := F)).Forall fun op => op.writes ⊆ hostOps0_W.toFinset.image (Proc.devRef .tc) :=
  StableHlo.forall_writes_sub_of_map rfl

theorem V_main_arg0 (c : Dev nD) : V m c main_arg0 = m ((c : Thread nD τ).loc main_arg0) :=
  StableHlo.after_of_writes_sub _ _ hostOps0_writes (by decide)
theorem V_main_arg1 (c : Dev nD) : V m c main_arg1 = m ((c : Thread nD τ).loc main_arg1) :=
  StableHlo.after_of_writes_sub _ _ hostOps0_writes (by decide)
theorem V_main_arg2 (c : Dev nD) : V m c main_arg2 = m ((c : Thread nD τ).loc main_arg2) :=
  StableHlo.after_of_writes_sub _ _ hostOps0_writes (by decide)
theorem V_main_arg3 (c : Dev nD) : V m c main_arg3 = m ((c : Thread nD τ).loc main_arg3) :=
  StableHlo.after_of_writes_sub _ _ hostOps0_writes (by decide)
theorem V_main_arg4 (c : Dev nD) : V m c main_arg4 = m ((c : Thread nD τ).loc main_arg4) :=
  StableHlo.after_of_writes_sub _ _ hostOps0_writes (by decide)

/-! ## The tables -/

/-- The query-tile table (row of the triangle) and the key-tile table (column), as the program's literals. -/
def tbl : pre0.Contents (Elt F) :=
  fun | 0 => fun i => lit0 (S136.rowMajor i) | 1 => fun i => lit1 (S136.rowMajor i) | ⟨_ + 2, h⟩ => absurd h (Nat.not_lt.2 (Nat.le_add_left _ _))

/-- The call finds its tables at the literals. -/
theorem V_tbl (c : Dev nD) (k : Fin 2) : V m c (pre0.ref k) = tbl k := by
  match k with
  | ⟨0, _⟩ => show StableHlo.after hostOps0 (fun b => m (c, b)) (Proc.devRef .tc main_c) = _; after_results; rfl
  | ⟨1, _⟩ => show StableHlo.after hostOps0 (fun b => m (c, b)) (Proc.devRef .tc main_c_0) = _; after_results; rfl

/-- The query tile and the key tile of a point of the triangle. -/
def qi (n : Fin 136) : ℕ := (lit0 n).toNat
def ki (n : Fin 136) : ℕ := (lit1 n).toNat

theorem qi_lt : ∀ n, qi n < 16 := by decide +kernel
theorem ki_le : ∀ n, ki n ≤ qi n := by decide +kernel
theorem lit0_eq (n : Fin 136) : lit0 n = BitVec.ofNat 32 (qi n) := by simp [qi]
theorem lit1_eq (n : Fin 136) : lit1 n = BitVec.ofNat 32 (ki n) := by simp [ki]

/-- The position a point reads in the tables is its second coordinate. -/
theorem off1_eq (i : grid0.Coords) : k0_off1 i = ![(i 1).val] := by
  have h : (i 1).val < 136 := (i 1).isLt
  unfold k0_off1
  simp only [Scalar.indexCast, BitVec.toNat_ofNat]
  rw [Nat.mod_eq_of_lt (by omega)]

/-- A table's word at an index of the one axis. -/
theorem tbl0_at (x : S136.Idx) (n : Fin 136) (h : (x 0).val = n.val) : tbl (F := F) 0 x = BitVec.ofNat 32 (qi n) := by
  show lit0 (S136.rowMajor x) = _
  rw [show S136.rowMajor x = n from Fin.ext ((Shape.rowMajor_val_one x).trans h), lit0_eq]
theorem tbl1_at (x : S136.Idx) (n : Fin 136) (h : (x 0).val = n.val) : tbl (F := F) 1 x = BitVec.ofNat 32 (ki n) := by
  show lit1 (S136.rowMajor x) = _
  rw [show S136.rowMajor x = n from Fin.ext ((Shape.rowMajor_val_one x).trans h), lit1_eq]

/-- The word the first table holds at a point's position, as the index maps and the body spell the read. -/
theorem word0 (i : grid0.Coords) (x : S136.Idx) (hx : (x 0).val = k0_off1 i 0) : tbl (F := F) 0 x = BitVec.ofNat 32 (qi (i 1)) :=
  tbl0_at x (i 1) (by rw [hx, off1_eq]; rfl)
theorem word1 (i : grid0.Coords) (x : S136.Idx) (hx : (x 0).val = k0_off1 i 0) : tbl (F := F) 1 x = BitVec.ofNat 32 (ki (i 1)) :=
  tbl1_at x (i 1) (by rw [hx, off1_eq]; rfl)

theorem ki_lt (n : Fin 136) : ki n < 16 := lt_of_le_of_lt (ki_le n) (qi_lt n)

theorem toNat_small (n : ℕ) (h : n < 200) : (BitVec.ofNat 32 n).toNat = n := by
  rw [BitVec.toNat_ofNat, Nat.mod_eq_of_lt (by omega)]

/-- The index maps at the tables: the batch and the query tile, the batch and the key tile. -/
theorem ix0_q (i : grid0.Coords) : cc0_transform_0 k0_off1_inb numel1_S1 (tbl (F := F)) i = ![(i 0).val, qi (i 1), 0] := by
  have h0 : (i 0).val < 2 := (i 0).isLt
  have hq := qi_lt (i 1)
  exact funext fun
    | 0 => toNat_small _ (by omega)
    | 1 => (congrArg BitVec.toNat (word0 (F := F) i _ rfl)).trans (toNat_small _ (by omega))
    | 2 => rfl
theorem ix0_k (i : grid0.Coords) : cc0_transform_1 k0_off1_inb numel1_S1 (tbl (F := F)) i = ![(i 0).val, ki (i 1), 0] := by
  have h0 : (i 0).val < 2 := (i 0).isLt
  have hq := ki_lt (i 1)
  exact funext fun
    | 0 => toNat_small _ (by omega)
    | 1 => (congrArg BitVec.toNat (word1 (F := F) i _ rfl)).trans (toNat_small _ (by omega))
    | 2 => rfl
theorem ix0_v (i : grid0.Coords) : cc0_transform_2 k0_off1_inb numel1_S1 (tbl (F := F)) i = ![(i 0).val, ki (i 1), 0] := by
  have h0 : (i 0).val < 2 := (i 0).isLt
  have hq := ki_lt (i 1)
  exact funext fun
    | 0 => toNat_small _ (by omega)
    | 1 => (congrArg BitVec.toNat (word1 (F := F) i _ rfl)).trans (toNat_small _ (by omega))
    | 2 => rfl
theorem ix0_o (i : grid0.Coords) : cc0_transform_4 k0_off1_inb numel1_S1 (tbl (F := F)) i = ![(i 0).val, qi (i 1), 0] := by
  have h0 : (i 0).val < 2 := (i 0).isLt
  have hq := qi_lt (i 1)
  exact funext fun
    | 0 => toNat_small _ (by omega)
    | 1 => (congrArg BitVec.toNat (word0 (F := F) i _ rfl)).trans (toNat_small _ (by omega))
    | 2 => rfl

/-- The tables are admissible: every block of the four windows that read them lies inside its array. -/
theorem ok_tbl : ok0 (tbl (F := F)) := by
  refine ⟨fun i => ?_, fun i => ?_, fun i => ?_, fun i => ?_⟩
  · refine ⟨?_, .inr (Affine.block_words_dvd (of_decide_eq_true rfl) (by decide))⟩
    have h0 : (i 0).val < 2 := (i 0).isLt
    have hq := qi_lt (i 1)
    rw [ix0_q]
    intro a; fin_cases a <;> simp <;> omega
  · refine ⟨?_, .inr (Affine.block_words_dvd (of_decide_eq_true rfl) (by decide))⟩
    have h0 : (i 0).val < 2 := (i 0).isLt
    have hq := ki_lt (i 1)
    rw [ix0_k]
    intro a; fin_cases a <;> simp <;> omega
  · refine ⟨?_, .inr (Affine.block_words_dvd (of_decide_eq_true rfl) (by decide))⟩
    have h0 : (i 0).val < 2 := (i 0).isLt
    have hq := ki_lt (i 1)
    rw [ix0_v]
    intro a; fin_cases a <;> simp <;> omega
  · refine ⟨?_, .inr (Affine.block_words_dvd (of_decide_eq_true rfl) (by decide))⟩
    have h0 : (i 0).val < 2 := (i 0).isLt
    have hq := qi_lt (i 1)
    rw [ix0_o]
    intro a; fin_cases a <;> simp <;> omega

/-- The tables' contents as the launch takes them, one per call. -/
def adm : (p : Fin 1) → (pcfgs (F := F) p).Adm := fun _ => ⟨tbl, ok_tbl⟩

/-- The pipeline at those tables. -/
abbrev cfgA : Cfg sig Λ₀ := cfg0 (F := F) (adm 0)

/-- Window 4 is idle exactly where the key tile is not the query tile. -/
theorem idle_4 (i : grid0.Coords) : idle0 (tbl (F := F)) 4 i = decide (ki (i 1) ≠ qi (i 1)) := by
  have hq := qi_lt (i 1)
  have hk := ki_lt (i 1)
  have hin : ∀ a : Fin 1, k0_off1 i a + 1 ≤ (![136] : Fin 1 → ℕ) a := by
    intro a; have h1 : (i 1).val < 136 := (i 1).isLt
    rw [off1_eq]; fin_cases a; simp; omega
  have e0 : (tbl (F := F)).atD 0 (k0_off1 i) = BitVec.ofNat 32 (qi (i 1)) := (dif_pos hin).trans (word0 i _ rfl)
  have e1 : (tbl (F := F)).atD 1 (k0_off1 i) = BitVec.ofNat 32 (ki (i 1)) := (dif_pos hin).trans (word1 i _ rfl)
  show (!(k0_cond3 ((tbl (F := F)).atD 0 (k0_off1 i)) ((tbl (F := F)).atD 1 (k0_off1 i)) == 1#1)) = _
  rw [e0, e1]
  have key : ∀ a < 16, ∀ b < 16, (!(k0_cond3 (BitVec.ofNat 32 a) (BitVec.ofNat 32 b) == 1#1)) = decide (b ≠ a) := by decide +kernel
  exact key _ hq _ hk

end Cert.Kernel3Ideal.Hand

end
-- ==== Proof.XState.lean ====
/-
  What one grid point of the forgetting-attention call computes, as functions of the blocks it is given and of the
  running state of its four heads (row maximum, row sum, weighted rows).
-/
module

public import proofs.«01_k».proof.Proof.XRegion

@[expose] public section

set_option maxRecDepth 16384

noncomputable section

namespace Cert.Kernel3Ideal.Hand

open Idealize.ShloMosaic Idealize.ShloMosaic.TcCoe Idealize.ShloMosaic.Tactic
open Cert.Kernel3Ideal.Gen

variable {F : FTy → Type} [FloatOps F]

/-- The index into one head's rows, of an index into all heads' rows; and back, at a head. -/
def inHead {w : ℕ} (x : (⟨3, ![4, 512, w]⟩ : Shape).Idx) : (⟨3, ![1, 512, w]⟩ : Shape).Idx :=
  fun | 0 => ⟨0, Nat.one_pos⟩ | 1 => x 1 | 2 => x 2
def atHead {w : ℕ} (h : Fin 4) (x : (⟨3, ![1, 512, w]⟩ : Shape).Idx) : (⟨3, ![4, 512, w]⟩ : Shape).Idx :=
  fun | 0 => h | 1 => x 1 | 2 => x 2

/-- Four heads' rows in one buffer; and one head's rows of it. -/
def cat {w : ℕ} (f : Fin 4 → Vec F (⟨3, ![1, 512, w]⟩ : Shape) .f32) : Vec F (⟨3, ![4, 512, w]⟩ : Shape) .f32 := fun x => f (x 0) (inHead x)
def slc {w : ℕ} (h : Fin 4) (D : Vec F (⟨3, ![4, 512, w]⟩ : Shape) .f32) : Vec F (⟨3, ![1, 512, w]⟩ : Shape) .f32 := fun x => D (atHead h x)

theorem slc_cat {w : ℕ} (h : Fin 4) (f : Fin 4 → Vec F (⟨3, ![1, 512, w]⟩ : Shape) .f32) : slc h (cat f) = f h := by
  funext x
  show f h (inHead (atHead h x)) = f h x
  refine congrArg (f h) (funext fun a => ?_)
  match a with
  | 0 => exact Fin.ext (by have : (x 0).val < 1 := (x 0).isLt; show 0 = (x 0).val; omega)
  | 1 => rfl
  | 2 => rfl

variable (F) in
/-- The state the three scratch buffers carry, head by head. -/
structure St where
  hm : Fin 4 → Vec F S1x512x1 .f32
  hl : Fin 4 → Vec F S1x512x1 .f32
  ha : Fin 4 → Vec F S1x512x256 .f32

/-- The three buffers of a state. -/
def St.mx (s : St F) : Vec F S4x512x1 .f32 := cat s.hm
def St.sm (s : St F) : Vec F S4x512x1 .f32 := cat s.hl
def St.acc (s : St F) : Vec F S4x512x256 .f32 := cat s.ha

/-- The state a query tile starts from. -/
def init : St F := ⟨fun h => slc h k0_pay1, fun h => slc h k0_pay2, fun h => slc h k0_pay3⟩

/-- One head's 128 lanes of a block. -/
def lane (h : Fin 4) (x : Vec F S1x512x512 .bf16) : Vec F S1x512x128 .bf16 :=
  fun i => x (fun | 0 => i 0 | 1 => i 1 | 2 => ⟨128 * h.val + (i 2).val, by have : (i 2).val < 128 := (i 2).isLt; have := h.isLt; show _ < 512; omega⟩)

/-- A head's new maxima, new sums and new weighted rows, from its scores `s` and what it had. -/
def topM (s : Vec F S512x512 .f32) (m : Vec F S1x512x1 .f32) : Vec F S512x1 .f32 :=
  maximumf (shapeCast S512x1 m shapeCasts_S1x512x1_S512x1)
    (shapeCast S512x1 (multiReduction .maximumf [1] S512 s 0xFF800000#32 reduces_S512x512_S512 (.inl rfl) rfl) shapeCasts_S512_S512x1)
def newM (s : Vec F S512x512 .f32) (m : Vec F S1x512x1 .f32) : Vec F S1x512x1 .f32 := k0_pay17 (topM s m)
def newP (s : Vec F S512x512 .f32) (m : Vec F S1x512x1 .f32) : Vec F S512x512 .f32 :=
  exp (subf s (broadcastTo S512x512 (topM s m) broadcasts_S512x1_S512x512))
def newR (s : Vec F S512x512 .f32) (m : Vec F S1x512x1 .f32) : Vec F S512x1 .f32 :=
  exp (subf (shapeCast S512x1 m shapeCasts_S1x512x1_S512x1) (topM s m))
def newL (s : Vec F S512x512 .f32) (m l : Vec F S1x512x1 .f32) : Vec F S1x512x1 .f32 :=
  shapeCast S1x512x1 (addf (mulf (newR s m) (shapeCast S512x1 l shapeCasts_S1x512x1_S512x1))
    (shapeCast S512x1 (multiReduction .add [1] S512 (newP s m) 0x00000000#32 reduces_S512x512_S512 (.inl rfl) rfl) shapeCasts_S512_S512x1))
    shapeCasts_S512x1_S1x512x1
def newA (s : Vec F S512x512 .f32) (m : Vec F S1x512x1 .f32) (v : Vec F S1x512x256 .bf16) (a : Vec F S1x512x256 .f32) : Vec F S1x512x256 .f32 :=
  shapeCast S1x512x256 (addf (mulf (broadcastTo S512x256 (newR s m) broadcasts_S512x1_S512x256) (shapeCast S512x256 a shapeCasts_S1x512x256_S512x256))
    (matmul dot_S512x512_S512x256_S512x256_1_0_0_1_n_n none (truncf .bf16 (newP s m) bitsLt_bf16_f32)
      (shapeCast S512x256 v shapeCasts_S1x512x256_S512x256) (constant S512x256 .f32 0x00000000#32))) shapeCasts_S512x256_S1x512x256

/-- One key tile, by how its scores are made of a head's lanes. -/
def next (sc : Vec F S1x512x128 .bf16 → Vec F S1x512x128 .bf16 → Vec F S512x512 .f32) (q k : Vec F S1x512x512 .bf16) (v : Vec F S1x512x256 .bf16) (s : St F) : St F :=
  ⟨fun h => newM (sc (lane h q) (lane h k)) (s.hm h), fun h => newL (sc (lane h q) (lane h k)) (s.hm h) (s.hl h),
   fun h => newA (sc (lane h q) (lane h k)) (s.hm h) v (s.ha h)⟩
/-- One key tile below the diagonal, and the one on it. -/
def full (q k : Vec F S1x512x512 .bf16) (v : Vec F S1x512x256 .bf16) (s : St F) : St F := next k0_pay9 q k v s
def diag (q k : Vec F S1x512x512 .bf16) (v : Vec F S1x512x256 .bf16) (s : St F) : St F := next k0_pay42 q k v s

/-- What the query tile's last point writes out. -/
def fin (g : Vec F S1x256 .f32) (s : St F) : Vec F S1x512x256 .bf16 :=
  k0_pay7 (k0_pay81 (iota .tc S512x256 32 [1] iota_S512x256_d1_w32) (k0_pay79 (s.ha 0) (s.hl 0) (s.ha 1) (s.hl 1)) k0_pay80
    (s.ha 2) (s.hl 2) (s.ha 3) (s.hl 3) g)

end Cert.Kernel3Ideal.Hand

end
-- ==== Proof.XRead.lean ====
/-
  The forgetting-attention call: what its loads and stores of one head's rows leave, read back, and the reads of its tables.
-/
module

public import proofs.«01_k».proof.Proof.XState
public import Idealize.ShloMosaic.Lib.WritesUnit
public import Idealize.ShloMosaic.Lib.VecWindow

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

local notation "𝕄" => MT nD τ sig Unit (Elt F) ℕ (UR sig nD τ) ℕ

/-- A rectangle of one head's rows. -/
abbrev hd {w : ℕ} (n : ℕ) (ho : ∀ a, (![n, 0, 0] : Fin 3 → ℕ) a + (⟨3, ![1, 512, w]⟩ : Shape).size a ≤ (⟨3, ![4, 512, w]⟩ : Shape).size a) :
    Rect (⟨3, ![4, 512, w]⟩ : Shape) := Rect.unit (s := (⟨3, ![4, 512, w]⟩ : Shape)) ![n, 0, 0] (⟨3, ![1, 512, w]⟩ : Shape).size ho

section
variable {w : ℕ} (v : View sig .tc .vmem (⟨3, ![4, 512, w]⟩ : Shape) .f32) (f : v.ty.Contents (Elt F)) (L : List (View.Piece (Elt F) (⟨3, ![4, 512, w]⟩ : Shape) .f32))

/-- A load of the head just stored. -/
theorem hit (n : ℕ) (ho ho') (x : Vec F (⟨3, ![1, 512, w]⟩ : Shape) .f32) :
    v.readAt (Elt F) (hd n ho).toLoadRect (v.writes (Elt F) f (⟨hd n ho', x⟩ :: L)) = x :=
  funext fun y => View.read_writes_cons_emb v _ (hd n ho) x L y

/-- A load of a head after a store of another. -/
theorem skip (n n' : ℕ) (ho ho') (x : Vec F (⟨3, ![1, 512, w]⟩ : Shape) .f32) (hne : n ≠ n') :
    v.readAt (Elt F) (hd n ho).toLoadRect (v.writes (Elt F) f (⟨hd n' ho', x⟩ :: L)) = v.readAt (Elt F) (hd n ho).toLoadRect (v.writes (Elt F) f L) := by
  funext y
  refine View.read_writes_cons_unit_of_not_mem (s := (⟨3, ![4, 512, w]⟩ : Shape)) v _ ho' x L ((hd n ho).emb y) rfl 0 ?_
  have hy : (y 0).val < 1 := (y 0).isLt
  show n + 1 * (y 0).val < n' ∨ n' + 1 ≤ n + 1 * (y 0).val
  omega

theorem emb_hd (n : ℕ) (hn : n < 4) (ho) (y : (⟨3, ![1, 512, w]⟩ : Shape).Idx) : (hd n ho).emb y = atHead ⟨n, hn⟩ y := by
  funext a
  refine Fin.ext ?_
  match a with
  | 0 =>
    have hy : (y 0).val < 1 := (y 0).isLt
    show n + 1 * (y 0).val = n
    omega
  | 1 => show 0 + 1 * (y 1).val = (y 1).val; omega
  | 2 => show 0 + 1 * (y 2).val = (y 2).val; omega

/-- A load of a head after a store of the whole buffer. -/
theorem whole (n : ℕ) (hn : n < 4) (ho) (inb : ∀ a, (![0, 0, 0] : Fin 3 → ℕ) a + (⟨3, ![4, 512, w]⟩ : Shape).size a ≤ (⟨3, ![4, 512, w]⟩ : Shape).size a)
    (D : Vec F (⟨3, ![4, 512, w]⟩ : Shape) .f32) :
    v.readAt (Elt F) (hd n ho).toLoadRect (v.writes (Elt F) f (⟨Rect.unit (s := (⟨3, ![4, 512, w]⟩ : Shape)) ![0, 0, 0] (⟨3, ![4, 512, w]⟩ : Shape).size inb, D⟩ :: L)) = slc ⟨n, hn⟩ D :=
  funext fun y => (congrFun (View.read_writes_full v f inb D L) _).trans (congrArg D (emb_hd n hn ho y))

/-- The buffer after stores of all four heads. -/
theorem four (h0 h1 h2 h3) (x : Fin 4 → Vec F (⟨3, ![1, 512, w]⟩ : Shape) .f32) (x0 x1 x2 x3 : Vec F (⟨3, ![1, 512, w]⟩ : Shape) .f32)
    (e0 : x0 = x 0) (e1 : x1 = x 1) (e2 : x2 = x 2) (e3 : x3 = x 3) :
    v.read (Elt F) (v.writes (Elt F) f (⟨hd 3 h3, x3⟩ :: ⟨hd 2 h2, x2⟩ :: ⟨hd 1 h1, x1⟩ :: ⟨hd 0 h0, x0⟩ :: L)) = cat x := by
  subst e0 e1 e2 e3
  funext y
  have hall : ∀ k : Fin 4, v.readAt (Elt F) (hd k.val (by intro a; have := k.isLt; match a with | 0 => show k.val + 1 ≤ 4; omega | 1 => exact Nat.le_of_eq (Nat.zero_add _) | 2 => exact Nat.le_of_eq (Nat.zero_add _))).toLoadRect
      (v.writes (Elt F) f (⟨hd 3 h3, x 3⟩ :: ⟨hd 2 h2, x 2⟩ :: ⟨hd 1 h1, x 1⟩ :: ⟨hd 0 h0, x 0⟩ :: L)) = x k := fun k => by
    match k with
    | 0 => exact (skip _ _ _ _ _ _ _ _ (by decide)).trans ((skip _ _ _ _ _ _ _ _ (by decide)).trans ((skip _ _ _ _ _ _ _ _ (by decide)).trans (hit _ _ _ _ _ _ _)))
    | 1 => exact (skip _ _ _ _ _ _ _ _ (by decide)).trans ((skip _ _ _ _ _ _ _ _ (by decide)).trans (hit _ _ _ _ _ _ _))
    | 2 => exact (skip _ _ _ _ _ _ _ _ (by decide)).trans (hit _ _ _ _ _ _ _)
    | 3 => exact hit _ _ _ _ _ _ _
  have e := congrFun (hall (y 0)) (inHead y)
  refine Eq.trans (congrArg _ ?_) e
  refine Eq.trans ?_ (emb_hd (y 0).val (y 0).isLt _ (inHead y)).symm
  funext a
  match a with
  | 0 => rfl
  | 1 => rfl
  | 2 => rfl
end

/-- A load of a head of a buffer that holds four. -/
theorem base {w : ℕ} (m : Memref sig .tc .vmem (⟨3, ![4, 512, w]⟩ : Shape) .f32) (hm : m.IsWhole) (n : ℕ) (hn : n < 4) (ho) (x : Fin 4 → Vec F (⟨3, ![1, 512, w]⟩ : Shape) .f32) :
    m.view.readAt (Elt F) (hd n ho).toLoadRect (hm.unread (cat x)) = x ⟨n, hn⟩ :=
  (funext fun y => (congrFun (hm.read_unread (cat x)) _).trans (congrArg (cat x) (emb_hd n hn ho y))).trans (slc_cat ⟨n, hn⟩ x)

/-! Loads of a head where the buffer's earlier contents are not named: of one of the four heads just stored, and of a head not yet
    stored since the whole buffer was. -/
section
variable {w : ℕ} (v : View sig .tc .vmem (⟨3, ![4, 512, w]⟩ : Shape) .f32) (L : List (View.Piece (Elt F) (⟨3, ![4, 512, w]⟩ : Shape) .f32))
  (x0 x1 x2 x3 : Vec F (⟨3, ![1, 512, w]⟩ : Shape) .f32) (D : Vec F (⟨3, ![4, 512, w]⟩ : Shape) .f32)

theorem got3 (h3 ho) : v.readCov (⟨hd 3 h3, x3⟩ :: L) (hd 3 ho).toLoadRect = x3 := hit v _ L 3 ho h3 x3
theorem got2 (h3 h2 ho) : v.readCov (⟨hd 3 h3, x3⟩ :: ⟨hd 2 h2, x2⟩ :: L) (hd 2 ho).toLoadRect = x2 :=
  (skip v _ _ 2 3 ho h3 x3 (by decide)).trans (hit v _ L 2 ho h2 x2)
theorem got1 (h3 h2 h1 ho) : v.readCov (⟨hd 3 h3, x3⟩ :: ⟨hd 2 h2, x2⟩ :: ⟨hd 1 h1, x1⟩ :: L) (hd 1 ho).toLoadRect = x1 :=
  (skip v _ _ 1 3 ho h3 x3 (by decide)).trans ((skip v _ _ 1 2 ho h2 x2 (by decide)).trans (hit v _ L 1 ho h1 x1))
theorem got0 (h3 h2 h1 h0 ho) : v.readCov (⟨hd 3 h3, x3⟩ :: ⟨hd 2 h2, x2⟩ :: ⟨hd 1 h1, x1⟩ :: ⟨hd 0 h0, x0⟩ :: L) (hd 0 ho).toLoadRect = x0 :=
  (skip v _ _ 0 3 ho h3 x3 (by decide)).trans ((skip v _ _ 0 2 ho h2 x2 (by decide)).trans
    ((skip v _ _ 0 1 ho h1 x1 (by decide)).trans (hit v _ L 0 ho h0 x0)))

/-- A store of the whole buffer. -/
abbrev al (inb : ∀ a, (![0, 0, 0] : Fin 3 → ℕ) a + (⟨3, ![4, 512, w]⟩ : Shape).size a ≤ (⟨3, ![4, 512, w]⟩ : Shape).size a) : Rect (⟨3, ![4, 512, w]⟩ : Shape) :=
  Rect.unit (s := (⟨3, ![4, 512, w]⟩ : Shape)) ![0, 0, 0] (⟨3, ![4, 512, w]⟩ : Shape).size inb

theorem old0 (inb ho) : v.readCov (⟨al inb, D⟩ :: L) (hd 0 ho).toLoadRect = slc 0 D := whole v _ L 0 (by decide) ho inb D
theorem old1 (h0 inb ho) : v.readCov (⟨hd 0 h0, x0⟩ :: ⟨al inb, D⟩ :: L) (hd 1 ho).toLoadRect = slc 1 D :=
  (skip v _ _ 1 0 ho h0 x0 (by decide)).trans (whole v _ L 1 (by decide) ho inb D)
theorem old2 (h1 h0 inb ho) : v.readCov (⟨hd 1 h1, x1⟩ :: ⟨hd 0 h0, x0⟩ :: ⟨al inb, D⟩ :: L) (hd 2 ho).toLoadRect = slc 2 D :=
  (skip v _ _ 2 1 ho h1 x1 (by decide)).trans ((skip v _ _ 2 0 ho h0 x0 (by decide)).trans (whole v _ L 2 (by decide) ho inb D))
theorem old3 (h2 h1 h0 inb ho) : v.readCov (⟨hd 2 h2, x2⟩ :: ⟨hd 1 h1, x1⟩ :: ⟨hd 0 h0, x0⟩ :: ⟨al inb, D⟩ :: L) (hd 3 ho).toLoadRect = slc 3 D :=
  (skip v _ _ 3 2 ho h2 x2 (by decide)).trans ((skip v _ _ 3 1 ho h1 x1 (by decide)).trans
    ((skip v _ _ 3 0 ho h0 x0 (by decide)).trans (whole v _ L 3 (by decide) ho inb D)))
end

/-- A load of one head's lanes of a block. -/
theorem lanes (m : Memref sig .tc .vmem S1x512x512 .bf16) (hm : m.IsWhole) (n : ℕ) (hn : n < 4) (o : ℕ) (e : o = 128 * n)
    (ho : ∀ a, (![0, 0, o] : Fin 3 → ℕ) a + S1x512x128.size a ≤ S1x512x512.size a) (x : Vec F S1x512x512 .bf16) :
    m.view.readAt (Elt F) (Rect.unit (s := S1x512x512) ![0, 0, o] S1x512x128.size ho).toLoadRect (hm.unread x) = lane ⟨n, hn⟩ x := by
  subst e
  funext y
  refine (congrFun (hm.read_unread x) _).trans (congrArg x (funext fun a => Fin.ext ?_))
  match a with
  | 0 => show 0 + 1 * (y 0).val = (y 0).val; omega
  | 1 => show 0 + 1 * (y 1).val = (y 1).val; omega
  | 2 => show 128 * n + 1 * (y 2).val = 128 * n + (y 2).val; omega

/-- A word read from a table in scalar memory: the program continues at any name `w` of the entry read. -/
theorem word_step (c : Dev nD) (E : Set ℕ) (Q : PUnit → sProp 𝕄) (m : Memref sig .tc .smem S136 .i32) (hm : m.IsWhole) (i : grid0.Coords)
    (T : Vec F S136 .i32) (q : PosShare TreeShare) (w : BitVec 32) (hw : ∀ x : S136.Idx, (x 0).val = k0_off1 i 0 → T x = w)
    (hin : ∀ a, k0_off1 i a + S1.size a ≤ S136.size a) (h1 : (Rect.unit (s := S136) (k0_off1 i) S1.size hin).shape.numel = 1)
    (hp : EltTy.i32.packing = 1) (k : BitVec 32 → Prog (TpuEff nD τ sig (Elt F) Λ₀ .tc) PUnit) :
    (m.view.loc (c : Thread nD τ) ↦[m.view.set]{q} hm.unread T)
      ⊢ iprop(((m.view.loc (c : Thread nD τ) ↦[m.view.set]{q} hm.unread T) -∗ wp frame (wpE (defs₀ (F := F)) Variants.none c none) E (k w) Q)
        -∗ wp frame (wpE (defs₀ (F := F)) Variants.none c none) E
          (smemLoad m (Rect.unit (s := S136) (k0_off1 i) S1.size hin) h1 hp >>= k) Q) := by
  have hr : (m.access (Rect.unit (s := S136) (k0_off1 i) S1.size hin)).read (Elt F) (hm.unread T)
      (Shape.Idx.first (h1.symm ▸ Nat.one_pos)) = w := by
    refine (congrFun (hm.read_unread T) _).trans (hw _ ?_)
    show k0_off1 i 0 + 1 * (Shape.Idx.first (s := (Rect.unit (s := S136) (k0_off1 i) S1.size hin).shape) (h1.symm ▸ Nat.one_pos) 0).val = _
    have hlt := (Shape.Idx.first (s := (Rect.unit (s := S136) (k0_off1 i) S1.size hin).shape) (h1.symm ▸ Nat.one_pos) 0).isLt
    have hs : (Rect.unit (s := S136) (k0_off1 i) S1.size hin).shape.size 0 = 1 := rfl
    omega
  have key := wp_smemLoadElt Variants.none (c : Thread nD τ) none E (defs := defs₀ (F := F)) (Q := Q) (Γ := .empty) (m := m)
    (r := Rect.unit (s := S136) (k0_off1 i) S1.size hin) (hw := View.loads_smem_one hp h1)
    (x := Shape.Idx.first (h1.symm ▸ Nat.one_pos)) (k := k) (S := m.view.set) (q := q) (f := hm.unread T) (View.set_slice_subset m.view _)
  rw [hr] at key
  exact key

/-! What a head computes depends on what it reads only. -/
theorem newM_of {sc : Vec F S1x512x128 .bf16 → Vec F S1x512x128 .bf16 → Vec F S512x512 .f32} {q q' k k' : Vec F S1x512x128 .bf16} {m m' : Vec F S1x512x1 .f32}
    (hq : q = q') (hk : k = k') (hm : m = m') : newM (sc q k) m = newM (sc q' k') m' := by subst hq hk hm; rfl
theorem newL_of {sc : Vec F S1x512x128 .bf16 → Vec F S1x512x128 .bf16 → Vec F S512x512 .f32} {q q' k k' : Vec F S1x512x128 .bf16} {m m' l l' : Vec F S1x512x1 .f32}
    (hq : q = q') (hk : k = k') (hm : m = m') (hl : l = l') : newL (sc q k) m l = newL (sc q' k') m' l' := by subst hq hk hm hl; rfl
theorem newA_of {sc : Vec F S1x512x128 .bf16 → Vec F S1x512x128 .bf16 → Vec F S512x512 .f32} {q q' k k' : Vec F S1x512x128 .bf16} {m m' : Vec F S1x512x1 .f32}
    {v v' : Vec F S1x512x256 .bf16} {a a' : Vec F S1x512x256 .f32}
    (hq : q = q') (hk : k = k') (hm : m = m') (hv : v = v') (ha : a = a') : newA (sc q k) m v a = newA (sc q' k') m' v' a' := by subst hq hk hm hv ha; rfl
/-- The first head's weighted rows on the diagonal, as the program takes them apart. -/
theorem newA_diag0 {q q' k k' : Vec F S1x512x128 .bf16} {m m' : Vec F S1x512x1 .f32} {v v' : Vec F S1x512x256 .bf16} {a a' : Vec F S1x512x256 .f32}
    (hq : q = q') (hk : k = k') (hm : m = m') (hv : v = v') (ha : a = a') :
    k0_pay50 (k0_pay41 v) (k0_pay46 q k m) (k0_pay48 a) (k0_pay49 q k m) = newA (k0_pay42 q' k') m' v' a' := by subst hq hk hm hv ha; rfl
theorem fin_of {g g' : Vec F S1x256 .f32} {a0 a1 a2 a3 : Vec F S1x512x256 .f32} {l0 l1 l2 l3 : Vec F S1x512x1 .f32} {s : St F} (hg : g = g')
    (h0 : a0 = s.ha 0) (k0 : l0 = s.hl 0) (h1 : a1 = s.ha 1) (k1 : l1 = s.hl 1) (h2 : a2 = s.ha 2) (k2 : l2 = s.hl 2) (h3 : a3 = s.ha 3) (k3 : l3 = s.hl 3) :
    k0_pay7 (k0_pay81 (iota .tc S512x256 32 [1] iota_S512x256_d1_w32) (k0_pay79 a0 l0 a1 l1) k0_pay80 a2 l2 a3 l3 g) = fin g' s := by
  subst hg h0 k0 h1 k1 h2 k2 h3 k3; rfl

end Cert.Kernel3Ideal.Hand

end
-- ==== Proof.XRunA.lean ====
/-
  The forgetting-attention body's triple at a first key tile that is below the diagonal.
-/
module

public import proofs.«01_k».proof.Proof.XRead

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

local notation "𝕄" => MT nD τ sig Unit (Elt F) ℕ (UR sig nD τ) ℕ

set_option maxHeartbeats 16000000 in
/-- The body at a first key tile that is below the diagonal. -/
theorem runA (c : Dev nD) (i : grid0.Coords) (arg2 : Memref sig .tc .smem S136 .i32) (harg2 : arg2.IsWhole) (arg3 : Memref sig .tc .smem S136 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S4x512x1 .f32) (harg9 : arg9.IsWhole) (arg10 : Memref sig .tc .vmem S4x512x1 .f32) (harg10 : arg10.IsWhole) (arg11 : Memref sig .tc .vmem S4x512x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : Scalar.cmpi .ne (Scalar.extui (Scalar.cmpi .eq v3 0#32) : BitVec 32) 0#32 = 1#1)
    (hc1 : Scalar.cmpi .ne (Scalar.extui (Scalar.cmpi .slt v3 v1) : BitVec 32) 0#32 = 1#1)
    (hc2 : ¬k0_cond3 v1 v3 = 1#1)
    (x0 : Vec F S1x512x512 .bf16) (x1 : Vec F S1x512x512 .bf16) (x2 : Vec F S1x512x256 .bf16) (x3 : Vec F S1x256 .f32)
    (xi : Vec F S1x512x256 .bf16) (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (full x0 x1 x2 init).mx ∗ owns (c : Thread nD τ) arg10 fullShare (full x0 x1 x2 init).sm ∗ owns (c : Thread nD τ) arg11 fullShare (full x0 x1 x2 init).acc) -∗ K ⟨⟩))
      ⊢ wp frame (wpE (defs₀ (F := F)) Variants.none c none) E (cc0_prompt_fox_attn i arg2 harg2 arg3 harg3 arg4 harg4 arg5 harg5 arg6 harg6 arg7 harg7 arg8 harg8 arg9 harg9 arg10 harg10 arg11 harg11) K := by
  simp only [cc0_prompt_fox_attn_eq_skeleton]; unfold cc0_prompt_fox_attn_skel
  simp only [k0_part1_eq_skeleton, k0_part2_eq_skeleton, k0_part3_eq_skeleton, k0_part4_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3; obtain rfl := harg8.eq_unread hf4
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    exact harg8.read_unread _
  isplitl [HS0]
  · iexists _; isplitr
    swap
    · iexact HS0
    ipureintro
    refine four _ _ _ _ _ _ _ _ _ _ _ _ ?_ ?_ ?_ ?_
    · exact newM_of (sc := k0_pay9) (lanes _ harg4 0 (by decide) _ rfl _ x0) (lanes _ harg5 0 (by decide) _ rfl _ x1) (old0 arg9.view _ _ _ _)
    · exact newM_of (sc := k0_pay9) (lanes _ harg4 1 (by decide) _ rfl _ x0) (lanes _ harg5 1 (by decide) _ rfl _ x1) (old1 arg9.view _ _ _ _ _ _)
    · exact newM_of (sc := k0_pay9) (lanes _ harg4 2 (by decide) _ rfl _ x0) (lanes _ harg5 2 (by decide) _ rfl _ x1) (old2 arg9.view _ _ _ _ _ _ _ _)
    · exact newM_of (sc := k0_pay9) (lanes _ harg4 3 (by decide) _ rfl _ x0) (lanes _ harg5 3 (by decide) _ rfl _ x1) (old3 arg9.view _ _ _ _ _ _ _ _ _ _)
  isplitl [HS1]
  · iexists _; isplitr
    swap
    · iexact HS1
    ipureintro
    refine four _ _ _ _ _ _ _ _ _ _ _ _ ?_ ?_ ?_ ?_
    · exact newL_of (sc := k0_pay9) (lanes _ harg4 0 (by decide) _ rfl _ x0) (lanes _ harg5 0 (by decide) _ rfl _ x1) (old0 arg9.view _ _ _ _) (old0 arg10.view _ _ _ _)
    · exact newL_of (sc := k0_pay9) (lanes _ harg4 1 (by decide) _ rfl _ x0) (lanes _ harg5 1 (by decide) _ rfl _ x1) (old1 arg9.view _ _ _ _ _ _) (old1 arg10.view _ _ _ _ _ _)
    · exact newL_of (sc := k0_pay9) (lanes _ harg4 2 (by decide) _ rfl _ x0) (lanes _ harg5 2 (by decide) _ rfl _ x1) (old2 arg9.view _ _ _ _ _ _ _ _) (old2 arg10.view _ _ _ _ _ _ _ _)
    · exact newL_of (sc := k0_pay9) (lanes _ harg4 3 (by decide) _ rfl _ x0) (lanes _ harg5 3 (by decide) _ rfl _ x1) (old3 arg9.view _ _ _ _ _ _ _ _ _ _) (old3 arg10.view _ _ _ _ _ _ _ _ _ _)
  iexists _; isplitr
  swap
  · iexact HS2
  ipureintro
  refine four _ _ _ _ _ _ _ _ _ _ _ _ ?_ ?_ ?_ ?_
  · exact newA_of (sc := k0_pay9) (lanes _ harg4 0 (by decide) _ rfl _ x0) (lanes _ harg5 0 (by decide) _ rfl _ x1) (old0 arg9.view _ _ _ _) ((View.readAt_full _ _ _).trans (harg6.read_unread _)) (old0 arg11.view _ _ _ _)
  · exact newA_of (sc := k0_pay9) (lanes _ harg4 1 (by decide) _ rfl _ x0) (lanes _ harg5 1 (by decide) _ rfl _ x1) (old1 arg9.view _ _ _ _ _ _) ((View.readAt_full _ _ _).trans (harg6.read_unread _)) (old1 arg11.view _ _ _ _ _ _)
  · exact newA_of (sc := k0_pay9) (lanes _ harg4 2 (by decide) _ rfl _ x0) (lanes _ harg5 2 (by decide) _ rfl _ x1) (old2 arg9.view _ _ _ _ _ _ _ _) ((View.readAt_full _ _ _).trans (harg6.read_unread _)) (old2 arg11.view _ _ _ _ _ _ _ _)
  · exact newA_of (sc := k0_pay9) (lanes _ harg4 3 (by decide) _ rfl _ x0) (lanes _ harg5 3 (by decide) _ rfl _ x1) (old3 arg9.view _ _ _ _ _ _ _ _ _ _) ((View.readAt_full _ _ _).trans (harg6.read_unread _)) (old3 arg11.view _ _ _ _ _ _ _ _ _ _)

end Cert.Kernel3Ideal.Hand

end
-- ==== Proof.XRunB.lean ====
/-
  The forgetting-attention body's triple at a first key tile that is on the diagonal.
-/
module

public import proofs.«01_k».proof.Proof.XRead

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

local notation "𝕄" => MT nD τ sig Unit (Elt F) ℕ (UR sig nD τ) ℕ

set_option maxHeartbeats 16000000 in
/-- The body at a first key tile that is on the diagonal. -/
theorem runB (c : Dev nD) (i : grid0.Coords) (arg2 : Memref sig .tc .smem S136 .i32) (harg2 : arg2.IsWhole) (arg3 : Memref sig .tc .smem S136 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S4x512x1 .f32) (harg9 : arg9.IsWhole) (arg10 : Memref sig .tc .vmem S4x512x1 .f32) (harg10 : arg10.IsWhole) (arg11 : Memref sig .tc .vmem S4x512x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : Scalar.cmpi .ne (Scalar.extui (Scalar.cmpi .eq v3 0#32) : BitVec 32) 0#32 = 1#1)
    (hc1 : ¬Scalar.cmpi .ne (Scalar.extui (Scalar.cmpi .slt v3 v1) : BitVec 32) 0#32 = 1#1)
    (hc2 : k0_cond3 v1 v3 = 1#1)
    (x0 : Vec F S1x512x512 .bf16) (x1 : Vec F S1x512x512 .bf16) (x2 : Vec F S1x512x256 .bf16) (x3 : Vec F S1x256 .f32)
    (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (fin x3 (diag x0 x1 x2 init)) ∗ owns (c : Thread nD τ) arg9 fullShare (diag x0 x1 x2 init).mx ∗ owns (c : Thread nD τ) arg10 fullShare (diag x0 x1 x2 init).sm ∗ owns (c : Thread nD τ) arg11 fullShare (diag x0 x1 x2 init).acc) -∗ K ⟨⟩))
      ⊢ wp frame (wpE (defs₀ (F := F)) Variants.none c none) E (cc0_prompt_fox_attn i arg2 harg2 arg3 harg3 arg4 harg4 arg5 harg5 arg6 harg6 arg7 harg7 arg8 harg8 arg9 harg9 arg10 harg10 arg11 harg11) K := by
  simp only [cc0_prompt_fox_attn_eq_skeleton]; unfold cc0_prompt_fox_attn_skel
  simp only [k0_part5_eq_skeleton, k0_part6_eq_skeleton, k0_part7_eq_skeleton, k0_part8_eq_skeleton, k0_part9_eq_skeleton, k0_part10_eq_skeleton, k0_part11_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    refine (View.read_writes_full _ _ _ _ _).trans ?_
    refine fin_of ((View.readAt_full _ _ _).trans (harg7.read_unread _)) ?_ ?_ ?_ ?_ ?_ ?_ ?_ ?_
    · refine (got0 arg11.view _ _ _ _ _ _ _ _ _ _).trans ?_
      exact newA_diag0 (lanes _ harg4 0 (by decide) _ rfl _ x0) (lanes _ harg5 0 (by decide) _ rfl _ x1) (old0 arg9.view _ _ _ _) ((View.readAt_full _ _ _).trans (harg6.read_unread _)) (old0 arg11.view _ _ _ _)
    · refine (got0 arg10.view _ _ _ _ _ _ _ _ _ _).trans ?_
      exact newL_of (sc := k0_pay42) (lanes _ harg4 0 (by decide) _ rfl _ x0) (lanes _ harg5 0 (by decide) _ rfl _ x1) (old0 arg9.view _ _ _ _) (old0 arg10.view _ _ _ _)
    · refine (got1 arg11.view _ _ _ _ _ _ _ _).trans ?_
      exact newA_of (sc := k0_pay42) (lanes _ harg4 1 (by decide) _ rfl _ x0) (lanes _ harg5 1 (by decide) _ rfl _ x1) (old1 arg9.view _ _ _ _ _ _) ((View.readAt_full _ _ _).trans (harg6.read_unread _)) (old1 arg11.view _ _ _ _ _ _)
    · refine (got1 arg10.view _ _ _ _ _ _ _ _).trans ?_
      exact newL_of (sc := k0_pay42) (lanes _ harg4 1 (by decide) _ rfl _ x0) (lanes _ harg5 1 (by decide) _ rfl _ x1) (old1 arg9.view _ _ _ _ _ _) (old1 arg10.view _ _ _ _ _ _)
    · refine (got2 arg11.view _ _ _ _ _ _).trans ?_
      exact newA_of (sc := k0_pay42) (lanes _ harg4 2 (by decide) _ rfl _ x0) (lanes _ harg5 2 (by decide) _ rfl _ x1) (old2 arg9.view _ _ _ _ _ _ _ _) ((View.readAt_full _ _ _).trans (harg6.read_unread _)) (old2 arg11.view _ _ _ _ _ _ _ _)
    · refine (got2 arg10.view _ _ _ _ _ _).trans ?_
      exact newL_of (sc := k0_pay42) (lanes _ harg4 2 (by decide) _ rfl _ x0) (lanes _ harg5 2 (by decide) _ rfl _ x1) (old2 arg9.view _ _ _ _ _ _ _ _) (old2 arg10.view _ _ _ _ _ _ _ _)
    · refine (got3 arg11.view _ _ _ _).trans ?_
      exact newA_of (sc := k0_pay42) (lanes _ harg4 3 (by decide) _ rfl _ x0) (lanes _ harg5 3 (by decide) _ rfl _ x1) (old3 arg9.view _ _ _ _ _ _ _ _ _ _) ((View.readAt_full _ _ _).trans (harg6.read_unread _)) (old3 arg11.view _ _ _ _ _ _ _ _ _ _)
    · refine (got3 arg10.view _ _ _ _).trans ?_
      exact newL_of (sc := k0_pay42) (lanes _ harg4 3 (by decide) _ rfl _ x0) (lanes _ harg5 3 (by decide) _ rfl _ x1) (old3 arg9.view _ _ _ _ _ _ _ _ _ _) (old3 arg10.view _ _ _ _ _ _ _ _ _ _)
  isplitl [HS0]
  · iexists _; isplitr
    swap
    · iexact HS0
    ipureintro
    refine four _ _ _ _ _ _ _ _ _ _ _ _ ?_ ?_ ?_ ?_
    · exact newM_of (sc := k0_pay42) (lanes _ harg4 0 (by decide) _ rfl _ x0) (lanes _ harg5 0 (by decide) _ rfl _ x1) (old0 arg9.view _ _ _ _)
    · exact newM_of (sc := k0_pay42) (lanes _ harg4 1 (by decide) _ rfl _ x0) (lanes _ harg5 1 (by decide) _ rfl _ x1) (old1 arg9.view _ _ _ _ _ _)
    · exact newM_of (sc := k0_pay42) (lanes _ harg4 2 (by decide) _ rfl _ x0) (lanes _ harg5 2 (by decide) _ rfl _ x1) (old2 arg9.view _ _ _ _ _ _ _ _)
    · exact newM_of (sc := k0_pay42) (lanes _ harg4 3 (by decide) _ rfl _ x0) (lanes _ harg5 3 (by decide) _ rfl _ x1) (old3 arg9.view _ _ _ _ _ _ _ _ _ _)
  isplitl [HS1]
  · iexists _; isplitr
    swap
    · iexact HS1
    ipureintro
    refine four _ _ _ _ _ _ _ _ _ _ _ _ ?_ ?_ ?_ ?_
    · exact newL_of (sc := k0_pay42) (lanes _ harg4 0 (by decide) _ rfl _ x0) (lanes _ harg5 0 (by decide) _ rfl _ x1) (old0 arg9.view _ _ _ _) (old0 arg10.view _ _ _ _)
    · exact newL_of (sc := k0_pay42) (lanes _ harg4 1 (by decide) _ rfl _ x0) (lanes _ harg5 1 (by decide) _ rfl _ x1) (old1 arg9.view _ _ _ _ _ _) (old1 arg10.view _ _ _ _ _ _)
    · exact newL_of (sc := k0_pay42) (lanes _ harg4 2 (by decide) _ rfl _ x0) (lanes _ harg5 2 (by decide) _ rfl _ x1) (old2 arg9.view _ _ _ _ _ _ _ _) (old2 arg10.view _ _ _ _ _ _ _ _)
    · exact newL_of (sc := k0_pay42) (lanes _ harg4 3 (by decide) _ rfl _ x0) (lanes _ harg5 3 (by decide) _ rfl _ x1) (old3 arg9.view _ _ _ _ _ _ _ _ _ _) (old3 arg10.view _ _ _ _ _ _ _ _ _ _)
  iexists _; isplitr
  swap
  · iexact HS2
  ipureintro
  refine four _ _ _ _ _ _ _ _ _ _ _ _ ?_ ?_ ?_ ?_
  · exact newA_diag0 (lanes _ harg4 0 (by decide) _ rfl _ x0) (lanes _ harg5 0 (by decide) _ rfl _ x1) (old0 arg9.view _ _ _ _) ((View.readAt_full _ _ _).trans (harg6.read_unread _)) (old0 arg11.view _ _ _ _)
  · exact newA_of (sc := k0_pay42) (lanes _ harg4 1 (by decide) _ rfl _ x0) (lanes _ harg5 1 (by decide) _ rfl _ x1) (old1 arg9.view _ _ _ _ _ _) ((View.readAt_full _ _ _).trans (harg6.read_unread _)) (old1 arg11.view _ _ _ _ _ _)
  · exact newA_of (sc := k0_pay42) (lanes _ harg4 2 (by decide) _ rfl _ x0) (lanes _ harg5 2 (by decide) _ rfl _ x1) (old2 arg9.view _ _ _ _ _ _ _ _) ((View.readAt_full _ _ _).trans (harg6.read_unread _)) (old2 arg11.view _ _ _ _ _ _ _ _)
  · exact newA_of (sc := k0_pay42) (lanes _ harg4 3 (by decide) _ rfl _ x0) (lanes _ harg5 3 (by decide) _ rfl _ x1) (old3 arg9.view _ _ _ _ _ _ _ _ _ _) ((View.readAt_full _ _ _).trans (harg6.read_unread _)) (old3 arg11.view _ _ _ _ _ _ _ _ _ _)

end Cert.Kernel3Ideal.Hand

end
-- ==== Proof.XRunC.lean ====
/-
  The forgetting-attention body's triple at a later key tile that is below the diagonal.
-/
module

public import proofs.«01_k».proof.Proof.XRead

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

local notation "𝕄" => MT nD τ sig Unit (Elt F) ℕ (UR sig nD τ) ℕ

set_option maxHeartbeats 16000000 in
/-- The body at a later key tile that is below the diagonal. -/
theorem runC (c : Dev nD) (i : grid0.Coords) (arg2 : Memref sig .tc .smem S136 .i32) (harg2 : arg2.IsWhole) (arg3 : Memref sig .tc .smem S136 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S4x512x1 .f32) (harg9 : arg9.IsWhole) (arg10 : Memref sig .tc .vmem S4x512x1 .f32) (harg10 : arg10.IsWhole) (arg11 : Memref sig .tc .vmem S4x512x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : ¬Scalar.cmpi .ne (Scalar.extui (Scalar.cmpi .eq v3 0#32) : BitVec 32) 0#32 = 1#1)
    (hc1 : Scalar.cmpi .ne (Scalar.extui (Scalar.cmpi .slt v3 v1) : BitVec 32) 0#32 = 1#1)
    (hc2 : ¬k0_cond3 v1 v3 = 1#1)
    (x0 : Vec F S1x512x512 .bf16) (x1 : Vec F S1x512x512 .bf16) (x2 : Vec F S1x512x256 .bf16) (x3 : Vec F S1x256 .f32)
    (xi : Vec F S1x512x256 .bf16) (s : St F) (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (St.mx s) ∗ owns (c : Thread nD τ) arg10 fullShare s.sm ∗ owns (c : Thread nD τ) arg11 fullShare s.acc
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (full x0 x1 x2 s).mx ∗ owns (c : Thread nD τ) arg10 fullShare (full x0 x1 x2 s).sm ∗ owns (c : Thread nD τ) arg11 fullShare (full x0 x1 x2 s).acc) -∗ K ⟨⟩))
      ⊢ wp frame (wpE (defs₀ (F := F)) Variants.none c none) E (cc0_prompt_fox_attn i arg2 harg2 arg3 harg3 arg4 harg4 arg5 harg5 arg6 harg6 arg7 harg7 arg8 harg8 arg9 harg9 arg10 harg10 arg11 harg11) K := by
  simp only [cc0_prompt_fox_attn_eq_skeleton]; unfold cc0_prompt_fox_attn_skel
  simp only [k0_part1_eq_skeleton, k0_part2_eq_skeleton, k0_part3_eq_skeleton, k0_part4_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    exact harg8.read_unread _
  isplitl [HS0]
  · iexists _; isplitr
    swap
    · iexact HS0
    ipureintro
    refine four _ _ _ _ _ _ _ _ _ _ _ _ ?_ ?_ ?_ ?_
    · exact newM_of (sc := k0_pay9) (lanes _ harg4 0 (by decide) _ rfl _ x0) (lanes _ harg5 0 (by decide) _ rfl _ x1) (base _ harg9 0 (by decide) _ s.hm)
    · exact newM_of (sc := k0_pay9) (lanes _ harg4 1 (by decide) _ rfl _ x0) (lanes _ harg5 1 (by decide) _ rfl _ x1) (base _ harg9 1 (by decide) _ s.hm)
    · exact newM_of (sc := k0_pay9) (lanes _ harg4 2 (by decide) _ rfl _ x0) (lanes _ harg5 2 (by decide) _ rfl _ x1) (base _ harg9 2 (by decide) _ s.hm)
    · exact newM_of (sc := k0_pay9) (lanes _ harg4 3 (by decide) _ rfl _ x0) (lanes _ harg5 3 (by decide) _ rfl _ x1) (base _ harg9 3 (by decide) _ s.hm)
  isplitl [HS1]
  · iexists _; isplitr
    swap
    · iexact HS1
    ipureintro
    refine four _ _ _ _ _ _ _ _ _ _ _ _ ?_ ?_ ?_ ?_
    · exact newL_of (sc := k0_pay9) (lanes _ harg4 0 (by decide) _ rfl _ x0) (lanes _ harg5 0 (by decide) _ rfl _ x1) (base _ harg9 0 (by decide) _ s.hm) (base _ harg10 0 (by decide) _ s.hl)
    · exact newL_of (sc := k0_pay9) (lanes _ harg4 1 (by decide) _ rfl _ x0) (lanes _ harg5 1 (by decide) _ rfl _ x1) (base _ harg9 1 (by decide) _ s.hm) (base _ harg10 1 (by decide) _ s.hl)
    · exact newL_of (sc := k0_pay9) (lanes _ harg4 2 (by decide) _ rfl _ x0) (lanes _ harg5 2 (by decide) _ rfl _ x1) (base _ harg9 2 (by decide) _ s.hm) (base _ harg10 2 (by decide) _ s.hl)
    · exact newL_of (sc := k0_pay9) (lanes _ harg4 3 (by decide) _ rfl _ x0) (lanes _ harg5 3 (by decide) _ rfl _ x1) (base _ harg9 3 (by decide) _ s.hm) (base _ harg10 3 (by decide) _ s.hl)
  iexists _; isplitr
  swap
  · iexact HS2
  ipureintro
  refine four _ _ _ _ _ _ _ _ _ _ _ _ ?_ ?_ ?_ ?_
  · exact newA_of (sc := k0_pay9) (lanes _ harg4 0 (by decide) _ rfl _ x0) (lanes _ harg5 0 (by decide) _ rfl _ x1) (base _ harg9 0 (by decide) _ s.hm) ((View.readAt_full _ _ _).trans (harg6.read_unread _)) (base _ harg11 0 (by decide) _ s.ha)
  · exact newA_of (sc := k0_pay9) (lanes _ harg4 1 (by decide) _ rfl _ x0) (lanes _ harg5 1 (by decide) _ rfl _ x1) (base _ harg9 1 (by decide) _ s.hm) ((View.readAt_full _ _ _).trans (harg6.read_unread _)) (base _ harg11 1 (by decide) _ s.ha)
  · exact newA_of (sc := k0_pay9) (lanes _ harg4 2 (by decide) _ rfl _ x0) (lanes _ harg5 2 (by decide) _ rfl _ x1) (base _ harg9 2 (by decide) _ s.hm) ((View.readAt_full _ _ _).trans (harg6.read_unread _)) (base _ harg11 2 (by decide) _ s.ha)
  · exact newA_of (sc := k0_pay9) (lanes _ harg4 3 (by decide) _ rfl _ x0) (lanes _ harg5 3 (by decide) _ rfl _ x1) (base _ harg9 3 (by decide) _ s.hm) ((View.readAt_full _ _ _).trans (harg6.read_unread _)) (base _ harg11 3 (by decide) _ s.ha)

end Cert.Kernel3Ideal.Hand

end
-- ==== Proof.XRunD.lean ====
/-
  The forgetting-attention body's triple at a later key tile that is on the diagonal.
-/
module

public import proofs.«01_k».proof.Proof.XRead

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

local notation "𝕄" => MT nD τ sig Unit (Elt F) ℕ (UR sig nD τ) ℕ

set_option maxHeartbeats 16000000 in
/-- The body at a later key tile that is on the diagonal. -/
theorem runD (c : Dev nD) (i : grid0.Coords) (arg2 : Memref sig .tc .smem S136 .i32) (harg2 : arg2.IsWhole) (arg3 : Memref sig .tc .smem S136 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x256 .bf16) (harg6 : arg6.IsWhole) (arg7 : Memref sig .tc .vmem S1x256 .f32) (harg7 : arg7.IsWhole) (arg8 : Memref sig .tc .vmem S1x512x256 .bf16) (harg8 : arg8.IsWhole) (arg9 : Memref sig .tc .vmem S4x512x1 .f32) (harg9 : arg9.IsWhole) (arg10 : Memref sig .tc .vmem S4x512x1 .f32) (harg10 : arg10.IsWhole) (arg11 : Memref sig .tc .vmem S4x512x256 .f32) (harg11 : arg11.IsWhole)
    (T0 T1 : Vec F S136 .i32) (q2 q3 : PosShare TreeShare) (v1 v3 : BitVec 32)
    (hv1 : ∀ x : S136.Idx, (x 0).val = k0_off1 i 0 → T0 x = v1) (hv3 : ∀ x : S136.Idx, (x 0).val = k0_off1 i 0 → T1 x = v3)
    (hc0 : ¬Scalar.cmpi .ne (Scalar.extui (Scalar.cmpi .eq v3 0#32) : BitVec 32) 0#32 = 1#1)
    (hc1 : ¬Scalar.cmpi .ne (Scalar.extui (Scalar.cmpi .slt v3 v1) : BitVec 32) 0#32 = 1#1)
    (hc2 : k0_cond3 v1 v3 = 1#1)
    (x0 : Vec F S1x512x512 .bf16) (x1 : Vec F S1x512x512 .bf16) (x2 : Vec F S1x512x256 .bf16) (x3 : Vec F S1x256 .f32)
    (s : St F) (E : Set ℕ) (K : PUnit → sProp 𝕄) :
    iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare (St.mx s) ∗ owns (c : Thread nD τ) arg10 fullShare s.sm ∗ owns (c : Thread nD τ) arg11 fullShare s.acc
        ∗ (iprop(owns (c : Thread nD τ) arg2 q2 T0 ∗ owns (c : Thread nD τ) arg3 q3 T1 ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (fin x3 (diag x0 x1 x2 s)) ∗ owns (c : Thread nD τ) arg9 fullShare (diag x0 x1 x2 s).mx ∗ owns (c : Thread nD τ) arg10 fullShare (diag x0 x1 x2 s).sm ∗ owns (c : Thread nD τ) arg11 fullShare (diag x0 x1 x2 s).acc) -∗ K ⟨⟩))
      ⊢ wp frame (wpE (defs₀ (F := F)) Variants.none c none) E (cc0_prompt_fox_attn i arg2 harg2 arg3 harg3 arg4 harg4 arg5 harg5 arg6 harg6 arg7 harg7 arg8 harg8 arg9 harg9 arg10 harg10 arg11 harg11) K := by
  simp only [cc0_prompt_fox_attn_eq_skeleton]; unfold cc0_prompt_fox_attn_skel
  simp only [k0_part5_eq_skeleton, k0_part6_eq_skeleton, k0_part7_eq_skeleton, k0_part8_eq_skeleton, k0_part9_eq_skeleton, k0_part10_eq_skeleton, k0_part11_eq_skeleton]
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread ht0; obtain rfl := harg3.eq_unread ht1; obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
  iapply (word_step c E K arg2 harg2 i T0 q2 v1 hv1 _ _ _ _) $$ HT0
  iintro HT0
  iapply (word_step c E K arg3 harg3 i T1 q3 v3 hv3 _ _ _ _) $$ HT1
  iintro HT1
  sl_exec (disch := first | sl_exact hc0 | sl_exact hc1 | sl_exact hc2)
  sl_step
  iapply Hk
  isplitl [HT0]
  · iexists _; isplitr
    swap
    · iexact HT0
    ipureintro
    exact harg2.read_unread _
  isplitl [HT1]
  · iexists _; isplitr
    swap
    · iexact HT1
    ipureintro
    exact harg3.read_unread _
  isplitl [H0]
  · iexists _; isplitr
    swap
    · iexact H0
    ipureintro
    exact harg4.read_unread _
  isplitl [H1]
  · iexists _; isplitr
    swap
    · iexact H1
    ipureintro
    exact harg5.read_unread _
  isplitl [H2]
  · iexists _; isplitr
    swap
    · iexact H2
    ipureintro
    exact harg6.read_unread _
  isplitl [H3]
  · iexists _; isplitr
    swap
    · iexact H3
    ipureintro
    exact harg7.read_unread _
  isplitl [H4]
  · iexists _; isplitr
    swap
    · iexact H4
    ipureintro
    refine (View.read_writes_full _ _ _ _ _).trans ?_
    refine fin_of ((View.readAt_full _ _ _).trans (harg7.read_unread _)) ?_ ?_ ?_ ?_ ?_ ?_ ?_ ?_
    · refine (got0 arg11.view _ _ _ _ _ _ _ _ _ _).trans ?_
      exact newA_diag0 (lanes _ harg4 0 (by decide) _ rfl _ x0) (lanes _ harg5 0 (by decide) _ rfl _ x1) (base _ harg9 0 (by decide) _ s.hm) ((View.readAt_full _ _ _).trans (harg6.read_unread _)) (base _ harg11 0 (by decide) _ s.ha)
    · refine (got0 arg10.view _ _ _ _ _ _ _ _ _ _).trans ?_
      exact newL_of (sc := k0_pay42) (lanes _ harg4 0 (by decide) _ rfl _ x0) (lanes _ harg5 0 (by decide) _ rfl _ x1) (base _ harg9 0 (by decide) _ s.hm) (base _ harg10 0 (by decide) _ s.hl)
    · refine (got1 arg11.view _ _ _ _ _ _ _ _).trans ?_
      exact newA_of (sc := k0_pay42) (lanes _ harg4 1 (by decide) _ rfl _ x0) (lanes _ harg5 1 (by decide) _ rfl _ x1) (base _ harg9 1 (by decide) _ s.hm) ((View.readAt_full _ _ _).trans (harg6.read_unread _)) (base _ harg11 1 (by decide) _ s.ha)
    · refine (got1 arg10.view _ _ _ _ _ _ _ _).trans ?_
      exact newL_of (sc := k0_pay42) (lanes _ harg4 1 (by decide) _ rfl _ x0) (lanes _ harg5 1 (by decide) _ rfl _ x1) (base _ harg9 1 (by decide) _ s.hm) (base _ harg10 1 (by decide) _ s.hl)
    · refine (got2 arg11.view _ _ _ _ _ _).trans ?_
      exact newA_of (sc := k0_pay42) (lanes _ harg4 2 (by decide) _ rfl _ x0) (lanes _ harg5 2 (by decide) _ rfl _ x1) (base _ harg9 2 (by decide) _ s.hm) ((View.readAt_full _ _ _).trans (harg6.read_unread _)) (base _ harg11 2 (by decide) _ s.ha)
    · refine (got2 arg10.view _ _ _ _ _ _).trans ?_
      exact newL_of (sc := k0_pay42) (lanes _ harg4 2 (by decide) _ rfl _ x0) (lanes _ harg5 2 (by decide) _ rfl _ x1) (base _ harg9 2 (by decide) _ s.hm) (base _ harg10 2 (by decide) _ s.hl)
    · refine (got3 arg11.view _ _ _ _).trans ?_
      exact newA_of (sc := k0_pay42) (lanes _ harg4 3 (by decide) _ rfl _ x0) (lanes _ harg5 3 (by decide) _ rfl _ x1) (base _ harg9 3 (by decide) _ s.hm) ((View.readAt_full _ _ _).trans (harg6.read_unread _)) (base _ harg11 3 (by decide) _ s.ha)
    · refine (got3 arg10.view _ _ _ _).trans ?_
      exact newL_of (sc := k0_pay42) (lanes _ harg4 3 (by decide) _ rfl _ x0) (lanes _ harg5 3 (by decide) _ rfl _ x1) (base _ harg9 3 (by decide) _ s.hm) (base _ harg10 3 (by decide) _ s.hl)
  isplitl [HS0]
  · iexists _; isplitr
    swap
    · iexact HS0
    ipureintro
    refine four _ _ _ _ _ _ _ _ _ _ _ _ ?_ ?_ ?_ ?_
    · exact newM_of (sc := k0_pay42) (lanes _ harg4 0 (by decide) _ rfl _ x0) (lanes _ harg5 0 (by decide) _ rfl _ x1) (base _ harg9 0 (by decide) _ s.hm)
    · exact newM_of (sc := k0_pay42) (lanes _ harg4 1 (by decide) _ rfl _ x0) (lanes _ harg5 1 (by decide) _ rfl _ x1) (base _ harg9 1 (by decide) _ s.hm)
    · exact newM_of (sc := k0_pay42) (lanes _ harg4 2 (by decide) _ rfl _ x0) (lanes _ harg5 2 (by decide) _ rfl _ x1) (base _ harg9 2 (by decide) _ s.hm)
    · exact newM_of (sc := k0_pay42) (lanes _ harg4 3 (by decide) _ rfl _ x0) (lanes _ harg5 3 (by decide) _ rfl _ x1) (base _ harg9 3 (by decide) _ s.hm)
  isplitl [HS1]
  · iexists _; isplitr
    swap
    · iexact HS1
    ipureintro
    refine four _ _ _ _ _ _ _ _ _ _ _ _ ?_ ?_ ?_ ?_
    · exact newL_of (sc := k0_pay42) (lanes _ harg4 0 (by decide) _ rfl _ x0) (lanes _ harg5 0 (by decide) _ rfl _ x1) (base _ harg9 0 (by decide) _ s.hm) (base _ harg10 0 (by decide) _ s.hl)
    · exact newL_of (sc := k0_pay42) (lanes _ harg4 1 (by decide) _ rfl _ x0) (lanes _ harg5 1 (by decide) _ rfl _ x1) (base _ harg9 1 (by decide) _ s.hm) (base _ harg10 1 (by decide) _ s.hl)
    · exact newL_of (sc := k0_pay42) (lanes _ harg4 2 (by decide) _ rfl _ x0) (lanes _ harg5 2 (by decide) _ rfl _ x1) (base _ harg9 2 (by decide) _ s.hm) (base _ harg10 2 (by decide) _ s.hl)
    · exact newL_of (sc := k0_pay42) (lanes _ harg4 3 (by decide) _ rfl _ x0) (lanes _ harg5 3 (by decide) _ rfl _ x1) (base _ harg9 3 (by decide) _ s.hm) (base _ harg10 3 (by decide) _ s.hl)
  iexists _; isplitr
  swap
  · iexact HS2
  ipureintro
  refine four _ _ _ _ _ _ _ _ _ _ _ _ ?_ ?_ ?_ ?_
  · exact newA_diag0 (lanes _ harg4 0 (by decide) _ rfl _ x0) (lanes _ harg5 0 (by decide) _ rfl _ x1) (base _ harg9 0 (by decide) _ s.hm) ((View.readAt_full _ _ _).trans (harg6.read_unread _)) (base _ harg11 0 (by decide) _ s.ha)
  · exact newA_of (sc := k0_pay42) (lanes _ harg4 1 (by decide) _ rfl _ x0) (lanes _ harg5 1 (by decide) _ rfl _ x1) (base _ harg9 1 (by decide) _ s.hm) ((View.readAt_full _ _ _).trans (harg6.read_unread _)) (base _ harg11 1 (by decide) _ s.ha)
  · exact newA_of (sc := k0_pay42) (lanes _ harg4 2 (by decide) _ rfl _ x0) (lanes _ harg5 2 (by decide) _ rfl _ x1) (base _ harg9 2 (by decide) _ s.hm) ((View.readAt_full _ _ _).trans (harg6.read_unread _)) (base _ harg11 2 (by decide) _ s.ha)
  · exact newA_of (sc := k0_pay42) (lanes _ harg4 3 (by decide) _ rfl _ x0) (lanes _ harg5 3 (by decide) _ rfl _ x1) (base _ harg9 3 (by decide) _ s.hm) ((View.readAt_full _ _ _).trans (harg6.read_unread _)) (base _ harg11 3 (by decide) _ s.ha)

end Cert.Kernel3Ideal.Hand

end
-- ==== Proof.XFrame.lean ====
/-
  The forgetting-attention call's proof data and the body's obligation at every grid point, the run of the whole program and its frame.
-/
module

public import proofs.«01_k».proof.Proof.XRunA
public import proofs.«01_k».proof.Proof.XRunB
public import proofs.«01_k».proof.Proof.XRunC
public import proofs.«01_k».proof.Proof.XRunD
public import Idealize.ShloMosaic.Lib.Pipeline.TableIdle

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- A point's place in the triangle, and its batch. -/
def pt (t : Fin (cfgA (F := F)).N) : Fin 136 := grid0.coords t 1
def bt (t : Fin (cfgA (F := F)).N) : ℕ := (grid0.coords t 0).val

theorem pt_val (t : Fin (cfgA (F := F)).N) : (pt t).val = t.val % 136 := by
  have h := Pipeline.Grid.coords_val (G := grid0) t 1 (S := 1) (B := 136) (by decide) rfl
  have hN : t.val < 272 := lt_of_lt_of_eq t.isLt (show (cfgA (F := F)).N = 272 from N_0)
  unfold pt
  rw [h]
  simp
theorem bt_val (t : Fin (cfgA (F := F)).N) : bt t = t.val / 136 := by
  have h := Pipeline.Grid.coords_val (G := grid0) t 0 (S := 136) (B := 2) (by decide) rfl
  have hN : t.val < 272 := lt_of_lt_of_eq t.isLt (show (cfgA (F := F)).N = 272 from N_0)
  unfold bt
  rw [h]
  simp; omega

/-- Below the diagonal the next point of the triangle is in the same row. -/
theorem qi_next : ∀ n : Fin 136, ki n ≠ qi n → ∃ h : n.val + 1 < 136, qi ⟨n.val + 1, h⟩ = qi n ∧ ki ⟨n.val + 1, h⟩ = ki n + 1 := by
  decide +kernel

/-- The first point of the triangle starts its row. -/
theorem ki_zero : ki 0 = 0 := by decide +kernel

theorem idle4 (t : Fin (cfgA (F := F)).N) (h : ki (pt t) ≠ qi (pt t)) : (cfgA (F := F)).idle 4 (grid0.coords t) = true :=
  (idle_4 (F := F) (grid0.coords t)).trans (decide_eq_true h)
theorem live4 (t : Fin (cfgA (F := F)).N) (h : ki (pt t) = qi (pt t)) : (cfgA (F := F)).idle 4 (grid0.coords t) = false :=
  (idle_4 (F := F) (grid0.coords t)).trans (decide_eq_false (not_not.mpr h))

/-- Below the diagonal the output's block is not written back. -/
theorem noFlush4 (t : Fin (cfgA (F := F)).N) (h : ki (pt t) ≠ qi (pt t)) : ((cfgA (F := F)).win 4).flush t = false := by
  obtain ⟨hp, hq, -⟩ := qi_next (pt t) h
  have hN : t.val < 272 := lt_of_lt_of_eq t.isLt (show (cfgA (F := F)).N = 272 from N_0)
  have hpv := pt_val t
  have hlt : t.val + 1 < (cfgA (F := F)).N :=
    lt_of_lt_of_eq (b := 272) (by omega) (show (cfgA (F := F)).N = 272 from N_0).symm
  have e1 : pt (F := F) ⟨t.val + 1, hlt⟩ = ⟨(pt t).val + 1, hp⟩ := Fin.ext (by rw [pt_val]; show (t.val + 1) % 136 = (pt t).val + 1; omega)
  have e0 : bt (F := F) ⟨t.val + 1, hlt⟩ = bt t := by rw [bt_val, bt_val]; show (t.val + 1) / 136 = t.val / 136; omega
  have hix : ((cfgA (F := F)).win 4).index ⟨t.val + 1, hlt⟩ = ((cfgA (F := F)).win 4).index t := by
    refine (ix0_o (F := F) (grid0.coords ⟨t.val + 1, hlt⟩)).trans (Eq.trans ?_ (ix0_o (F := F) (grid0.coords t)).symm)
    show ![bt (F := F) ⟨t.val + 1, hlt⟩, qi (pt (F := F) ⟨t.val + 1, hlt⟩), 0] = ![bt t, qi (pt t), 0]
    rw [e0, e1, hq]
  unfold Window.flush
  have hne : ¬ t.val + 1 = grid0.N := by
    have : grid0.N = 272 := N_0
    omega
  have hne2 : ¬ ∃ h : t.val + 1 < grid0.N, ((cfgA (F := F)).win 4).index ⟨t.val + 1, h⟩ ≠ ((cfgA (F := F)).win 4).index t :=
    fun ⟨_, hx⟩ => hx hix
  rw [decide_eq_false hne2]
  simp [hne]

/-! ## The body's conditions in closed form -/

theorem cond_first {n : ℕ} (h : n < 16) : (Scalar.cmpi .ne (Scalar.extui (Scalar.cmpi .eq (BitVec.ofNat 32 n) 0#32) : BitVec 32) 0#32 = 1#1) ↔ n = 0 := by
  have key : ∀ a < 16, (Scalar.cmpi .ne (Scalar.extui (Scalar.cmpi .eq (BitVec.ofNat 32 a) 0#32) : BitVec 32) 0#32 = 1#1) ↔ a = 0 := by decide +kernel
  exact key n h
theorem cond_below {a b : ℕ} (ha : a < 16) (hb : b < 16) (hab : b ≤ a) :
    (Scalar.cmpi .ne (Scalar.extui (Scalar.cmpi .slt (BitVec.ofNat 32 b) (BitVec.ofNat 32 a)) : BitVec 32) 0#32 = 1#1) ↔ b ≠ a := by
  have key : ∀ a < 16, ∀ b < 16, b ≤ a → ((Scalar.cmpi .ne (Scalar.extui (Scalar.cmpi .slt (BitVec.ofNat 32 b) (BitVec.ofNat 32 a)) : BitVec 32) 0#32 = 1#1) ↔ b ≠ a) := by decide +kernel
  exact key a ha b hb hab
theorem cond_diag {a b : ℕ} (ha : a < 16) (hb : b < 16) :
    (k0_cond3 (BitVec.ofNat 32 a) (BitVec.ofNat 32 b) = 1#1) ↔ b = a := by
  have key : ∀ a < 16, ∀ b < 16, ((k0_cond3 (BitVec.ofNat 32 a) (BitVec.ofNat 32 b) = 1#1) ↔ b = a) := by decide +kernel
  exact key a ha b hb

/-! ## The blocks and the running state -/

/-- Window `w`'s block at point `t`, of what the call finds in its array. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- One point's step on the running state. -/
def stepAt (c : Dev nD) (t : Fin (cfgA (F := F)).N) (s : St F) : St F :=
  if ki (pt t) = qi (pt t) then diag (iblk m c 0 t) (iblk m c 1 t) (iblk m c 2 t) (if ki (pt t) = 0 then init else s)
  else full (iblk m c 0 t) (iblk m c 1 t) (iblk m c 2 t) (if ki (pt t) = 0 then init else s)

/-- The running state after point `n`. -/
def stAt (c : Dev nD) : (n : ℕ) → n < (cfgA (F := F)).N → St F
  | 0, h => stepAt m c ⟨0, h⟩ init
  | n + 1, h => stepAt m c ⟨n + 1, h⟩ (stAt c n (Nat.lt_of_succ_lt h))

theorem stAt_first (c : Dev nD) (t : Fin (cfgA (F := F)).N) (h : ki (pt t) = 0) : stAt m c t.val t.isLt = stepAt m c t init := by
  obtain ⟨n, hn⟩ := t
  cases n with
  | zero => rfl
  | succ n =>
    show stepAt m c ⟨n + 1, hn⟩ _ = _
    unfold stepAt
    rw [if_pos h, if_pos h]

theorem stAt_next (c : Dev nD) (t : Fin (cfgA (F := F)).N) (h : t.val ≠ 0) :
    stAt m c t.val t.isLt = stepAt m c t (stAt m c (t.val - 1) (by omega)) := by
  obtain ⟨n, hn⟩ := t
  cases n with
  | zero => exact absurd rfl h
  | succ n => rfl

theorem pos_of_later (t : Fin (cfgA (F := F)).N) (h : ki (pt t) ≠ 0) : t.val ≠ 0 := fun h0 => h (by
  rw [show pt t = 0 from Fin.ext (by rw [pt_val, h0]; rfl)]; exact ki_zero)

/-! ## The buffers the body is handed -/

abbrev ms0 (t : Fin (cfgA (F := F)).N) : Memref sig .tc .vmem S1x512x512 .bf16 := spec0_0.stage ((cfgA (F := F)).slots t 0)
abbrev ms1 (t : Fin (cfgA (F := F)).N) : Memref sig .tc .vmem S1x512x512 .bf16 := spec0_1.stage ((cfgA (F := F)).slots t 1)
abbrev ms2 (t : Fin (cfgA (F := F)).N) : Memref sig .tc .vmem S1x512x256 .bf16 := spec0_2.stage ((cfgA (F := F)).slots t 2)
abbrev ms3 (t : Fin (cfgA (F := F)).N) : Memref sig .tc .vmem S1x256 .f32 := spec0_3.stage ((cfgA (F := F)).slots t 3)
abbrev ms4 (t : Fin (cfgA (F := F)).N) : Memref sig .tc .vmem S1x512x256 .bf16 := spec0_4.stage ((cfgA (F := F)).slots t 4)
abbrev scM0 : Memref sig .tc .vmem S4x512x1 .f32 := Memref.whole cc0_scratch0
abbrev scM1 : Memref sig .tc .vmem S4x512x1 .f32 := Memref.whole cc0_scratch1
abbrev scM2 : Memref sig .tc .vmem S4x512x256 .f32 := Memref.whole cc0_scratch2
abbrev tbM0 : Memref sig .tc .smem S136 .i32 := Memref.whole main_c
abbrev tbM1 : Memref sig .tc .smem S136 .i32 := Memref.whole main_c_0

/-- The body at a point, on its staging buffers, the tables and the scratch. -/
abbrev bodyAt (t : Fin (cfgA (F := F)).N) : Prog (TpuEff nD τ sig (Elt F) Λ₀ .tc) PUnit :=
  cc0_prompt_fox_attn (grid0.coords t) tbM0 (Memref.isWhole_whole _) tbM1 (Memref.isWhole_whole _)
    (ms0 t) (hstage0_0 (((cfgA (F := F)).slots t 0).cast nbuf0_0)) (ms1 t) (hstage0_1 (((cfgA (F := F)).slots t 1).cast nbuf0_1))
    (ms2 t) (hstage0_2 (((cfgA (F := F)).slots t 2).cast nbuf0_2)) (ms3 t) (hstage0_3 (((cfgA (F := F)).slots t 3).cast nbuf0_3))
    (ms4 t) (hstage0_4 (((cfgA (F := F)).slots t 4).cast nbuf0_4))
    scM0 (Memref.isWhole_whole _) scM1 (Memref.isWhole_whole _) scM2 (Memref.isWhole_whole _)

/-- The scoped rest: the three scratch buffers and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The tables as the body holds them. -/
theorem PhiT_eq (c : Dev nD) :
    (Pipeline.ΦT pre0 (tbl (F := F)) c : sProp 𝕄)
      = iprop(owns (c : Thread nD τ) tbM0 fullShare.right (tbl (F := F) 0) ∗ owns (c : Thread nD τ) tbM1 fullShare.right (tbl (F := F) 1)) := by
  refine (bigSep_univ_eq_bigSepL [(0 : Fin 2), (1 : Fin 2)] (by decide) (by decide) _).trans ?_
  exact congr (congrArg BIBase.sep (owns_whole (c : Thread nD τ) main_c fullShare.right (tbl (F := F) 0)).symm)
    (owns_whole (c : Thread nD τ) main_c_0 fullShare.right (tbl (F := F) 1)).symm

/-- What is held between points: nothing known of the scratch before the first, then the running state. -/
def PhiS (c : Dev nD) : (n : ℕ) → n ≤ (cfgA (F := F)).N → sProp 𝕄
  | 0, _ => Pipeline.ΦA spec0 c
  | n + 1, hn => iprop(iprop(owns (c : Thread nD τ) scM0 fullShare (stAt m c n hn).mx ∗ owns (c : Thread nD τ) scM1 fullShare (stAt m c n hn).sm ∗ owns (c : Thread nD τ) scM2 fullShare (stAt m c n hn).acc) ∗ (∃ r, prngReg c r))

theorem PhiS_pos (c : Dev nD) (n : ℕ) (h : n ≤ (cfgA (F := F)).N) (hz : n ≠ 0) :
    PhiS m c n h = iprop(iprop(owns (c : Thread nD τ) scM0 fullShare (stAt m c (n - 1) (by omega)).mx ∗ owns (c : Thread nD τ) scM1 fullShare (stAt m c (n - 1) (by omega)).sm ∗ owns (c : Thread nD τ) scM2 fullShare (stAt m c (n - 1) (by omega)).acc) ∗ (∃ r, prngReg c r)) := by
  cases n with
  | zero => exact absurd rfl hz
  | succ n => rfl

/-- Whatever the position, the scratch is held at something. -/
theorem PhiS_any (c : Dev nD) (n : ℕ) (h : n ≤ (cfgA (F := F)).N) : PhiS m c n h ⊢ Pipeline.ΦA spec0 c := by
  cases n with
  | zero => exact Entails.refl _
  | succ n =>
    rw [PhiA_eq]
    show iprop(iprop(owns (c : Thread nD τ) scM0 fullShare _ ∗ owns (c : Thread nD τ) scM1 fullShare _ ∗ owns (c : Thread nD τ) scM2 fullShare _) ∗ (∃ r, prngReg c r)) ⊢ _
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-! ## The proof data -/

/-- What the last point of a query tile writes out. -/
def outAt (c : Dev nD) (t : Fin (cfgA (F := F)).N) : Vec F S1x512x256 .bf16 := fin (iblk m c 3 t) (stAt m c t.val t.isLt)

/-- The pipeline's proof data: its arrays as the call finds them, what each point leaves in each buffer, what is held between points. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := iprop(PhiS m c t.val (Nat.le_of_lt_succ t.isLt) ∗ Pipeline.ΦT pre0 (tbl (F := F)) c)
  q _ := fullShare
  owed _ := 0

theorem A_eq (c : Dev nD) (w : Fin (cfgA (F := F)).W) : (dats m 0 c).A w = V m c (Pipeline.arrRef spec0 w) := by
  dsimp only [dats]

theorem Phi_castSucc (c : Dev nD) (t : Fin (cfgA (F := F)).N) :
    (dats m 0 c).Φ t.castSucc = iprop(PhiS m c t.val (Nat.le_of_lt t.isLt) ∗ Pipeline.ΦT pre0 (tbl (F := F)) c) := by
  dsimp only [dats]; exact congrArg (fun X => iprop(X ∗ Pipeline.ΦT pre0 (tbl (F := F)) c)) (Pipeline.Dat.Φ_castSucc (PhiS m c) t)
theorem Phi_succ (c : Dev nD) (t : Fin (cfgA (F := F)).N) :
    (dats m 0 c).Φ t.succ = iprop(iprop(iprop(owns (c : Thread nD τ) scM0 fullShare (stAt m c t.val t.isLt).mx ∗ owns (c : Thread nD τ) scM1 fullShare (stAt m c t.val t.isLt).sm ∗ owns (c : Thread nD τ) scM2 fullShare (stAt m c t.val t.isLt).acc) ∗ (∃ r, prngReg c r)) ∗ Pipeline.ΦT pre0 (tbl (F := F)) c) := by
  dsimp only [dats]; rfl

theorem after_0 (c : Dev nD) (t : Fin (cfgA (F := F)).N) : (dats m 0 c).after 0 t = iblk m c 0 t := by dsimp only [dats]; rfl
theorem after_1 (c : Dev nD) (t : Fin (cfgA (F := F)).N) : (dats m 0 c).after 1 t = iblk m c 1 t := by dsimp only [dats]; rfl
theorem after_2 (c : Dev nD) (t : Fin (cfgA (F := F)).N) : (dats m 0 c).after 2 t = iblk m c 2 t := by dsimp only [dats]; rfl
theorem after_3 (c : Dev nD) (t : Fin (cfgA (F := F)).N) : (dats m 0 c).after 3 t = iblk m c 3 t := by dsimp only [dats]; rfl
theorem after_4 (c : Dev nD) (t : Fin (cfgA (F := F)).N) : (dats m 0 c).after 4 t = outAt m c t := by dsimp only [dats]; rfl

/-! Each input buffer holds its block at every point, fetched there or not. -/
theorem before_0 (c : Dev nD) (t : Fin (cfgA (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body's obligation -/

/-- What the body is called with at a point, and what it returns. -/
def bodyPre (c : Dev nD) (t : Fin (cfgA (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin (cfgA (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 4000000 in
/-- The body at any point: by whether the point starts its query tile and whether it is on the diagonal. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  simp only [before_0, before_1, before_2, before_3]
  rw [show (dats m 0 c).owesAt () t.succ = (dats m 0 c).owesAt () t.castSucc from rfl, Phi_castSucc, Phi_succ, PhiT_eq]
  have hq := qi_lt (pt t)
  have hk := ki_lt (pt t)
  have hle := ki_le (pt t)
  rw [show (dats m 0 c).leavesExact 0 t = owns (c : Thread nD τ) (ms0 t) fullShare ((dats m 0 c).after 0 t) from by
    unfold Dat.leavesExact; rw [show (cfgA (F := F)).idle 0 ((cfgA (F := F)).grid.coords t) = false from rfl]; rfl, after_0]
  rw [show (dats m 0 c).leavesExact 1 t = owns (c : Thread nD τ) (ms1 t) fullShare ((dats m 0 c).after 1 t) from by
    unfold Dat.leavesExact; rw [show (cfgA (F := F)).idle 1 ((cfgA (F := F)).grid.coords t) = false from rfl]; rfl, after_1]
  rw [show (dats m 0 c).leavesExact 2 t = owns (c : Thread nD τ) (ms2 t) fullShare ((dats m 0 c).after 2 t) from by
    unfold Dat.leavesExact; rw [show (cfgA (F := F)).idle 2 ((cfgA (F := F)).grid.coords t) = false from rfl]; rfl, after_2]
  rw [show (dats m 0 c).leavesExact 3 t = owns (c : Thread nD τ) (ms3 t) fullShare ((dats m 0 c).after 3 t) from by
    unfold Dat.leavesExact; rw [show (cfgA (F := F)).idle 3 ((cfgA (F := F)).grid.coords t) = false from rfl]; rfl, after_3]
  by_cases h0 : ki (pt t) = 0
  · by_cases h1 : ki (pt t) = qi (pt t)
    · rw [show (dats m 0 c).leavesExact 4 t = owns (c : Thread nD τ) (ms4 t) fullShare ((dats m 0 c).after 4 t) from by unfold Dat.leavesExact; rw [live4 t h1]; rfl, after_4]
      unfold outAt
      rw [stAt_first m c t h0, show stepAt m c t init = diag (iblk m c 0 t) (iblk m c 1 t) (iblk m c 2 t) init from by unfold stepAt; rw [if_pos h1, if_pos h0]]
      refine (sep_mono (sep_mono (PhiS_any m c _ _) (Entails.refl _)) (Entails.refl _)).trans ?_
      rw [PhiA_eq]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ _ _ _ _ (tbl 0) (tbl 1) fullShare.right fullShare.right _ _ (word0 (grid0.coords t)) (word1 (grid0.coords t)) ((cond_first hk).mpr h0) (fun h => (cond_below hq hk hle).mp h h1) ((cond_diag hq hk).mpr h1) (iblk m c 0 t) (iblk m c 1 t) (iblk m c 2 t) (iblk m c 3 t) Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h1) (noFlush4 t h1)]
      rw [stAt_first m c t h0, show stepAt m c t init = full (iblk m c 0 t) (iblk m c 1 t) (iblk m c 2 t) init from by unfold stepAt; rw [if_neg h1, if_pos h0]]
      refine (sep_mono (sep_mono (PhiS_any m c _ _) (Entails.refl _)) (Entails.refl _)).trans ?_
      rw [PhiA_eq]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ _ _ _ _ (tbl 0) (tbl 1) fullShare.right fullShare.right _ _ (word0 (grid0.coords t)) (word1 (grid0.coords t)) ((cond_first hk).mpr h0) ((cond_below hq hk hle).mpr h1) (fun h => h1 ((cond_diag hq hk).mp h)) (iblk m c 0 t) (iblk m c 1 t) (iblk m c 2 t) (iblk m c 3 t) _ Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · by_cases h1 : ki (pt t) = qi (pt t)
    · rw [show (dats m 0 c).leavesExact 4 t = owns (c : Thread nD τ) (ms4 t) fullShare ((dats m 0 c).after 4 t) from by unfold Dat.leavesExact; rw [live4 t h1]; rfl, after_4]
      unfold outAt
      have hz := pos_of_later t h0
      rw [stAt_next m c t hz, show ∀ s, stepAt m c t s = diag (iblk m c 0 t) (iblk m c 1 t) (iblk m c 2 t) s from fun s => by unfold stepAt; rw [if_pos h1, if_neg h0]]
      rw [PhiS_pos m c _ _ hz]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runD c (grid0.coords t) _ _ _ _ _ _ _ _ _ _ _ _ _ _ _ _ _ _ _ _ (tbl 0) (tbl 1) fullShare.right fullShare.right _ _ (word0 (grid0.coords t)) (word1 (grid0.coords t)) (fun h => h0 ((cond_first hk).mp h)) (fun h => (cond_below hq hk hle).mp h h1) ((cond_diag hq hk).mpr h1) (iblk m c 0 t) (iblk m c 1 t) (iblk m c 2 t) (iblk m c 3 t) _ Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h1) (noFlush4 t h1)]
      have hz := pos_of_later t h0
      rw [stAt_next m c t hz, show ∀ s, stepAt m c t s = full (iblk m c 0 t) (iblk m c 1 t) (iblk m c 2 t) s from fun s => by unfold stepAt; rw [if_neg h1, if_neg h0]]
      rw [PhiS_pos m c _ _ hz]
      iintro ⟨⟨⟨⟨HS0, HS1, HS2⟩, Hg⟩, HT0, HT1⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ _ _ _ _ (tbl 0) (tbl 1) fullShare.right fullShare.right _ _ (word0 (grid0.coords t)) (word1 (grid0.coords t)) (fun h => h0 ((cond_first hk).mp h)) ((cond_below hq hk hle).mpr h1) (fun h => h1 ((cond_diag hq hk).mp h)) (iblk m c 0 t) (iblk m c 1 t) (iblk m c 2 t) (iblk m c 3 t) _ _ Set.univ _)
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨HT0, HT1, H0, H1, H2, H3, H4, HS0, HS1, HS2⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

/-- The body table's row at a point is the body. -/
theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : iprop(Pipeline.ΦA spec0 c ∗ Pipeline.ΦT pre0 (tbl (F := F)) c) ⊢ (dats m 0 c).Φ 0 := Entails.refl _

theorem hout (c : Dev nD) : (dats m 0 c).Φ (Fin.last (cfgA (F := F)).N) ⊢ Pipeline.ΦA spec0 c := by
  show iprop(PhiS m c _ _ ∗ Pipeline.ΦT pre0 (tbl (F := F)) c) ⊢ _
  iintro ⟨H, -⟩
  iapply (PhiS_any m c _ _) $$ H

/-! ## The run -/

set_option backward.isDefEq.respectTransparency.types false in
/-- Every run of the program ends, its arrays at what the proof data say and its counters at zero. -/
theorem run_main : θ_run defs (onTc (τ := τ) (main (F := F))) (s₀ m ρ)
    (fun r => Pipeline.FramePost (Pipeline.pin pcfgs (adm (F := F))) (dats m) 0 (V m) r ∧ r.2.sem = fun _ => 0) :=
  Pipeline.θ_run_frameP_track (Q' := _) pcfgs adm (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_tbl m) (hin := hin m) (hout := hout m)

/-- The frame: every run ends with the argument arrays unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (show ∀ w : Fin 5, (spec0 w).arr.view.ref ≠ main_arg0 from by decide))).trans (V_main_arg0 m c),
     ((h.1 c).2 main_arg1 (Pipeline.mem_restRefs_of main_arg1 (by decide) (show ∀ w : Fin 5, (spec0 w).arr.view.ref ≠ main_arg1 from by decide))).trans (V_main_arg1 m c),
     ((h.1 c).2 main_arg2 (Pipeline.mem_restRefs_of main_arg2 (by decide) (show ∀ w : Fin 5, (spec0 w).arr.view.ref ≠ main_arg2 from by decide))).trans (V_main_arg2 m c),
     ((h.1 c).2 main_arg3 (Pipeline.mem_restRefs_of main_arg3 (by decide) (show ∀ w : Fin 5, (spec0 w).arr.view.ref ≠ main_arg3 from by decide))).trans (V_main_arg3 m c),
     ((h.1 c).2 main_arg4 (Pipeline.mem_restRefs_of main_arg4 (by decide) (show ∀ w : Fin 5, (spec0 w).arr.view.ref ≠ main_arg4 from by decide))).trans (V_main_arg4 m c)⟩, h.2⟩) (run_main m ρ)

end Cert.Kernel3Ideal.Hand

end
-- ==== Proof.XSame.lean ====
/-
  The forgetting-attention program at bit patterns and its ideal copy have the same text: their tables, bodies and host programs are equal,
  so the frame of the one is the frame of the other.
-/
module

public import proofs.«01_k».proof.Defs
public import proofs.«01_k».proof.Proof.Gen.Kernel3
public import proofs.«01_k».proof.Proof.Gen.Kernel3Ideal
public import proofs.«01_k».proof.Proof.XFrame

@[expose] public section

set_option backward.isDefEq.respectTransparency.types false

noncomputable section

namespace Cert.Proof.Three

open Idealize.ShloMosaic Idealize.SL.Sem

/-- The two tables of query tiles are equal. -/
theorem lit0_eq : Cert.Kernel3.lit0 = Cert.Kernel3Ideal.lit0 := funext (by decide)

/-- The two tables of key tiles are equal. -/
theorem lit1_eq : Cert.Kernel3.lit1 = Cert.Kernel3Ideal.lit1 := funext (by decide)

/-- The two bodies are equal. -/
theorem defs₀_eq : Cert.Kernel3.defs₀ (F := Bits) = Cert.Kernel3Ideal.defs₀ (F := Bits) := by
  unfold Cert.Kernel3.defs₀ Cert.Kernel3Ideal.defs₀
  refine congrArg (Defs.onTc (nD := Cert.Kernel3.nD) (τ := Cert.Kernel3.τ) (sig := Cert.Kernel3.sig) (Val := Elt Bits) (Λ := Cert.Kernel3.Λ₀)) ?_
  funext l p
  match l with
  | ⟨0, _⟩ => exact rfl

/-- The two programs' definitions are equal. -/
theorem defs_eq : Cert.Kernel3.defs (F := Bits) = Cert.Kernel3Ideal.defs (F := Bits) := by
  unfold Cert.Kernel3.defs Cert.Kernel3Ideal.defs
  rw [defs₀_eq]; rfl

set_option maxHeartbeats 20000000 in
/-- The two host programs are equal, one operation after another. -/
theorem main_eq : Cert.Kernel3.main (F := Bits) = Cert.Kernel3Ideal.main (F := Bits) := by
  unfold Cert.Kernel3.main Cert.Kernel3Ideal.main
  rw [lit0_eq, lit1_eq]
  generalize Cert.Kernel3Ideal.lit0 = f0
  generalize Cert.Kernel3Ideal.lit1 = f1
  funext c
  iterate 31 (refine congrArg₂ Bind.bind ?_ (funext fun _ => ?_); · exact rfl)
  exact rfl

/-- The kernel's frame, from the run over any float values. -/
theorem frame_kernel : Cert.quiescent_Kernel3 (hKernel3 := Cert.Kernel3.Gen.facts) := fun m ρ _ => by
  rw [defs_eq, main_eq]
  exact Cert.Kernel3Ideal.Hand.frame_any (F := Bits) m ρ

end Cert.Proof.Three

end
-- ==== Proof.XPay.lean ====
/-
  The forgetting-attention body's values over the extended reals, row by row.
-/
module

public import proofs.«01_k».proof.Proof.Pay
public import proofs.«01_k».proof.Proof.XState

@[expose] public section

set_option maxRecDepth 16384

noncomputable section

namespace Cert.Kernel3Ideal.Hand

open Idealize.ShloMosaic Idealize.ShloMosaic.TcCoe
open Cert.Kernel3Ideal.Gen
open Cert.KernelIdeal.Hand (ofBits_neg_inf cmpi_sle_ofNat rms)

/-- A score of a head's tile: the product of a query row with a key row. -/
def sc (q k : Vec Ideal S1x512x128 .bf16) (r x : Fin 512) : EReal := ∑ d : Fin 128, q (ix3 0 r d) * k (ix3 0 x d)

/-- The scores below the diagonal. -/
theorem pay9_at (q k : Vec Ideal S1x512x128 .bf16) (r x : Fin 512) : k0_pay9 q k (ix2 r x) = sc q k r x := by
  pointwise [k0_pay9, sc]

/-- The scores on the diagonal. -/
theorem pay42_at (q k : Vec Ideal S1x512x128 .bf16) (r x : Fin 512) :
    k0_pay42 q k (ix2 r x) = if x.val < r.val + 1 then sc q k r x else ⊥ := by
  pointwise [k0_pay42, sc]
  rw [ofBits_neg_inf]
  exact if_congr ((cmpi_sle_ofNat (by omega) (by omega)).trans Nat.lt_succ_iff.symm) rfl rfl

/-- The row maxima of a tile. -/
theorem rowMax (v : FVec Ideal S512x512 .f32) (r : Fin 512) :
    shapeCast S512x1 (multiReduction .maximumf [1] S512 v 0xFF800000#32 reduces_S512x512_S512 (.inl rfl) rfl) shapeCasts_S512_S512x1 (ix2 r 0)
      = Finset.univ.fold max ⊥ fun x => v (ix2 r x) := by
  rw [← ofBits_neg_inf]
  pointwise

variable (s : FVec Ideal S512x512 .f32) (m l : Vec Ideal S1x512x1 .f32) (v : Vec Ideal S1x512x256 .bf16) (a : Vec Ideal S1x512x256 .f32) (r : Fin 512)

/-- The new maxima, row by row. -/
theorem topM_at : topM s m (ix2 r 0) = max (m (ix3 0 r 0)) (Finset.univ.fold max ⊥ fun x => s (ix2 r x)) := by
  have h : shapeCast S512x1 m shapeCasts_S1x512x1_S512x1 (ix2 r 0) = m (ix3 0 r 0) := by pointwise
  unfold topM
  exact congrArg₂ max h (rowMax s r)
theorem newM_at : newM s m (ix3 0 r 0) = topM s m (ix2 r 0) := by
  pointwise [newM, k0_pay17]
theorem newP_at (x : Fin 512) : newP s m (ix2 r x) = Ideal.exp (s (ix2 r x) - topM s m (ix2 r 0)) := by
  pointwise [newP]
theorem newR_at : newR s m (ix2 r 0) = Ideal.exp (m (ix3 0 r 0) - topM s m (ix2 r 0)) := by
  pointwise [newR]
/-- The new sums, row by row. -/
theorem newL_at : newL s m l (ix3 0 r 0) = Ideal.exp (m (ix3 0 r 0) - topM s m (ix2 r 0)) * l (ix3 0 r 0)
    + ∑ x, Ideal.exp (s (ix2 r x) - topM s m (ix2 r 0)) := by
  pointwise [newL]
  simp only [newP_at, newR_at]
/-- The new weighted rows, lane by lane. -/
theorem newA_at (c : Fin 256) : newA s m v a (ix3 0 r c) = Ideal.exp (m (ix3 0 r 0) - topM s m (ix2 r 0)) * a (ix3 0 r c)
    + ∑ x, Ideal.exp (s (ix2 r x) - topM s m (ix2 r 0)) * v (ix3 0 x c) := by
  pointwise [newA]
  simp only [newP_at, newR_at]

/-- The starting state, row by row. -/
theorem init_at (h : Fin 4) : (init : St Ideal).hm h (ix3 0 r 0) = ⊥ ∧ (init : St Ideal).hl h (ix3 0 r 0) = 0
    ∧ ∀ c, (init : St Ideal).ha h (ix3 0 r c) = 0 := by
  pointwise [init, slc, k0_pay1, k0_pay2, k0_pay3]
  exact ⟨ofBits_neg_inf, fun _ => trivial⟩

/-- One head's lanes of a block. -/
theorem lane_at (h : Fin 4) (x : Vec Ideal S1x512x512 .bf16) (d : Fin 128) : lane h x (ix3 0 r d) = x (ix3 0 r ⟨128 * h.val + d.val, by omega⟩) :=
  congrArg x (funext fun a => match a with
    | ⟨0, _⟩ => rfl
    | ⟨1, _⟩ => rfl
    | ⟨2, _⟩ => rfl)

/-- A lane before the normalisation: the head the lane belongs to gives it. -/
def lanes3 (s : St Ideal) (r : Fin 512) (e : Fin 256) : EReal :=
  s.ha ⟨e.val / 64, by omega⟩ (ix3 0 r e) * Ideal.div 1 (s.hl ⟨e.val / 64, by omega⟩ (ix3 0 r 0))

/-- The word a lane's head is recognised by. -/
theorem lane_word : ∀ (h : Fin 4) (e : Fin 256), IntOp.andi (IntOp.cmpi .sge (BitVec.ofNat 32 e.val) (BitVec.ofNat 32 (64 * h.val)))
    (IntOp.cmpi .slt (BitVec.ofNat 32 e.val) (BitVec.ofNat 32 (64 * h.val + 64))) = 1#1 ↔ e.val / 64 = h.val := by
  decide +kernel

/-- What the query tile's last point writes out, entry by entry. -/
theorem fin_at (g : Vec Ideal S1x256 .f32) (s : St Ideal) (e : Fin 256) :
    fin g s (ix3 0 r e) = rms (lanes3 s r) (g (ix2 0 e)) e := by
  have hz : ∀ e : Fin 256, (if IntOp.andi (IntOp.cmpi .sge (BitVec.ofNat 32 e.val) 192#32) (IntOp.cmpi .slt (BitVec.ofNat 32 e.val) 256#32) = 1#1
      then s.ha 3 (ix3 0 r e) * Ideal.div 1 (s.hl 3 (ix3 0 r 0)) else
      if IntOp.andi (IntOp.cmpi .sge (BitVec.ofNat 32 e.val) 128#32) (IntOp.cmpi .slt (BitVec.ofNat 32 e.val) 192#32) = 1#1
      then s.ha 2 (ix3 0 r e) * Ideal.div 1 (s.hl 2 (ix3 0 r 0)) else
      if IntOp.andi (IntOp.cmpi .sge (BitVec.ofNat 32 e.val) 64#32) (IntOp.cmpi .slt (BitVec.ofNat 32 e.val) 128#32) = 1#1
      then s.ha 1 (ix3 0 r e) * Ideal.div 1 (s.hl 1 (ix3 0 r 0)) else
      if IntOp.andi (IntOp.cmpi .sge (BitVec.ofNat 32 e.val) 0#32) (IntOp.cmpi .slt (BitVec.ofNat 32 e.val) 64#32) = 1#1
      then s.ha 0 (ix3 0 r e) * Ideal.div 1 (s.hl 0 (ix3 0 r 0)) else 0) = lanes3 s r e := by
    intro e
    have w0 := lane_word 0 e
    have w1 := lane_word 1 e
    have w2 := lane_word 2 e
    have w3 := lane_word 3 e
    have key : ∀ h : Fin 4, e.val / 64 = h.val → lanes3 s r e = s.ha h (ix3 0 r e) * Ideal.div 1 (s.hl h (ix3 0 r 0)) := fun h he => by
      unfold lanes3
      rw [show (⟨e.val / 64, by omega⟩ : Fin 4) = h from Fin.ext he]
    split
    · rename_i hc; exact (key 3 (w3.1 hc)).symm
    · rename_i c3
      split
      · rename_i hc; exact (key 2 (w2.1 hc)).symm
      · rename_i c2
        split
        · rename_i hc; exact (key 1 (w1.1 hc)).symm
        · rename_i c1
          have n3 : e.val / 64 ≠ 3 := fun h => c3 (w3.2 h)
          have n2 : e.val / 64 ≠ 2 := fun h => c2 (w2.2 h)
          have n1 : e.val / 64 ≠ 1 := fun h => c1 (w1.2 h)
          have h0 : e.val / 64 = 0 := by omega
          exact (if_pos (w0.2 h0)).trans (key 0 h0).symm
  unfold rms fin
  simp only [← hz]
  pointwise [k0_pay7, k0_pay81, k0_pay79, k0_pay80]
  rfl

end Cert.Kernel3Ideal.Hand

end
-- ==== Proof.XSoft.lean ====
/-
  The running softmax of a row of scores whose rows of values may be infinite: the weights stay real, the weighted sums
  are sums of extended reals.
-/
module

public import proofs.«01_k».proof.Proof.Soft

@[expose] public section

noncomputable section

namespace Cert.Soft

open Idealize.ShloMosaic Finset

/-- A real factor that is not negative goes into a sum of extended reals. -/
theorem coe_mul_sum {ι : Type*} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.2 hr) (EReal.coe_ne_top r), ih]

/-- A sum over a tile whose entries past the first `w` are zero, over the extended reals. -/
theorem sum_cut_ext {T w : ℕ} (hw : w ≤ T) (f : ℕ → EReal) : (∑ x : Fin T, if x.val < w then f x.val else 0) = ∑ j ∈ range w, f j := by
  rw [Fin.sum_univ_eq_sum_range (fun x => if x < w then f x else 0) T, ← Finset.sum_filter]
  congr 1
  ext j
  simp only [mem_filter, mem_range]
  omega

/-- The weights of a masked row's first `w` columns: real exponentials, and zero past them. -/
theorem exp_cut {T w : ℕ} (s : ℕ → ℝ) (t : Fin T → EReal) (ht : ∀ x, t x = if x.val < w then ((s x.val : ℝ) : EReal) else ⊥) (M : ℝ) (x : Fin T) :
    Ideal.exp (t x - M) = ((if x.val < w then Real.exp (s x.val - M) else 0 : ℝ) : EReal) := by
  rw [ht]
  split
  · rw [← EReal.coe_sub, Ideal.exp_coe]
  · rw [EReal.bot_sub, Ideal.exp_bot, EReal.coe_zero]

/-- A masked row's maximum is real. -/
theorem max_cut {T w : ℕ} (hw0 : 0 < w) (hw : w ≤ T) (s : ℕ → ℝ) (t : Fin T → EReal)
    (ht : ∀ x, t x = if x.val < w then ((s x.val : ℝ) : EReal) else ⊥) : ∃ μ : ℝ, Finset.univ.fold max ⊥ t = (μ : EReal) := by
  refine fold_max_real _ _ _ (by simp) (fun x _ => ?_) (.inr ⟨⟨0, by omega⟩, mem_univ _, ?_⟩)
  · rw [ht]; split <;> simp
  · rw [ht, if_pos hw0]; simp

/-- A masked row's weights summed, and its weighted rows summed. -/
theorem exp_sum {T w : ℕ} (hw : w ≤ T) (s : ℕ → ℝ) (t : Fin T → EReal) (ht : ∀ x, t x = if x.val < w then ((s x.val : ℝ) : EReal) else ⊥) (M : ℝ) :
    ∑ x, Ideal.exp (t x - M) = ((∑ j ∈ range w, Real.exp (s j - M) : ℝ) : EReal) := by
  rw [← sum_cut hw (fun j => Real.exp (s j - M)), coe_sum]
  exact Finset.sum_congr rfl fun x _ => exp_cut s t ht M x
theorem exp_row {T w : ℕ} (hw : w ≤ T) (s : ℕ → ℝ) (v : ℕ → EReal) (t : Fin T → EReal) (k : Fin T → EReal)
    (ht : ∀ x, t x = if x.val < w then ((s x.val : ℝ) : EReal) else ⊥) (hk : ∀ x, k x = v x.val) (M : ℝ) :
    ∑ x, Ideal.exp (t x - M) * k x = ∑ j ∈ range w, ((Real.exp (s j - M) : ℝ) : EReal) * v j := by
  rw [← sum_cut_ext hw (fun j => ((Real.exp (s j - M) : ℝ) : EReal) * v j)]
  refine Finset.sum_congr rfl fun x _ => ?_
  rw [exp_cut s t ht M, hk]
  split
  · rfl
  · rw [EReal.coe_zero, zero_mul]

/-- What a row's state holds once the first `n` columns are taken: nothing, or the sum of the columns' exponentials and the sum of
    their rows so weighted, both relative to a common real maximum. -/
def InvE {C : Type} (s : ℕ → ℝ) (v : ℕ → C → EReal) (n : ℕ) (m l : EReal) (a : C → EReal) : Prop :=
  (n = 0 ∧ m = ⊥ ∧ l = 0 ∧ ∀ c, a c = 0) ∨
  ∃ μ : ℝ, m = (μ : EReal) ∧ l = ((∑ j ∈ range n, Real.exp (s j - μ) : ℝ) : EReal)
    ∧ ∀ c, a c = ∑ j ∈ range n, ((Real.exp (s j - μ) : ℝ) : EReal) * v j c

/-- Taking the next tile's first `w` columns, its other entries masked. -/
theorem InvE.step {C : Type} {s : ℕ → ℝ} {v : ℕ → C → EReal} {n : ℕ} {m l : EReal} {a : C → EReal} (h : InvE s v n m l a)
    {T w : ℕ} (hw0 : 0 < w) (hw : w ≤ T) (t : Fin T → EReal) (k : Fin T → C → EReal)
    (ht : ∀ x, t x = if x.val < w then ((s (n + x.val) : ℝ) : EReal) else ⊥) (hk : ∀ x c, k x c = v (n + x.val) c)
    (m' : EReal) (hm' : m' = max m (Finset.univ.fold max ⊥ t)) :
    InvE s v (n + w) m' (Ideal.exp (m - m') * l + ∑ x, Ideal.exp (t x - m'))
      (fun c => Ideal.exp (m - m') * a c + ∑ x, Ideal.exp (t x - m') * k x c) := by
  obtain ⟨μ', hμ'⟩ := max_cut hw0 hw (fun j => s (n + j)) t ht
  obtain ⟨M, rfl⟩ : ∃ M : ℝ, m' = (M : EReal) := by
    rcases h with ⟨-, rfl, -⟩ | ⟨μ, rfl, -⟩
    · exact ⟨μ', by rw [hm', hμ']; simp⟩
    · exact ⟨max μ μ', by rw [hm', hμ']; exact (EReal.coe_strictMono.monotone.map_max).symm⟩
  refine .inr ⟨M, rfl, ?_, fun c => ?_⟩
  · rw [exp_sum hw (fun j => s (n + j)) t ht M, Finset.sum_range_add]
    rcases h with ⟨rfl, rfl, rfl, -⟩ | ⟨μ, rfl, rfl, -⟩
    · simp
    · rw [← EReal.coe_sub, Ideal.exp_coe, ← EReal.coe_mul, ← EReal.coe_add, Finset.mul_sum]
      congr 2
      refine Finset.sum_congr rfl fun j _ => ?_
      rw [← Real.exp_add]; congr 1; ring
  · show _ * a c + _ = _
    rw [exp_row hw (fun j => s (n + j)) (fun j => v (n + j) c) t (fun x => k x c) ht (fun x => hk x c) M, Finset.sum_range_add]
    rcases h with ⟨rfl, rfl, -, h0⟩ | ⟨μ, rfl, -, ha⟩
    · rw [h0]; simp
    · rw [ha, ← EReal.coe_sub, Ideal.exp_coe, coe_mul_sum _ (Real.exp_pos _).le]
      congr 1
      refine Finset.sum_congr rfl fun j _ => ?_
      rw [← mul_assoc, ← EReal.coe_mul, ← Real.exp_add]
      congr 3; ring

/-- The softmax's mean of the first `n` columns' rows. -/
def meanE {C : Type} (s : ℕ → ℝ) (v : ℕ → C → EReal) (n : ℕ) (c : C) : EReal :=
  ∑ j ∈ range n, ((Real.exp (s j) / ∑ i ∈ range n, Real.exp (s i) : ℝ) : EReal) * v j c

/-- A column's weight is free of the maximum the exponentials are taken relative to. -/
theorem weight_shift (s : ℕ → ℝ) (n j : ℕ) (μ : ℝ) :
    Real.exp (s j - μ) * (1 / ∑ i ∈ range n, Real.exp (s i - μ)) = Real.exp (s j) / ∑ i ∈ range n, Real.exp (s i) := by
  have h1 : ∀ j, Real.exp (s j - μ) = Real.exp (-μ) * Real.exp (s j) := fun j => by rw [← Real.exp_add]; congr 1; ring
  simp only [h1]
  rw [← Finset.mul_sum, mul_one_div, mul_div_mul_left _ _ (Real.exp_ne_zero _)]

/-- A row's weighted rows times the reciprocal of its sum is the mean. -/
theorem InvE.out {C : Type} {s : ℕ → ℝ} {v : ℕ → C → EReal} {n : ℕ} {m l : EReal} {a : C → EReal} (h : InvE s v n m l a) (hn : 0 < n) (c : C) :
    a c * Ideal.div 1 l = meanE s v n c := by
  rcases h with ⟨h0, -⟩ | ⟨μ, -, rfl, ha⟩
  · omega
  · have hp := sum_exp_pos s hn μ
    rw [ha, Ideal.div_coe hp.ne', one_mul, mul_comm, coe_mul_sum _ (by positivity)]
    unfold meanE
    refine Finset.sum_congr rfl fun j _ => ?_
    rw [← mul_assoc, ← EReal.coe_mul, mul_comm (1 / _), weight_shift]

/-- The same mean, of a whole masked row taken at once: every column's weight the quotient by the weights' sum. -/
theorem whole_rowE {C : Type} {s : ℕ → ℝ} {v : ℕ → C → EReal} {N n : ℕ} (hn : 0 < n) (hN : n ≤ N) (t : Fin N → EReal) (k : Fin N → C → EReal)
    (ht : ∀ x, t x = if x.val < n then ((s x.val : ℝ) : EReal) else ⊥) (hk : ∀ x c, k x c = v x.val c)
    (m : EReal) (hm : m = Finset.univ.fold max ⊥ t) (c : C) :
    ∑ x, k x c * Ideal.div (Ideal.exp (t x - m)) (∑ y, Ideal.exp (t y - m)) = meanE s v n c := by
  obtain ⟨M, hM⟩ := max_cut hn hN s t ht
  obtain rfl : m = (M : EReal) := hm.trans hM
  rw [exp_sum hN s t ht M]
  unfold meanE
  rw [← sum_cut_ext hN (fun j => ((Real.exp (s j) / ∑ i ∈ range n, Real.exp (s i) : ℝ) : EReal) * v j c)]
  refine Finset.sum_congr rfl fun x _ => ?_
  rw [Ideal.div_coe (sum_exp_pos s hn M).ne', exp_cut s t ht M, hk, ← EReal.coe_mul]
  split
  · rw [weight_shift, mul_comm]
  · rw [zero_mul, EReal.coe_zero, mul_zero]

end Cert.Soft

end
-- ==== Proof.XSpec.lean ====
/-
  The forgetting attention's result over real queries, keys and log gates: the value both programs compute.
-/
module

public import proofs.«01_k».proof.Proof.XPay
public import proofs.«01_k».proof.Proof.XSoft

@[expose] public section

set_option maxRecDepth 16384

noncomputable section

namespace Cert.Kernel3Ideal.Hand

open Idealize.ShloMosaic Idealize.ShloMosaic.TcCoe
open Cert.Kernel3Ideal.Gen Cert.Soft
open Cert.KernelIdeal.Hand (rms)

/-- The scale of the scores. -/
def kap : ℝ := (Ideal.ofBits .f32 0x3E000000#32).toReal

theorem kap_eq : Ideal.ofBits .f32 0x3E000000#32 = ((kap : ℝ) : EReal) := by
  have : ∃ r : ℝ, Ideal.ofBits .f32 0x3E000000#32 = (r : EReal) := ⟨_, by simp [Ideal.ofBits, Ideal.ieee]; rfl⟩
  obtain ⟨r, hr⟩ := this
  unfold kap
  rw [hr, EReal.toReal_coe]

variable (q k v : FVec Ideal S2x8192x4x64 .f32) (f : FVec Ideal S2x8192x4 .f32) (g : FVec Ideal S256 .f32)

/-- The real queries, keys and gates of a batch and a head. -/
def rq (b h i : ℕ) (d : Fin 64) : ℝ :=
  if hh : b < 2 ∧ h < 4 ∧ i < 8192 then (q (ix4 ⟨b, hh.1⟩ ⟨i, hh.2.2⟩ ⟨h, hh.2.1⟩ d)).toReal else 0
def rf (b h i : ℕ) : ℝ :=
  if hh : b < 2 ∧ h < 4 ∧ i < 8192 then (f (ix3 ⟨b, hh.1⟩ ⟨i, hh.2.2⟩ ⟨h, hh.2.1⟩)).toReal else 0
/-- A row of the values, laid out over all heads' lanes. -/
def rv (b j : ℕ) (e : Fin 256) : EReal :=
  if hh : b < 2 ∧ j < 8192 then v (ix4 ⟨b, hh.1⟩ ⟨j, hh.2⟩ ⟨e.val / 64, by omega⟩ ⟨e.val % 64, by omega⟩) else 0

/-- A real score: query row `i` of head `h` with key `j`, in batch `b`. -/
def score (b h i j : ℕ) : ℝ := (∑ d : Fin 64, rq q b h i d * rq k b h j d) * kap + rf f b h i - rf f b h j

/-- The entries of the queries, the keys and the gates are real. -/
structure RealArgs : Prop where
  q : ∀ i, ((q i).toReal : EReal) = q i
  k : ∀ i, ((k i).toReal : EReal) = k i
  f : ∀ i, ((f i).toReal : EReal) = f i

/-- A lane before the normalisation. -/
def oFox (b i : ℕ) (e : Fin 256) : EReal := meanE (score q k f b (e.val / 64) i) (rv v b) (i + 1) e

/-- The result's entry. -/
def specAt (b : Fin 2) (i : Fin 8192) (e : Fin 256) : EReal := rms (oFox q k v f b i) (g (ix1 e)) e

/-- The result. -/
def spec : FVec Ideal S2x8192x256 .bf16 := fun i => specAt q k v f g (i 0) (i 1) (i 2)

/-! The lanes the host packs: the scaled query, the gate in three pieces and three ones; the key, three ones and the negated pieces. -/
def pq (b h i : ℕ) (d : Fin 128) : ℝ :=
  if hd : d.val < 64 then rq q b h i ⟨d.val, hd⟩ * kap else if d.val = 64 then rf f b h i else if 67 ≤ d.val ∧ d.val < 70 then 1 else 0
def pk (b h i : ℕ) (d : Fin 128) : ℝ :=
  if hd : d.val < 64 then rq k b h i ⟨d.val, hd⟩ else if 64 ≤ d.val ∧ d.val < 67 then 1 else if d.val = 67 then - rf f b h i else 0

/-- The packed lanes' product is the score. -/
theorem packed (b h i j : ℕ) : ∑ d, pq q f b h i d * pk k f b h j d = score q k f b h i j := by
  rw [show (∑ d : Fin 128, pq q f b h i d * pk k f b h j d) = ∑ d : Fin (64 + 64), pq q f b h i d * pk k f b h j d from rfl, Fin.sum_univ_add]
  unfold score
  rw [add_sub_assoc]
  congr 1
  · rw [Finset.sum_mul]
    refine Finset.sum_congr rfl fun d _ => ?_
    have e : (Fin.castAdd 64 d).val < 64 := d.isLt
    unfold pq pk
    rw [dif_pos e, dif_pos e]
    show rq q b h i d * kap * rq k b h j d = _
    ring
  · have e : ∀ x : Fin 64, pq q f b h i (Fin.natAdd 64 x) * pk k f b h j (Fin.natAdd 64 x)
        = (if x = 0 then rf f b h i else 0) + (if x = 3 then - rf f b h j else 0) := fun x => by
      have hv : (Fin.natAdd 64 x).val = 64 + x.val := rfl
      have h0 : x = 0 ↔ x.val = 0 := Fin.ext_iff
      have h3 : x = 3 ↔ x.val = 3 := Fin.ext_iff
      unfold pq pk
      rw [dif_neg (by omega), dif_neg (by omega), hv]
      by_cases c0 : x.val = 0
      · rw [if_pos (by omega), if_pos (by omega), if_pos (h0.2 c0), if_neg (fun hh => by have := h3.1 hh; omega)]; ring
      · rw [if_neg (by omega), if_neg (fun hh => c0 (h0.1 hh))]
        by_cases c3 : x.val = 3
        · rw [if_pos (by omega), if_neg (by omega), if_pos (by omega), if_pos (h3.2 c3)]; ring
        · rw [if_neg (c := x = 3) (fun hh => c3 (h3.1 hh)), if_neg (c := 64 + x.val = 67) (by omega)]
          by_cases c1 : 67 ≤ 64 + x.val ∧ 64 + x.val < 70
          · rw [if_neg (c := 64 ≤ 64 + x.val ∧ 64 + x.val < 67) (by omega)]; ring
          · rw [if_neg c1]; ring
    simp only [e]
    rw [Finset.sum_add_distrib, Finset.sum_ite_eq' Finset.univ, Finset.sum_ite_eq' Finset.univ, if_pos (Finset.mem_univ _), if_pos (Finset.mem_univ _)]
    ring

end Cert.Kernel3Ideal.Hand

end
-- ==== Proof.XPack.lean ====
/-
  How the host packs the queries' and the keys' lanes, read entry by entry at the extended reals.
-/
module

public import proofs.«01_k».proof.Proof.XSpec
public import Idealize.ShloMosaic.Lib.StableHlo.ReadAt
public import Idealize.ShloMosaic.Lib.Pointwise

@[expose] public section

set_option maxRecDepth 16384

noncomputable section

namespace Cert.Kernel3Ideal.Hand

open Idealize.ShloMosaic Idealize.ShloMosaic.TcCoe Idealize.ShloMosaic.StableHlo
open Cert.Kernel3Ideal.Gen

/-! The gate in three pieces: at the extended reals the first is the gate and the other two are differences. -/
def hi (f : FVec Ideal S2x8192x4 .f32) : FVec Ideal S2x8192x4 .f32 := extf .f32 (truncf .bf16 f bitsLt_bf16_f32) bitsLt_bf16_f32
def mid (f : FVec Ideal S2x8192x4 .f32) : FVec Ideal S2x8192x4 .f32 := hi (subf f (hi f))
def low (f : FVec Ideal S2x8192x4 .f32) : FVec Ideal S2x8192x4 .f32 := hi (subf (subf f (hi f)) (mid f))
def pieces (f : FVec Ideal S2x8192x4 .f32) : FVec Ideal S2x8192x4x3 .f32 := concatenate S2x8192x4x3 3
  [⟨S2x8192x4x1, broadcastInDim S2x8192x4x1 ![0, 1, 2] bcast_S2x8192x4_S2x8192x4x1_0_1_2 (hi f)⟩,
   ⟨S2x8192x4x1, broadcastInDim S2x8192x4x1 ![0, 1, 2] bcast_S2x8192x4_S2x8192x4x1_0_1_2 (mid f)⟩,
   ⟨S2x8192x4x1, broadcastInDim S2x8192x4x1 ![0, 1, 2] bcast_S2x8192x4_S2x8192x4x1_0_1_2 (low f)⟩]
  concatenates_S2x8192x4x1_S2x8192x4x1_S2x8192x4x1_S2x8192x4x3_d3
/-- A head's 128 lanes: 64 lanes, three and three more, and zeros; and all heads' lanes side by side. -/
def lanesOf (a : FVec Ideal S2x8192x4x64 .f32) (x y : FVec Ideal S2x8192x4x3 .f32) : FVec Ideal S2x8192x4x128 .f32 :=
  concatenate S2x8192x4x128 3 [⟨S2x8192x4x64, a⟩, ⟨S2x8192x4x3, x⟩, ⟨S2x8192x4x3, y⟩,
     ⟨S2x8192x4x58, broadcastInDim S2x8192x4x58 ![] bcast_S_S2x8192x4x58 (constant S_ .f32 0x00000000#32)⟩]
    concatenates_S2x8192x4x64_S2x8192x4x3_S2x8192x4x3_S2x8192x4x58_S2x8192x4x128_d3
def packs (a : FVec Ideal S2x8192x4x64 .f32) (x y : FVec Ideal S2x8192x4x3 .f32) : FVec Ideal S2x8192x512 .bf16 :=
  truncf .bf16 (shapeCast S2x8192x512 (lanesOf a x y) shapeCasts_S2x8192x4x128_S2x8192x512) bitsLt_bf16_f32
def ones : FVec Ideal S2x8192x4x3 .f32 := broadcastInDim S2x8192x4x3 ![] bcast_S_S2x8192x4x3 (constant S_ .f32 0x3F800000#32)

/-- The word of one. -/
theorem one_bits : Ideal.ofBits .f32 0x3F800000#32 = ((1 : ℝ) : EReal) := by
  simp [Ideal.ofBits, Ideal.ieee]
  rw [← EReal.coe_mul]; norm_num

/-- The word of zero. -/
theorem zero_bits : Ideal.ofBits .f32 0x00000000#32 = 0 := by simp [Ideal.ofBits, Ideal.ieee]

/-- The lanes of a head, one piece after another. -/
theorem cat_at (a : FVec Ideal S2x8192x4x64 .f32) (x y : FVec Ideal S2x8192x4x3 .f32) (z : FVec Ideal S2x8192x4x58 .f32) (b : Fin 2) (i : Fin 8192) (h : Fin 4) (d : Fin 128) :
    concatenate (α := Ideal .f32) S2x8192x4x128 3 [⟨S2x8192x4x64, a⟩, ⟨S2x8192x4x3, x⟩, ⟨S2x8192x4x3, y⟩, ⟨S2x8192x4x58, z⟩]
        concatenates_S2x8192x4x64_S2x8192x4x3_S2x8192x4x3_S2x8192x4x58_S2x8192x4x128_d3 (ix4 b i h d)
      = if h0 : d.val < 64 then a (ix4 b i h ⟨d.val, h0⟩) else if h1 : d.val - 64 < 3 then x (ix4 b i h ⟨d.val - 64, h1⟩)
        else if h2 : d.val - 64 - 3 < 3 then y (ix4 b i h ⟨d.val - 64 - 3, h2⟩) else z (ix4 b i h ⟨d.val - 64 - 3 - 3, by omega⟩) := by
  pointwise

/-- The heads' lanes side by side. -/
theorem side_at (z : FVec Ideal S2x8192x4x128 .f32) (b : Fin 2) (i : Fin 8192) (e : Fin 512) :
    shapeCast S2x8192x512 z shapeCasts_S2x8192x4x128_S2x8192x512 (ix3 b i e) = z (ix4 b i ⟨e.val / 128, by omega⟩ ⟨e.val % 128, by omega⟩) := by
  pointwise

/-- A change of width leaves the value. -/
theorem trunc_at (z : FVec Ideal S2x8192x512 .f32) (i : S2x8192x512.Idx) : (truncf .bf16 z bitsLt_bf16_f32 : FVec Ideal S2x8192x512 .bf16) i = z i := rfl

/-- A lane of head `h`. -/
theorem packs_at (a : FVec Ideal S2x8192x4x64 .f32) (x y : FVec Ideal S2x8192x4x3 .f32) (b : Fin 2) (i : Fin 8192) (h : Fin 4) (d : Fin 128) (e : Fin 512)
    (he : e.val = 128 * h.val + d.val) :
    packs a x y (ix3 b i e)
      = if h0 : d.val < 64 then a (ix4 b i h ⟨d.val, h0⟩) else if h1 : d.val - 64 < 3 then x (ix4 b i h ⟨d.val - 64, h1⟩)
        else if h2 : d.val - 64 - 3 < 3 then y (ix4 b i h ⟨d.val - 64 - 3, h2⟩) else 0 := by
  unfold packs
  rw [trunc_at, side_at]
  have e1 : (⟨e.val / 128, by omega⟩ : Fin 4) = h := Fin.ext (by show e.val / 128 = h.val; omega)
  have e2 : (⟨e.val % 128, by omega⟩ : Fin 128) = d := Fin.ext (by show e.val % 128 = d.val; omega)
  rw [e1, e2]
  unfold lanesOf
  rw [cat_at]
  have hz : (broadcastInDim S2x8192x4x58 ![] bcast_S_S2x8192x4x58 (constant S_ .f32 0x00000000#32) : FVec Ideal S2x8192x4x58 .f32) = fun _ => 0 :=
    funext fun _ => zero_bits
  rw [hz]

/-- The gate's pieces: the gate, and two zeros. -/
theorem pieces_at (f : FVec Ideal S2x8192x4 .f32) (hf : ∀ i, ((f i).toReal : EReal) = f i) (b : Fin 2) (i : Fin 8192) (h : Fin 4) (d : Fin 3) :
    pieces f (ix4 b i h d) = if d.val = 0 then f (ix3 b i h) else 0 := by
  have e : ∀ i, f i - f i = 0 := fun i => by rw [← hf i, ← EReal.coe_sub, sub_self, EReal.coe_zero]
  have h1 : hi f = f := rfl
  have h2 : mid f = fun _ => 0 := funext e
  have h3 : low f = fun _ => 0 := by unfold low; rw [h1, h2]; funext i; show f i - f i - 0 = (0 : EReal); rw [e, sub_zero]
  unfold pieces
  rw [h1, h2, h3]
  pointwise
  simp only [Nat.lt_one_iff, dite_eq_ite, ite_self]

/-- The packed queries are the real ones. -/
theorem packq_at (q : FVec Ideal S2x8192x4x64 .f32) (f : FVec Ideal S2x8192x4 .f32) (hq : ∀ i, ((q i).toReal : EReal) = q i)
    (hf : ∀ i, ((f i).toReal : EReal) = f i) (b : Fin 2) (i : Fin 8192) (h : Fin 4) (d : Fin 128) (e : Fin 512) (he : e.val = 128 * h.val + d.val) :
    packs (mulf q (broadcastInDim S2x8192x4x64 ![] bcast_S_S2x8192x4x64 (constant S_ .f32 0x3E000000#32))) (pieces f) ones (ix3 b i e)
      = ((pq q f b h i d : ℝ) : EReal) := by
  rw [packs_at _ _ _ b i h d e he]
  unfold pq rq rf
  by_cases h0 : d.val < 64
  · rw [dif_pos h0, dif_pos h0, dif_pos ⟨b.isLt, h.isLt, i.isLt⟩, EReal.coe_mul, hq, ← kap_eq]
    rfl
  · rw [dif_neg h0, dif_neg h0, dif_pos (c := b.val < 2 ∧ h.val < 4 ∧ i.val < 8192) ⟨b.isLt, h.isLt, i.isLt⟩]
    by_cases h1 : d.val - 64 < 3
    · rw [dif_pos h1, pieces_at f hf]
      by_cases h2 : d.val = 64
      · rw [if_pos (show d.val - 64 = 0 by omega), if_pos h2, hf]
      · rw [if_neg (show ¬ d.val - 64 = 0 by omega), if_neg h2, if_neg (by omega), EReal.coe_zero]
    · rw [dif_neg h1, if_neg (show ¬ d.val = 64 by omega)]
      by_cases h2 : d.val - 64 - 3 < 3
      · rw [dif_pos h2, if_pos (by omega)]
        exact one_bits
      · rw [dif_neg h2, if_neg (by omega), EReal.coe_zero]

/-- The packed keys are the real ones. -/
theorem packk_at (k : FVec Ideal S2x8192x4x64 .f32) (f : FVec Ideal S2x8192x4 .f32) (hk : ∀ i, ((k i).toReal : EReal) = k i)
    (hf : ∀ i, ((f i).toReal : EReal) = f i) (b : Fin 2) (i : Fin 8192) (h : Fin 4) (d : Fin 128) (e : Fin 512) (he : e.val = 128 * h.val + d.val) :
    packs k ones (Host.negf (pieces f)) (ix3 b i e) = ((pk k f b h i d : ℝ) : EReal) := by
  rw [packs_at _ _ _ b i h d e he]
  unfold pk rq rf
  by_cases h0 : d.val < 64
  · rw [dif_pos h0, dif_pos h0, dif_pos ⟨b.isLt, h.isLt, i.isLt⟩, hk]
  · rw [dif_neg h0, dif_neg h0, dif_pos (c := b.val < 2 ∧ h.val < 4 ∧ i.val < 8192) ⟨b.isLt, h.isLt, i.isLt⟩]
    by_cases h1 : d.val - 64 < 3
    · rw [dif_pos h1, if_pos (by omega)]
      exact one_bits
    · rw [dif_neg h1, if_neg (show ¬ (64 ≤ d.val ∧ d.val < 67) by omega)]
      by_cases h2 : d.val - 64 - 3 < 3
      · rw [dif_pos h2]
        show - pieces f _ = _
        rw [pieces_at f hf]
        by_cases h3 : d.val = 67
        · rw [if_pos (show d.val - 64 - 3 = 0 by omega), if_pos h3, EReal.coe_neg, hf]
        · rw [if_neg (show ¬ d.val - 64 - 3 = 0 by omega), if_neg h3, EReal.coe_zero, neg_zero]
      · rw [dif_neg h2, if_neg (by omega), EReal.coe_zero]

end Cert.Kernel3Ideal.Hand

end
-- ==== Proof.XHost.lean ====
/-
  The arrays the host hands the forgetting-attention call, read entry by entry at the extended reals.
-/
module

public import proofs.«01_k».proof.Proof.XRegion
public import proofs.«01_k».proof.Proof.XPack
public import Idealize.ShloMosaic.Lib.StableHlo.ReadAt
public import Idealize.ShloMosaic.Lib.Pointwise

@[expose] public section

set_option maxRecDepth 16384

noncomputable section

namespace Cert.Kernel3Ideal.Hand

open Idealize.ShloMosaic Idealize.ShloMosaic.TcCoe Idealize.ShloMosaic.StableHlo
open Cert.Kernel3Ideal.Gen

variable (m : (ℓ : Loc nD τ sig) → Buf (Elt Ideal) ℓ) (c : Dev nD)

/-- The argument arrays of core `c`. -/
def aQ : FVec Ideal S2x8192x4x64 .f32 := m ((c : Thread nD τ).loc main_arg0)
def aK : FVec Ideal S2x8192x4x64 .f32 := m ((c : Thread nD τ).loc main_arg1)
def aV : FVec Ideal S2x8192x4x64 .f32 := m ((c : Thread nD τ).loc main_arg2)
def aF : FVec Ideal S2x8192x4 .f32 := m ((c : Thread nD τ).loc main_arg3)
def aG : FVec Ideal S256 .f32 := m ((c : Thread nD τ).loc main_arg4)

theorem v21_eq : (V m c main_v21 : FVec Ideal S2x8192x512 .bf16) = packs (mulf (aQ m c)
    (broadcastInDim S2x8192x4x64 ![] bcast_S_S2x8192x4x64 (constant S_ .f32 0x3E000000#32))) (pieces (aF m c)) ones := by
  unfold V hostOps0
  after_results
  rfl

theorem v22_eq : (V m c main_v22 : FVec Ideal S2x8192x512 .bf16) = packs (aK m c) ones (Host.negf (pieces (aF m c))) := by
  unfold V hostOps0
  after_results
  rfl

/-- The values, the heads side by side. -/
theorem v24_at (b : Fin 2) (i : Fin 8192) (e : Fin 256) :
    (V m c main_v24 : FVec Ideal S2x8192x256 .bf16) (ix3 b i e) = aV m c (ix4 b i ⟨e.val / 64, by omega⟩ ⟨e.val % 64, by omega⟩) := by
  have e' : (V m c main_v24 : FVec Ideal S2x8192x256 .bf16) = truncf .bf16 (shapeCast S2x8192x256 (aV m c) shapeCasts_S2x8192x4x64_S2x8192x256) bitsLt_bf16_f32 := by
    unfold V hostOps0
    after_results
    rfl
  rw [e']
  pointwise

/-- The scale, as a row. -/
theorem v25_at (e : Fin 256) : (V m c main_v25 : FVec Ideal S1x256 .f32) (ix2 0 e) = aG m c (ix1 e) := by
  have e' : (V m c main_v25 : FVec Ideal S1x256 .f32) = shapeCast S1x256 (aG m c) shapeCasts_S256_S1x256 := by
    unfold V hostOps0
    after_results
    rfl
  rw [e']
  pointwise

end Cert.Kernel3Ideal.Hand

end
-- ==== Proof.XRows.lean ====
/-
  The running state over the triangle of tiles: at every point each row's state of each head is the softmax sums over the
  columns taken so far, so that the block written at the diagonal is made of the rows' weighted means.
-/
module

public import proofs.«01_k».proof.Proof.XFrame
public import proofs.«01_k».proof.Proof.XSpec

@[expose] public section

set_option maxRecDepth 16384

noncomputable section

namespace Cert.Kernel3Ideal.Hand

open Idealize.ShloMosaic Idealize.ShloMosaic.TcCoe
open Cert.Kernel3Ideal.Gen Cert.Soft

variable (m : (ℓ : Loc nD τ sig) → Buf (Elt Ideal) ℓ) (c : Dev nD)

/-- The blocks of the queries, the keys, the values and the scale at a point. -/
def qb (t : Fin (cfgA (F := Ideal)).N) : Vec Ideal S1x512x512 .bf16 := iblk m c 0 t
def kb (t : Fin (cfgA (F := Ideal)).N) : Vec Ideal S1x512x512 .bf16 := iblk m c 1 t
def vb (t : Fin (cfgA (F := Ideal)).N) : Vec Ideal S1x512x256 .bf16 := iblk m c 2 t
def gb (t : Fin (cfgA (F := Ideal)).N) : Vec Ideal S1x256 .f32 := iblk m c 3 t

/-- Above the row's first tile the point before is in the same row, one tile to the left. -/
theorem ki_prev : ∀ n : Fin 136, ki n ≠ 0 → ∃ h : n.val - 1 < 136, 0 < n.val ∧ qi ⟨n.val - 1, h⟩ = qi n ∧ ki ⟨n.val - 1, h⟩ + 1 = ki n
    ∧ ki ⟨n.val - 1, h⟩ ≠ qi n := by
  decide +kernel

variable (q k v : FVec Ideal S2x8192x4x64 .f32) (f : FVec Ideal S2x8192x4 .f32)

/-- The blocks hold the packed real queries and keys, and the values, at their places. -/
structure Holds : Prop where
  q : ∀ t (h : Fin 4) (i : Fin 512) d, qb m c t (ix3 0 i ⟨128 * h.val + d.val, by omega⟩) = ((pq q f (bt t) h (512 * qi (pt t) + i) d : ℝ) : EReal)
  k : ∀ t (h : Fin 4) (x : Fin 512) d, kb m c t (ix3 0 x ⟨128 * h.val + d.val, by omega⟩) = ((pk k f (bt t) h (512 * ki (pt t) + x) d : ℝ) : EReal)
  v : ∀ t (x : Fin 512) e, vb m c t (ix3 0 x e) = rv v (bt t) (512 * ki (pt t) + x) e

variable {m c q k v f}

/-- A tile's scores are the real ones. -/
theorem Holds.sc (H : Holds m c q k v f) (t : Fin (cfgA (F := Ideal)).N) (h : Fin 4) (r x : Fin 512) :
    sc (Hand.lane h (qb m c t)) (Hand.lane h (kb m c t)) r x
      = ((score q k f (bt t) h (512 * qi (pt t) + r) (512 * ki (pt t) + x) : ℝ) : EReal) := by
  unfold Hand.sc
  rw [← packed, coe_sum]
  refine Finset.sum_congr rfl fun d _ => ?_
  rw [lane_at, lane_at, H.q, H.k, EReal.coe_mul]

/-- Row `r`'s state of head `h` is the softmax sums over the row's first `n` columns. -/
def RowInv (q k v : FVec Ideal S2x8192x4x64 .f32) (f : FVec Ideal S2x8192x4 .f32) (b i n : ℕ) (s : St Ideal) (h : Fin 4) (r : Fin 512) : Prop :=
  InvE (score q k f b h (512 * i + r)) (rv v b) n (s.hm h (ix3 0 r 0)) (s.hl h (ix3 0 r 0)) (fun e => s.ha h (ix3 0 r e))

/-- A row starts with no columns. -/
theorem rowInv_init (b i : ℕ) (h : Fin 4) (r : Fin 512) : RowInv q k v f b i 0 init h r := by
  obtain ⟨h1, h2, h3⟩ := init_at r h
  exact .inl ⟨rfl, h1, h2, h3⟩

/-- The columns a row has taken after a point. -/
def cols (t : Fin (cfgA (F := Ideal)).N) (r : Fin 512) : ℕ :=
  512 * ki (pt t) + if ki (pt t) = qi (pt t) then r.val + 1 else 512

/-- A tile's step on a row, for tiles whose scores past the first `w` are masked. -/
theorem Holds.next (H : Holds m c q k v f) (t : Fin (cfgA (F := Ideal)).N) (s : St Ideal) (h : Fin 4) (r : Fin 512) (w : ℕ) (h0 : 0 < w) (hw : w ≤ 512)
    (g : Vec Ideal S1x512x128 .bf16 → Vec Ideal S1x512x128 .bf16 → Vec Ideal S512x512 .f32)
    (hg : ∀ a b x, g a b (ix2 r x) = if x.val < w then Hand.sc a b r x else ⊥)
    (hs : RowInv q k v f (bt t) (qi (pt t)) (512 * ki (pt t)) s h r) :
    RowInv q k v f (bt t) (qi (pt t)) (512 * ki (pt t) + w) (next g (qb m c t) (kb m c t) (vb m c t) s) h r := by
  unfold RowInv at *
  show InvE _ _ _ (newM (g (Hand.lane h (qb m c t)) (Hand.lane h (kb m c t))) (s.hm h) (ix3 0 r 0))
    (newL (g (Hand.lane h (qb m c t)) (Hand.lane h (kb m c t))) (s.hm h) (s.hl h) (ix3 0 r 0))
    (fun e => newA (g (Hand.lane h (qb m c t)) (Hand.lane h (kb m c t))) (s.hm h) (vb m c t) (s.ha h) (ix3 0 r e))
  simp only [newM_at, newL_at, newA_at]
  refine hs.step h0 hw (fun x => g (Hand.lane h (qb m c t)) (Hand.lane h (kb m c t)) (ix2 r x)) (fun x e => vb m c t (ix3 0 x e)) (fun x => ?_) (fun x e => H.v t x e) _
    (topM_at _ _ r)
  show g _ _ _ = _
  rw [hg, H.sc]

/-- One point's step. -/
theorem Holds.step (H : Holds m c q k v f) (t : Fin (cfgA (F := Ideal)).N) (s : St Ideal) (h : Fin 4) (r : Fin 512)
    (hs : RowInv q k v f (bt t) (qi (pt t)) (512 * ki (pt t)) (if ki (pt t) = 0 then init else s) h r) :
    RowInv q k v f (bt t) (qi (pt t)) (cols t r) (stepAt m c t s) h r := by
  unfold stepAt cols
  generalize (if ki (pt t) = 0 then init else s) = s' at *
  split
  · exact H.next t s' h r (r.val + 1) (by omega) (by omega) k0_pay42 (fun a b x => pay42_at a b r x) hs
  · exact H.next t s' h r 512 (by omega) (le_refl 512) k0_pay9 (fun a b x => (pay9_at a b r x).trans (if_pos x.isLt).symm) hs

/-- The state after every point. -/
theorem Holds.state (H : Holds m c q k v f) (e : Fin 4) : ∀ (n : ℕ) (h : n < (cfgA (F := Ideal)).N) (r : Fin 512),
    RowInv q k v f (bt (F := Ideal) ⟨n, h⟩) (qi (pt (F := Ideal) ⟨n, h⟩)) (cols ⟨n, h⟩ r) (stAt m c n h) e r := by
  intro n
  induction n with
  | zero =>
    intro h r
    have hk : ki (pt (F := Ideal) ⟨0, h⟩) = 0 := by rw [show pt (F := Ideal) ⟨0, h⟩ = 0 from Fin.ext (by rw [pt_val]; rfl)]; exact ki_zero
    rw [stAt_first m c ⟨0, h⟩ hk]
    refine H.step ⟨0, h⟩ init e r ?_
    rw [if_pos hk, hk]
    exact rowInv_init _ _ e r
  | succ n ih =>
    intro h r
    have hN : n + 1 < 272 := lt_of_lt_of_eq h (show (cfgA (F := Ideal)).N = 272 from N_0)
    rw [stAt_next m c ⟨n + 1, h⟩ (by simp)]
    refine H.step ⟨n + 1, h⟩ _ e r ?_
    by_cases hk : ki (pt (F := Ideal) ⟨n + 1, h⟩) = 0
    · rw [if_pos hk, hk]
      exact rowInv_init _ _ e r
    · rw [if_neg hk]
      obtain ⟨hp, h0, hq, hki, hne⟩ := ki_prev _ hk
      have hv := pt_val (F := Ideal) ⟨n + 1, h⟩
      have e1 : pt (F := Ideal) ⟨n, Nat.lt_of_succ_lt h⟩ = ⟨(pt (F := Ideal) ⟨n + 1, h⟩).val - 1, hp⟩ := Fin.ext (by
        rw [pt_val]; show n % 136 = (pt (F := Ideal) ⟨n + 1, h⟩).val - 1
        have hv' : (pt (F := Ideal) ⟨n + 1, h⟩).val = (n + 1) % 136 := hv
        omega)
      have e0 : bt (F := Ideal) ⟨n + 1, h⟩ = bt (F := Ideal) ⟨n, Nat.lt_of_succ_lt h⟩ := by
        rw [bt_val, bt_val]; show (n + 1) / 136 = n / 136
        have hv' : (pt (F := Ideal) ⟨n + 1, h⟩).val = (n + 1) % 136 := hv
        omega
      have hi := ih (Nat.lt_of_succ_lt h) r
      have hc : cols ⟨n, Nat.lt_of_succ_lt h⟩ r = 512 * ki (pt (F := Ideal) ⟨n + 1, h⟩) := by
        unfold cols
        rw [e1, hq, if_neg hne, ← hki]; ring
      rw [hc, ← e0, e1, hq] at hi
      exact hi

/-- A lane of the diagonal's row, before the normalisation, by the row's weighted mean. -/
theorem Holds.lane (H : Holds m c q k v f) (t : Fin (cfgA (F := Ideal)).N) (ht : ki (pt t) = qi (pt t)) (r : Fin 512) (e : Fin 256) :
    lanes3 (stAt m c t.val t.isLt) r e = oFox q k v f (bt t) (512 * qi (pt t) + r) e := by
  have hi := H.state ⟨e.val / 64, by omega⟩ t.val t.isLt r
  unfold RowInv cols at hi
  rw [if_pos ht, ht] at hi
  exact hi.out (by omega) e

end Cert.Kernel3Ideal.Hand

end
-- ==== Proof.XValue.lean ====
/-
  What the forgetting-attention call leaves in its result, from the blocks of the arrays the host hands it.
-/
module

public import proofs.«01_k».proof.Proof.XHost
public import proofs.«01_k».proof.Proof.XRows
public import Idealize.ShloMosaic.Lib.Pipeline.Value

@[expose] public section

set_option maxRecDepth 16384

noncomputable section

namespace Cert.Kernel3Ideal.Hand

open Idealize.ShloMosaic Idealize.ShloMosaic.TcCoe
open Idealize.ShloMosaic.Pipeline (Dat Cfg Window)
open Cert.Kernel3Ideal.Gen Cert.Soft

variable (m : (ℓ : Loc nD τ sig) → Buf (Elt Ideal) ℓ) (c : Dev nD)

theorem bt_lt (t : Fin (cfgA (F := Ideal)).N) : bt t < 2 := (grid0.coords t 0).isLt

/-! ## The blocks -/

/-- A block of the queries, of any array; and the queries' block at a point. -/
theorem read0 (t : Fin (cfgA (F := Ideal)).N) (A : Buf (Elt Ideal) ((c : Thread nD τ).loc (Pipeline.arrRef spec0 0))) (i : Fin 512) (e : Fin 512) :
    (((cfgA (F := Ideal)).win 0).blk t).view.read (Elt Ideal) A (ix3 0 i e)
      = (A : FVec Ideal S2x8192x512 .bf16) (ix3 ⟨bt t, bt_lt t⟩ ⟨512 * qi (pt t) + i.val, by have := qi_lt (pt t); omega⟩ e) := by
  refine congrArg A (funext fun a => Fin.ext ?_)
  refine (Window.rect_emb_val ((cfgA (F := Ideal)).win 0) t _ a).trans ?_
  rw [show ((cfgA (F := Ideal)).win 0).index t = ![bt t, qi (pt t), 0] from ix0_q (F := Ideal) (grid0.coords t)]
  match a with
  | ⟨0, _⟩ => show bt t * 1 + 0 = bt t; omega
  | ⟨1, _⟩ => show qi (pt t) * 512 + i.val = 512 * qi (pt t) + i.val; omega
  | ⟨2, _⟩ => show 0 * 512 + e.val = e.val; omega
theorem qb_at (t : Fin (cfgA (F := Ideal)).N) (i : Fin 512) (e : Fin 512) :
    qb m c t (ix3 0 i e)
      = (V m c main_v21 : FVec Ideal S2x8192x512 .bf16) (ix3 ⟨bt t, bt_lt t⟩ ⟨512 * qi (pt t) + i.val, by have := qi_lt (pt t); omega⟩ e) := by
  unfold qb iblk
  exact read0 c t (V m c (Pipeline.arrRef spec0 0)) i e

/-- A block of the keys, of any array; and the keys' block at a point. -/
theorem read1 (t : Fin (cfgA (F := Ideal)).N) (A : Buf (Elt Ideal) ((c : Thread nD τ).loc (Pipeline.arrRef spec0 1))) (x : Fin 512) (e : Fin 512) :
    (((cfgA (F := Ideal)).win 1).blk t).view.read (Elt Ideal) A (ix3 0 x e)
      = (A : FVec Ideal S2x8192x512 .bf16) (ix3 ⟨bt t, bt_lt t⟩ ⟨512 * ki (pt t) + x.val, by have := ki_lt (pt t); omega⟩ e) := by
  refine congrArg A (funext fun a => Fin.ext ?_)
  refine (Window.rect_emb_val ((cfgA (F := Ideal)).win 1) t _ a).trans ?_
  rw [show ((cfgA (F := Ideal)).win 1).index t = ![bt t, ki (pt t), 0] from ix0_k (F := Ideal) (grid0.coords t)]
  match a with
  | ⟨0, _⟩ => show bt t * 1 + 0 = bt t; omega
  | ⟨1, _⟩ => show ki (pt t) * 512 + x.val = 512 * ki (pt t) + x.val; omega
  | ⟨2, _⟩ => show 0 * 512 + e.val = e.val; omega
theorem kb_at (t : Fin (cfgA (F := Ideal)).N) (x : Fin 512) (e : Fin 512) :
    kb m c t (ix3 0 x e)
      = (V m c main_v22 : FVec Ideal S2x8192x512 .bf16) (ix3 ⟨bt t, bt_lt t⟩ ⟨512 * ki (pt t) + x.val, by have := ki_lt (pt t); omega⟩ e) := by
  unfold kb iblk
  exact read1 c t (V m c (Pipeline.arrRef spec0 1)) x e

/-- The values' block at a point. -/
theorem vb_at (t : Fin (cfgA (F := Ideal)).N) (x : Fin 512) (e : Fin 256) :
    vb m c t (ix3 0 x e)
      = (V m c main_v24 : FVec Ideal S2x8192x256 .bf16) (ix3 ⟨bt t, bt_lt t⟩ ⟨512 * ki (pt t) + x.val, by have := ki_lt (pt t); omega⟩ e) := by
  refine congrArg (V m c main_v24) (funext fun a => Fin.ext ?_)
  refine (Window.rect_emb_val ((cfgA (F := Ideal)).win 2) t _ a).trans ?_
  rw [show ((cfgA (F := Ideal)).win 2).index t = ![bt t, ki (pt t), 0] from ix0_v (F := Ideal) (grid0.coords t)]
  match a with
  | ⟨0, _⟩ => show bt t * 1 + 0 = bt t; omega
  | ⟨1, _⟩ => show ki (pt t) * 512 + x.val = 512 * ki (pt t) + x.val; omega
  | ⟨2, _⟩ => show 0 * 256 + e.val = e.val; omega

/-- The scale's block is the whole array. -/
theorem gb_at (t : Fin (cfgA (F := Ideal)).N) (e : Fin 256) :
    gb m c t (ix2 0 e) = (V m c main_v25 : FVec Ideal S1x256 .f32) (ix2 0 e) := by
  refine congrArg (V m c main_v25) (funext fun a => Fin.ext ?_)
  refine (Window.rect_emb_val ((cfgA (F := Ideal)).win 3) t _ a).trans ?_
  match a with
  | ⟨0, _⟩ => rfl
  | ⟨1, _⟩ => show 0 * 256 + e.val = e.val; omega

variable {m c}

/-- With real queries, keys and gates the blocks hold them at their places. -/
theorem holds (H : RealArgs (aQ m c) (aK m c) (aF m c)) : Holds m c (aQ m c) (aK m c) (aV m c) (aF m c) where
  q t h i d := by
    have h1 := qi_lt (pt t)
    rw [qb_at, v21_eq]
    exact packq_at _ _ H.q H.f ⟨bt t, bt_lt t⟩ ⟨512 * qi (pt t) + i.val, by omega⟩ h d _ rfl
  k t h x d := by
    have h1 := ki_lt (pt t)
    rw [kb_at, v22_eq]
    exact packk_at _ _ H.k H.f ⟨bt t, bt_lt t⟩ ⟨512 * ki (pt t) + x.val, by omega⟩ h d _ rfl
  v t x e := by
    have h1 := ki_lt (pt t)
    rw [vb_at, v24_at]
    unfold rv
    rw [dif_pos ⟨bt_lt t, by omega⟩]

/-- The block a diagonal point writes is the result's. -/
theorem out_at (H : RealArgs (aQ m c) (aK m c) (aF m c)) (t : Fin (cfgA (F := Ideal)).N) (ht : ki (pt t) = qi (pt t)) (r : Fin 512) (e : Fin 256) :
    outAt m c t (ix3 0 r e) = specAt (aQ m c) (aK m c) (aV m c) (aF m c) (aG m c) ⟨bt t, bt_lt t⟩ ⟨512 * qi (pt t) + r.val, by have := qi_lt (pt t); omega⟩ e := by
  show fin (gb m c t) (stAt m c t.val t.isLt) (ix3 0 r e) = _
  rw [fin_at, gb_at, v25_at]
  unfold specAt
  congr 1
  funext e
  exact (holds H).lane t ht r e

/-! ## The result array -/

/-- On the diagonal the next point of the triangle is in another row. -/
theorem qi_other : ∀ n : Fin 136, ki n = qi n → ∀ h : n.val + 1 < 136, qi ⟨n.val + 1, h⟩ ≠ qi n := by decide +kernel
theorem qi_last : qi 135 = 15 ∧ qi 0 = 0 := by decide +kernel

/-- Every row of tiles has its diagonal. -/
theorem diag_at : ∀ q : Fin 16, ∃ n : Fin 136, qi n = q.val ∧ ki n = q.val := by decide +kernel

/-- On the diagonal the output's block is written back. -/
theorem flush4 (t : Fin (cfgA (F := Ideal)).N) (h : ki (pt t) = qi (pt t)) : ((cfgA (F := Ideal)).win 4).flush t = true := by
  have hN : t.val < 272 := lt_of_lt_of_eq t.isLt (show (cfgA (F := Ideal)).N = 272 from N_0)
  have hpv := pt_val t
  unfold Window.flush
  by_cases hl : t.val + 1 = 272
  · have : t.val + 1 = grid0.N := hl.trans N_0.symm
    simp [this]
  · have hlt : t.val + 1 < (cfgA (F := Ideal)).N := lt_of_lt_of_eq (b := 272) (by omega) (show (cfgA (F := Ideal)).N = 272 from N_0).symm
    have hne : ((cfgA (F := Ideal)).win 4).index ⟨t.val + 1, hlt⟩ ≠ ((cfgA (F := Ideal)).win 4).index t := by
      intro he
      have he' := (ix0_o (F := Ideal) (grid0.coords ⟨t.val + 1, hlt⟩)).symm.trans (he.trans (ix0_o (F := Ideal) (grid0.coords t)))
      have h1 : qi (pt (F := Ideal) ⟨t.val + 1, hlt⟩) = qi (pt t) := congrFun he' 1
      have hv : (pt (F := Ideal) ⟨t.val + 1, hlt⟩).val = (t.val + 1) % 136 := pt_val _
      by_cases hp : (pt t).val + 1 < 136
      · refine qi_other (pt t) h hp ((congrArg qi (Fin.ext ?_)).trans h1)
        show (pt t).val + 1 = _
        omega
      · have e1 : pt t = 135 := Fin.ext (by show (pt t).val = 135; omega)
        have e2 : pt (F := Ideal) ⟨t.val + 1, hlt⟩ = 0 := Fin.ext (by show (pt (F := Ideal) ⟨t.val + 1, hlt⟩).val = 0; omega)
        rw [e1, e2, qi_last.1, qi_last.2] at h1
        omega
    have : ∃ h : t.val + 1 < grid0.N, ((cfgA (F := Ideal)).win 4).index ⟨t.val + 1, h⟩ ≠ ((cfgA (F := Ideal)).win 4).index t := ⟨hlt, hne⟩
    rw [decide_eq_true this]
    simp

/-- An index of the output's block, placed in the array. -/
theorem emb4 (t : Fin (cfgA (F := Ideal)).N) (r : Fin 512) (e : Fin 256) :
    (((cfgA (F := Ideal)).win 4).blk t).view.emb (ix3 0 r e) = (ix3 ⟨bt t, bt_lt t⟩ ⟨512 * qi (pt t) + r.val, by have := qi_lt (pt t); omega⟩ e : S2x8192x256.Idx) := by
  refine funext fun a => Fin.ext ?_
  refine (Window.rect_emb_val ((cfgA (F := Ideal)).win 4) t _ a).trans ?_
  rw [show ((cfgA (F := Ideal)).win 4).index t = ![bt t, qi (pt t), 0] from ix0_o (F := Ideal) (grid0.coords t)]
  match a with
  | ⟨0, _⟩ => show bt t * 1 + 0 = bt t; omega
  | ⟨1, _⟩ => show qi (pt t) * 512 + r.val = 512 * qi (pt t) + r.val; omega
  | ⟨2, _⟩ => show 0 * 256 + e.val = e.val; omega

/-- The result array after the call. -/
theorem arr4 (H : RealArgs (aQ m c) (aK m c) (aF m c)) :
    (dats m 0 c).arrAt 4 (cfgA (F := Ideal)).N = spec (aQ m c) (aK m c) (aV m c) (aF m c) (aG m c) := by
  refine (dats m 0 c).arrAt_eq_of_cover 4 _ (fun t hf => ?_) (fun i => ?_)
  · have ht : ki (pt t) = qi (pt t) := by
      by_contra hne
      rw [noFlush4 t hne] at hf
      exact absurd hf (by decide)
    funext y
    obtain ⟨y0, r, e, rfl⟩ : ∃ y0 r e, y = (ix3 y0 r e : S1x512x256.Idx) := ⟨y 0, y 1, y 2, by funext a; match a with | 0 => rfl | 1 => rfl | 2 => rfl⟩
    obtain rfl : y0 = 0 := Subsingleton.elim _ _
    show outAt m c t (ix3 0 r e) = spec _ _ _ _ _ ((((cfgA (F := Ideal)).win 4).blk t).view.emb (ix3 0 r e))
    rw [emb4, out_at H t ht]
    rfl
  · obtain ⟨b, r, e, rfl⟩ : ∃ b r e, i = (ix3 b r e : S2x8192x256.Idx) := ⟨i 0, i 1, i 2, by funext a; match a with | 0 => rfl | 1 => rfl | 2 => rfl⟩
    obtain ⟨n, hq, hk⟩ := diag_at ⟨r.val / 512, by omega⟩
    have hlt : b.val * 136 + n.val < (cfgA (F := Ideal)).N := lt_of_lt_of_eq (b := 272) (by omega) (show (cfgA (F := Ideal)).N = 272 from N_0).symm
    have e1 : pt (F := Ideal) ⟨b.val * 136 + n.val, hlt⟩ = n := Fin.ext (by rw [pt_val]; show (b.val * 136 + n.val) % 136 = n.val; omega)
    have e0 : bt (F := Ideal) ⟨b.val * 136 + n.val, hlt⟩ = b.val := by rw [bt_val]; show (b.val * 136 + n.val) / 136 = b.val; omega
    refine ⟨⟨b.val * 136 + n.val, hlt⟩, flush4 _ (by rw [e1, hq, hk]), ?_⟩
    refine Finset.mem_map.2 ⟨(ix3 0 ⟨r.val % 512, by omega⟩ e : S1x512x256.Idx), Finset.mem_univ _, ?_⟩
    refine (emb4 ⟨b.val * 136 + n.val, hlt⟩ ⟨r.val % 512, by omega⟩ e).trans ?_
    have hq' : qi n = r.val / 512 := hq
    refine funext fun a => Fin.ext ?_
    match a with
    | ⟨0, _⟩ => exact e0
    | ⟨1, _⟩ => show 512 * qi (pt (F := Ideal) ⟨b.val * 136 + n.val, hlt⟩) + r.val % 512 = r.val; rw [e1, hq']; omega
    | ⟨2, _⟩ => rfl

end Cert.Kernel3Ideal.Hand

end
-- ==== Proof.XRef.lean ====
/-
  The forgetting attention's reference, read entry by entry at the extended reals: it computes the same function of the argument arrays.
-/
module

public import proofs.«01_k».proof.Proof.Ref
public import proofs.«01_k».proof.Proof.XSpec
public import proofs.«01_k».proof.Proof.Gen.Reference3Ideal.Run

@[expose] public section

set_option maxRecDepth 16384

noncomputable section

namespace Cert.Reference3Ideal.Hand

open Idealize.ShloMosaic Idealize.ShloMosaic.TcCoe
open Cert.Reference3Ideal Cert.Reference3Ideal.Gen Cert.Soft
open Cert.KernelIdeal.Hand (rms ofBits_neg_inf cmpi_sle_ofNat)
open Cert.ReferenceIdeal.Hand (rowMaxs rowMaxs_at exps exps_at probs probs_at norm norm_at)
open Cert.Kernel3Ideal.Hand (kap kap_eq rq rf rv RealArgs score oFox specAt spec)

variable (q k v : FVec Ideal S2x8192x4x64 .f32) (f : FVec Ideal S2x8192x4 .f32) (g : FVec Ideal S256 .f32)

/-- The masked scores. -/
def scores : FVec Ideal S2x4x8192x8192 .f32 :=
  select (broadcastInDim S2x4x8192x8192 ![2, 3] bcast_S8192x8192_S2x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (addf (mulf (Host.dotGeneral dot_S2x8192x4x64_S2x8192x4x64_S2x4x8192x8192_3_3_1_1_02_02 none q k) (broadcastInDim S2x4x8192x8192 ![] bcast_S_S2x4x8192x8192 (constant S_ .f32 0x3E000000#32))) (broadcastInDim S2x4x8192x8192 ![0, 1, 2, 3] bcast_S2x4x8192x1_S2x4x8192x8192_0_1_2_3 (broadcastInDim S2x4x8192x1 ![0, 1, 2] bcast_S2x4x8192_S2x4x8192x1_0_1_2 (transpose S2x4x8192 [0, 2, 1] f transposes_S2x8192x4_S2x4x8192_0_2_1)))) (broadcastInDim S2x4x8192x8192 ![0, 1, 2, 3] bcast_S2x4x1x8192_S2x4x8192x8192_0_1_2_3 (broadcastInDim S2x4x1x8192 ![0, 1, 3] bcast_S2x4x8192_S2x4x1x8192_0_1_3 (transpose S2x4x8192 [0, 2, 1] f transposes_S2x8192x4_S2x4x8192_0_2_1)))) (broadcastInDim S2x4x8192x8192 ![] bcast_S_S2x4x8192x8192 (id (constant S_ .f32 0xFF800000#32)))

/-- The weighted means, the heads side by side. -/
def proj (p : FVec Ideal S2x4x8192x8192 .f32) : FVec Ideal S2x8192x256 .f32 :=
  shapeCast _ (transpose S2x8192x4x64 [0, 3, 1, 2] (Host.dotGeneral dot_S2x8192x4x64_S2x4x8192x8192_S2x4x64x8192_1_3_3_2_02_01 none v p) transposes_S2x4x64x8192_S2x8192x4x64_0_3_1_2) shapeCasts_S2x8192x4x64_S2x8192x256

variable {q k f}

/-- The real score as the reference takes it. -/
theorem score_eq (H : RealArgs q k f) (b : Fin 2) (h : Fin 4) (i j : Fin 8192) :
    (∑ x : Fin 64, q (ix4 b i h x) * k (ix4 b j h x)) * Ideal.ofBits .f32 0x3E000000#32 + f (ix3 b i h) - f (ix3 b j h)
      = ((score q k f b h i j : ℝ) : EReal) := by
  have e : (∑ x : Fin 64, q (ix4 b i h x) * k (ix4 b j h x)) = ((∑ x : Fin 64, (q (ix4 b i h x)).toReal * (k (ix4 b j h x)).toReal : ℝ) : EReal) := by
    rw [coe_sum]
    refine Finset.sum_congr rfl fun x _ => ?_
    rw [EReal.coe_mul, H.k, H.q]
  rw [e, kap_eq, ← H.f (ix3 b i h), ← H.f (ix3 b j h), ← EReal.coe_mul, ← EReal.coe_add, ← EReal.coe_sub]
  congr 1
  unfold score rq rf
  simp only [dif_pos (show b.val < 2 ∧ h.val < 4 ∧ i.val < 8192 from ⟨b.isLt, h.isLt, i.isLt⟩),
    dif_pos (show b.val < 2 ∧ h.val < 4 ∧ j.val < 8192 from ⟨b.isLt, h.isLt, j.isLt⟩)]

/-- The masked scores, entry by entry. -/
theorem scores_at (H : RealArgs q k f) (b : Fin 2) (h : Fin 4) (i j : Fin 8192) :
    scores q k f (ix4 b h i j) = if j.val < i.val + 1 then ((score q k f b h i j : ℝ) : EReal) else ⊥ := by
  pointwise [scores]
  exact if_congr ((cmpi_sle_ofNat (by omega) (by omega)).trans Nat.lt_succ_iff.symm) (score_eq H b h i j) ofBits_neg_inf

/-- The weighted means, entry by entry. -/
theorem proj_at (p : FVec Ideal S2x4x8192x8192 .f32) (b : Fin 2) (i : Fin 8192) (e : Fin 256) :
    proj v p (ix3 b i e) = ∑ y : Fin 8192, v (ix4 b y ⟨e.val / 64, by omega⟩ ⟨e.val % 64, by omega⟩) * p (ix4 b ⟨e.val / 64, by omega⟩ i y) := by
  pointwise [proj]

/-- The weighted means are the specified lanes. -/
theorem proj_eq (H : RealArgs q k f) (b : Fin 2) (i : Fin 8192) (e : Fin 256) :
    proj v (probs (exps (scores q k f) (rowMaxs (scores q k f)))) (ix3 b i e) = oFox q k v f b i e := by
  rw [proj_at]
  unfold oFox
  have hv : ∀ y : Fin 8192, v (ix4 b y ⟨e.val / 64, by omega⟩ ⟨e.val % 64, by omega⟩) = rv v b y e := fun y => by
    unfold rv
    rw [dif_pos ⟨b.isLt, y.isLt⟩]
  refine (Finset.sum_congr rfl fun y _ => congrArg₂ (· * ·) (hv y) ((probs_at _ b ⟨e.val / 64, by omega⟩ i y).trans
    (congrArg₂ Ideal.div (exps_at _ _ b ⟨e.val / 64, by omega⟩ i y) (Finset.sum_congr rfl fun z _ => exps_at _ _ b ⟨e.val / 64, by omega⟩ i z)))).trans ?_
  exact whole_rowE (C := Fin 256) (s := score q k f b (e.val / 64) i) (v := rv v b) (n := i.val + 1) (N := 8192) (by omega) (by omega)
    (fun y => scores q k f (ix4 b ⟨e.val / 64, by omega⟩ i y)) (fun y d => rv v b y d)
    (fun y => scores_at H b ⟨e.val / 64, by omega⟩ i y) (fun _ _ => rfl) _ (rowMaxs_at _ b ⟨e.val / 64, by omega⟩ i) e

/-- The reference's result is the specified one. -/
theorem res_eq (m : (ℓ : Loc nD τ sig) → Buf (Elt Ideal) ℓ) (c : Dev nD)
    (H : RealArgs (m ((c.tc : Thread nD τ).loc main_arg0)) (m ((c.tc : Thread nD τ).loc main_arg1)) (m ((c.tc : Thread nD τ).loc main_arg3))) :
    Value.res_main_v44 m c = spec (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  have e : Value.res_main_v44 m c = norm (m ((c.tc : Thread nD τ).loc main_arg4)) (proj (m ((c.tc : Thread nD τ).loc main_arg2))
      (probs (exps (scores (m ((c.tc : Thread nD τ).loc main_arg0)) (m ((c.tc : Thread nD τ).loc main_arg1)) (m ((c.tc : Thread nD τ).loc main_arg3)))
        (rowMaxs (scores (m ((c.tc : Thread nD τ).loc main_arg0)) (m ((c.tc : Thread nD τ).loc main_arg1)) (m ((c.tc : Thread nD τ).loc main_arg3))))))) := by
    unfold Value.res_main_v44
    rfl
  rw [e]
  funext y
  obtain ⟨b, i, x, rfl⟩ : ∃ b i x, y = (ix3 b i x : S2x8192x256.Idx) := ⟨y 0, y 1, y 2, by funext a; match a with | 0 => rfl | 1 => rfl | 2 => rfl⟩
  refine (norm_at _ _ b i x).trans ?_
  show rms _ _ _ = specAt _ _ _ _ _ b i x
  unfold specAt
  congr 1
  funext x
  exact proj_eq _ H b i x

end Cert.Reference3Ideal.Hand

end
-- ==== Proof.XFin.lean ====
/-
  The forgetting-attention call's claims: its frames, and that from finite queries, keys and gates it and its reference leave the same array.
-/
module

public import proofs.«01_k».proof.Proof.Fin
public import proofs.«01_k».proof.Proof.XSame
public import proofs.«01_k».proof.Proof.XValue
public import proofs.«01_k».proof.Proof.XRef
public import proofs.«01_k».proof.Proof.Gen.Reference3Ideal
public import Idealize.ShloMosaic.Adequacy
public import Idealize.ShloMosaic.Init

@[expose] public section

noncomputable section

namespace Cert.Proof.Three

open Idealize.ShloMosaic Idealize.SL.Sem

/-- The side conditions of the precondition. -/
theorem facts_finite3 : Cert.Pre_finite3.Facts where
  bcast_S_S2x8192x4x64 := by decide
  bcast_S_S2x8192x4 := by decide

/-- The precondition, entry by entry. -/
theorem real_of_pre3 [Cert.Pre_finite3.Facts] (q k v : FVec Ideal Cert.Kernel3Ideal.S2x8192x4x64 .f32) (f : FVec Ideal Cert.Kernel3Ideal.S2x8192x4 .f32)
    (g : FVec Ideal Cert.Kernel3Ideal.S256 .f32) (h1 : (Cert.Pre_finite3.fn (F := Ideal) q k v f g).1 = fun _ => 1#1)
    (h2 : (Cert.Pre_finite3.fn (F := Ideal) q k v f g).2.1 = fun _ => 1#1) (h3 : (Cert.Pre_finite3.fn (F := Ideal) q k v f g).2.2 = fun _ => 1#1) :
    Cert.Kernel3Ideal.Hand.RealArgs q k f :=
  ⟨fun i => real_of_abs _ (congrFun h1 i), fun i => real_of_abs _ (congrFun h2 i), fun i => real_of_abs _ (congrFun h3 i)⟩

/-- The reference's frame: host operations alone, with no semaphores. -/
theorem frame_reference3 : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run (F := Ideal) m ρ)

section
open Cert.Kernel3Ideal Cert.Kernel3Ideal.Hand

/-- What the call leaves, from finite queries, keys and gates: the specification's array in its result, and its arguments as they were. -/
theorem value_run3 (m : (ℓ : Loc nD τ sig) → Buf (Elt Ideal) ℓ) (ρ : Dev nD → PrngReg) (H : ∀ c : Dev nD, RealArgs (aQ m c) (aK m c) (aF m c)) :
    θ_run (defs (F := Ideal)) (onTc (τ := τ) (main (F := Ideal))) ⟨m, fun _ => 0, ρ⟩ (fun r => ∀ c : Dev nD,
      r.2.mem ((c.tc : Thread nD τ).loc main_v26) = spec (aQ m c) (aK m c) (aV m c) (aF m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 4).trans (arr4 (H c)),
     ((h.1 c).2 main_arg0 (Pipeline.mem_restRefs_of main_arg0 (by decide) (show ∀ w : Fin 5, (spec0 w).arr.view.ref ≠ main_arg0 from by decide))).trans (V_main_arg0 m c),
     ((h.1 c).2 main_arg1 (Pipeline.mem_restRefs_of main_arg1 (by decide) (show ∀ w : Fin 5, (spec0 w).arr.view.ref ≠ main_arg1 from by decide))).trans (V_main_arg1 m c),
     ((h.1 c).2 main_arg2 (Pipeline.mem_restRefs_of main_arg2 (by decide) (show ∀ w : Fin 5, (spec0 w).arr.view.ref ≠ main_arg2 from by decide))).trans (V_main_arg2 m c),
     ((h.1 c).2 main_arg3 (Pipeline.mem_restRefs_of main_arg3 (by decide) (show ∀ w : Fin 5, (spec0 w).arr.view.ref ≠ main_arg3 from by decide))).trans (V_main_arg3 m c),
     ((h.1 c).2 main_arg4 (Pipeline.mem_restRefs_of main_arg4 (by decide) (show ∀ w : Fin 5, (spec0 w).arr.view.ref ≠ main_arg4 from by decide))).trans (V_main_arg4 m c)⟩) (run_main m ρ)

/-- A specification's array depends only on its arguments. -/
theorem spec_congr3 {q q' k k' v v' : FVec Ideal S2x8192x4x64 .f32} {f f' : FVec Ideal S2x8192x4 .f32} {g g' : FVec Ideal S256 .f32}
    (hq : q' = q) (hk : k' = k) (hv : v' = v) (hf : f' = f) (hg : g' = g) : spec q' k' v' f' g' = spec q k v f g := by
  subst hq; subst hk; subst hv; subst hf; subst hg; rfl

end

/-- From finite queries, keys and gates the call and its reference leave the same array: the specification's. -/
theorem algebraic3 : Cert.algebraic_Kernel3Ideal_Reference3Ideal_pre_finite3 (hKernel3Ideal := Cert.Kernel3Ideal.Gen.facts)
    (hReference3Ideal := Cert.Reference3Ideal.Gen.facts) (hPre_finite3 := facts_finite3) := by
  intro m g m' g' hpre hagree
  letI := facts_finite3
  have H : ∀ c, Cert.Kernel3Ideal.Hand.RealArgs (Cert.Kernel3Ideal.Hand.aQ m c) (Cert.Kernel3Ideal.Hand.aK m c) (Cert.Kernel3Ideal.Hand.aF m c) := fun c =>
    real_of_pre3 _ _ _ _ _ (hpre c).1 (hpre c).2.1 (hpre c).2.2
  refine ⟨fun c => Cert.Kernel3Ideal.Hand.spec (Cert.Kernel3Ideal.Hand.aQ m c) (Cert.Kernel3Ideal.Hand.aK m c) (Cert.Kernel3Ideal.Hand.aV m c)
      (Cert.Kernel3Ideal.Hand.aF m c) (Cert.Kernel3Ideal.Hand.aG m c),
    value_run3 m g H, (θ_run _ _ _).mono (fun r h c => ⟨(h c).1.trans ?_, (h c).2⟩) (Cert.Reference3Ideal.Value.run (F := Ideal) m' g')⟩
  have ha := hagree c
  have H' : Cert.Kernel3Ideal.Hand.RealArgs (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg3)) := by
    rw [ha.1, ha.2.1, ha.2.2.2.1]; exact H c
  exact (Cert.Reference3Ideal.Hand.res_eq m' c H').trans (spec_congr3 ha.1 ha.2.1 ha.2.2.1 ha.2.2.2.1 ha.2.2.2.2)

end Cert.Proof.Three

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Same
public import proofs.«01_k».proof.Proof.Value
public import proofs.«01_k».proof.Proof.Ref
public import proofs.«01_k».proof.Proof.Fin
public import proofs.«01_k».proof.Proof.FSame
public import proofs.«01_k».proof.Proof.FFin
public import proofs.«01_k».proof.Proof.FValue
public import proofs.«01_k».proof.Proof.FRef
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.XFin
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

/-- The ideal kernel's frame. -/
theorem frame_ideal : Cert.quiescent_KernelIdeal (hKernelIdeal := Cert.KernelIdeal.Gen.facts) := fun m ρ _ =>
  Cert.KernelIdeal.Hand.frame_any (F := Ideal) m ρ

/-- The reference's frame: host operations alone, with no semaphores. -/
theorem frame_reference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- The ideal kernel's frame, under the precondition. -/
theorem frame_ideal_finite : Cert.quiescent_KernelIdeal_pre_finite (hKernelIdeal := Cert.KernelIdeal.Gen.facts) (hPre_finite := facts_finite) :=
  fun m ρ _ => Cert.KernelIdeal.Hand.frame_any (F := Ideal) m ρ

/-- The reference's frame, under the precondition. -/
theorem frame_reference_finite : Cert.quiescent_ReferenceIdeal_pre_finite (hReferenceIdeal := Cert.ReferenceIdeal.Gen.facts) (hPre_finite := facts_finite) :=
  fun m ρ _ => (θ_run _ _ _).mono (fun r h => ⟨fun c => (h c).2, sem_eq_zero_of_no_sems rfl r.2⟩) (Cert.ReferenceIdeal.Value.run (F := Ideal) m ρ)

section
open Cert.KernelIdeal Cert.KernelIdeal.Hand

/-- What the kernel leaves, from finite queries and keys: the specification's array in its result, and its arguments as they were. -/
theorem value_run (m : (ℓ : Loc nD τ sig) → Buf (Elt Ideal) ℓ) (ρ : Dev nD → PrngReg) (H : ∀ c : Dev nD, RealArgs (aQ m c) (aK m c)) :
    θ_run (defs (F := Ideal)) (onTc (τ := τ) (main (F := Ideal))) ⟨m, fun _ => 0, ρ⟩ (fun r => ∀ c : Dev nD,
      r.2.mem ((c.tc : Thread nD τ).loc main_v24) = spec (aQ m c) (aK m c) (aW m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans (arr4 (H c)),
     ((h.1 c).2 main_arg0 (Pipeline.mem_restRefs_of main_arg0 (by decide) (show ∀ w : Fin 5, (spec0 w).arr.view.ref ≠ main_arg0 from by decide))).trans (V_main_arg0 m c),
     ((h.1 c).2 main_arg1 (Pipeline.mem_restRefs_of main_arg1 (by decide) (show ∀ w : Fin 5, (spec0 w).arr.view.ref ≠ main_arg1 from by decide))).trans (V_main_arg1 m c),
     ((h.1 c).2 main_arg2 (Pipeline.mem_restRefs_of main_arg2 (by decide) (show ∀ w : Fin 5, (spec0 w).arr.view.ref ≠ main_arg2 from by decide))).trans (V_main_arg2 m c),
     ((h.1 c).2 main_arg3 (Pipeline.mem_restRefs_of main_arg3 (by decide) (show ∀ w : Fin 5, (spec0 w).arr.view.ref ≠ main_arg3 from by decide))).trans (V_main_arg3 m c)⟩) (run_main m ρ)

end

/-- A specification's array depends only on its arguments. -/
theorem spec_congr {q q' : FVec Ideal Cert.KernelIdeal.S2x8192x4x160 .f32} {k k' : FVec Ideal Cert.KernelIdeal.S2x8192x160 .f32} {w w' : FVec Ideal Cert.KernelIdeal.S128x4x64 .f32}
    {g g' : FVec Ideal Cert.KernelIdeal.S256 .f32} (hq : q' = q) (hk : k' = k) (hw : w' = w) (hg : g' = g) :
    Cert.KernelIdeal.Hand.spec q' k' w' g' = Cert.KernelIdeal.Hand.spec q k w g := by
  subst hq; subst hk; subst hw; subst hg; rfl

/-- From finite queries and keys the kernel and the reference leave the same array: the specification's. -/
theorem algebraic : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hagree
  letI := facts_finite
  have H : ∀ c, Cert.KernelIdeal.Hand.RealArgs (Cert.KernelIdeal.Hand.aQ m c) (Cert.KernelIdeal.Hand.aK m c) := fun c =>
    real_of_pre _ _ _ _ (hpre c).1 (hpre c).2
  refine ⟨fun c => Cert.KernelIdeal.Hand.spec (Cert.KernelIdeal.Hand.aQ m c) (Cert.KernelIdeal.Hand.aK m c) (Cert.KernelIdeal.Hand.aW m c) (Cert.KernelIdeal.Hand.aG m c),
    value_run m g H, (θ_run _ _ _).mono (fun r h c => ⟨(h c).1.trans ?_, (h c).2⟩) (Cert.ReferenceIdeal.Value.run (F := Ideal) m' g')⟩
  have ha := hagree c
  have H' : Cert.KernelIdeal.Hand.RealArgs (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) := by
    rw [ha.1, ha.2.1]; exact H c
  exact (Cert.ReferenceIdeal.Hand.res_eq m' c H').trans (spec_congr ha.1 ha.2.1 ha.2.2.1 ha.2.2.2)

/-! ## The output and feed-forward call -/

/-- The reference's frame. -/
theorem frame_reference2 : Cert.quiescent_Reference2Ideal (hReference2Ideal := Cert.Reference2Ideal.Gen.facts) := fun m ρ _ =>
  (θ_run _ _ _).mono (fun r h => ⟨fun c => (h c).2.2, sem_eq_zero_of_no_sems rfl r.2⟩) (Cert.Reference2Ideal.Value.run (F := Ideal) m ρ)

section
open Cert.Kernel2Ideal Cert.Kernel2Ideal.Hand Cert.Kernel2Ideal.Gen

/-- What the kernel leaves: the specification's arrays in its results, and its arguments as they were. -/
theorem value_run2 (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = Cert.Ffn.out (argsOf m c)
      ∧ r.2.mem ((c.tc : Thread nD τ).loc main_v16) = Cert.Ffn.last (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h.1 c).1 15).trans (arr15 m c),
     ((h.1 c).2 main_v16 (Pipeline.mem_restRefs_of main_v16 (by decide) (show ∀ w : Fin 18, (spec0 w).arr.view.ref ≠ main_v16 from by decide))).trans (v16_eq m c),
     args_kept m h.1 c⟩) (run_main m ρ)

end

/-- From equal arguments, the two programs' argument arrays are the same. -/
theorem args_congr (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) :
    Cert.Reference2Ideal.Hand.argsOf (StableHlo.launchContents m' c) = Cert.Kernel2Ideal.Hand.argsOf m c := by
  unfold Cert.Reference2Ideal.Hand.argsOf Cert.Kernel2Ideal.Hand.argsOf
  rw [Cert.Ffn.Args.mk.injEq]
  exact h

/-- The kernel and the reference leave the same two arrays: the specification's. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Ffn.out (Cert.Kernel2Ideal.Hand.argsOf m c), fun c => Cert.Ffn.last (Cert.Kernel2Ideal.Hand.argsOf m c),
    value_run2 m g, (θ_run _ _ _).mono (fun r h c => ⟨(h c).1.trans ?_, (h c).2.1.trans ?_, (h c).2.2⟩) (Cert.Reference2Ideal.Value.run (F := Ideal) m' g')⟩
  · exact (Cert.Reference2Ideal.Hand.out_eq _).trans (congrArg Cert.Ffn.out (args_congr m m' c (hagree c)))
  · exact (Cert.Reference2Ideal.Hand.last_eq _).trans (congrArg Cert.Ffn.last (args_congr m m' c (hagree c)))

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, facts_finite, Three.facts_finite3,
  frame_kernel, frame_ideal, frame_ideal_finite, frame_reference, frame_reference_finite,
  Two.frame_kernel, fun m ρ _ => Cert.Kernel2Ideal.Hand.frame_any m ρ, frame_reference2,
  Three.frame_kernel, fun m ρ _ => Cert.Kernel3Ideal.Hand.frame_any m ρ, fun m ρ _ => Cert.Kernel3Ideal.Hand.frame_any m ρ,
  Three.frame_reference3, fun m ρ _ => Three.frame_reference3 m ρ trivial, trivial, algebraic, trivial, algebraic2, trivial, Three.algebraic3⟩

end Cert.Proof

end
